-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound_inputs [hPre_sound_inputs : Cert.Pre_sound_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_sound_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound_inputs [hPre_sound_inputs : Cert.Pre_sound_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_sound_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_sound_inputs [hKernelIdeal : Cert.KernelIdeal.Facts] [hPre_sound_inputs : Cert.Pre_sound_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_sound_inputs [hReferenceIdeal : Cert.ReferenceIdeal.Facts] [hPre_sound_inputs : Cert.Pre_sound_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_sound_inputs [hKernelIdeal : Cert.KernelIdeal.Facts] [hReferenceIdeal : Cert.ReferenceIdeal.Facts] [hPre_sound_inputs : Cert.Pre_sound_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v301)) (v1 : (c : Dev Cert.KernelIdeal.nD) → Buf (Elt Ideal) ((c.tc : Thread Cert.KernelIdeal.nD Cert.KernelIdeal.τ).loc Cert.KernelIdeal.main_v295)) (v2 : (c : Dev Cert.KernelIdeal.nD) → Buf (Elt Ideal) ((c.tc : Thread Cert.KernelIdeal.nD Cert.KernelIdeal.τ).loc Cert.KernelIdeal.main_v300)) (v3 : (c : Dev Cert.KernelIdeal.nD) → Buf (Elt Ideal) ((c.tc : Thread Cert.KernelIdeal.nD Cert.KernelIdeal.τ).loc Cert.KernelIdeal.main_v305)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v301) = v0 c
          ∧ r.2.mem ((c.tc : Thread Cert.KernelIdeal.nD Cert.KernelIdeal.τ).loc Cert.KernelIdeal.main_v295) = v1 c
          ∧ r.2.mem ((c.tc : Thread Cert.KernelIdeal.nD Cert.KernelIdeal.τ).loc Cert.KernelIdeal.main_v300) = v2 c
          ∧ r.2.mem ((c.tc : Thread Cert.KernelIdeal.nD Cert.KernelIdeal.τ).loc Cert.KernelIdeal.main_v305) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v369) = v0 c
          ∧ r.2.mem ((c.tc : Thread Cert.ReferenceIdeal.nD Cert.ReferenceIdeal.τ).loc Cert.ReferenceIdeal.main_v363) = v1 c
          ∧ r.2.mem ((c.tc : Thread Cert.ReferenceIdeal.nD Cert.ReferenceIdeal.τ).loc Cert.ReferenceIdeal.main_v368) = v2 c
          ∧ r.2.mem ((c.tc : Thread Cert.ReferenceIdeal.nD Cert.ReferenceIdeal.τ).loc Cert.ReferenceIdeal.main_v373) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_sound_inputs : Cert.Pre_sound_inputs.Facts),
    quiescent_Kernel (hKernel := hKernel)
    ∧ quiescent_KernelIdeal (hKernelIdeal := hKernelIdeal)
    ∧ quiescent_KernelIdeal_pre_sound_inputs (hKernelIdeal := hKernelIdeal) (hPre_sound_inputs := hPre_sound_inputs)
    ∧ quiescent_ReferenceIdeal (hReferenceIdeal := hReferenceIdeal)
    ∧ quiescent_ReferenceIdeal_pre_sound_inputs (hReferenceIdeal := hReferenceIdeal) (hPre_sound_inputs := hPre_sound_inputs)
    ∧ preserves_Kernel_KernelIdeal
    ∧ algebraic_KernelIdeal_ReferenceIdeal_pre_sound_inputs (hKernelIdeal := hKernelIdeal) (hReferenceIdeal := hReferenceIdeal) (hPre_sound_inputs := hPre_sound_inputs)
-- ==== Pre_sound_inputs.lean ====
abbrev S10000x128 : Shape := ⟨2, ![10000, 128]⟩
abbrev S320000x128 : Shape := ⟨2, ![320000, 128]⟩
abbrev S16x128 : Shape := ⟨2, ![16, 128]⟩
abbrev S2x320000 : Shape := ⟨2, ![2, 320000]⟩
abbrev S320000 : Shape := ⟨1, ![320000]⟩
abbrev S17 : Shape := ⟨1, ![17]⟩
abbrev S16 : Shape := ⟨1, ![16]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x16 : Shape := ⟨2, ![1, 16]⟩
abbrev S320000x1 : Shape := ⟨2, ![320000, 1]⟩
abbrev S320000x16 : Shape := ⟨2, ![320000, 16]⟩
abbrev S_ : Shape := ⟨0, ![]⟩

class Facts : Prop where
  slices_S17_S16_0 : S17.Slices ![0] S16
  bcast_S16_S1x16_1 : S16.BroadcastsInDim S1x16 (![1] : Fin 1 → Fin S1x16.rank)
  bcast_S320000_S320000x1_0 : S320000.BroadcastsInDim S320000x1 (![0] : Fin 1 → Fin S320000x1.rank)
  bcast_S1x16_S320000x16_0_1 : S1x16.BroadcastsInDim S320000x16 (![0, 1] : Fin 2 → Fin S320000x16.rank)
  bcast_S320000x1_S320000x16_0_1 : S320000x1.BroadcastsInDim S320000x16 (![0, 1] : Fin 2 → Fin S320000x16.rank)
  slices_S17_S16_1 : S17.Slices ![1] S16
  bcast_S_S10000x128 : S_.BroadcastsInDim S10000x128 (![] : Fin 0 → Fin S10000x128.rank)
  bcast_S_S320000x128 : S_.BroadcastsInDim S320000x128 (![] : Fin 0 → Fin S320000x128.rank)
  bcast_S_S128x128 : S_.BroadcastsInDim S128x128 (![] : Fin 0 → Fin S128x128.rank)
  bcast_S_S128x1 : S_.BroadcastsInDim S128x1 (![] : Fin 0 → Fin S128x1.rank)
  bcast_S_S1 : S_.BroadcastsInDim S1 (![] : Fin 0 → Fin S1.rank)
  bcast_S_S2x320000 : S_.BroadcastsInDim S2x320000 (![] : Fin 0 → Fin S2x320000.rank)

variable [Facts]

def fn_part2 {F : FTy → Type} [FloatOps F] (main_arg3 : IVec S2x320000 32) (main_arg4 : IVec S320000 32) (main_v0 : IVec S16 32) (main_v14 : IVec S320000x16 1) (main_v17 : IVec S10000x128 1) (main_v20 : IVec S320000x128 1) (main_v23 : IVec S128x128 1) (main_v26 : IVec S128x128 1) (main_v29 : IVec S128x128 1) (main_v32 : IVec S128x1 1) (main_v35 : IVec S1 1) (main_v37 : IVec S2x320000 1) (main_v38 : IVec S2x320000 32) : IVec S10000x128 1 × IVec S320000x128 1 × IVec S128x128 1 × IVec S128x128 1 × IVec S128x128 1 × IVec S128x1 1 × IVec S1 1 × IVec S2x320000 1 × IVec S320000x16 1 :=
  let main_v39 : IVec S2x320000 1 := cmpi .slt main_arg3 main_v38
  let main_v40 : IVec S2x320000 1 := andi main_v37 main_v39
  let main_v41 : IVec S320000x1 32 := broadcastInDim S320000x1 ![0] bcast_S320000_S320000x1_0 main_arg4
  let main_v42 : IVec S1x16 32 := broadcastInDim S1x16 ![1] bcast_S16_S1x16_1 main_v0
  let main_v43 : IVec S320000x16 32 := broadcastInDim S320000x16 ![0, 1] bcast_S320000x1_S320000x16_0_1 main_v41
  let main_v44 : IVec S320000x16 32 := broadcastInDim S320000x16 ![0, 1] bcast_S1x16_S320000x16_0_1 main_v42
  let main_v45 : IVec S320000x16 1 := cmpi .eq main_v43 main_v44
  let main_v46 : IVec S320000x16 1 := cmpi .eq main_v14 main_v45
  (main_v17, main_v20, main_v23, main_v26, main_v29, main_v32, main_v35, main_v40, main_v46)

def fn_part1 {F : FTy → Type} [FloatOps F] (main_arg3 : IVec S2x320000 32) (main_arg4 : IVec S320000 32) (main_arg11 : FVec F S128x128 .f32) (main_arg12 : FVec F S128x128 .f32) (main_arg13 : FVec F S128x1 .f32) (main_arg14 : FVec F S1 .f32) (main_v0 : IVec S16 32) (main_v14 : IVec S320000x16 1) (main_v17 : IVec S10000x128 1) (main_v20 : IVec S320000x128 1) (main_v21 : FVec F S128x128 .f32) : IVec S10000x128 1 × IVec S320000x128 1 × IVec S128x128 1 × IVec S128x128 1 × IVec S128x128 1 × IVec S128x1 1 × IVec S1 1 × IVec S2x320000 1 × IVec S320000x16 1 :=
  let main_cst_1 : FVec F S_ .f32 := constant S_ .f32 0x7F800000#32
  let main_v22 : FVec F S128x128 .f32 := broadcastInDim S128x128 ![] bcast_S_S128x128 main_cst_1
  let main_v23 : IVec S128x128 1 := cmpf .olt main_v21 main_v22
  let main_v24 : FVec F S128x128 .f32 := Host.absf main_arg11
  let main_cst_2 : FVec F S_ .f32 := constant S_ .f32 0x7F800000#32
  let main_v25 : FVec F S128x128 .f32 := broadcastInDim S128x128 ![] bcast_S_S128x128 main_cst_2
  let main_v26 : IVec S128x128 1 := cmpf .olt main_v24 main_v25
  let main_v27 : FVec F S128x128 .f32 := Host.absf main_arg12
  let main_cst_3 : FVec F S_ .f32 := constant S_ .f32 0x7F800000#32
  let main_v28 : FVec F S128x128 .f32 := broadcastInDim S128x128 ![] bcast_S_S128x128 main_cst_3
  let main_v29 : IVec S128x128 1 := cmpf .olt main_v27 main_v28
  let main_v30 : FVec F S128x1 .f32 := Host.absf main_arg13
  let main_cst_4 : FVec F S_ .f32 := constant S_ .f32 0x49742400#32
  let main_v31 : FVec F S128x1 .f32 := broadcastInDim S128x1 ![] bcast_S_S128x1 main_cst_4
  let main_v32 : IVec S128x1 1 := cmpf .ole main_v30 main_v31
  let main_v33 : FVec F S1 .f32 := Host.absf main_arg14
  let main_cst_5 : FVec F S_ .f32 := constant S_ .f32 0x49742400#32
  let main_v34 : FVec F S1 .f32 := broadcastInDim S1 ![] bcast_S_S1 main_cst_5
  let main_v35 : IVec S1 1 := cmpf .ole main_v33 main_v34
  let main_c : IVec S_ 32 := constantI S_ 32 0#32
  let main_v36 : IVec S2x320000 32 := broadcastInDim S2x320000 ![] bcast_S_S2x320000 main_c
  let main_v37 : IVec S2x320000 1 := cmpi .sge main_arg3 main_v36
  let main_c_6 : IVec S_ 32 := constantI S_ 32 10000#32
  let main_v38 : IVec S2x320000 32 := broadcastInDim S2x320000 ![] bcast_S_S2x320000 main_c_6
  fn_part2 (F := F) main_arg3 main_arg4 main_v0 main_v14 main_v17 main_v20 main_v23 main_v26 main_v29 main_v32 main_v35 main_v37 main_v38

def fn {F : FTy → Type} [FloatOps F] (main_arg0 : FVec F S10000x128 .f32) (main_arg1 : FVec F S320000x128 .f32) (main_arg2 : FVec F S16x128 .f32) (main_arg3 : IVec S2x320000 32) (main_arg4 : IVec S320000 32) (main_arg5 : IVec S17 32) (main_arg6 : IVec S17 32) (main_arg7 : IVec S16 32) (main_arg8 : FVec F S256x128 .f32) (main_arg9 : FVec F S128 .f32) (main_arg10 : FVec F S128x128 .f32) (main_arg11 : FVec F S128x128 .f32) (main_arg12 : FVec F S128x128 .f32) (main_arg13 : FVec F S128x1 .f32) (main_arg14 : FVec F S1 .f32) (main_arg15 : FVec F S256x128 .f32) (main_arg16 : FVec F S128 .f32) : IVec S10000x128 1 × IVec S320000x128 1 × IVec S128x128 1 × IVec S128x128 1 × IVec S128x128 1 × IVec S128x1 1 × IVec S1 1 × IVec S2x320000 1 × IVec S320000x16 1 :=
  let main_v0 : IVec S16 32 := iotaInDim S16 32 0
  let main_v1 : IVec S320000 32 := iotaInDim S320000 32 0
  let main_v2 : IVec S16 32 := (extractStridedSlice S16 ![0] · slices_S17_S16_0) main_arg5
  let main_v3 : IVec S1x16 32 := broadcastInDim S1x16 ![1] bcast_S16_S1x16_1 main_v2
  let main_v4 : IVec S320000x1 32 := broadcastInDim S320000x1 ![0] bcast_S320000_S320000x1_0 main_v1
  let main_v5 : IVec S320000x16 32 := broadcastInDim S320000x16 ![0, 1] bcast_S1x16_S320000x16_0_1 main_v3
  let main_v6 : IVec S320000x16 32 := broadcastInDim S320000x16 ![0, 1] bcast_S320000x1_S320000x16_0_1 main_v4
  let main_v7 : IVec S320000x16 1 := cmpi .sle main_v5 main_v6
  let main_v8 : IVec S320000x1 32 := broadcastInDim S320000x1 ![0] bcast_S320000_S320000x1_0 main_v1
  let main_v9 : IVec S16 32 := (extractStridedSlice S16 ![1] · slices_S17_S16_1) main_arg5
  let main_v10 : IVec S1x16 32 := broadcastInDim S1x16 ![1] bcast_S16_S1x16_1 main_v9
  let main_v11 : IVec S320000x16 32 := broadcastInDim S320000x16 ![0, 1] bcast_S320000x1_S320000x16_0_1 main_v8
  let main_v12 : IVec S320000x16 32 := broadcastInDim S320000x16 ![0, 1] bcast_S1x16_S320000x16_0_1 main_v10
  let main_v13 : IVec S320000x16 1 := cmpi .slt main_v11 main_v12
  let main_v14 : IVec S320000x16 1 := andi main_v7 main_v13
  let main_v15 : FVec F S10000x128 .f32 := Host.absf main_arg0
  let main_cst : FVec F S_ .f32 := constant S_ .f32 0x7F800000#32
  let main_v16 : FVec F S10000x128 .f32 := broadcastInDim S10000x128 ![] bcast_S_S10000x128 main_cst
  let main_v17 : IVec S10000x128 1 := cmpf .olt main_v15 main_v16
  let main_v18 : FVec F S320000x128 .f32 := Host.absf main_arg1
  let main_cst_0 : FVec F S_ .f32 := constant S_ .f32 0x7F800000#32
  let main_v19 : FVec F S320000x128 .f32 := broadcastInDim S320000x128 ![] bcast_S_S320000x128 main_cst_0
  let main_v20 : IVec S320000x128 1 := cmpf .olt main_v18 main_v19
  let main_v21 : FVec F S128x128 .f32 := Host.absf main_arg10
  fn_part1 (F := F) main_arg3 main_arg4 main_arg11 main_arg12 main_arg13 main_arg14 main_v0 main_v14 main_v17 main_v20 main_v21
-- ==== Kernel.lean ====
abbrev S10000x128 : Shape := ⟨2, ![10000, 128]⟩
abbrev S320000x128 : Shape := ⟨2, ![320000, 128]⟩
abbrev S16x128 : Shape := ⟨2, ![16, 128]⟩
abbrev S2x320000 : Shape := ⟨2, ![2, 320000]⟩
abbrev S320000 : Shape := ⟨1, ![320000]⟩
abbrev S17 : Shape := ⟨1, ![17]⟩
abbrev S16 : Shape := ⟨1, ![16]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x320000 : Shape := ⟨2, ![1, 320000]⟩
abbrev S12800x128 : Shape := ⟨2, ![12800, 128]⟩
abbrev S_ : Shape := ⟨0, ![]⟩
abbrev S1x32 : Shape := ⟨2, ![1, 32]⟩
abbrev S2 : Shape := ⟨1, ![2]⟩
abbrev S16x1 : Shape := ⟨2, ![16, 1]⟩
abbrev S1x1 : Shape := ⟨2, ![1, 1]⟩
abbrev S16x256 : Shape := ⟨2, ![16, 256]⟩
abbrev S1x128 : Shape := ⟨2, ![1, 128]⟩
abbrev S10000x32 : Shape := ⟨2, ![10000, 32]⟩
abbrev S128x16 : Shape := ⟨2, ![128, 16]⟩
abbrev S128x32 : Shape := ⟨2, ![128, 32]⟩
abbrev S320000x1 : Shape := ⟨2, ![320000, 1]⟩
abbrev S1x16 : Shape := ⟨2, ![1, 16]⟩
abbrev S12800x1 : Shape := ⟨2, ![12800, 1]⟩
abbrev S12800x16 : Shape := ⟨2, ![12800, 16]⟩
abbrev S16x4 : Shape := ⟨2, ![16, 4]⟩

abbrev nBuf : Space → Nat
  | .hbm => 879
  | .vmem => 61
  | .smem => 0
  | _ => 0

abbrev hbmTy0_0 (i : Nat) : BufTy := match i % 128 with
  | 0 => ⟨S10000x128, .f32⟩
  | 1 => ⟨S320000x128, .f32⟩
  | 2 => ⟨S16x128, .f32⟩
  | 3 => ⟨S2x320000, .i32⟩
  | 4 => ⟨S320000, .i32⟩
  | 5 => ⟨S17, .i32⟩
  | 6 => ⟨S17, .i32⟩
  | 7 => ⟨S16, .i32⟩
  | 8 => ⟨S256x128, .f32⟩
  | 9 => ⟨S128, .f32⟩
  | 10 => ⟨S128x128, .f32⟩
  | 11 => ⟨S128x128, .f32⟩
  | 12 => ⟨S128x128, .f32⟩
  | 13 => ⟨S128x1, .f32⟩
  | 14 => ⟨S1, .f32⟩
  | 15 => ⟨S256x128, .f32⟩
  | 16 => ⟨S128, .f32⟩
  | 17 => ⟨S1x320000, .i32⟩
  | 18 => ⟨S320000, .i32⟩
  | 19 => ⟨S1x320000, .i32⟩
  | 20 => ⟨S320000, .i32⟩
  | 21 => ⟨S320000x128, .f32⟩
  | 22 => ⟨S_, .i32⟩
  | 23 => ⟨S1x32, .i32⟩
  | 24 => ⟨S_, .i32⟩
  | 25 => ⟨S1, .i32⟩
  | 26 => ⟨S_, .i32⟩
  | 27 => ⟨S1, .i32⟩
  | 28 => ⟨S2, .i32⟩
  | 29 => ⟨S1x32, .i32⟩
  | 30 => ⟨S_, .i32⟩
  | 31 => ⟨S_, .i32⟩
  | 32 => ⟨S16, .i32⟩
  | 33 => ⟨S16, .i32⟩
  | 34 => ⟨S_, .i32⟩
  | 35 => ⟨S16, .i32⟩
  | 36 => ⟨S16, .i1⟩
  | 37 => ⟨S_, .i32⟩
  | 38 => ⟨S16, .i32⟩
  | 39 => ⟨S16, .i32⟩
  | 40 => ⟨S16, .i32⟩
  | 41 => ⟨S16x1, .i32⟩
  | 42 => ⟨S1, .i32⟩
  | 43 => ⟨S_, .i32⟩
  | 44 => ⟨S16x1, .i32⟩
  | 45 => ⟨S16x1, .i1⟩
  | 46 => ⟨S1x1, .i32⟩
  | 47 => ⟨S16x1, .i32⟩
  | 48 => ⟨S16x1, .i1⟩
  | 49 => ⟨S16x1, .i1⟩
  | 50 => ⟨S_, .i1⟩
  | 51 => ⟨S16, .i1⟩
  | 52 => ⟨S16x128, .f32⟩
  | 53 => ⟨S16x128, .i1⟩
  | 54 => ⟨S_, .f32⟩
  | 55 => ⟨S16x128, .f32⟩
  | 56 => ⟨S16x128, .f32⟩
  | 57 => ⟨S_, .i32⟩
  | 58 => ⟨S16, .i32⟩
  | 59 => ⟨S16, .i1⟩
  | 60 => ⟨S16x1, .i1⟩
  | 61 => ⟨S_, .f32⟩
  | 62 => ⟨S_, .f32⟩
  | 63 => ⟨S16x128, .i1⟩
  | 64 => ⟨S16x128, .f32⟩
  | 65 => ⟨S16x128, .f32⟩
  | 66 => ⟨S16x256, .f32⟩
  | 67 => ⟨S16x128, .f32⟩
  | 68 => ⟨S1x128, .f32⟩
  | 69 => ⟨S16x128, .f32⟩
  | 70 => ⟨S16x128, .f32⟩
  | 71 => ⟨S16x128, .f32⟩
  | 72 => ⟨S_, .i1⟩
  | 73 => ⟨S16, .i1⟩
  | 74 => ⟨S_, .i32⟩
  | 75 => ⟨S320000, .i32⟩
  | 76 => ⟨S320000, .i32⟩
  | 77 => ⟨S320000, .i32⟩
  | 78 => ⟨S_, .i32⟩
  | 79 => ⟨S320000, .i32⟩
  | 80 => ⟨S320000, .i32⟩
  | 81 => ⟨S_, .i32⟩
  | 82 => ⟨S320000, .i32⟩
  | 83 => ⟨S320000, .i32⟩
  | 84 => ⟨S320000, .i32⟩
  | 85 => ⟨S10000x32, .f32⟩
  | 86 => ⟨S320000, .f32⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S1, .i32⟩
  | 96 => ⟨S_, .i32⟩
  | 97 => ⟨S320000x1, .i32⟩
  | 98 => ⟨S320000x1, .i1⟩
  | 99 => ⟨S1x1, .i32⟩
  | 100 => ⟨S320000x1, .i32⟩
  | 101 => ⟨S320000x1, .i1⟩
  | 102 => ⟨S320000x1, .i1⟩
  | 103 => ⟨S_, .i1⟩
  | 104 => ⟨S320000, .i1⟩
  | 105 => ⟨S320000, .f32⟩
  | 106 => ⟨S_, .f32⟩
  | 107 => ⟨S320000, .f32⟩
  | 108 => ⟨S320000, .f32⟩
  | 109 => ⟨S320000, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S1, .i32⟩
  | 119 => ⟨S_, .i32⟩
  | 120 => ⟨S320000x1, .i32⟩
  | 121 => ⟨S320000x1, .i1⟩
  | 122 => ⟨S1x1, .i32⟩
  | 123 => ⟨S320000x1, .i32⟩
  | 124 => ⟨S320000x1, .i1⟩
  | 125 => ⟨S320000x1, .i1⟩
  | 126 => ⟨S_, .i1⟩
  | 127 => ⟨S320000, .i1⟩
  | _ => ⟨S10000x128, .f32⟩

abbrev hbmTy0_1 (i : Nat) : BufTy := match i % 128 with
  | 0 => ⟨S320000, .f32⟩
  | 1 => ⟨S_, .f32⟩
  | 2 => ⟨S320000, .f32⟩
  | 3 => ⟨S320000, .f32⟩
  | 4 => ⟨S320000, .f32⟩
  | 5 => ⟨S320000x1, .f32⟩
  | 6 => ⟨S1x16, .f32⟩
  | 7 => ⟨S1x16, .f32⟩
  | 8 => ⟨S1x16, .i32⟩
  | 9 => ⟨S16, .f32⟩
  | 10 => ⟨S16, .f32⟩
  | 11 => ⟨S16, .i32⟩
  | 12 => ⟨S_, .i32⟩
  | 13 => ⟨S_, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S16x1, .f32⟩
  | 21 => ⟨S1x1, .f32⟩
  | 22 => ⟨S16x1, .f32⟩
  | 23 => ⟨S16x1, .f32⟩
  | 24 => ⟨S16, .f32⟩
  | 25 => ⟨S_, .f32⟩
  | 26 => ⟨S_, .f32⟩
  | 27 => ⟨S16, .f32⟩
  | 28 => ⟨S16, .f32⟩
  | 29 => ⟨S16, .f32⟩
  | 30 => ⟨S16, .f32⟩
  | 31 => ⟨S_, .f32⟩
  | 32 => ⟨S16, .f32⟩
  | 33 => ⟨S16, .i1⟩
  | 34 => ⟨S_, .f32⟩
  | 35 => ⟨S_, .f32⟩
  | 36 => ⟨S16, .f32⟩
  | 37 => ⟨S16, .f32⟩
  | 38 => ⟨S16, .f32⟩
  | 39 => ⟨S16, .f32⟩
  | 40 => ⟨S16, .f32⟩
  | 41 => ⟨S16, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S16, .f32⟩
  | 49 => ⟨S_, .f32⟩
  | 50 => ⟨S16, .f32⟩
  | 51 => ⟨S16, .i1⟩
  | 52 => ⟨S_, .f32⟩
  | 53 => ⟨S_, .f32⟩
  | 54 => ⟨S16, .f32⟩
  | 55 => ⟨S16, .f32⟩
  | 56 => ⟨S16, .i1⟩
  | 57 => ⟨S16, .i1⟩
  | 58 => ⟨S16, .i1⟩
  | 59 => ⟨S_, .i32⟩
  | 60 => ⟨S_, .i32⟩
  | 61 => ⟨S16, .i32⟩
  | 62 => ⟨S16, .i32⟩
  | 63 => ⟨S16, .f32⟩
  | 64 => ⟨S16, .f32⟩
  | 65 => ⟨S16, .f32⟩
  | 66 => ⟨S_, .i32⟩
  | 67 => ⟨S_, .i32⟩
  | 68 => ⟨S16, .i32⟩
  | 69 => ⟨S16, .i32⟩
  | 70 => ⟨S_, .f32⟩
  | 71 => ⟨S_, .f32⟩
  | 72 => ⟨S16, .f32⟩
  | 73 => ⟨S16, .f32⟩
  | 74 => ⟨S_, .i32⟩
  | 75 => ⟨S_, .i32⟩
  | 76 => ⟨S_, .i32⟩
  | 77 => ⟨S16, .i32⟩
  | 78 => ⟨S16, .i32⟩
  | 79 => ⟨S_, .i32⟩
  | 80 => ⟨S16, .i32⟩
  | 81 => ⟨S16, .i32⟩
  | 82 => ⟨S_, .i32⟩
  | 83 => ⟨S16, .i32⟩
  | 84 => ⟨S16, .i1⟩
  | 85 => ⟨S_, .i32⟩
  | 86 => ⟨S16, .i32⟩
  | 87 => ⟨S16, .i32⟩
  | 88 => ⟨S16, .i32⟩
  | 89 => ⟨S16x1, .i32⟩
  | 90 => ⟨S1, .i32⟩
  | 91 => ⟨S_, .i32⟩
  | 92 => ⟨S16x1, .i32⟩
  | 93 => ⟨S16x1, .i1⟩
  | 94 => ⟨S1x1, .i32⟩
  | 95 => ⟨S16x1, .i32⟩
  | 96 => ⟨S16x1, .i1⟩
  | 97 => ⟨S16x1, .i1⟩
  | 98 => ⟨S_, .i1⟩
  | 99 => ⟨S16, .i1⟩
  | 100 => ⟨S16, .i32⟩
  | 101 => ⟨S_, .i32⟩
  | 102 => ⟨S16, .i32⟩
  | 103 => ⟨S16, .i32⟩
  | 104 => ⟨S_, .i32⟩
  | 105 => ⟨S16, .i32⟩
  | 106 => ⟨S16, .i1⟩
  | 107 => ⟨S_, .i32⟩
  | 108 => ⟨S16, .i32⟩
  | 109 => ⟨S16, .i32⟩
  | 110 => ⟨S16, .i32⟩
  | 111 => ⟨S16x1, .i32⟩
  | 112 => ⟨S1, .i32⟩
  | 113 => ⟨S_, .i32⟩
  | 114 => ⟨S16x1, .i32⟩
  | 115 => ⟨S16x1, .i1⟩
  | 116 => ⟨S1x1, .i32⟩
  | 117 => ⟨S16x1, .i32⟩
  | 118 => ⟨S16x1, .i1⟩
  | 119 => ⟨S16x1, .i1⟩
  | 120 => ⟨S_, .i1⟩
  | 121 => ⟨S16, .i1⟩
  | 122 => ⟨S16x128, .f32⟩
  | 123 => ⟨S16x128, .i1⟩
  | 124 => ⟨S_, .f32⟩
  | 125 => ⟨S16x128, .f32⟩
  | 126 => ⟨S16x128, .f32⟩
  | 127 => ⟨S_, .i32⟩
  | _ => ⟨S10000x128, .f32⟩

abbrev hbmTy0_2 (i : Nat) : BufTy := match i % 128 with
  | 0 => ⟨S16, .i32⟩
  | 1 => ⟨S16, .i1⟩
  | 2 => ⟨S16x1, .i1⟩
  | 3 => ⟨S_, .f32⟩
  | 4 => ⟨S_, .f32⟩
  | 5 => ⟨S16x128, .i1⟩
  | 6 => ⟨S16x128, .f32⟩
  | 7 => ⟨S16x128, .f32⟩
  | 8 => ⟨S16x256, .f32⟩
  | 9 => ⟨S16x128, .f32⟩
  | 10 => ⟨S1x128, .f32⟩
  | 11 => ⟨S16x128, .f32⟩
  | 12 => ⟨S16x128, .f32⟩
  | 13 => ⟨S16x128, .f32⟩
  | 14 => ⟨S_, .i32⟩
  | 15 => ⟨S16, .i32⟩
  | 16 => ⟨S16, .i1⟩
  | 17 => ⟨S16, .i1⟩
  | 18 => ⟨S16, .i1⟩
  | 19 => ⟨S16x1, .i1⟩
  | 20 => ⟨S16x128, .i1⟩
  | 21 => ⟨S16x128, .f32⟩
  | 22 => ⟨S16, .i1⟩
  | 23 => ⟨S10000x32, .f32⟩
  | 24 => ⟨S320000, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S1, .i32⟩
  | 34 => ⟨S_, .i32⟩
  | 35 => ⟨S320000x1, .i32⟩
  | 36 => ⟨S320000x1, .i1⟩
  | 37 => ⟨S1x1, .i32⟩
  | 38 => ⟨S320000x1, .i32⟩
  | 39 => ⟨S320000x1, .i1⟩
  | 40 => ⟨S320000x1, .i1⟩
  | 41 => ⟨S_, .i1⟩
  | 42 => ⟨S320000, .i1⟩
  | 43 => ⟨S320000, .f32⟩
  | 44 => ⟨S_, .f32⟩
  | 45 => ⟨S320000, .f32⟩
  | 46 => ⟨S320000, .f32⟩
  | 47 => ⟨S320000, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S1, .i32⟩
  | 57 => ⟨S_, .i32⟩
  | 58 => ⟨S320000x1, .i32⟩
  | 59 => ⟨S320000x1, .i1⟩
  | 60 => ⟨S1x1, .i32⟩
  | 61 => ⟨S320000x1, .i32⟩
  | 62 => ⟨S320000x1, .i1⟩
  | 63 => ⟨S320000x1, .i1⟩
  | 64 => ⟨S_, .i1⟩
  | 65 => ⟨S320000, .i1⟩
  | 66 => ⟨S320000, .f32⟩
  | 67 => ⟨S_, .f32⟩
  | 68 => ⟨S320000, .f32⟩
  | 69 => ⟨S320000, .f32⟩
  | 70 => ⟨S320000, .f32⟩
  | 71 => ⟨S320000x1, .f32⟩
  | 72 => ⟨S1x16, .f32⟩
  | 73 => ⟨S1x16, .f32⟩
  | 74 => ⟨S1x16, .i32⟩
  | 75 => ⟨S16, .f32⟩
  | 76 => ⟨S16, .f32⟩
  | 77 => ⟨S16, .i32⟩
  | 78 => ⟨S_, .i32⟩
  | 79 => ⟨S_, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S16x1, .f32⟩
  | 87 => ⟨S1x1, .f32⟩
  | 88 => ⟨S16x1, .f32⟩
  | 89 => ⟨S16x1, .f32⟩
  | 90 => ⟨S16, .f32⟩
  | 91 => ⟨S_, .f32⟩
  | 92 => ⟨S_, .f32⟩
  | 93 => ⟨S16, .f32⟩
  | 94 => ⟨S16, .f32⟩
  | 95 => ⟨S16, .f32⟩
  | 96 => ⟨S16, .f32⟩
  | 97 => ⟨S_, .f32⟩
  | 98 => ⟨S16, .f32⟩
  | 99 => ⟨S16, .i1⟩
  | 100 => ⟨S_, .f32⟩
  | 101 => ⟨S_, .f32⟩
  | 102 => ⟨S16, .f32⟩
  | 103 => ⟨S16, .f32⟩
  | 104 => ⟨S16, .f32⟩
  | 105 => ⟨S16, .f32⟩
  | 106 => ⟨S16, .f32⟩
  | 107 => ⟨S16, .f32⟩
  | 108 => ⟨S16, .f32⟩
  | 109 => ⟨S16, .f32⟩
  | 110 => ⟨S_, .f32⟩
  | 111 => ⟨S16, .f32⟩
  | 112 => ⟨S16, .f32⟩
  | 113 => ⟨S16, .f32⟩
  | 114 => ⟨S16, .f32⟩
  | 115 => ⟨S_, .f32⟩
  | 116 => ⟨S16, .f32⟩
  | 117 => ⟨S16, .i1⟩
  | 118 => ⟨S_, .f32⟩
  | 119 => ⟨S_, .f32⟩
  | 120 => ⟨S16, .f32⟩
  | 121 => ⟨S16, .f32⟩
  | 122 => ⟨S16, .i1⟩
  | 123 => ⟨S16, .i1⟩
  | 124 => ⟨S16, .i1⟩
  | 125 => ⟨S_, .i32⟩
  | 126 => ⟨S_, .i32⟩
  | 127 => ⟨S16, .i32⟩
  | _ => ⟨S10000x128, .f32⟩

abbrev hbmTy0_3 (i : Nat) : BufTy := match i % 128 with
  | 0 => ⟨S16, .i32⟩
  | 1 => ⟨S16, .f32⟩
  | 2 => ⟨S16, .f32⟩
  | 3 => ⟨S16, .f32⟩
  | 4 => ⟨S_, .i32⟩
  | 5 => ⟨S_, .i32⟩
  | 6 => ⟨S16, .i32⟩
  | 7 => ⟨S16, .i32⟩
  | 8 => ⟨S_, .f32⟩
  | 9 => ⟨S_, .f32⟩
  | 10 => ⟨S16, .f32⟩
  | 11 => ⟨S16, .f32⟩
  | 12 => ⟨S_, .i32⟩
  | 13 => ⟨S_, .i32⟩
  | 14 => ⟨S_, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i1⟩
  | 23 => ⟨S_, .i32⟩
  | 24 => ⟨S16, .i32⟩
  | 25 => ⟨S16, .i32⟩
  | 26 => ⟨S16, .i32⟩
  | 27 => ⟨S16x1, .i32⟩
  | 28 => ⟨S1, .i32⟩
  | 29 => ⟨S_, .i32⟩
  | 30 => ⟨S16x1, .i32⟩
  | 31 => ⟨S16x1, .i1⟩
  | 32 => ⟨S1x1, .i32⟩
  | 33 => ⟨S16x1, .i32⟩
  | 34 => ⟨S16x1, .i1⟩
  | 35 => ⟨S16x1, .i1⟩
  | 36 => ⟨S_, .i1⟩
  | 37 => ⟨S16, .i1⟩
  | 38 => ⟨S16, .i32⟩
  | 39 => ⟨S_, .i32⟩
  | 40 => ⟨S16, .i32⟩
  | 41 => ⟨S16, .i32⟩
  | 42 => ⟨S_, .i32⟩
  | 43 => ⟨S16, .i32⟩
  | 44 => ⟨S16, .i1⟩
  | 45 => ⟨S_, .i32⟩
  | 46 => ⟨S16, .i32⟩
  | 47 => ⟨S16, .i32⟩
  | 48 => ⟨S16, .i32⟩
  | 49 => ⟨S16x1, .i32⟩
  | 50 => ⟨S1, .i32⟩
  | 51 => ⟨S_, .i32⟩
  | 52 => ⟨S16x1, .i32⟩
  | 53 => ⟨S16x1, .i1⟩
  | 54 => ⟨S1x1, .i32⟩
  | 55 => ⟨S16x1, .i32⟩
  | 56 => ⟨S16x1, .i1⟩
  | 57 => ⟨S16x1, .i1⟩
  | 58 => ⟨S_, .i1⟩
  | 59 => ⟨S16, .i1⟩
  | 60 => ⟨S16x128, .f32⟩
  | 61 => ⟨S16x128, .i1⟩
  | 62 => ⟨S_, .f32⟩
  | 63 => ⟨S16x128, .f32⟩
  | 64 => ⟨S16x128, .f32⟩
  | 65 => ⟨S_, .i32⟩
  | 66 => ⟨S16, .i32⟩
  | 67 => ⟨S16, .i1⟩
  | 68 => ⟨S16x1, .i1⟩
  | 69 => ⟨S_, .f32⟩
  | 70 => ⟨S_, .f32⟩
  | 71 => ⟨S16x128, .i1⟩
  | 72 => ⟨S16x128, .f32⟩
  | 73 => ⟨S16x128, .f32⟩
  | 74 => ⟨S16x256, .f32⟩
  | 75 => ⟨S16x128, .f32⟩
  | 76 => ⟨S1x128, .f32⟩
  | 77 => ⟨S16x128, .f32⟩
  | 78 => ⟨S16x128, .f32⟩
  | 79 => ⟨S16x128, .f32⟩
  | 80 => ⟨S_, .i32⟩
  | 81 => ⟨S16, .i32⟩
  | 82 => ⟨S16, .i1⟩
  | 83 => ⟨S16, .i1⟩
  | 84 => ⟨S16, .i1⟩
  | 85 => ⟨S16x1, .i1⟩
  | 86 => ⟨S16x128, .i1⟩
  | 87 => ⟨S16x128, .f32⟩
  | 88 => ⟨S16, .i1⟩
  | 89 => ⟨S10000x32, .f32⟩
  | 90 => ⟨S320000, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S1, .i32⟩
  | 100 => ⟨S_, .i32⟩
  | 101 => ⟨S320000x1, .i32⟩
  | 102 => ⟨S320000x1, .i1⟩
  | 103 => ⟨S1x1, .i32⟩
  | 104 => ⟨S320000x1, .i32⟩
  | 105 => ⟨S320000x1, .i1⟩
  | 106 => ⟨S320000x1, .i1⟩
  | 107 => ⟨S_, .i1⟩
  | 108 => ⟨S320000, .i1⟩
  | 109 => ⟨S320000, .f32⟩
  | 110 => ⟨S_, .f32⟩
  | 111 => ⟨S320000, .f32⟩
  | 112 => ⟨S320000, .f32⟩
  | 113 => ⟨S320000, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S1, .i32⟩
  | 123 => ⟨S_, .i32⟩
  | 124 => ⟨S320000x1, .i32⟩
  | 125 => ⟨S320000x1, .i1⟩
  | 126 => ⟨S1x1, .i32⟩
  | 127 => ⟨S320000x1, .i32⟩
  | _ => ⟨S10000x128, .f32⟩

abbrev hbmTy0_4 (i : Nat) : BufTy := match i % 128 with
  | 0 => ⟨S320000x1, .i1⟩
  | 1 => ⟨S320000x1, .i1⟩
  | 2 => ⟨S_, .i1⟩
  | 3 => ⟨S320000, .i1⟩
  | 4 => ⟨S320000, .f32⟩
  | 5 => ⟨S_, .f32⟩
  | 6 => ⟨S320000, .f32⟩
  | 7 => ⟨S320000, .f32⟩
  | 8 => ⟨S320000, .f32⟩
  | 9 => ⟨S320000x1, .f32⟩
  | 10 => ⟨S1x16, .f32⟩
  | 11 => ⟨S1x16, .f32⟩
  | 12 => ⟨S1x16, .i32⟩
  | 13 => ⟨S16, .f32⟩
  | 14 => ⟨S16, .f32⟩
  | 15 => ⟨S16, .i32⟩
  | 16 => ⟨S_, .i32⟩
  | 17 => ⟨S_, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S16x1, .f32⟩
  | 25 => ⟨S1x1, .f32⟩
  | 26 => ⟨S16x1, .f32⟩
  | 27 => ⟨S16x1, .f32⟩
  | 28 => ⟨S16, .f32⟩
  | 29 => ⟨S_, .f32⟩
  | 30 => ⟨S_, .f32⟩
  | 31 => ⟨S16, .f32⟩
  | 32 => ⟨S16, .f32⟩
  | 33 => ⟨S16, .f32⟩
  | 34 => ⟨S16, .f32⟩
  | 35 => ⟨S_, .f32⟩
  | 36 => ⟨S16, .f32⟩
  | 37 => ⟨S16, .i1⟩
  | 38 => ⟨S_, .f32⟩
  | 39 => ⟨S_, .f32⟩
  | 40 => ⟨S16, .f32⟩
  | 41 => ⟨S16, .f32⟩
  | 42 => ⟨S16, .f32⟩
  | 43 => ⟨S16, .f32⟩
  | 44 => ⟨S16, .f32⟩
  | 45 => ⟨S16, .f32⟩
  | 46 => ⟨S16, .f32⟩
  | 47 => ⟨S16, .f32⟩
  | 48 => ⟨S_, .f32⟩
  | 49 => ⟨S16, .f32⟩
  | 50 => ⟨S16, .f32⟩
  | 51 => ⟨S16, .f32⟩
  | 52 => ⟨S16, .f32⟩
  | 53 => ⟨S_, .f32⟩
  | 54 => ⟨S16, .f32⟩
  | 55 => ⟨S16, .i1⟩
  | 56 => ⟨S_, .f32⟩
  | 57 => ⟨S_, .f32⟩
  | 58 => ⟨S16, .f32⟩
  | 59 => ⟨S16, .f32⟩
  | 60 => ⟨S16, .i1⟩
  | 61 => ⟨S16, .i1⟩
  | 62 => ⟨S16, .i1⟩
  | 63 => ⟨S_, .i32⟩
  | 64 => ⟨S_, .i32⟩
  | 65 => ⟨S16, .i32⟩
  | 66 => ⟨S16, .i32⟩
  | 67 => ⟨S16, .f32⟩
  | 68 => ⟨S16, .f32⟩
  | 69 => ⟨S16, .f32⟩
  | 70 => ⟨S_, .i32⟩
  | 71 => ⟨S_, .i32⟩
  | 72 => ⟨S16, .i32⟩
  | 73 => ⟨S16, .i32⟩
  | 74 => ⟨S_, .f32⟩
  | 75 => ⟨S_, .f32⟩
  | 76 => ⟨S16, .f32⟩
  | 77 => ⟨S16, .f32⟩
  | 78 => ⟨S_, .i32⟩
  | 79 => ⟨S_, .i32⟩
  | 80 => ⟨S_, .i32⟩
  | 81 => ⟨S16, .i32⟩
  | 82 => ⟨S16, .i32⟩
  | 83 => ⟨S_, .i32⟩
  | 84 => ⟨S16, .i32⟩
  | 85 => ⟨S16, .i32⟩
  | 86 => ⟨S_, .i32⟩
  | 87 => ⟨S16, .i32⟩
  | 88 => ⟨S16, .i1⟩
  | 89 => ⟨S_, .i32⟩
  | 90 => ⟨S16, .i32⟩
  | 91 => ⟨S16, .i32⟩
  | 92 => ⟨S16, .i32⟩
  | 93 => ⟨S16x1, .i32⟩
  | 94 => ⟨S1, .i32⟩
  | 95 => ⟨S_, .i32⟩
  | 96 => ⟨S16x1, .i32⟩
  | 97 => ⟨S16x1, .i1⟩
  | 98 => ⟨S1x1, .i32⟩
  | 99 => ⟨S16x1, .i32⟩
  | 100 => ⟨S16x1, .i1⟩
  | 101 => ⟨S16x1, .i1⟩
  | 102 => ⟨S_, .i1⟩
  | 103 => ⟨S16, .i1⟩
  | 104 => ⟨S16, .i32⟩
  | 105 => ⟨S_, .i32⟩
  | 106 => ⟨S16, .i32⟩
  | 107 => ⟨S16, .i32⟩
  | 108 => ⟨S_, .i32⟩
  | 109 => ⟨S16, .i32⟩
  | 110 => ⟨S16, .i1⟩
  | 111 => ⟨S_, .i32⟩
  | 112 => ⟨S16, .i32⟩
  | 113 => ⟨S16, .i32⟩
  | 114 => ⟨S16, .i32⟩
  | 115 => ⟨S16x1, .i32⟩
  | 116 => ⟨S1, .i32⟩
  | 117 => ⟨S_, .i32⟩
  | 118 => ⟨S16x1, .i32⟩
  | 119 => ⟨S16x1, .i1⟩
  | 120 => ⟨S1x1, .i32⟩
  | 121 => ⟨S16x1, .i32⟩
  | 122 => ⟨S16x1, .i1⟩
  | 123 => ⟨S16x1, .i1⟩
  | 124 => ⟨S_, .i1⟩
  | 125 => ⟨S16, .i1⟩
  | 126 => ⟨S16x128, .f32⟩
  | 127 => ⟨S16x128, .i1⟩
  | _ => ⟨S10000x128, .f32⟩

abbrev hbmTy0_5 (i : Nat) : BufTy := match i % 128 with
  | 0 => ⟨S_, .f32⟩
  | 1 => ⟨S16x128, .f32⟩
  | 2 => ⟨S16x128, .f32⟩
  | 3 => ⟨S_, .i32⟩
  | 4 => ⟨S16, .i32⟩
  | 5 => ⟨S16, .i1⟩
  | 6 => ⟨S16x1, .i1⟩
  | 7 => ⟨S_, .f32⟩
  | 8 => ⟨S_, .f32⟩
  | 9 => ⟨S16x128, .i1⟩
  | 10 => ⟨S16x128, .f32⟩
  | 11 => ⟨S16x128, .f32⟩
  | 12 => ⟨S16x256, .f32⟩
  | 13 => ⟨S16x128, .f32⟩
  | 14 => ⟨S1x128, .f32⟩
  | 15 => ⟨S16x128, .f32⟩
  | 16 => ⟨S16x128, .f32⟩
  | 17 => ⟨S16x128, .f32⟩
  | 18 => ⟨S_, .i32⟩
  | 19 => ⟨S16, .i32⟩
  | 20 => ⟨S16, .i1⟩
  | 21 => ⟨S16, .i1⟩
  | 22 => ⟨S16, .i1⟩
  | 23 => ⟨S16x1, .i1⟩
  | 24 => ⟨S16x128, .i1⟩
  | 25 => ⟨S16x128, .f32⟩
  | 26 => ⟨S16, .i1⟩
  | 27 => ⟨S10000x32, .f32⟩
  | 28 => ⟨S320000, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S1, .i32⟩
  | 38 => ⟨S_, .i32⟩
  | 39 => ⟨S320000x1, .i32⟩
  | 40 => ⟨S320000x1, .i1⟩
  | 41 => ⟨S1x1, .i32⟩
  | 42 => ⟨S320000x1, .i32⟩
  | 43 => ⟨S320000x1, .i1⟩
  | 44 => ⟨S320000x1, .i1⟩
  | 45 => ⟨S_, .i1⟩
  | 46 => ⟨S320000, .i1⟩
  | 47 => ⟨S320000, .f32⟩
  | 48 => ⟨S_, .f32⟩
  | 49 => ⟨S320000, .f32⟩
  | 50 => ⟨S320000, .f32⟩
  | 51 => ⟨S320000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S1, .i32⟩
  | 61 => ⟨S_, .i32⟩
  | 62 => ⟨S320000x1, .i32⟩
  | 63 => ⟨S320000x1, .i1⟩
  | 64 => ⟨S1x1, .i32⟩
  | 65 => ⟨S320000x1, .i32⟩
  | 66 => ⟨S320000x1, .i1⟩
  | 67 => ⟨S320000x1, .i1⟩
  | 68 => ⟨S_, .i1⟩
  | 69 => ⟨S320000, .i1⟩
  | 70 => ⟨S320000, .f32⟩
  | 71 => ⟨S_, .f32⟩
  | 72 => ⟨S320000, .f32⟩
  | 73 => ⟨S320000, .f32⟩
  | 74 => ⟨S320000, .f32⟩
  | 75 => ⟨S320000x1, .f32⟩
  | 76 => ⟨S1x16, .f32⟩
  | 77 => ⟨S1x16, .f32⟩
  | 78 => ⟨S1x16, .i32⟩
  | 79 => ⟨S16, .f32⟩
  | 80 => ⟨S16, .f32⟩
  | 81 => ⟨S16, .i32⟩
  | 82 => ⟨S_, .i32⟩
  | 83 => ⟨S_, .i32⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S16x1, .f32⟩
  | 91 => ⟨S1x1, .f32⟩
  | 92 => ⟨S16x1, .f32⟩
  | 93 => ⟨S16x1, .f32⟩
  | 94 => ⟨S16, .f32⟩
  | 95 => ⟨S_, .f32⟩
  | 96 => ⟨S_, .f32⟩
  | 97 => ⟨S16, .f32⟩
  | 98 => ⟨S16, .f32⟩
  | 99 => ⟨S16, .f32⟩
  | 100 => ⟨S16, .f32⟩
  | 101 => ⟨S_, .f32⟩
  | 102 => ⟨S16, .f32⟩
  | 103 => ⟨S16, .i1⟩
  | 104 => ⟨S_, .f32⟩
  | 105 => ⟨S_, .f32⟩
  | 106 => ⟨S16, .f32⟩
  | 107 => ⟨S16, .f32⟩
  | 108 => ⟨S16, .f32⟩
  | 109 => ⟨S16, .f32⟩
  | 110 => ⟨S16, .f32⟩
  | 111 => ⟨S16, .f32⟩
  | 112 => ⟨S16, .f32⟩
  | 113 => ⟨S16, .f32⟩
  | 114 => ⟨S_, .f32⟩
  | 115 => ⟨S16, .f32⟩
  | 116 => ⟨S16, .f32⟩
  | 117 => ⟨S16, .f32⟩
  | 118 => ⟨S16, .f32⟩
  | 119 => ⟨S_, .f32⟩
  | 120 => ⟨S16, .f32⟩
  | 121 => ⟨S16, .i1⟩
  | 122 => ⟨S_, .f32⟩
  | 123 => ⟨S_, .f32⟩
  | 124 => ⟨S16, .f32⟩
  | 125 => ⟨S16, .f32⟩
  | 126 => ⟨S16, .i1⟩
  | 127 => ⟨S16, .i1⟩
  | _ => ⟨S10000x128, .f32⟩

abbrev hbmTy0_6 (i : Nat) : BufTy := match i % 128 with
  | 0 => ⟨S16, .i1⟩
  | 1 => ⟨S_, .i32⟩
  | 2 => ⟨S_, .i32⟩
  | 3 => ⟨S16, .i32⟩
  | 4 => ⟨S16, .i32⟩
  | 5 => ⟨S16, .f32⟩
  | 6 => ⟨S16, .f32⟩
  | 7 => ⟨S16, .f32⟩
  | 8 => ⟨S_, .i32⟩
  | 9 => ⟨S_, .i32⟩
  | 10 => ⟨S16, .i32⟩
  | 11 => ⟨S16, .i32⟩
  | 12 => ⟨S_, .f32⟩
  | 13 => ⟨S_, .f32⟩
  | 14 => ⟨S16, .f32⟩
  | 15 => ⟨S16, .f32⟩
  | 16 => ⟨S_, .i32⟩
  | 17 => ⟨S_, .i32⟩
  | 18 => ⟨S_, .i32⟩
  | 19 => ⟨S16, .i32⟩
  | 20 => ⟨S16, .i32⟩
  | 21 => ⟨S_, .i32⟩
  | 22 => ⟨S16, .i32⟩
  | 23 => ⟨S16, .i32⟩
  | 24 => ⟨S_, .i32⟩
  | 25 => ⟨S16, .i32⟩
  | 26 => ⟨S16, .i1⟩
  | 27 => ⟨S_, .i32⟩
  | 28 => ⟨S16, .i32⟩
  | 29 => ⟨S16, .i32⟩
  | 30 => ⟨S16, .i32⟩
  | 31 => ⟨S16x1, .i32⟩
  | 32 => ⟨S1, .i32⟩
  | 33 => ⟨S_, .i32⟩
  | 34 => ⟨S16x1, .i32⟩
  | 35 => ⟨S16x1, .i1⟩
  | 36 => ⟨S1x1, .i32⟩
  | 37 => ⟨S16x1, .i32⟩
  | 38 => ⟨S16x1, .i1⟩
  | 39 => ⟨S16x1, .i1⟩
  | 40 => ⟨S_, .i1⟩
  | 41 => ⟨S16, .i1⟩
  | 42 => ⟨S16, .i32⟩
  | 43 => ⟨S_, .i32⟩
  | 44 => ⟨S16, .i32⟩
  | 45 => ⟨S16, .i32⟩
  | 46 => ⟨S_, .i32⟩
  | 47 => ⟨S16, .i32⟩
  | 48 => ⟨S16, .i1⟩
  | 49 => ⟨S_, .i32⟩
  | 50 => ⟨S16, .i32⟩
  | 51 => ⟨S16, .i32⟩
  | 52 => ⟨S16, .i32⟩
  | 53 => ⟨S16x1, .i32⟩
  | 54 => ⟨S1, .i32⟩
  | 55 => ⟨S_, .i32⟩
  | 56 => ⟨S16x1, .i32⟩
  | 57 => ⟨S16x1, .i1⟩
  | 58 => ⟨S1x1, .i32⟩
  | 59 => ⟨S16x1, .i32⟩
  | 60 => ⟨S16x1, .i1⟩
  | 61 => ⟨S16x1, .i1⟩
  | 62 => ⟨S_, .i1⟩
  | 63 => ⟨S16, .i1⟩
  | 64 => ⟨S16x128, .f32⟩
  | 65 => ⟨S16x128, .i1⟩
  | 66 => ⟨S_, .f32⟩
  | 67 => ⟨S16x128, .f32⟩
  | 68 => ⟨S16x128, .f32⟩
  | 69 => ⟨S_, .i32⟩
  | 70 => ⟨S16, .i32⟩
  | 71 => ⟨S16, .i1⟩
  | 72 => ⟨S16x1, .i1⟩
  | 73 => ⟨S_, .f32⟩
  | 74 => ⟨S_, .f32⟩
  | 75 => ⟨S16x128, .i1⟩
  | 76 => ⟨S16x128, .f32⟩
  | 77 => ⟨S16x128, .f32⟩
  | 78 => ⟨S16x256, .f32⟩
  | 79 => ⟨S16x128, .f32⟩
  | 80 => ⟨S1x128, .f32⟩
  | 81 => ⟨S16x128, .f32⟩
  | 82 => ⟨S16x128, .f32⟩
  | 83 => ⟨S16x128, .f32⟩
  | 84 => ⟨S_, .i32⟩
  | 85 => ⟨S16, .i32⟩
  | 86 => ⟨S16, .i1⟩
  | 87 => ⟨S16, .i1⟩
  | 88 => ⟨S16, .i1⟩
  | 89 => ⟨S16x1, .i1⟩
  | 90 => ⟨S16x128, .i1⟩
  | 91 => ⟨S16x128, .f32⟩
  | 92 => ⟨S16, .i1⟩
  | 93 => ⟨S16x1, .f32⟩
  | 94 => ⟨S16x1, .f32⟩
  | 95 => ⟨S16x1, .f32⟩
  | 96 => ⟨S16x1, .f32⟩
  | 97 => ⟨S16x4, .f32⟩
  | 98 => ⟨S16x1, .i32⟩
  | 99 => ⟨S16x1, .i32⟩
  | 100 => ⟨S16x1, .i32⟩
  | 101 => ⟨S16x1, .i32⟩
  | 102 => ⟨S16x4, .i32⟩
  | 103 => ⟨S_, .f32⟩
  | 104 => ⟨S16, .f32⟩
  | 105 => ⟨S_, .i32⟩
  | 106 => ⟨S16x4, .i32⟩
  | 107 => ⟨S16x4, .i1⟩
  | 108 => ⟨S16x4, .f32⟩
  | 109 => ⟨S_, .f32⟩
  | 110 => ⟨S16, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S10000x128, .f32⟩

abbrev bufTy : (tb : Table) → Fin (tcTables nBuf tb) → BufTy
  | .hbm, ⟨i, _⟩ => hbmTy i
  | .local _ .vmem, ⟨0, _⟩ => ⟨S12800x128, .f32⟩
  | .local _ .vmem, ⟨1, _⟩ => ⟨S12800x128, .f32⟩
  | .local _ .vmem, ⟨2, _⟩ => ⟨S128x128, .f32⟩
  | .local _ .vmem, ⟨3, _⟩ => ⟨S12800x128, .f32⟩
  | .local _ .vmem, ⟨4, _⟩ => ⟨S12800x128, .f32⟩
  | .local _ .vmem, ⟨5, _⟩ => ⟨S10000x128, .f32⟩
  | .local _ .vmem, ⟨6, _⟩ => ⟨S128x128, .f32⟩
  | .local _ .vmem, ⟨7, _⟩ => ⟨S128x128, .f32⟩
  | .local _ .vmem, ⟨8, _⟩ => ⟨S16x128, .f32⟩
  | .local _ .vmem, ⟨9, _⟩ => ⟨S10000x32, .f32⟩
  | .local _ .vmem, ⟨10, _⟩ => ⟨S1x32, .i32⟩
  | .local _ .vmem, ⟨11, _⟩ => ⟨S12800x128, .f32⟩
  | .local _ .vmem, ⟨12, _⟩ => ⟨S12800x128, .f32⟩
  | .local _ .vmem, ⟨13, _⟩ => ⟨S12800x1, .f32⟩
  | .local _ .vmem, ⟨14, _⟩ => ⟨S12800x1, .f32⟩
  | .local _ .vmem, ⟨15, _⟩ => ⟨S16x128, .f32⟩
  | .local _ .vmem, ⟨16, _⟩ => ⟨S1x16, .f32⟩
  | .local _ .vmem, ⟨17, _⟩ => ⟨S1x16, .f32⟩
  | .local _ .vmem, ⟨18, _⟩ => ⟨S1x16, .i32⟩
  | .local _ .vmem, ⟨19, _⟩ => ⟨S10000x128, .f32⟩
  | .local _ .vmem, ⟨20, _⟩ => ⟨S128x128, .f32⟩
  | .local _ .vmem, ⟨21, _⟩ => ⟨S128x128, .f32⟩
  | .local _ .vmem, ⟨22, _⟩ => ⟨S16x128, .f32⟩
  | .local _ .vmem, ⟨23, _⟩ => ⟨S10000x32, .f32⟩
  | .local _ .vmem, ⟨24, _⟩ => ⟨S1x32, .i32⟩
  | .local _ .vmem, ⟨25, _⟩ => ⟨S12800x128, .f32⟩
  | .local _ .vmem, ⟨26, _⟩ => ⟨S12800x128, .f32⟩
  | .local _ .vmem, ⟨27, _⟩ => ⟨S12800x1, .f32⟩
  | .local _ .vmem, ⟨28, _⟩ => ⟨S12800x1, .f32⟩
  | .local _ .vmem, ⟨29, _⟩ => ⟨S16x128, .f32⟩
  | .local _ .vmem, ⟨30, _⟩ => ⟨S1x16, .f32⟩
  | .local _ .vmem, ⟨31, _⟩ => ⟨S1x16, .f32⟩
  | .local _ .vmem, ⟨32, _⟩ => ⟨S1x16, .i32⟩
  | .local _ .vmem, ⟨33, _⟩ => ⟨S10000x128, .f32⟩
  | .local _ .vmem, ⟨34, _⟩ => ⟨S128x128, .f32⟩
  | .local _ .vmem, ⟨35, _⟩ => ⟨S128x128, .f32⟩
  | .local _ .vmem, ⟨36, _⟩ => ⟨S16x128, .f32⟩
  | .local _ .vmem, ⟨37, _⟩ => ⟨S10000x32, .f32⟩
  | .local _ .vmem, ⟨38, _⟩ => ⟨S1x32, .i32⟩
  | .local _ .vmem, ⟨39, _⟩ => ⟨S12800x128, .f32⟩
  | .local _ .vmem, ⟨40, _⟩ => ⟨S12800x128, .f32⟩
  | .local _ .vmem, ⟨41, _⟩ => ⟨S12800x1, .f32⟩
  | .local _ .vmem, ⟨42, _⟩ => ⟨S12800x1, .f32⟩
  | .local _ .vmem, ⟨43, _⟩ => ⟨S16x128, .f32⟩
  | .local _ .vmem, ⟨44, _⟩ => ⟨S1x16, .f32⟩
  | .local _ .vmem, ⟨45, _⟩ => ⟨S1x16, .f32⟩
  | .local _ .vmem, ⟨46, _⟩ => ⟨S1x16, .i32⟩
  | .local _ .vmem, ⟨47, _⟩ => ⟨S10000x128, .f32⟩
  | .local _ .vmem, ⟨48, _⟩ => ⟨S128x128, .f32⟩
  | .local _ .vmem, ⟨49, _⟩ => ⟨S128x128, .f32⟩
  | .local _ .vmem, ⟨50, _⟩ => ⟨S16x128, .f32⟩
  | .local _ .vmem, ⟨51, _⟩ => ⟨S10000x32, .f32⟩
  | .local _ .vmem, ⟨52, _⟩ => ⟨S1x32, .i32⟩
  | .local _ .vmem, ⟨53, _⟩ => ⟨S12800x128, .f32⟩
  | .local _ .vmem, ⟨54, _⟩ => ⟨S12800x128, .f32⟩
  | .local _ .vmem, ⟨55, _⟩ => ⟨S12800x1, .f32⟩
  | .local _ .vmem, ⟨56, _⟩ => ⟨S12800x1, .f32⟩
  | .local _ .vmem, ⟨57, _⟩ => ⟨S16x128, .f32⟩
  | .local _ .vmem, ⟨58, _⟩ => ⟨S1x16, .f32⟩
  | .local _ .vmem, ⟨59, _⟩ => ⟨S1x16, .f32⟩
  | .local _ .vmem, ⟨60, _⟩ => ⟨S1x16, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_v10 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v11 : Ref sig .tc := ⟨.hbm, 56, rfl⟩
abbrev main_c_3 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_4 : Ref sig .tc := ⟨.hbm, 72, rfl⟩
abbrev main_v22 : Ref sig .tc := ⟨.hbm, 73, rfl⟩
abbrev main_c_5 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_c_6 : Ref sig .tc := ⟨.hbm, 78, rfl⟩
abbrev main_v26 : Ref sig .tc := ⟨.hbm, 79, rfl⟩
abbrev main_v27 : Ref sig .tc := ⟨.hbm, 80, rfl⟩
abbrev main_c_7 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_cst : Ref sig .tc := ⟨.hbm, 106, rfl⟩
abbrev main_call3_v14 : Ref sig .tc := ⟨.hbm, 107, rfl⟩
abbrev main_v33 : Ref sig .tc := ⟨.hbm, 108, rfl⟩
abbrev main_v34 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_cst : Ref sig .tc := ⟨.hbm, 129, rfl⟩
abbrev main_call4_v14 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38_0 : Ref sig .tc := ⟨.hbm, 134, rfl⟩
abbrev main_v38_1 : Ref sig .tc := ⟨.hbm, 135, rfl⟩
abbrev main_v38_2 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_8 : Ref sig .tc := ⟨.hbm, 140, rfl⟩
abbrev main_c_9 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_cst_10 : Ref sig .tc := ⟨.hbm, 153, rfl⟩
abbrev main_call6_v0 : Ref sig .tc := ⟨.hbm, 154, rfl⟩
abbrev main_call6_v1 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_cst_11 : Ref sig .tc := ⟨.hbm, 159, rfl⟩
abbrev main_v51 : Ref sig .tc := ⟨.hbm, 160, rfl⟩
abbrev main_v52 : Ref sig .tc := ⟨.hbm, 161, rfl⟩
abbrev main_cst_12 : Ref sig .tc := ⟨.hbm, 162, rfl⟩
abbrev main_call7_v0 : Ref sig .tc := ⟨.hbm, 163, rfl⟩
abbrev main_call7_v1 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_cst_13 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_cst_14 : Ref sig .tc := ⟨.hbm, 177, rfl⟩
abbrev main_v64 : Ref sig .tc := ⟨.hbm, 178, rfl⟩
abbrev main_v65 : Ref sig .tc := ⟨.hbm, 179, rfl⟩
abbrev main_cst_15 : Ref sig .tc := ⟨.hbm, 180, rfl⟩
abbrev main_call8_v0 : Ref sig .tc := ⟨.hbm, 181, rfl⟩
abbrev main_call8_v1 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_c_16 : Ref sig .tc := ⟨.hbm, 187, rfl⟩
abbrev main_call9_v0 : Ref sig .tc := ⟨.hbm, 188, rfl⟩
abbrev main_call9_v1 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_c_17 : Ref sig .tc := ⟨.hbm, 194, rfl⟩
abbrev main_call11_v0 : Ref sig .tc := ⟨.hbm, 195, rfl⟩
abbrev main_call11_v1 : Ref sig .tc := ⟨.hbm, 196, rfl⟩
abbrev main_v74 : Ref sig .tc := ⟨.hbm, 197, rfl⟩
abbrev main_cst_18 : Ref sig .tc := ⟨.hbm, 198, rfl⟩
abbrev main_call12_v0 : Ref sig .tc := ⟨.hbm, 199, rfl⟩
abbrev main_call12_v1 : Ref sig .tc := ⟨.hbm, 200, rfl⟩
abbrev main_v75 : Ref sig .tc := ⟨.hbm, 201, rfl⟩
abbrev main_c_19 : Ref sig .tc := ⟨.hbm, 202, rfl⟩
abbrev main_c_20 : Ref sig .tc := ⟨.hbm, 203, rfl⟩
abbrev main_call13_v0 : Ref sig .tc := ⟨.hbm, 204, rfl⟩
abbrev main_call13_v1 : Ref sig .tc := ⟨.hbm, 205, rfl⟩
abbrev main_call13_v2 : Ref sig .tc := ⟨.hbm, 206, rfl⟩
abbrev main_call13_v3 : Ref sig .tc := ⟨.hbm, 207, rfl⟩
abbrev main_call13_v4 : Ref sig .tc := ⟨.hbm, 208, rfl⟩
abbrev main_v76 : Ref sig .tc := ⟨.hbm, 209, rfl⟩
abbrev main_call14_c : Ref sig .tc := ⟨.hbm, 210, rfl⟩
abbrev main_call14_v0 : Ref sig .tc := ⟨.hbm, 211, rfl⟩
abbrev main_call14_v1 : Ref sig .tc := ⟨.hbm, 212, rfl⟩
abbrev main_call14_c_0 : Ref sig .tc := ⟨.hbm, 213, rfl⟩
abbrev main_call14_v2 : Ref sig .tc := ⟨.hbm, 214, rfl⟩
abbrev main_call14_v3 : Ref sig .tc := ⟨.hbm, 215, rfl⟩
abbrev main_call14_v4 : Ref sig .tc := ⟨.hbm, 216, rfl⟩
abbrev main_call14_v5 : Ref sig .tc := ⟨.hbm, 217, rfl⟩
abbrev main_call14_c_1 : Ref sig .tc := ⟨.hbm, 218, rfl⟩
abbrev main_call14_c_2 : Ref sig .tc := ⟨.hbm, 219, rfl⟩
abbrev main_call14_v6 : Ref sig .tc := ⟨.hbm, 220, rfl⟩
abbrev main_call14_v7 : Ref sig .tc := ⟨.hbm, 221, rfl⟩
abbrev main_call14_v8 : Ref sig .tc := ⟨.hbm, 222, rfl⟩
abbrev main_call14_v9 : Ref sig .tc := ⟨.hbm, 223, rfl⟩
abbrev main_call14_v10 : Ref sig .tc := ⟨.hbm, 224, rfl⟩
abbrev main_call14_v11 : Ref sig .tc := ⟨.hbm, 225, rfl⟩
abbrev main_call14_c_3 : Ref sig .tc := ⟨.hbm, 226, rfl⟩
abbrev main_call14_v12 : Ref sig .tc := ⟨.hbm, 227, rfl⟩
abbrev main_call14_v13 : Ref sig .tc := ⟨.hbm, 228, rfl⟩
abbrev main_call14_c_4 : Ref sig .tc := ⟨.hbm, 229, rfl⟩
abbrev main_call14_v14 : Ref sig .tc := ⟨.hbm, 230, rfl⟩
abbrev main_v77 : Ref sig .tc := ⟨.hbm, 231, rfl⟩
abbrev main_call15_c : Ref sig .tc := ⟨.hbm, 232, rfl⟩
abbrev main_call15_v0 : Ref sig .tc := ⟨.hbm, 233, rfl⟩
abbrev main_call15_v1 : Ref sig .tc := ⟨.hbm, 234, rfl⟩
abbrev main_call15_c_0 : Ref sig .tc := ⟨.hbm, 235, rfl⟩
abbrev main_call15_v2 : Ref sig .tc := ⟨.hbm, 236, rfl⟩
abbrev main_call15_v3 : Ref sig .tc := ⟨.hbm, 237, rfl⟩
abbrev main_call15_v4 : Ref sig .tc := ⟨.hbm, 238, rfl⟩
abbrev main_call15_v5 : Ref sig .tc := ⟨.hbm, 239, rfl⟩
abbrev main_call15_c_1 : Ref sig .tc := ⟨.hbm, 240, rfl⟩
abbrev main_call15_c_2 : Ref sig .tc := ⟨.hbm, 241, rfl⟩
abbrev main_call15_v6 : Ref sig .tc := ⟨.hbm, 242, rfl⟩
abbrev main_call15_v7 : Ref sig .tc := ⟨.hbm, 243, rfl⟩
abbrev main_call15_v8 : Ref sig .tc := ⟨.hbm, 244, rfl⟩
abbrev main_call15_v9 : Ref sig .tc := ⟨.hbm, 245, rfl⟩
abbrev main_call15_v10 : Ref sig .tc := ⟨.hbm, 246, rfl⟩
abbrev main_call15_v11 : Ref sig .tc := ⟨.hbm, 247, rfl⟩
abbrev main_call15_c_3 : Ref sig .tc := ⟨.hbm, 248, rfl⟩
abbrev main_call15_v12 : Ref sig .tc := ⟨.hbm, 249, rfl⟩
abbrev main_call15_v13 : Ref sig .tc := ⟨.hbm, 250, rfl⟩
abbrev main_call15_v14 : Ref sig .tc := ⟨.hbm, 251, rfl⟩
abbrev main_call15_cst : Ref sig .tc := ⟨.hbm, 252, rfl⟩
abbrev main_call15_v15 : Ref sig .tc := ⟨.hbm, 253, rfl⟩
abbrev main_v78 : Ref sig .tc := ⟨.hbm, 254, rfl⟩
abbrev main_c_21 : Ref sig .tc := ⟨.hbm, 255, rfl⟩
abbrev main_v79 : Ref sig .tc := ⟨.hbm, 256, rfl⟩
abbrev main_v80 : Ref sig .tc := ⟨.hbm, 257, rfl⟩
abbrev main_v81 : Ref sig .tc := ⟨.hbm, 258, rfl⟩
abbrev main_cst_22 : Ref sig .tc := ⟨.hbm, 259, rfl⟩
abbrev main_call16_v0 : Ref sig .tc := ⟨.hbm, 260, rfl⟩
abbrev main_call16_v1 : Ref sig .tc := ⟨.hbm, 261, rfl⟩
abbrev main_call16_v2 : Ref sig .tc := ⟨.hbm, 262, rfl⟩
abbrev main_v82 : Ref sig .tc := ⟨.hbm, 263, rfl⟩
abbrev main_v83 : Ref sig .tc := ⟨.hbm, 264, rfl⟩
abbrev main_v84 : Ref sig .tc := ⟨.hbm, 265, rfl⟩
abbrev main_v85 : Ref sig .tc := ⟨.hbm, 266, rfl⟩
abbrev main_v86 : Ref sig .tc := ⟨.hbm, 267, rfl⟩
abbrev main_v87 : Ref sig .tc := ⟨.hbm, 268, rfl⟩
abbrev main_v88 : Ref sig .tc := ⟨.hbm, 269, rfl⟩
abbrev main_c_23 : Ref sig .tc := ⟨.hbm, 270, rfl⟩
abbrev main_v89 : Ref sig .tc := ⟨.hbm, 271, rfl⟩
abbrev main_v90 : Ref sig .tc := ⟨.hbm, 272, rfl⟩
abbrev main_v91 : Ref sig .tc := ⟨.hbm, 273, rfl⟩
abbrev main_v92 : Ref sig .tc := ⟨.hbm, 274, rfl⟩
abbrev main_v93 : Ref sig .tc := ⟨.hbm, 275, rfl⟩
abbrev main_call17_v0 : Ref sig .tc := ⟨.hbm, 276, rfl⟩
abbrev main_v94 : Ref sig .tc := ⟨.hbm, 277, rfl⟩
abbrev main_v95 : Ref sig .tc := ⟨.hbm, 278, rfl⟩
abbrev main_v96 : Ref sig .tc := ⟨.hbm, 279, rfl⟩
abbrev main_v97 : Ref sig .tc := ⟨.hbm, 280, rfl⟩
abbrev main_call18_c : Ref sig .tc := ⟨.hbm, 281, rfl⟩
abbrev main_call18_v0 : Ref sig .tc := ⟨.hbm, 282, rfl⟩
abbrev main_call18_v1 : Ref sig .tc := ⟨.hbm, 283, rfl⟩
abbrev main_call18_c_0 : Ref sig .tc := ⟨.hbm, 284, rfl⟩
abbrev main_call18_v2 : Ref sig .tc := ⟨.hbm, 285, rfl⟩
abbrev main_call18_v3 : Ref sig .tc := ⟨.hbm, 286, rfl⟩
abbrev main_call18_v4 : Ref sig .tc := ⟨.hbm, 287, rfl⟩
abbrev main_call18_v5 : Ref sig .tc := ⟨.hbm, 288, rfl⟩
abbrev main_call18_c_1 : Ref sig .tc := ⟨.hbm, 289, rfl⟩
abbrev main_call18_c_2 : Ref sig .tc := ⟨.hbm, 290, rfl⟩
abbrev main_call18_v6 : Ref sig .tc := ⟨.hbm, 291, rfl⟩
abbrev main_call18_v7 : Ref sig .tc := ⟨.hbm, 292, rfl⟩
abbrev main_call18_v8 : Ref sig .tc := ⟨.hbm, 293, rfl⟩
abbrev main_call18_v9 : Ref sig .tc := ⟨.hbm, 294, rfl⟩
abbrev main_call18_v10 : Ref sig .tc := ⟨.hbm, 295, rfl⟩
abbrev main_call18_v11 : Ref sig .tc := ⟨.hbm, 296, rfl⟩
abbrev main_call18_c_3 : Ref sig .tc := ⟨.hbm, 297, rfl⟩
abbrev main_call18_v12 : Ref sig .tc := ⟨.hbm, 298, rfl⟩
abbrev main_call18_v13 : Ref sig .tc := ⟨.hbm, 299, rfl⟩
abbrev main_call18_cst : Ref sig .tc := ⟨.hbm, 300, rfl⟩
abbrev main_call18_v14 : Ref sig .tc := ⟨.hbm, 301, rfl⟩
abbrev main_v98 : Ref sig .tc := ⟨.hbm, 302, rfl⟩
abbrev main_v99 : Ref sig .tc := ⟨.hbm, 303, rfl⟩
abbrev main_call19_c : Ref sig .tc := ⟨.hbm, 304, rfl⟩
abbrev main_call19_v0 : Ref sig .tc := ⟨.hbm, 305, rfl⟩
abbrev main_call19_v1 : Ref sig .tc := ⟨.hbm, 306, rfl⟩
abbrev main_call19_c_0 : Ref sig .tc := ⟨.hbm, 307, rfl⟩
abbrev main_call19_v2 : Ref sig .tc := ⟨.hbm, 308, rfl⟩
abbrev main_call19_v3 : Ref sig .tc := ⟨.hbm, 309, rfl⟩
abbrev main_call19_v4 : Ref sig .tc := ⟨.hbm, 310, rfl⟩
abbrev main_call19_v5 : Ref sig .tc := ⟨.hbm, 311, rfl⟩
abbrev main_call19_c_1 : Ref sig .tc := ⟨.hbm, 312, rfl⟩
abbrev main_call19_c_2 : Ref sig .tc := ⟨.hbm, 313, rfl⟩
abbrev main_call19_v6 : Ref sig .tc := ⟨.hbm, 314, rfl⟩
abbrev main_call19_v7 : Ref sig .tc := ⟨.hbm, 315, rfl⟩
abbrev main_call19_v8 : Ref sig .tc := ⟨.hbm, 316, rfl⟩
abbrev main_call19_v9 : Ref sig .tc := ⟨.hbm, 317, rfl⟩
abbrev main_call19_v10 : Ref sig .tc := ⟨.hbm, 318, rfl⟩
abbrev main_call19_v11 : Ref sig .tc := ⟨.hbm, 319, rfl⟩
abbrev main_call19_c_3 : Ref sig .tc := ⟨.hbm, 320, rfl⟩
abbrev main_call19_v12 : Ref sig .tc := ⟨.hbm, 321, rfl⟩
abbrev main_call19_v13 : Ref sig .tc := ⟨.hbm, 322, rfl⟩
abbrev main_call19_cst : Ref sig .tc := ⟨.hbm, 323, rfl⟩
abbrev main_call19_v14 : Ref sig .tc := ⟨.hbm, 324, rfl⟩
abbrev main_v100 : Ref sig .tc := ⟨.hbm, 325, rfl⟩
abbrev main_v101 : Ref sig .tc := ⟨.hbm, 326, rfl⟩
abbrev main_v102 : Ref sig .tc := ⟨.hbm, 327, rfl⟩
abbrev main_v103_0 : Ref sig .tc := ⟨.hbm, 328, rfl⟩
abbrev main_v103_1 : Ref sig .tc := ⟨.hbm, 329, rfl⟩
abbrev main_v103_2 : Ref sig .tc := ⟨.hbm, 330, rfl⟩
abbrev main_v104 : Ref sig .tc := ⟨.hbm, 331, rfl⟩
abbrev main_v105 : Ref sig .tc := ⟨.hbm, 332, rfl⟩
abbrev main_v106 : Ref sig .tc := ⟨.hbm, 333, rfl⟩
abbrev main_c_24 : Ref sig .tc := ⟨.hbm, 334, rfl⟩
abbrev main_c_25 : Ref sig .tc := ⟨.hbm, 335, rfl⟩
abbrev main_call20_v0 : Ref sig .tc := ⟨.hbm, 336, rfl⟩
abbrev main_call20_v1 : Ref sig .tc := ⟨.hbm, 337, rfl⟩
abbrev main_call20_v2 : Ref sig .tc := ⟨.hbm, 338, rfl⟩
abbrev main_call20_v3 : Ref sig .tc := ⟨.hbm, 339, rfl⟩
abbrev main_call20_v4 : Ref sig .tc := ⟨.hbm, 340, rfl⟩
abbrev main_v107 : Ref sig .tc := ⟨.hbm, 341, rfl⟩
abbrev main_v108 : Ref sig .tc := ⟨.hbm, 342, rfl⟩
abbrev main_v109 : Ref sig .tc := ⟨.hbm, 343, rfl⟩
abbrev main_v110 : Ref sig .tc := ⟨.hbm, 344, rfl⟩
abbrev main_v111 : Ref sig .tc := ⟨.hbm, 345, rfl⟩
abbrev main_v112 : Ref sig .tc := ⟨.hbm, 346, rfl⟩
abbrev main_cst_26 : Ref sig .tc := ⟨.hbm, 347, rfl⟩
abbrev main_call21_v0 : Ref sig .tc := ⟨.hbm, 348, rfl⟩
abbrev main_call21_v1 : Ref sig .tc := ⟨.hbm, 349, rfl⟩
abbrev main_v113 : Ref sig .tc := ⟨.hbm, 350, rfl⟩
abbrev main_v114 : Ref sig .tc := ⟨.hbm, 351, rfl⟩
abbrev main_v115 : Ref sig .tc := ⟨.hbm, 352, rfl⟩
abbrev main_cst_27 : Ref sig .tc := ⟨.hbm, 353, rfl⟩
abbrev main_v116 : Ref sig .tc := ⟨.hbm, 354, rfl⟩
abbrev main_v117 : Ref sig .tc := ⟨.hbm, 355, rfl⟩
abbrev main_cst_28 : Ref sig .tc := ⟨.hbm, 356, rfl⟩
abbrev main_call22_v0 : Ref sig .tc := ⟨.hbm, 357, rfl⟩
abbrev main_call22_v1 : Ref sig .tc := ⟨.hbm, 358, rfl⟩
abbrev main_v118 : Ref sig .tc := ⟨.hbm, 359, rfl⟩
abbrev main_v119 : Ref sig .tc := ⟨.hbm, 360, rfl⟩
abbrev main_v120 : Ref sig .tc := ⟨.hbm, 361, rfl⟩
abbrev main_v121 : Ref sig .tc := ⟨.hbm, 362, rfl⟩
abbrev main_v122 : Ref sig .tc := ⟨.hbm, 363, rfl⟩
abbrev main_v123 : Ref sig .tc := ⟨.hbm, 364, rfl⟩
abbrev main_v124 : Ref sig .tc := ⟨.hbm, 365, rfl⟩
abbrev main_cst_29 : Ref sig .tc := ⟨.hbm, 366, rfl⟩
abbrev main_v125 : Ref sig .tc := ⟨.hbm, 367, rfl⟩
abbrev main_v126 : Ref sig .tc := ⟨.hbm, 368, rfl⟩
abbrev main_v127 : Ref sig .tc := ⟨.hbm, 369, rfl⟩
abbrev main_v128 : Ref sig .tc := ⟨.hbm, 370, rfl⟩
abbrev main_cst_30 : Ref sig .tc := ⟨.hbm, 371, rfl⟩
abbrev main_v129 : Ref sig .tc := ⟨.hbm, 372, rfl⟩
abbrev main_v130 : Ref sig .tc := ⟨.hbm, 373, rfl⟩
abbrev main_cst_31 : Ref sig .tc := ⟨.hbm, 374, rfl⟩
abbrev main_call23_v0 : Ref sig .tc := ⟨.hbm, 375, rfl⟩
abbrev main_call23_v1 : Ref sig .tc := ⟨.hbm, 376, rfl⟩
abbrev main_v131 : Ref sig .tc := ⟨.hbm, 377, rfl⟩
abbrev main_v132 : Ref sig .tc := ⟨.hbm, 378, rfl⟩
abbrev main_v133 : Ref sig .tc := ⟨.hbm, 379, rfl⟩
abbrev main_v134 : Ref sig .tc := ⟨.hbm, 380, rfl⟩
abbrev main_c_32 : Ref sig .tc := ⟨.hbm, 381, rfl⟩
abbrev main_call24_v0 : Ref sig .tc := ⟨.hbm, 382, rfl⟩
abbrev main_call24_v1 : Ref sig .tc := ⟨.hbm, 383, rfl⟩
abbrev main_v135 : Ref sig .tc := ⟨.hbm, 384, rfl⟩
abbrev main_v136 : Ref sig .tc := ⟨.hbm, 385, rfl⟩
abbrev main_v137 : Ref sig .tc := ⟨.hbm, 386, rfl⟩
abbrev main_v138 : Ref sig .tc := ⟨.hbm, 387, rfl⟩
abbrev main_c_33 : Ref sig .tc := ⟨.hbm, 388, rfl⟩
abbrev main_call26_v0 : Ref sig .tc := ⟨.hbm, 389, rfl⟩
abbrev main_call26_v1 : Ref sig .tc := ⟨.hbm, 390, rfl⟩
abbrev main_v139 : Ref sig .tc := ⟨.hbm, 391, rfl⟩
abbrev main_cst_34 : Ref sig .tc := ⟨.hbm, 392, rfl⟩
abbrev main_call27_v0 : Ref sig .tc := ⟨.hbm, 393, rfl⟩
abbrev main_call27_v1 : Ref sig .tc := ⟨.hbm, 394, rfl⟩
abbrev main_v140 : Ref sig .tc := ⟨.hbm, 395, rfl⟩
abbrev main_c_35 : Ref sig .tc := ⟨.hbm, 396, rfl⟩
abbrev main_c_36 : Ref sig .tc := ⟨.hbm, 397, rfl⟩
abbrev main_call28_v0 : Ref sig .tc := ⟨.hbm, 398, rfl⟩
abbrev main_call28_v1 : Ref sig .tc := ⟨.hbm, 399, rfl⟩
abbrev main_call28_v2 : Ref sig .tc := ⟨.hbm, 400, rfl⟩
abbrev main_call28_v3 : Ref sig .tc := ⟨.hbm, 401, rfl⟩
abbrev main_call28_v4 : Ref sig .tc := ⟨.hbm, 402, rfl⟩
abbrev main_v141 : Ref sig .tc := ⟨.hbm, 403, rfl⟩
abbrev main_call29_c : Ref sig .tc := ⟨.hbm, 404, rfl⟩
abbrev main_call29_v0 : Ref sig .tc := ⟨.hbm, 405, rfl⟩
abbrev main_call29_v1 : Ref sig .tc := ⟨.hbm, 406, rfl⟩
abbrev main_call29_c_0 : Ref sig .tc := ⟨.hbm, 407, rfl⟩
abbrev main_call29_v2 : Ref sig .tc := ⟨.hbm, 408, rfl⟩
abbrev main_call29_v3 : Ref sig .tc := ⟨.hbm, 409, rfl⟩
abbrev main_call29_v4 : Ref sig .tc := ⟨.hbm, 410, rfl⟩
abbrev main_call29_v5 : Ref sig .tc := ⟨.hbm, 411, rfl⟩
abbrev main_call29_c_1 : Ref sig .tc := ⟨.hbm, 412, rfl⟩
abbrev main_call29_c_2 : Ref sig .tc := ⟨.hbm, 413, rfl⟩
abbrev main_call29_v6 : Ref sig .tc := ⟨.hbm, 414, rfl⟩
abbrev main_call29_v7 : Ref sig .tc := ⟨.hbm, 415, rfl⟩
abbrev main_call29_v8 : Ref sig .tc := ⟨.hbm, 416, rfl⟩
abbrev main_call29_v9 : Ref sig .tc := ⟨.hbm, 417, rfl⟩
abbrev main_call29_v10 : Ref sig .tc := ⟨.hbm, 418, rfl⟩
abbrev main_call29_v11 : Ref sig .tc := ⟨.hbm, 419, rfl⟩
abbrev main_call29_c_3 : Ref sig .tc := ⟨.hbm, 420, rfl⟩
abbrev main_call29_v12 : Ref sig .tc := ⟨.hbm, 421, rfl⟩
abbrev main_call29_v13 : Ref sig .tc := ⟨.hbm, 422, rfl⟩
abbrev main_call29_c_4 : Ref sig .tc := ⟨.hbm, 423, rfl⟩
abbrev main_call29_v14 : Ref sig .tc := ⟨.hbm, 424, rfl⟩
abbrev main_v142 : Ref sig .tc := ⟨.hbm, 425, rfl⟩
abbrev main_call30_c : Ref sig .tc := ⟨.hbm, 426, rfl⟩
abbrev main_call30_v0 : Ref sig .tc := ⟨.hbm, 427, rfl⟩
abbrev main_call30_v1 : Ref sig .tc := ⟨.hbm, 428, rfl⟩
abbrev main_call30_c_0 : Ref sig .tc := ⟨.hbm, 429, rfl⟩
abbrev main_call30_v2 : Ref sig .tc := ⟨.hbm, 430, rfl⟩
abbrev main_call30_v3 : Ref sig .tc := ⟨.hbm, 431, rfl⟩
abbrev main_call30_v4 : Ref sig .tc := ⟨.hbm, 432, rfl⟩
abbrev main_call30_v5 : Ref sig .tc := ⟨.hbm, 433, rfl⟩
abbrev main_call30_c_1 : Ref sig .tc := ⟨.hbm, 434, rfl⟩
abbrev main_call30_c_2 : Ref sig .tc := ⟨.hbm, 435, rfl⟩
abbrev main_call30_v6 : Ref sig .tc := ⟨.hbm, 436, rfl⟩
abbrev main_call30_v7 : Ref sig .tc := ⟨.hbm, 437, rfl⟩
abbrev main_call30_v8 : Ref sig .tc := ⟨.hbm, 438, rfl⟩
abbrev main_call30_v9 : Ref sig .tc := ⟨.hbm, 439, rfl⟩
abbrev main_call30_v10 : Ref sig .tc := ⟨.hbm, 440, rfl⟩
abbrev main_call30_v11 : Ref sig .tc := ⟨.hbm, 441, rfl⟩
abbrev main_call30_c_3 : Ref sig .tc := ⟨.hbm, 442, rfl⟩
abbrev main_call30_v12 : Ref sig .tc := ⟨.hbm, 443, rfl⟩
abbrev main_call30_v13 : Ref sig .tc := ⟨.hbm, 444, rfl⟩
abbrev main_call30_v14 : Ref sig .tc := ⟨.hbm, 445, rfl⟩
abbrev main_call30_cst : Ref sig .tc := ⟨.hbm, 446, rfl⟩
abbrev main_call30_v15 : Ref sig .tc := ⟨.hbm, 447, rfl⟩
abbrev main_v143 : Ref sig .tc := ⟨.hbm, 448, rfl⟩
abbrev main_c_37 : Ref sig .tc := ⟨.hbm, 449, rfl⟩
abbrev main_v144 : Ref sig .tc := ⟨.hbm, 450, rfl⟩
abbrev main_v145 : Ref sig .tc := ⟨.hbm, 451, rfl⟩
abbrev main_v146 : Ref sig .tc := ⟨.hbm, 452, rfl⟩
abbrev main_cst_38 : Ref sig .tc := ⟨.hbm, 453, rfl⟩
abbrev main_call31_v0 : Ref sig .tc := ⟨.hbm, 454, rfl⟩
abbrev main_call31_v1 : Ref sig .tc := ⟨.hbm, 455, rfl⟩
abbrev main_call31_v2 : Ref sig .tc := ⟨.hbm, 456, rfl⟩
abbrev main_v147 : Ref sig .tc := ⟨.hbm, 457, rfl⟩
abbrev main_v148 : Ref sig .tc := ⟨.hbm, 458, rfl⟩
abbrev main_v149 : Ref sig .tc := ⟨.hbm, 459, rfl⟩
abbrev main_v150 : Ref sig .tc := ⟨.hbm, 460, rfl⟩
abbrev main_v151 : Ref sig .tc := ⟨.hbm, 461, rfl⟩
abbrev main_v152 : Ref sig .tc := ⟨.hbm, 462, rfl⟩
abbrev main_v153 : Ref sig .tc := ⟨.hbm, 463, rfl⟩
abbrev main_c_39 : Ref sig .tc := ⟨.hbm, 464, rfl⟩
abbrev main_v154 : Ref sig .tc := ⟨.hbm, 465, rfl⟩
abbrev main_v155 : Ref sig .tc := ⟨.hbm, 466, rfl⟩
abbrev main_v156 : Ref sig .tc := ⟨.hbm, 467, rfl⟩
abbrev main_v157 : Ref sig .tc := ⟨.hbm, 468, rfl⟩
abbrev main_v158 : Ref sig .tc := ⟨.hbm, 469, rfl⟩
abbrev main_call32_v0 : Ref sig .tc := ⟨.hbm, 470, rfl⟩
abbrev main_v159 : Ref sig .tc := ⟨.hbm, 471, rfl⟩
abbrev main_v160 : Ref sig .tc := ⟨.hbm, 472, rfl⟩
abbrev main_v161 : Ref sig .tc := ⟨.hbm, 473, rfl⟩
abbrev main_v162 : Ref sig .tc := ⟨.hbm, 474, rfl⟩
abbrev main_call33_c : Ref sig .tc := ⟨.hbm, 475, rfl⟩
abbrev main_call33_v0 : Ref sig .tc := ⟨.hbm, 476, rfl⟩
abbrev main_call33_v1 : Ref sig .tc := ⟨.hbm, 477, rfl⟩
abbrev main_call33_c_0 : Ref sig .tc := ⟨.hbm, 478, rfl⟩
abbrev main_call33_v2 : Ref sig .tc := ⟨.hbm, 479, rfl⟩
abbrev main_call33_v3 : Ref sig .tc := ⟨.hbm, 480, rfl⟩
abbrev main_call33_v4 : Ref sig .tc := ⟨.hbm, 481, rfl⟩
abbrev main_call33_v5 : Ref sig .tc := ⟨.hbm, 482, rfl⟩
abbrev main_call33_c_1 : Ref sig .tc := ⟨.hbm, 483, rfl⟩
abbrev main_call33_c_2 : Ref sig .tc := ⟨.hbm, 484, rfl⟩
abbrev main_call33_v6 : Ref sig .tc := ⟨.hbm, 485, rfl⟩
abbrev main_call33_v7 : Ref sig .tc := ⟨.hbm, 486, rfl⟩
abbrev main_call33_v8 : Ref sig .tc := ⟨.hbm, 487, rfl⟩
abbrev main_call33_v9 : Ref sig .tc := ⟨.hbm, 488, rfl⟩
abbrev main_call33_v10 : Ref sig .tc := ⟨.hbm, 489, rfl⟩
abbrev main_call33_v11 : Ref sig .tc := ⟨.hbm, 490, rfl⟩
abbrev main_call33_c_3 : Ref sig .tc := ⟨.hbm, 491, rfl⟩
abbrev main_call33_v12 : Ref sig .tc := ⟨.hbm, 492, rfl⟩
abbrev main_call33_v13 : Ref sig .tc := ⟨.hbm, 493, rfl⟩
abbrev main_call33_cst : Ref sig .tc := ⟨.hbm, 494, rfl⟩
abbrev main_call33_v14 : Ref sig .tc := ⟨.hbm, 495, rfl⟩
abbrev main_v163 : Ref sig .tc := ⟨.hbm, 496, rfl⟩
abbrev main_v164 : Ref sig .tc := ⟨.hbm, 497, rfl⟩
abbrev main_call34_c : Ref sig .tc := ⟨.hbm, 498, rfl⟩
abbrev main_call34_v0 : Ref sig .tc := ⟨.hbm, 499, rfl⟩
abbrev main_call34_v1 : Ref sig .tc := ⟨.hbm, 500, rfl⟩
abbrev main_call34_c_0 : Ref sig .tc := ⟨.hbm, 501, rfl⟩
abbrev main_call34_v2 : Ref sig .tc := ⟨.hbm, 502, rfl⟩
abbrev main_call34_v3 : Ref sig .tc := ⟨.hbm, 503, rfl⟩
abbrev main_call34_v4 : Ref sig .tc := ⟨.hbm, 504, rfl⟩
abbrev main_call34_v5 : Ref sig .tc := ⟨.hbm, 505, rfl⟩
abbrev main_call34_c_1 : Ref sig .tc := ⟨.hbm, 506, rfl⟩
abbrev main_call34_c_2 : Ref sig .tc := ⟨.hbm, 507, rfl⟩
abbrev main_call34_v6 : Ref sig .tc := ⟨.hbm, 508, rfl⟩
abbrev main_call34_v7 : Ref sig .tc := ⟨.hbm, 509, rfl⟩
abbrev main_call34_v8 : Ref sig .tc := ⟨.hbm, 510, rfl⟩
abbrev main_call34_v9 : Ref sig .tc := ⟨.hbm, 511, rfl⟩
abbrev main_call34_v10 : Ref sig .tc := ⟨.hbm, 512, rfl⟩
abbrev main_call34_v11 : Ref sig .tc := ⟨.hbm, 513, rfl⟩
abbrev main_call34_c_3 : Ref sig .tc := ⟨.hbm, 514, rfl⟩
abbrev main_call34_v12 : Ref sig .tc := ⟨.hbm, 515, rfl⟩
abbrev main_call34_v13 : Ref sig .tc := ⟨.hbm, 516, rfl⟩
abbrev main_call34_cst : Ref sig .tc := ⟨.hbm, 517, rfl⟩
abbrev main_call34_v14 : Ref sig .tc := ⟨.hbm, 518, rfl⟩
abbrev main_v165 : Ref sig .tc := ⟨.hbm, 519, rfl⟩
abbrev main_v166 : Ref sig .tc := ⟨.hbm, 520, rfl⟩
abbrev main_v167 : Ref sig .tc := ⟨.hbm, 521, rfl⟩
abbrev main_v168_0 : Ref sig .tc := ⟨.hbm, 522, rfl⟩
abbrev main_v168_1 : Ref sig .tc := ⟨.hbm, 523, rfl⟩
abbrev main_v168_2 : Ref sig .tc := ⟨.hbm, 524, rfl⟩
abbrev main_v169 : Ref sig .tc := ⟨.hbm, 525, rfl⟩
abbrev main_v170 : Ref sig .tc := ⟨.hbm, 526, rfl⟩
abbrev main_v171 : Ref sig .tc := ⟨.hbm, 527, rfl⟩
abbrev main_c_40 : Ref sig .tc := ⟨.hbm, 528, rfl⟩
abbrev main_c_41 : Ref sig .tc := ⟨.hbm, 529, rfl⟩
abbrev main_call35_v0 : Ref sig .tc := ⟨.hbm, 530, rfl⟩
abbrev main_call35_v1 : Ref sig .tc := ⟨.hbm, 531, rfl⟩
abbrev main_call35_v2 : Ref sig .tc := ⟨.hbm, 532, rfl⟩
abbrev main_call35_v3 : Ref sig .tc := ⟨.hbm, 533, rfl⟩
abbrev main_call35_v4 : Ref sig .tc := ⟨.hbm, 534, rfl⟩
abbrev main_v172 : Ref sig .tc := ⟨.hbm, 535, rfl⟩
abbrev main_v173 : Ref sig .tc := ⟨.hbm, 536, rfl⟩
abbrev main_v174 : Ref sig .tc := ⟨.hbm, 537, rfl⟩
abbrev main_v175 : Ref sig .tc := ⟨.hbm, 538, rfl⟩
abbrev main_v176 : Ref sig .tc := ⟨.hbm, 539, rfl⟩
abbrev main_v177 : Ref sig .tc := ⟨.hbm, 540, rfl⟩
abbrev main_cst_42 : Ref sig .tc := ⟨.hbm, 541, rfl⟩
abbrev main_call36_v0 : Ref sig .tc := ⟨.hbm, 542, rfl⟩
abbrev main_call36_v1 : Ref sig .tc := ⟨.hbm, 543, rfl⟩
abbrev main_v178 : Ref sig .tc := ⟨.hbm, 544, rfl⟩
abbrev main_v179 : Ref sig .tc := ⟨.hbm, 545, rfl⟩
abbrev main_v180 : Ref sig .tc := ⟨.hbm, 546, rfl⟩
abbrev main_cst_43 : Ref sig .tc := ⟨.hbm, 547, rfl⟩
abbrev main_v181 : Ref sig .tc := ⟨.hbm, 548, rfl⟩
abbrev main_v182 : Ref sig .tc := ⟨.hbm, 549, rfl⟩
abbrev main_cst_44 : Ref sig .tc := ⟨.hbm, 550, rfl⟩
abbrev main_call37_v0 : Ref sig .tc := ⟨.hbm, 551, rfl⟩
abbrev main_call37_v1 : Ref sig .tc := ⟨.hbm, 552, rfl⟩
abbrev main_v183 : Ref sig .tc := ⟨.hbm, 553, rfl⟩
abbrev main_v184 : Ref sig .tc := ⟨.hbm, 554, rfl⟩
abbrev main_v185 : Ref sig .tc := ⟨.hbm, 555, rfl⟩
abbrev main_v186 : Ref sig .tc := ⟨.hbm, 556, rfl⟩
abbrev main_v187 : Ref sig .tc := ⟨.hbm, 557, rfl⟩
abbrev main_v188 : Ref sig .tc := ⟨.hbm, 558, rfl⟩
abbrev main_v189 : Ref sig .tc := ⟨.hbm, 559, rfl⟩
abbrev main_cst_45 : Ref sig .tc := ⟨.hbm, 560, rfl⟩
abbrev main_v190 : Ref sig .tc := ⟨.hbm, 561, rfl⟩
abbrev main_v191 : Ref sig .tc := ⟨.hbm, 562, rfl⟩
abbrev main_v192 : Ref sig .tc := ⟨.hbm, 563, rfl⟩
abbrev main_v193 : Ref sig .tc := ⟨.hbm, 564, rfl⟩
abbrev main_cst_46 : Ref sig .tc := ⟨.hbm, 565, rfl⟩
abbrev main_v194 : Ref sig .tc := ⟨.hbm, 566, rfl⟩
abbrev main_v195 : Ref sig .tc := ⟨.hbm, 567, rfl⟩
abbrev main_cst_47 : Ref sig .tc := ⟨.hbm, 568, rfl⟩
abbrev main_call38_v0 : Ref sig .tc := ⟨.hbm, 569, rfl⟩
abbrev main_call38_v1 : Ref sig .tc := ⟨.hbm, 570, rfl⟩
abbrev main_v196 : Ref sig .tc := ⟨.hbm, 571, rfl⟩
abbrev main_v197 : Ref sig .tc := ⟨.hbm, 572, rfl⟩
abbrev main_v198 : Ref sig .tc := ⟨.hbm, 573, rfl⟩
abbrev main_v199 : Ref sig .tc := ⟨.hbm, 574, rfl⟩
abbrev main_c_48 : Ref sig .tc := ⟨.hbm, 575, rfl⟩
abbrev main_call39_v0 : Ref sig .tc := ⟨.hbm, 576, rfl⟩
abbrev main_call39_v1 : Ref sig .tc := ⟨.hbm, 577, rfl⟩
abbrev main_v200 : Ref sig .tc := ⟨.hbm, 578, rfl⟩
abbrev main_v201 : Ref sig .tc := ⟨.hbm, 579, rfl⟩
abbrev main_v202 : Ref sig .tc := ⟨.hbm, 580, rfl⟩
abbrev main_v203 : Ref sig .tc := ⟨.hbm, 581, rfl⟩
abbrev main_c_49 : Ref sig .tc := ⟨.hbm, 582, rfl⟩
abbrev main_call41_v0 : Ref sig .tc := ⟨.hbm, 583, rfl⟩
abbrev main_call41_v1 : Ref sig .tc := ⟨.hbm, 584, rfl⟩
abbrev main_v204 : Ref sig .tc := ⟨.hbm, 585, rfl⟩
abbrev main_cst_50 : Ref sig .tc := ⟨.hbm, 586, rfl⟩
abbrev main_call42_v0 : Ref sig .tc := ⟨.hbm, 587, rfl⟩
abbrev main_call42_v1 : Ref sig .tc := ⟨.hbm, 588, rfl⟩
abbrev main_v205 : Ref sig .tc := ⟨.hbm, 589, rfl⟩
abbrev main_c_51 : Ref sig .tc := ⟨.hbm, 590, rfl⟩
abbrev main_c_52 : Ref sig .tc := ⟨.hbm, 591, rfl⟩
abbrev main_call43_v0 : Ref sig .tc := ⟨.hbm, 592, rfl⟩
abbrev main_call43_v1 : Ref sig .tc := ⟨.hbm, 593, rfl⟩
abbrev main_call43_v2 : Ref sig .tc := ⟨.hbm, 594, rfl⟩
abbrev main_call43_v3 : Ref sig .tc := ⟨.hbm, 595, rfl⟩
abbrev main_call43_v4 : Ref sig .tc := ⟨.hbm, 596, rfl⟩
abbrev main_v206 : Ref sig .tc := ⟨.hbm, 597, rfl⟩
abbrev main_call44_c : Ref sig .tc := ⟨.hbm, 598, rfl⟩
abbrev main_call44_v0 : Ref sig .tc := ⟨.hbm, 599, rfl⟩
abbrev main_call44_v1 : Ref sig .tc := ⟨.hbm, 600, rfl⟩
abbrev main_call44_c_0 : Ref sig .tc := ⟨.hbm, 601, rfl⟩
abbrev main_call44_v2 : Ref sig .tc := ⟨.hbm, 602, rfl⟩
abbrev main_call44_v3 : Ref sig .tc := ⟨.hbm, 603, rfl⟩
abbrev main_call44_v4 : Ref sig .tc := ⟨.hbm, 604, rfl⟩
abbrev main_call44_v5 : Ref sig .tc := ⟨.hbm, 605, rfl⟩
abbrev main_call44_c_1 : Ref sig .tc := ⟨.hbm, 606, rfl⟩
abbrev main_call44_c_2 : Ref sig .tc := ⟨.hbm, 607, rfl⟩
abbrev main_call44_v6 : Ref sig .tc := ⟨.hbm, 608, rfl⟩
abbrev main_call44_v7 : Ref sig .tc := ⟨.hbm, 609, rfl⟩
abbrev main_call44_v8 : Ref sig .tc := ⟨.hbm, 610, rfl⟩
abbrev main_call44_v9 : Ref sig .tc := ⟨.hbm, 611, rfl⟩
abbrev main_call44_v10 : Ref sig .tc := ⟨.hbm, 612, rfl⟩
abbrev main_call44_v11 : Ref sig .tc := ⟨.hbm, 613, rfl⟩
abbrev main_call44_c_3 : Ref sig .tc := ⟨.hbm, 614, rfl⟩
abbrev main_call44_v12 : Ref sig .tc := ⟨.hbm, 615, rfl⟩
abbrev main_call44_v13 : Ref sig .tc := ⟨.hbm, 616, rfl⟩
abbrev main_call44_c_4 : Ref sig .tc := ⟨.hbm, 617, rfl⟩
abbrev main_call44_v14 : Ref sig .tc := ⟨.hbm, 618, rfl⟩
abbrev main_v207 : Ref sig .tc := ⟨.hbm, 619, rfl⟩
abbrev main_call45_c : Ref sig .tc := ⟨.hbm, 620, rfl⟩
abbrev main_call45_v0 : Ref sig .tc := ⟨.hbm, 621, rfl⟩
abbrev main_call45_v1 : Ref sig .tc := ⟨.hbm, 622, rfl⟩
abbrev main_call45_c_0 : Ref sig .tc := ⟨.hbm, 623, rfl⟩
abbrev main_call45_v2 : Ref sig .tc := ⟨.hbm, 624, rfl⟩
abbrev main_call45_v3 : Ref sig .tc := ⟨.hbm, 625, rfl⟩
abbrev main_call45_v4 : Ref sig .tc := ⟨.hbm, 626, rfl⟩
abbrev main_call45_v5 : Ref sig .tc := ⟨.hbm, 627, rfl⟩
abbrev main_call45_c_1 : Ref sig .tc := ⟨.hbm, 628, rfl⟩
abbrev main_call45_c_2 : Ref sig .tc := ⟨.hbm, 629, rfl⟩
abbrev main_call45_v6 : Ref sig .tc := ⟨.hbm, 630, rfl⟩
abbrev main_call45_v7 : Ref sig .tc := ⟨.hbm, 631, rfl⟩
abbrev main_call45_v8 : Ref sig .tc := ⟨.hbm, 632, rfl⟩
abbrev main_call45_v9 : Ref sig .tc := ⟨.hbm, 633, rfl⟩
abbrev main_call45_v10 : Ref sig .tc := ⟨.hbm, 634, rfl⟩
abbrev main_call45_v11 : Ref sig .tc := ⟨.hbm, 635, rfl⟩
abbrev main_call45_c_3 : Ref sig .tc := ⟨.hbm, 636, rfl⟩
abbrev main_call45_v12 : Ref sig .tc := ⟨.hbm, 637, rfl⟩
abbrev main_call45_v13 : Ref sig .tc := ⟨.hbm, 638, rfl⟩
abbrev main_call45_v14 : Ref sig .tc := ⟨.hbm, 639, rfl⟩
abbrev main_call45_cst : Ref sig .tc := ⟨.hbm, 640, rfl⟩
abbrev main_call45_v15 : Ref sig .tc := ⟨.hbm, 641, rfl⟩
abbrev main_v208 : Ref sig .tc := ⟨.hbm, 642, rfl⟩
abbrev main_c_53 : Ref sig .tc := ⟨.hbm, 643, rfl⟩
abbrev main_v209 : Ref sig .tc := ⟨.hbm, 644, rfl⟩
abbrev main_v210 : Ref sig .tc := ⟨.hbm, 645, rfl⟩
abbrev main_v211 : Ref sig .tc := ⟨.hbm, 646, rfl⟩
abbrev main_cst_54 : Ref sig .tc := ⟨.hbm, 647, rfl⟩
abbrev main_call46_v0 : Ref sig .tc := ⟨.hbm, 648, rfl⟩
abbrev main_call46_v1 : Ref sig .tc := ⟨.hbm, 649, rfl⟩
abbrev main_call46_v2 : Ref sig .tc := ⟨.hbm, 650, rfl⟩
abbrev main_v212 : Ref sig .tc := ⟨.hbm, 651, rfl⟩
abbrev main_v213 : Ref sig .tc := ⟨.hbm, 652, rfl⟩
abbrev main_v214 : Ref sig .tc := ⟨.hbm, 653, rfl⟩
abbrev main_v215 : Ref sig .tc := ⟨.hbm, 654, rfl⟩
abbrev main_v216 : Ref sig .tc := ⟨.hbm, 655, rfl⟩
abbrev main_v217 : Ref sig .tc := ⟨.hbm, 656, rfl⟩
abbrev main_v218 : Ref sig .tc := ⟨.hbm, 657, rfl⟩
abbrev main_c_55 : Ref sig .tc := ⟨.hbm, 658, rfl⟩
abbrev main_v219 : Ref sig .tc := ⟨.hbm, 659, rfl⟩
abbrev main_v220 : Ref sig .tc := ⟨.hbm, 660, rfl⟩
abbrev main_v221 : Ref sig .tc := ⟨.hbm, 661, rfl⟩
abbrev main_v222 : Ref sig .tc := ⟨.hbm, 662, rfl⟩
abbrev main_v223 : Ref sig .tc := ⟨.hbm, 663, rfl⟩
abbrev main_call47_v0 : Ref sig .tc := ⟨.hbm, 664, rfl⟩
abbrev main_v224 : Ref sig .tc := ⟨.hbm, 665, rfl⟩
abbrev main_v225 : Ref sig .tc := ⟨.hbm, 666, rfl⟩
abbrev main_v226 : Ref sig .tc := ⟨.hbm, 667, rfl⟩
abbrev main_v227 : Ref sig .tc := ⟨.hbm, 668, rfl⟩
abbrev main_call48_c : Ref sig .tc := ⟨.hbm, 669, rfl⟩
abbrev main_call48_v0 : Ref sig .tc := ⟨.hbm, 670, rfl⟩
abbrev main_call48_v1 : Ref sig .tc := ⟨.hbm, 671, rfl⟩
abbrev main_call48_c_0 : Ref sig .tc := ⟨.hbm, 672, rfl⟩
abbrev main_call48_v2 : Ref sig .tc := ⟨.hbm, 673, rfl⟩
abbrev main_call48_v3 : Ref sig .tc := ⟨.hbm, 674, rfl⟩
abbrev main_call48_v4 : Ref sig .tc := ⟨.hbm, 675, rfl⟩
abbrev main_call48_v5 : Ref sig .tc := ⟨.hbm, 676, rfl⟩
abbrev main_call48_c_1 : Ref sig .tc := ⟨.hbm, 677, rfl⟩
abbrev main_call48_c_2 : Ref sig .tc := ⟨.hbm, 678, rfl⟩
abbrev main_call48_v6 : Ref sig .tc := ⟨.hbm, 679, rfl⟩
abbrev main_call48_v7 : Ref sig .tc := ⟨.hbm, 680, rfl⟩
abbrev main_call48_v8 : Ref sig .tc := ⟨.hbm, 681, rfl⟩
abbrev main_call48_v9 : Ref sig .tc := ⟨.hbm, 682, rfl⟩
abbrev main_call48_v10 : Ref sig .tc := ⟨.hbm, 683, rfl⟩
abbrev main_call48_v11 : Ref sig .tc := ⟨.hbm, 684, rfl⟩
abbrev main_call48_c_3 : Ref sig .tc := ⟨.hbm, 685, rfl⟩
abbrev main_call48_v12 : Ref sig .tc := ⟨.hbm, 686, rfl⟩
abbrev main_call48_v13 : Ref sig .tc := ⟨.hbm, 687, rfl⟩
abbrev main_call48_cst : Ref sig .tc := ⟨.hbm, 688, rfl⟩
abbrev main_call48_v14 : Ref sig .tc := ⟨.hbm, 689, rfl⟩
abbrev main_v228 : Ref sig .tc := ⟨.hbm, 690, rfl⟩
abbrev main_v229 : Ref sig .tc := ⟨.hbm, 691, rfl⟩
abbrev main_call49_c : Ref sig .tc := ⟨.hbm, 692, rfl⟩
abbrev main_call49_v0 : Ref sig .tc := ⟨.hbm, 693, rfl⟩
abbrev main_call49_v1 : Ref sig .tc := ⟨.hbm, 694, rfl⟩
abbrev main_call49_c_0 : Ref sig .tc := ⟨.hbm, 695, rfl⟩
abbrev main_call49_v2 : Ref sig .tc := ⟨.hbm, 696, rfl⟩
abbrev main_call49_v3 : Ref sig .tc := ⟨.hbm, 697, rfl⟩
abbrev main_call49_v4 : Ref sig .tc := ⟨.hbm, 698, rfl⟩
abbrev main_call49_v5 : Ref sig .tc := ⟨.hbm, 699, rfl⟩
abbrev main_call49_c_1 : Ref sig .tc := ⟨.hbm, 700, rfl⟩
abbrev main_call49_c_2 : Ref sig .tc := ⟨.hbm, 701, rfl⟩
abbrev main_call49_v6 : Ref sig .tc := ⟨.hbm, 702, rfl⟩
abbrev main_call49_v7 : Ref sig .tc := ⟨.hbm, 703, rfl⟩
abbrev main_call49_v8 : Ref sig .tc := ⟨.hbm, 704, rfl⟩
abbrev main_call49_v9 : Ref sig .tc := ⟨.hbm, 705, rfl⟩
abbrev main_call49_v10 : Ref sig .tc := ⟨.hbm, 706, rfl⟩
abbrev main_call49_v11 : Ref sig .tc := ⟨.hbm, 707, rfl⟩
abbrev main_call49_c_3 : Ref sig .tc := ⟨.hbm, 708, rfl⟩
abbrev main_call49_v12 : Ref sig .tc := ⟨.hbm, 709, rfl⟩
abbrev main_call49_v13 : Ref sig .tc := ⟨.hbm, 710, rfl⟩
abbrev main_call49_cst : Ref sig .tc := ⟨.hbm, 711, rfl⟩
abbrev main_call49_v14 : Ref sig .tc := ⟨.hbm, 712, rfl⟩
abbrev main_v230 : Ref sig .tc := ⟨.hbm, 713, rfl⟩
abbrev main_v231 : Ref sig .tc := ⟨.hbm, 714, rfl⟩
abbrev main_v232 : Ref sig .tc := ⟨.hbm, 715, rfl⟩
abbrev main_v233_0 : Ref sig .tc := ⟨.hbm, 716, rfl⟩
abbrev main_v233_1 : Ref sig .tc := ⟨.hbm, 717, rfl⟩
abbrev main_v233_2 : Ref sig .tc := ⟨.hbm, 718, rfl⟩
abbrev main_v234 : Ref sig .tc := ⟨.hbm, 719, rfl⟩
abbrev main_v235 : Ref sig .tc := ⟨.hbm, 720, rfl⟩
abbrev main_v236 : Ref sig .tc := ⟨.hbm, 721, rfl⟩
abbrev main_c_56 : Ref sig .tc := ⟨.hbm, 722, rfl⟩
abbrev main_c_57 : Ref sig .tc := ⟨.hbm, 723, rfl⟩
abbrev main_call50_v0 : Ref sig .tc := ⟨.hbm, 724, rfl⟩
abbrev main_call50_v1 : Ref sig .tc := ⟨.hbm, 725, rfl⟩
abbrev main_call50_v2 : Ref sig .tc := ⟨.hbm, 726, rfl⟩
abbrev main_call50_v3 : Ref sig .tc := ⟨.hbm, 727, rfl⟩
abbrev main_call50_v4 : Ref sig .tc := ⟨.hbm, 728, rfl⟩
abbrev main_v237 : Ref sig .tc := ⟨.hbm, 729, rfl⟩
abbrev main_v238 : Ref sig .tc := ⟨.hbm, 730, rfl⟩
abbrev main_v239 : Ref sig .tc := ⟨.hbm, 731, rfl⟩
abbrev main_v240 : Ref sig .tc := ⟨.hbm, 732, rfl⟩
abbrev main_v241 : Ref sig .tc := ⟨.hbm, 733, rfl⟩
abbrev main_v242 : Ref sig .tc := ⟨.hbm, 734, rfl⟩
abbrev main_cst_58 : Ref sig .tc := ⟨.hbm, 735, rfl⟩
abbrev main_call51_v0 : Ref sig .tc := ⟨.hbm, 736, rfl⟩
abbrev main_call51_v1 : Ref sig .tc := ⟨.hbm, 737, rfl⟩
abbrev main_v243 : Ref sig .tc := ⟨.hbm, 738, rfl⟩
abbrev main_v244 : Ref sig .tc := ⟨.hbm, 739, rfl⟩
abbrev main_v245 : Ref sig .tc := ⟨.hbm, 740, rfl⟩
abbrev main_cst_59 : Ref sig .tc := ⟨.hbm, 741, rfl⟩
abbrev main_v246 : Ref sig .tc := ⟨.hbm, 742, rfl⟩
abbrev main_v247 : Ref sig .tc := ⟨.hbm, 743, rfl⟩
abbrev main_cst_60 : Ref sig .tc := ⟨.hbm, 744, rfl⟩
abbrev main_call52_v0 : Ref sig .tc := ⟨.hbm, 745, rfl⟩
abbrev main_call52_v1 : Ref sig .tc := ⟨.hbm, 746, rfl⟩
abbrev main_v248 : Ref sig .tc := ⟨.hbm, 747, rfl⟩
abbrev main_v249 : Ref sig .tc := ⟨.hbm, 748, rfl⟩
abbrev main_v250 : Ref sig .tc := ⟨.hbm, 749, rfl⟩
abbrev main_v251 : Ref sig .tc := ⟨.hbm, 750, rfl⟩
abbrev main_v252 : Ref sig .tc := ⟨.hbm, 751, rfl⟩
abbrev main_v253 : Ref sig .tc := ⟨.hbm, 752, rfl⟩
abbrev main_v254 : Ref sig .tc := ⟨.hbm, 753, rfl⟩
abbrev main_cst_61 : Ref sig .tc := ⟨.hbm, 754, rfl⟩
abbrev main_v255 : Ref sig .tc := ⟨.hbm, 755, rfl⟩
abbrev main_v256 : Ref sig .tc := ⟨.hbm, 756, rfl⟩
abbrev main_v257 : Ref sig .tc := ⟨.hbm, 757, rfl⟩
abbrev main_v258 : Ref sig .tc := ⟨.hbm, 758, rfl⟩
abbrev main_cst_62 : Ref sig .tc := ⟨.hbm, 759, rfl⟩
abbrev main_v259 : Ref sig .tc := ⟨.hbm, 760, rfl⟩
abbrev main_v260 : Ref sig .tc := ⟨.hbm, 761, rfl⟩
abbrev main_cst_63 : Ref sig .tc := ⟨.hbm, 762, rfl⟩
abbrev main_call53_v0 : Ref sig .tc := ⟨.hbm, 763, rfl⟩
abbrev main_call53_v1 : Ref sig .tc := ⟨.hbm, 764, rfl⟩
abbrev main_v261 : Ref sig .tc := ⟨.hbm, 765, rfl⟩
abbrev main_v262 : Ref sig .tc := ⟨.hbm, 766, rfl⟩
abbrev main_v263 : Ref sig .tc := ⟨.hbm, 767, rfl⟩
abbrev main_v264 : Ref sig .tc := ⟨.hbm, 768, rfl⟩
abbrev main_c_64 : Ref sig .tc := ⟨.hbm, 769, rfl⟩
abbrev main_call54_v0 : Ref sig .tc := ⟨.hbm, 770, rfl⟩
abbrev main_call54_v1 : Ref sig .tc := ⟨.hbm, 771, rfl⟩
abbrev main_v265 : Ref sig .tc := ⟨.hbm, 772, rfl⟩
abbrev main_v266 : Ref sig .tc := ⟨.hbm, 773, rfl⟩
abbrev main_v267 : Ref sig .tc := ⟨.hbm, 774, rfl⟩
abbrev main_v268 : Ref sig .tc := ⟨.hbm, 775, rfl⟩
abbrev main_c_65 : Ref sig .tc := ⟨.hbm, 776, rfl⟩
abbrev main_call56_v0 : Ref sig .tc := ⟨.hbm, 777, rfl⟩
abbrev main_call56_v1 : Ref sig .tc := ⟨.hbm, 778, rfl⟩
abbrev main_v269 : Ref sig .tc := ⟨.hbm, 779, rfl⟩
abbrev main_cst_66 : Ref sig .tc := ⟨.hbm, 780, rfl⟩
abbrev main_call57_v0 : Ref sig .tc := ⟨.hbm, 781, rfl⟩
abbrev main_call57_v1 : Ref sig .tc := ⟨.hbm, 782, rfl⟩
abbrev main_v270 : Ref sig .tc := ⟨.hbm, 783, rfl⟩
abbrev main_c_67 : Ref sig .tc := ⟨.hbm, 784, rfl⟩
abbrev main_c_68 : Ref sig .tc := ⟨.hbm, 785, rfl⟩
abbrev main_call58_v0 : Ref sig .tc := ⟨.hbm, 786, rfl⟩
abbrev main_call58_v1 : Ref sig .tc := ⟨.hbm, 787, rfl⟩
abbrev main_call58_v2 : Ref sig .tc := ⟨.hbm, 788, rfl⟩
abbrev main_call58_v3 : Ref sig .tc := ⟨.hbm, 789, rfl⟩
abbrev main_call58_v4 : Ref sig .tc := ⟨.hbm, 790, rfl⟩
abbrev main_v271 : Ref sig .tc := ⟨.hbm, 791, rfl⟩
abbrev main_call59_c : Ref sig .tc := ⟨.hbm, 792, rfl⟩
abbrev main_call59_v0 : Ref sig .tc := ⟨.hbm, 793, rfl⟩
abbrev main_call59_v1 : Ref sig .tc := ⟨.hbm, 794, rfl⟩
abbrev main_call59_c_0 : Ref sig .tc := ⟨.hbm, 795, rfl⟩
abbrev main_call59_v2 : Ref sig .tc := ⟨.hbm, 796, rfl⟩
abbrev main_call59_v3 : Ref sig .tc := ⟨.hbm, 797, rfl⟩
abbrev main_call59_v4 : Ref sig .tc := ⟨.hbm, 798, rfl⟩
abbrev main_call59_v5 : Ref sig .tc := ⟨.hbm, 799, rfl⟩
abbrev main_call59_c_1 : Ref sig .tc := ⟨.hbm, 800, rfl⟩
abbrev main_call59_c_2 : Ref sig .tc := ⟨.hbm, 801, rfl⟩
abbrev main_call59_v6 : Ref sig .tc := ⟨.hbm, 802, rfl⟩
abbrev main_call59_v7 : Ref sig .tc := ⟨.hbm, 803, rfl⟩
abbrev main_call59_v8 : Ref sig .tc := ⟨.hbm, 804, rfl⟩
abbrev main_call59_v9 : Ref sig .tc := ⟨.hbm, 805, rfl⟩
abbrev main_call59_v10 : Ref sig .tc := ⟨.hbm, 806, rfl⟩
abbrev main_call59_v11 : Ref sig .tc := ⟨.hbm, 807, rfl⟩
abbrev main_call59_c_3 : Ref sig .tc := ⟨.hbm, 808, rfl⟩
abbrev main_call59_v12 : Ref sig .tc := ⟨.hbm, 809, rfl⟩
abbrev main_call59_v13 : Ref sig .tc := ⟨.hbm, 810, rfl⟩
abbrev main_call59_c_4 : Ref sig .tc := ⟨.hbm, 811, rfl⟩
abbrev main_call59_v14 : Ref sig .tc := ⟨.hbm, 812, rfl⟩
abbrev main_v272 : Ref sig .tc := ⟨.hbm, 813, rfl⟩
abbrev main_call60_c : Ref sig .tc := ⟨.hbm, 814, rfl⟩
abbrev main_call60_v0 : Ref sig .tc := ⟨.hbm, 815, rfl⟩
abbrev main_call60_v1 : Ref sig .tc := ⟨.hbm, 816, rfl⟩
abbrev main_call60_c_0 : Ref sig .tc := ⟨.hbm, 817, rfl⟩
abbrev main_call60_v2 : Ref sig .tc := ⟨.hbm, 818, rfl⟩
abbrev main_call60_v3 : Ref sig .tc := ⟨.hbm, 819, rfl⟩
abbrev main_call60_v4 : Ref sig .tc := ⟨.hbm, 820, rfl⟩
abbrev main_call60_v5 : Ref sig .tc := ⟨.hbm, 821, rfl⟩
abbrev main_call60_c_1 : Ref sig .tc := ⟨.hbm, 822, rfl⟩
abbrev main_call60_c_2 : Ref sig .tc := ⟨.hbm, 823, rfl⟩
abbrev main_call60_v6 : Ref sig .tc := ⟨.hbm, 824, rfl⟩
abbrev main_call60_v7 : Ref sig .tc := ⟨.hbm, 825, rfl⟩
abbrev main_call60_v8 : Ref sig .tc := ⟨.hbm, 826, rfl⟩
abbrev main_call60_v9 : Ref sig .tc := ⟨.hbm, 827, rfl⟩
abbrev main_call60_v10 : Ref sig .tc := ⟨.hbm, 828, rfl⟩
abbrev main_call60_v11 : Ref sig .tc := ⟨.hbm, 829, rfl⟩
abbrev main_call60_c_3 : Ref sig .tc := ⟨.hbm, 830, rfl⟩
abbrev main_call60_v12 : Ref sig .tc := ⟨.hbm, 831, rfl⟩
abbrev main_call60_v13 : Ref sig .tc := ⟨.hbm, 832, rfl⟩
abbrev main_call60_v14 : Ref sig .tc := ⟨.hbm, 833, rfl⟩
abbrev main_call60_cst : Ref sig .tc := ⟨.hbm, 834, rfl⟩
abbrev main_call60_v15 : Ref sig .tc := ⟨.hbm, 835, rfl⟩
abbrev main_v273 : Ref sig .tc := ⟨.hbm, 836, rfl⟩
abbrev main_c_69 : Ref sig .tc := ⟨.hbm, 837, rfl⟩
abbrev main_v274 : Ref sig .tc := ⟨.hbm, 838, rfl⟩
abbrev main_v275 : Ref sig .tc := ⟨.hbm, 839, rfl⟩
abbrev main_v276 : Ref sig .tc := ⟨.hbm, 840, rfl⟩
abbrev main_cst_70 : Ref sig .tc := ⟨.hbm, 841, rfl⟩
abbrev main_call61_v0 : Ref sig .tc := ⟨.hbm, 842, rfl⟩
abbrev main_call61_v1 : Ref sig .tc := ⟨.hbm, 843, rfl⟩
abbrev main_call61_v2 : Ref sig .tc := ⟨.hbm, 844, rfl⟩
abbrev main_v277 : Ref sig .tc := ⟨.hbm, 845, rfl⟩
abbrev main_v278 : Ref sig .tc := ⟨.hbm, 846, rfl⟩
abbrev main_v279 : Ref sig .tc := ⟨.hbm, 847, rfl⟩
abbrev main_v280 : Ref sig .tc := ⟨.hbm, 848, rfl⟩
abbrev main_v281 : Ref sig .tc := ⟨.hbm, 849, rfl⟩
abbrev main_v282 : Ref sig .tc := ⟨.hbm, 850, rfl⟩
abbrev main_v283 : Ref sig .tc := ⟨.hbm, 851, rfl⟩
abbrev main_c_71 : Ref sig .tc := ⟨.hbm, 852, rfl⟩
abbrev main_v284 : Ref sig .tc := ⟨.hbm, 853, rfl⟩
abbrev main_v285 : Ref sig .tc := ⟨.hbm, 854, rfl⟩
abbrev main_v286 : Ref sig .tc := ⟨.hbm, 855, rfl⟩
abbrev main_v287 : Ref sig .tc := ⟨.hbm, 856, rfl⟩
abbrev main_v288 : Ref sig .tc := ⟨.hbm, 857, rfl⟩
abbrev main_call62_v0 : Ref sig .tc := ⟨.hbm, 858, rfl⟩
abbrev main_v289 : Ref sig .tc := ⟨.hbm, 859, rfl⟩
abbrev main_v290 : Ref sig .tc := ⟨.hbm, 860, rfl⟩
abbrev main_v291 : Ref sig .tc := ⟨.hbm, 861, rfl⟩
abbrev main_v292 : Ref sig .tc := ⟨.hbm, 862, rfl⟩
abbrev main_v293 : Ref sig .tc := ⟨.hbm, 863, rfl⟩
abbrev main_v294 : Ref sig .tc := ⟨.hbm, 864, rfl⟩
abbrev main_v295 : Ref sig .tc := ⟨.hbm, 865, rfl⟩
abbrev main_v296 : Ref sig .tc := ⟨.hbm, 866, rfl⟩
abbrev main_v297 : Ref sig .tc := ⟨.hbm, 867, rfl⟩
abbrev main_v298 : Ref sig .tc := ⟨.hbm, 868, rfl⟩
abbrev main_v299 : Ref sig .tc := ⟨.hbm, 869, rfl⟩
abbrev main_v300 : Ref sig .tc := ⟨.hbm, 870, rfl⟩
abbrev main_cst_72 : Ref sig .tc := ⟨.hbm, 871, rfl⟩
abbrev main_v301 : Ref sig .tc := ⟨.hbm, 872, rfl⟩
abbrev main_c_73 : Ref sig .tc := ⟨.hbm, 873, rfl⟩
abbrev main_v302 : Ref sig .tc := ⟨.hbm, 874, rfl⟩
abbrev main_v303 : Ref sig .tc := ⟨.hbm, 875, rfl⟩
abbrev main_v304 : Ref sig .tc := ⟨.hbm, 876, rfl⟩
abbrev main_cst_74 : Ref sig .tc := ⟨.hbm, 877, rfl⟩
abbrev main_v305 : Ref sig .tc := ⟨.hbm, 878, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg6_0 : Ref sig .tc := ⟨.vmem, 46, rfl⟩
abbrev cc7_stg0_0 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg4_0 : Ref sig .tc := ⟨.vmem, 58, rfl⟩
abbrev cc8_stg5_0 : Ref sig .tc := ⟨.vmem, 59, rfl⟩
abbrev cc8_stg6_0 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem6_0 : DmaSem sig := 18
abbrev cc3_sem0_0 : DmaSem sig := 19
abbrev cc3_sem1_0 : DmaSem sig := 20
abbrev cc3_sem2_0 : DmaSem sig := 21
abbrev cc3_sem3_0 : DmaSem sig := 22
abbrev cc3_sem4_0 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem4_0 : DmaSem sig := 30
abbrev cc4_sem5_0 : DmaSem sig := 31
abbrev cc4_sem6_0 : DmaSem sig := 32
abbrev cc5_sem0_0 : DmaSem sig := 33
abbrev cc5_sem1_0 : DmaSem sig := 34
abbrev cc5_sem2_0 : DmaSem sig := 35
abbrev cc5_sem3_0 : DmaSem sig := 36
abbrev cc5_sem4_0 : DmaSem sig := 37
abbrev cc6_sem0_0 : DmaSem sig := 38
abbrev cc6_sem1_0 : DmaSem sig := 39
abbrev cc6_sem1_1 : DmaSem sig := 40
abbrev cc6_sem2_0 : DmaSem sig := 41
abbrev cc6_sem2_1 : DmaSem sig := 42
abbrev cc6_sem3_0 : DmaSem sig := 43
abbrev cc6_sem4_0 : DmaSem sig := 44
abbrev cc6_sem5_0 : DmaSem sig := 45
abbrev cc6_sem6_0 : DmaSem sig := 46
abbrev cc7_sem0_0 : DmaSem sig := 47
abbrev cc7_sem1_0 : DmaSem sig := 48
abbrev cc7_sem2_0 : DmaSem sig := 49
abbrev cc7_sem3_0 : DmaSem sig := 50
abbrev cc7_sem4_0 : DmaSem sig := 51
abbrev cc8_sem0_0 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem4_0 : DmaSem sig := 58
abbrev cc8_sem5_0 : DmaSem sig := 59
abbrev cc8_sem6_0 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x32 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S12800x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12800x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S16x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S10000x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1x32 .i32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S12800x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S12800x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x16 .i32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := .none

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S16x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S10000x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1x32 .i32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S12800x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S12800x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S16x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x16 .i32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := .none

abbrev stage7_0 : Fin 1 → Memref sig .tc .vmem S10000x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S16x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S10000x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1x32 .i32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S12800x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S12800x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S16x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x16 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x16 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x16 .i32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S10000x128 : Shape := ⟨2, ![10000, 128]⟩
abbrev S320000x128 : Shape := ⟨2, ![320000, 128]⟩
abbrev S16x128 : Shape := ⟨2, ![16, 128]⟩
abbrev S2x320000 : Shape := ⟨2, ![2, 320000]⟩
abbrev S320000 : Shape := ⟨1, ![320000]⟩
abbrev S17 : Shape := ⟨1, ![17]⟩
abbrev S16 : Shape := ⟨1, ![16]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x320000 : Shape := ⟨2, ![1, 320000]⟩
abbrev S_ : Shape := ⟨0, ![]⟩
abbrev S320000x1 : Shape := ⟨2, ![320000, 1]⟩
abbrev S1x1 : Shape := ⟨2, ![1, 1]⟩
abbrev S16x1 : Shape := ⟨2, ![16, 1]⟩
abbrev S16x256 : Shape := ⟨2, ![16, 256]⟩
abbrev S1x128 : Shape := ⟨2, ![1, 128]⟩
abbrev S1x16 : Shape := ⟨2, ![1, 16]⟩
abbrev S320000x16 : Shape := ⟨2, ![320000, 16]⟩
abbrev S16x4 : Shape := ⟨2, ![16, 4]⟩

abbrev nBuf : Space → Nat
  | .hbm => 1301
  | .vmem => 0
  | .smem => 0
  | _ => 0

abbrev hbmTy0_0 (i : Nat) : BufTy := match i % 128 with
  | 0 => ⟨S10000x128, .f32⟩
  | 1 => ⟨S320000x128, .f32⟩
  | 2 => ⟨S16x128, .f32⟩
  | 3 => ⟨S2x320000, .i32⟩
  | 4 => ⟨S320000, .i32⟩
  | 5 => ⟨S17, .i32⟩
  | 6 => ⟨S17, .i32⟩
  | 7 => ⟨S16, .i32⟩
  | 8 => ⟨S256x128, .f32⟩
  | 9 => ⟨S128, .f32⟩
  | 10 => ⟨S128x128, .f32⟩
  | 11 => ⟨S128x128, .f32⟩
  | 12 => ⟨S128x128, .f32⟩
  | 13 => ⟨S128x1, .f32⟩
  | 14 => ⟨S1, .f32⟩
  | 15 => ⟨S256x128, .f32⟩
  | 16 => ⟨S128, .f32⟩
  | 17 => ⟨S1x320000, .i32⟩
  | 18 => ⟨S320000, .i32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S1, .i32⟩
  | 28 => ⟨S_, .i32⟩
  | 29 => ⟨S320000x1, .i32⟩
  | 30 => ⟨S320000x1, .i1⟩
  | 31 => ⟨S1x1, .i32⟩
  | 32 => ⟨S320000x1, .i32⟩
  | 33 => ⟨S320000x1, .i1⟩
  | 34 => ⟨S320000x1, .i1⟩
  | 35 => ⟨S_, .i1⟩
  | 36 => ⟨S320000, .i1⟩
  | 37 => ⟨S320000x128, .f32⟩
  | 38 => ⟨S320000x128, .i1⟩
  | 39 => ⟨S_, .f32⟩
  | 40 => ⟨S320000x128, .f32⟩
  | 41 => ⟨S320000x128, .f32⟩
  | 42 => ⟨S1x320000, .i32⟩
  | 43 => ⟨S320000, .i32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S1, .i32⟩
  | 53 => ⟨S_, .i32⟩
  | 54 => ⟨S320000x1, .i32⟩
  | 55 => ⟨S320000x1, .i1⟩
  | 56 => ⟨S1x1, .i32⟩
  | 57 => ⟨S320000x1, .i32⟩
  | 58 => ⟨S320000x1, .i1⟩
  | 59 => ⟨S320000x1, .i1⟩
  | 60 => ⟨S_, .i1⟩
  | 61 => ⟨S320000, .i1⟩
  | 62 => ⟨S320000x128, .f32⟩
  | 63 => ⟨S320000x128, .i1⟩
  | 64 => ⟨S_, .f32⟩
  | 65 => ⟨S320000x128, .f32⟩
  | 66 => ⟨S320000x128, .f32⟩
  | 67 => ⟨S320000x128, .f32⟩
  | 68 => ⟨S320000x128, .f32⟩
  | 69 => ⟨S320000x128, .f32⟩
  | 70 => ⟨S320000x128, .f32⟩
  | 71 => ⟨S320000x128, .f32⟩
  | 72 => ⟨S_, .i32⟩
  | 73 => ⟨S_, .i32⟩
  | 74 => ⟨S16, .i32⟩
  | 75 => ⟨S16, .i32⟩
  | 76 => ⟨S_, .i32⟩
  | 77 => ⟨S16, .i32⟩
  | 78 => ⟨S16, .i1⟩
  | 79 => ⟨S_, .i32⟩
  | 80 => ⟨S16, .i32⟩
  | 81 => ⟨S16, .i32⟩
  | 82 => ⟨S16, .i32⟩
  | 83 => ⟨S16x1, .i32⟩
  | 84 => ⟨S1, .i32⟩
  | 85 => ⟨S_, .i32⟩
  | 86 => ⟨S16x1, .i32⟩
  | 87 => ⟨S16x1, .i1⟩
  | 88 => ⟨S1x1, .i32⟩
  | 89 => ⟨S16x1, .i32⟩
  | 90 => ⟨S16x1, .i1⟩
  | 91 => ⟨S16x1, .i1⟩
  | 92 => ⟨S_, .i1⟩
  | 93 => ⟨S16, .i1⟩
  | 94 => ⟨S16x128, .f32⟩
  | 95 => ⟨S16x128, .i1⟩
  | 96 => ⟨S_, .f32⟩
  | 97 => ⟨S16x128, .f32⟩
  | 98 => ⟨S16x128, .f32⟩
  | 99 => ⟨S_, .i32⟩
  | 100 => ⟨S16, .i32⟩
  | 101 => ⟨S16, .i1⟩
  | 102 => ⟨S16x1, .i1⟩
  | 103 => ⟨S_, .f32⟩
  | 104 => ⟨S_, .f32⟩
  | 105 => ⟨S16x128, .i1⟩
  | 106 => ⟨S16x128, .f32⟩
  | 107 => ⟨S16x128, .f32⟩
  | 108 => ⟨S16x256, .f32⟩
  | 109 => ⟨S16x128, .f32⟩
  | 110 => ⟨S1x128, .f32⟩
  | 111 => ⟨S16x128, .f32⟩
  | 112 => ⟨S16x128, .f32⟩
  | 113 => ⟨S16x128, .f32⟩
  | 114 => ⟨S_, .i1⟩
  | 115 => ⟨S16, .i1⟩
  | 116 => ⟨S320000, .i32⟩
  | 117 => ⟨S320000x1, .i32⟩
  | 118 => ⟨S16, .i32⟩
  | 119 => ⟨S1x16, .i32⟩
  | 120 => ⟨S320000x16, .i32⟩
  | 121 => ⟨S320000x16, .i32⟩
  | 122 => ⟨S320000x16, .i1⟩
  | 123 => ⟨S_, .i32⟩
  | 124 => ⟨S320000, .i32⟩
  | 125 => ⟨S320000, .i1⟩
  | 126 => ⟨S_, .i32⟩
  | 127 => ⟨S320000, .i32⟩
  | _ => ⟨S10000x128, .f32⟩

abbrev hbmTy0_1 (i : Nat) : BufTy := match i % 128 with
  | 0 => ⟨S320000, .i32⟩
  | 1 => ⟨S320000, .i32⟩
  | 2 => ⟨S320000x1, .i32⟩
  | 3 => ⟨S1, .i32⟩
  | 4 => ⟨S_, .i32⟩
  | 5 => ⟨S320000x1, .i32⟩
  | 6 => ⟨S320000x1, .i1⟩
  | 7 => ⟨S1x1, .i32⟩
  | 8 => ⟨S320000x1, .i32⟩
  | 9 => ⟨S320000x1, .i1⟩
  | 10 => ⟨S320000x1, .i1⟩
  | 11 => ⟨S_, .i1⟩
  | 12 => ⟨S320000, .i1⟩
  | 13 => ⟨S320000x128, .f32⟩
  | 14 => ⟨S320000x128, .i1⟩
  | 15 => ⟨S_, .f32⟩
  | 16 => ⟨S320000x128, .f32⟩
  | 17 => ⟨S320000x128, .f32⟩
  | 18 => ⟨S320000x128, .f32⟩
  | 19 => ⟨S_, .f32⟩
  | 20 => ⟨S320000, .f32⟩
  | 21 => ⟨S_, .f32⟩
  | 22 => ⟨S_, .f32⟩
  | 23 => ⟨S320000, .f32⟩
  | 24 => ⟨S320000, .f32⟩
  | 25 => ⟨S16x1, .f32⟩
  | 26 => ⟨S1x1, .f32⟩
  | 27 => ⟨S16x1, .f32⟩
  | 28 => ⟨S16x1, .f32⟩
  | 29 => ⟨S16, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S1, .i32⟩
  | 39 => ⟨S_, .i32⟩
  | 40 => ⟨S320000x1, .i32⟩
  | 41 => ⟨S320000x1, .i1⟩
  | 42 => ⟨S1x1, .i32⟩
  | 43 => ⟨S320000x1, .i32⟩
  | 44 => ⟨S320000x1, .i1⟩
  | 45 => ⟨S320000x1, .i1⟩
  | 46 => ⟨S_, .i1⟩
  | 47 => ⟨S320000, .i1⟩
  | 48 => ⟨S320000, .i1⟩
  | 49 => ⟨S_, .i1⟩
  | 50 => ⟨S320000, .i1⟩
  | 51 => ⟨S320000, .i1⟩
  | 52 => ⟨S320000, .i1⟩
  | 53 => ⟨S_, .f32⟩
  | 54 => ⟨S320000, .f32⟩
  | 55 => ⟨S320000, .f32⟩
  | 56 => ⟨S_, .f32⟩
  | 57 => ⟨S_, .f32⟩
  | 58 => ⟨S320000, .f32⟩
  | 59 => ⟨S320000, .f32⟩
  | 60 => ⟨S_, .f32⟩
  | 61 => ⟨S16, .f32⟩
  | 62 => ⟨S16, .f32⟩
  | 63 => ⟨S_, .f32⟩
  | 64 => ⟨S_, .f32⟩
  | 65 => ⟨S16, .f32⟩
  | 66 => ⟨S16, .f32⟩
  | 67 => ⟨S320000x1, .f32⟩
  | 68 => ⟨S_, .f32⟩
  | 69 => ⟨S_, .f32⟩
  | 70 => ⟨S320000x16, .f32⟩
  | 71 => ⟨S320000x16, .f32⟩
  | 72 => ⟨S320000x16, .f32⟩
  | 73 => ⟨S_, .f32⟩
  | 74 => ⟨S16, .f32⟩
  | 75 => ⟨S16, .f32⟩
  | 76 => ⟨S16, .f32⟩
  | 77 => ⟨S_, .f32⟩
  | 78 => ⟨S16, .f32⟩
  | 79 => ⟨S16, .i1⟩
  | 80 => ⟨S_, .f32⟩
  | 81 => ⟨S_, .f32⟩
  | 82 => ⟨S16, .f32⟩
  | 83 => ⟨S16, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S1, .i32⟩
  | 93 => ⟨S_, .i32⟩
  | 94 => ⟨S320000x1, .i32⟩
  | 95 => ⟨S320000x1, .i1⟩
  | 96 => ⟨S1x1, .i32⟩
  | 97 => ⟨S320000x1, .i32⟩
  | 98 => ⟨S320000x1, .i1⟩
  | 99 => ⟨S320000x1, .i1⟩
  | 100 => ⟨S_, .i1⟩
  | 101 => ⟨S320000, .i1⟩
  | 102 => ⟨S320000, .f32⟩
  | 103 => ⟨S_, .f32⟩
  | 104 => ⟨S320000, .f32⟩
  | 105 => ⟨S320000, .f32⟩
  | 106 => ⟨S320000, .f32⟩
  | 107 => ⟨S320000, .f32⟩
  | 108 => ⟨S320000, .f32⟩
  | 109 => ⟨S320000, .f32⟩
  | 110 => ⟨S_, .f32⟩
  | 111 => ⟨S16, .f32⟩
  | 112 => ⟨S320000x1, .i32⟩
  | 113 => ⟨S16, .f32⟩
  | 114 => ⟨S16, .f32⟩
  | 115 => ⟨S16, .f32⟩
  | 116 => ⟨S16, .f32⟩
  | 117 => ⟨S_, .f32⟩
  | 118 => ⟨S16, .f32⟩
  | 119 => ⟨S16, .f32⟩
  | 120 => ⟨S16, .f32⟩
  | 121 => ⟨S16, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S10000x128, .f32⟩

abbrev hbmTy0_2 (i : Nat) : BufTy := match i % 128 with
  | 0 => ⟨S320000, .i32⟩
  | 1 => ⟨S320000x1, .i32⟩
  | 2 => ⟨S1, .i32⟩
  | 3 => ⟨S_, .i32⟩
  | 4 => ⟨S320000x1, .i32⟩
  | 5 => ⟨S320000x1, .i1⟩
  | 6 => ⟨S1x1, .i32⟩
  | 7 => ⟨S320000x1, .i32⟩
  | 8 => ⟨S320000x1, .i1⟩
  | 9 => ⟨S320000x1, .i1⟩
  | 10 => ⟨S_, .i1⟩
  | 11 => ⟨S320000, .i1⟩
  | 12 => ⟨S320000, .f32⟩
  | 13 => ⟨S_, .f32⟩
  | 14 => ⟨S320000, .f32⟩
  | 15 => ⟨S320000, .f32⟩
  | 16 => ⟨S320000, .f32⟩
  | 17 => ⟨S16, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S1, .i32⟩
  | 27 => ⟨S_, .i32⟩
  | 28 => ⟨S320000x1, .i32⟩
  | 29 => ⟨S320000x1, .i1⟩
  | 30 => ⟨S1x1, .i32⟩
  | 31 => ⟨S320000x1, .i32⟩
  | 32 => ⟨S320000x1, .i1⟩
  | 33 => ⟨S320000x1, .i1⟩
  | 34 => ⟨S_, .i1⟩
  | 35 => ⟨S320000, .i1⟩
  | 36 => ⟨S320000, .f32⟩
  | 37 => ⟨S_, .f32⟩
  | 38 => ⟨S320000, .f32⟩
  | 39 => ⟨S320000, .f32⟩
  | 40 => ⟨S320000, .i1⟩
  | 41 => ⟨S_, .i32⟩
  | 42 => ⟨S_, .i32⟩
  | 43 => ⟨S320000, .i32⟩
  | 44 => ⟨S320000, .i32⟩
  | 45 => ⟨S_, .i32⟩
  | 46 => ⟨S16, .i32⟩
  | 47 => ⟨S320000x1, .i32⟩
  | 48 => ⟨S16, .i32⟩
  | 49 => ⟨S_, .i32⟩
  | 50 => ⟨S_, .i32⟩
  | 51 => ⟨S_, .i32⟩
  | 52 => ⟨S16, .i32⟩
  | 53 => ⟨S16, .i32⟩
  | 54 => ⟨S_, .i32⟩
  | 55 => ⟨S16, .i32⟩
  | 56 => ⟨S16, .i32⟩
  | 57 => ⟨S_, .f32⟩
  | 58 => ⟨S16, .f32⟩
  | 59 => ⟨S16, .i1⟩
  | 60 => ⟨S_, .f32⟩
  | 61 => ⟨S_, .f32⟩
  | 62 => ⟨S16, .f32⟩
  | 63 => ⟨S16, .f32⟩
  | 64 => ⟨S16, .i1⟩
  | 65 => ⟨S16, .i1⟩
  | 66 => ⟨S16, .i1⟩
  | 67 => ⟨S_, .i32⟩
  | 68 => ⟨S_, .i32⟩
  | 69 => ⟨S16, .i32⟩
  | 70 => ⟨S16, .i32⟩
  | 71 => ⟨S_, .i32⟩
  | 72 => ⟨S16, .i32⟩
  | 73 => ⟨S16, .i1⟩
  | 74 => ⟨S_, .i32⟩
  | 75 => ⟨S16, .i32⟩
  | 76 => ⟨S16, .i32⟩
  | 77 => ⟨S16, .i32⟩
  | 78 => ⟨S16x1, .i32⟩
  | 79 => ⟨S1, .i32⟩
  | 80 => ⟨S_, .i32⟩
  | 81 => ⟨S16x1, .i32⟩
  | 82 => ⟨S16x1, .i1⟩
  | 83 => ⟨S1x1, .i32⟩
  | 84 => ⟨S16x1, .i32⟩
  | 85 => ⟨S16x1, .i1⟩
  | 86 => ⟨S16x1, .i1⟩
  | 87 => ⟨S_, .i1⟩
  | 88 => ⟨S16, .i1⟩
  | 89 => ⟨S16, .f32⟩
  | 90 => ⟨S_, .f32⟩
  | 91 => ⟨S16, .f32⟩
  | 92 => ⟨S16, .f32⟩
  | 93 => ⟨S16, .f32⟩
  | 94 => ⟨S_, .i32⟩
  | 95 => ⟨S_, .i32⟩
  | 96 => ⟨S16, .i32⟩
  | 97 => ⟨S16, .i32⟩
  | 98 => ⟨S_, .f32⟩
  | 99 => ⟨S_, .f32⟩
  | 100 => ⟨S16, .f32⟩
  | 101 => ⟨S16, .f32⟩
  | 102 => ⟨S_, .i32⟩
  | 103 => ⟨S_, .i32⟩
  | 104 => ⟨S_, .i32⟩
  | 105 => ⟨S16, .i32⟩
  | 106 => ⟨S16, .i32⟩
  | 107 => ⟨S_, .i32⟩
  | 108 => ⟨S16, .i32⟩
  | 109 => ⟨S16, .i32⟩
  | 110 => ⟨S_, .i32⟩
  | 111 => ⟨S16, .i32⟩
  | 112 => ⟨S16, .i1⟩
  | 113 => ⟨S_, .i32⟩
  | 114 => ⟨S16, .i32⟩
  | 115 => ⟨S16, .i32⟩
  | 116 => ⟨S16, .i32⟩
  | 117 => ⟨S16x1, .i32⟩
  | 118 => ⟨S1, .i32⟩
  | 119 => ⟨S_, .i32⟩
  | 120 => ⟨S16x1, .i32⟩
  | 121 => ⟨S16x1, .i1⟩
  | 122 => ⟨S1x1, .i32⟩
  | 123 => ⟨S16x1, .i32⟩
  | 124 => ⟨S16x1, .i1⟩
  | 125 => ⟨S16x1, .i1⟩
  | 126 => ⟨S_, .i1⟩
  | 127 => ⟨S16, .i1⟩
  | _ => ⟨S10000x128, .f32⟩

abbrev hbmTy0_3 (i : Nat) : BufTy := match i % 128 with
  | 0 => ⟨S16x128, .f32⟩
  | 1 => ⟨S16x128, .i1⟩
  | 2 => ⟨S_, .f32⟩
  | 3 => ⟨S16x128, .f32⟩
  | 4 => ⟨S16x128, .f32⟩
  | 5 => ⟨S_, .i32⟩
  | 6 => ⟨S16, .i32⟩
  | 7 => ⟨S16, .i1⟩
  | 8 => ⟨S16x1, .i1⟩
  | 9 => ⟨S_, .f32⟩
  | 10 => ⟨S_, .f32⟩
  | 11 => ⟨S16x128, .i1⟩
  | 12 => ⟨S16x128, .f32⟩
  | 13 => ⟨S16x128, .f32⟩
  | 14 => ⟨S16x256, .f32⟩
  | 15 => ⟨S16x128, .f32⟩
  | 16 => ⟨S1x128, .f32⟩
  | 17 => ⟨S16x128, .f32⟩
  | 18 => ⟨S16x128, .f32⟩
  | 19 => ⟨S16x128, .f32⟩
  | 20 => ⟨S_, .i32⟩
  | 21 => ⟨S16, .i32⟩
  | 22 => ⟨S16, .i1⟩
  | 23 => ⟨S16, .i1⟩
  | 24 => ⟨S16, .i1⟩
  | 25 => ⟨S16x1, .i1⟩
  | 26 => ⟨S16x128, .i1⟩
  | 27 => ⟨S16x128, .f32⟩
  | 28 => ⟨S16, .i1⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S1, .i32⟩
  | 38 => ⟨S_, .i32⟩
  | 39 => ⟨S320000x1, .i32⟩
  | 40 => ⟨S320000x1, .i1⟩
  | 41 => ⟨S1x1, .i32⟩
  | 42 => ⟨S320000x1, .i32⟩
  | 43 => ⟨S320000x1, .i1⟩
  | 44 => ⟨S320000x1, .i1⟩
  | 45 => ⟨S_, .i1⟩
  | 46 => ⟨S320000, .i1⟩
  | 47 => ⟨S320000x128, .f32⟩
  | 48 => ⟨S320000x128, .i1⟩
  | 49 => ⟨S_, .f32⟩
  | 50 => ⟨S320000x128, .f32⟩
  | 51 => ⟨S320000x128, .f32⟩
  | 52 => ⟨S320000x128, .f32⟩
  | 53 => ⟨S_, .f32⟩
  | 54 => ⟨S320000, .f32⟩
  | 55 => ⟨S_, .f32⟩
  | 56 => ⟨S_, .f32⟩
  | 57 => ⟨S320000, .f32⟩
  | 58 => ⟨S320000, .f32⟩
  | 59 => ⟨S16x1, .f32⟩
  | 60 => ⟨S1x1, .f32⟩
  | 61 => ⟨S16x1, .f32⟩
  | 62 => ⟨S16x1, .f32⟩
  | 63 => ⟨S16, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S1, .i32⟩
  | 73 => ⟨S_, .i32⟩
  | 74 => ⟨S320000x1, .i32⟩
  | 75 => ⟨S320000x1, .i1⟩
  | 76 => ⟨S1x1, .i32⟩
  | 77 => ⟨S320000x1, .i32⟩
  | 78 => ⟨S320000x1, .i1⟩
  | 79 => ⟨S320000x1, .i1⟩
  | 80 => ⟨S_, .i1⟩
  | 81 => ⟨S320000, .i1⟩
  | 82 => ⟨S320000, .i1⟩
  | 83 => ⟨S_, .i1⟩
  | 84 => ⟨S320000, .i1⟩
  | 85 => ⟨S320000, .i1⟩
  | 86 => ⟨S320000, .i1⟩
  | 87 => ⟨S_, .f32⟩
  | 88 => ⟨S320000, .f32⟩
  | 89 => ⟨S320000, .f32⟩
  | 90 => ⟨S_, .f32⟩
  | 91 => ⟨S_, .f32⟩
  | 92 => ⟨S320000, .f32⟩
  | 93 => ⟨S320000, .f32⟩
  | 94 => ⟨S_, .f32⟩
  | 95 => ⟨S16, .f32⟩
  | 96 => ⟨S16, .f32⟩
  | 97 => ⟨S_, .f32⟩
  | 98 => ⟨S_, .f32⟩
  | 99 => ⟨S16, .f32⟩
  | 100 => ⟨S16, .f32⟩
  | 101 => ⟨S320000x1, .f32⟩
  | 102 => ⟨S_, .f32⟩
  | 103 => ⟨S_, .f32⟩
  | 104 => ⟨S320000x16, .f32⟩
  | 105 => ⟨S320000x16, .f32⟩
  | 106 => ⟨S320000x16, .f32⟩
  | 107 => ⟨S_, .f32⟩
  | 108 => ⟨S16, .f32⟩
  | 109 => ⟨S16, .f32⟩
  | 110 => ⟨S16, .f32⟩
  | 111 => ⟨S_, .f32⟩
  | 112 => ⟨S16, .f32⟩
  | 113 => ⟨S16, .i1⟩
  | 114 => ⟨S_, .f32⟩
  | 115 => ⟨S_, .f32⟩
  | 116 => ⟨S16, .f32⟩
  | 117 => ⟨S16, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S1, .i32⟩
  | 127 => ⟨S_, .i32⟩
  | _ => ⟨S10000x128, .f32⟩

abbrev hbmTy0_4 (i : Nat) : BufTy := match i % 128 with
  | 0 => ⟨S320000x1, .i32⟩
  | 1 => ⟨S320000x1, .i1⟩
  | 2 => ⟨S1x1, .i32⟩
  | 3 => ⟨S320000x1, .i32⟩
  | 4 => ⟨S320000x1, .i1⟩
  | 5 => ⟨S320000x1, .i1⟩
  | 6 => ⟨S_, .i1⟩
  | 7 => ⟨S320000, .i1⟩
  | 8 => ⟨S320000, .f32⟩
  | 9 => ⟨S_, .f32⟩
  | 10 => ⟨S320000, .f32⟩
  | 11 => ⟨S320000, .f32⟩
  | 12 => ⟨S320000, .f32⟩
  | 13 => ⟨S320000, .f32⟩
  | 14 => ⟨S320000, .f32⟩
  | 15 => ⟨S320000, .f32⟩
  | 16 => ⟨S_, .f32⟩
  | 17 => ⟨S16, .f32⟩
  | 18 => ⟨S320000x1, .i32⟩
  | 19 => ⟨S16, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S16, .f32⟩
  | 27 => ⟨S16, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S1, .i32⟩
  | 37 => ⟨S_, .i32⟩
  | 38 => ⟨S320000x1, .i32⟩
  | 39 => ⟨S320000x1, .i1⟩
  | 40 => ⟨S1x1, .i32⟩
  | 41 => ⟨S320000x1, .i32⟩
  | 42 => ⟨S320000x1, .i1⟩
  | 43 => ⟨S320000x1, .i1⟩
  | 44 => ⟨S_, .i1⟩
  | 45 => ⟨S320000, .i1⟩
  | 46 => ⟨S320000, .f32⟩
  | 47 => ⟨S_, .f32⟩
  | 48 => ⟨S320000, .f32⟩
  | 49 => ⟨S320000, .f32⟩
  | 50 => ⟨S320000, .f32⟩
  | 51 => ⟨S16, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S1, .i32⟩
  | 61 => ⟨S_, .i32⟩
  | 62 => ⟨S320000x1, .i32⟩
  | 63 => ⟨S320000x1, .i1⟩
  | 64 => ⟨S1x1, .i32⟩
  | 65 => ⟨S320000x1, .i32⟩
  | 66 => ⟨S320000x1, .i1⟩
  | 67 => ⟨S320000x1, .i1⟩
  | 68 => ⟨S_, .i1⟩
  | 69 => ⟨S320000, .i1⟩
  | 70 => ⟨S320000, .f32⟩
  | 71 => ⟨S_, .f32⟩
  | 72 => ⟨S320000, .f32⟩
  | 73 => ⟨S320000, .f32⟩
  | 74 => ⟨S320000, .i1⟩
  | 75 => ⟨S_, .i32⟩
  | 76 => ⟨S_, .i32⟩
  | 77 => ⟨S320000, .i32⟩
  | 78 => ⟨S320000, .i32⟩
  | 79 => ⟨S_, .i32⟩
  | 80 => ⟨S16, .i32⟩
  | 81 => ⟨S320000x1, .i32⟩
  | 82 => ⟨S16, .i32⟩
  | 83 => ⟨S_, .i32⟩
  | 84 => ⟨S_, .i32⟩
  | 85 => ⟨S_, .i32⟩
  | 86 => ⟨S16, .i32⟩
  | 87 => ⟨S16, .i32⟩
  | 88 => ⟨S_, .i32⟩
  | 89 => ⟨S16, .i32⟩
  | 90 => ⟨S16, .i32⟩
  | 91 => ⟨S_, .f32⟩
  | 92 => ⟨S16, .f32⟩
  | 93 => ⟨S16, .i1⟩
  | 94 => ⟨S_, .f32⟩
  | 95 => ⟨S_, .f32⟩
  | 96 => ⟨S16, .f32⟩
  | 97 => ⟨S16, .f32⟩
  | 98 => ⟨S16, .i1⟩
  | 99 => ⟨S16, .i1⟩
  | 100 => ⟨S16, .i1⟩
  | 101 => ⟨S_, .i32⟩
  | 102 => ⟨S_, .i32⟩
  | 103 => ⟨S16, .i32⟩
  | 104 => ⟨S16, .i32⟩
  | 105 => ⟨S_, .i32⟩
  | 106 => ⟨S16, .i32⟩
  | 107 => ⟨S16, .i1⟩
  | 108 => ⟨S_, .i32⟩
  | 109 => ⟨S16, .i32⟩
  | 110 => ⟨S16, .i32⟩
  | 111 => ⟨S16, .i32⟩
  | 112 => ⟨S16x1, .i32⟩
  | 113 => ⟨S1, .i32⟩
  | 114 => ⟨S_, .i32⟩
  | 115 => ⟨S16x1, .i32⟩
  | 116 => ⟨S16x1, .i1⟩
  | 117 => ⟨S1x1, .i32⟩
  | 118 => ⟨S16x1, .i32⟩
  | 119 => ⟨S16x1, .i1⟩
  | 120 => ⟨S16x1, .i1⟩
  | 121 => ⟨S_, .i1⟩
  | 122 => ⟨S16, .i1⟩
  | 123 => ⟨S16, .f32⟩
  | 124 => ⟨S_, .f32⟩
  | 125 => ⟨S16, .f32⟩
  | 126 => ⟨S16, .f32⟩
  | 127 => ⟨S16, .f32⟩
  | _ => ⟨S10000x128, .f32⟩

abbrev hbmTy0_5 (i : Nat) : BufTy := match i % 128 with
  | 0 => ⟨S_, .i32⟩
  | 1 => ⟨S_, .i32⟩
  | 2 => ⟨S16, .i32⟩
  | 3 => ⟨S16, .i32⟩
  | 4 => ⟨S_, .f32⟩
  | 5 => ⟨S_, .f32⟩
  | 6 => ⟨S16, .f32⟩
  | 7 => ⟨S16, .f32⟩
  | 8 => ⟨S_, .i32⟩
  | 9 => ⟨S_, .i32⟩
  | 10 => ⟨S_, .i32⟩
  | 11 => ⟨S16, .i32⟩
  | 12 => ⟨S16, .i32⟩
  | 13 => ⟨S_, .i32⟩
  | 14 => ⟨S16, .i32⟩
  | 15 => ⟨S16, .i32⟩
  | 16 => ⟨S_, .i32⟩
  | 17 => ⟨S16, .i32⟩
  | 18 => ⟨S16, .i1⟩
  | 19 => ⟨S_, .i32⟩
  | 20 => ⟨S16, .i32⟩
  | 21 => ⟨S16, .i32⟩
  | 22 => ⟨S16, .i32⟩
  | 23 => ⟨S16x1, .i32⟩
  | 24 => ⟨S1, .i32⟩
  | 25 => ⟨S_, .i32⟩
  | 26 => ⟨S16x1, .i32⟩
  | 27 => ⟨S16x1, .i1⟩
  | 28 => ⟨S1x1, .i32⟩
  | 29 => ⟨S16x1, .i32⟩
  | 30 => ⟨S16x1, .i1⟩
  | 31 => ⟨S16x1, .i1⟩
  | 32 => ⟨S_, .i1⟩
  | 33 => ⟨S16, .i1⟩
  | 34 => ⟨S16x128, .f32⟩
  | 35 => ⟨S16x128, .i1⟩
  | 36 => ⟨S_, .f32⟩
  | 37 => ⟨S16x128, .f32⟩
  | 38 => ⟨S16x128, .f32⟩
  | 39 => ⟨S_, .i32⟩
  | 40 => ⟨S16, .i32⟩
  | 41 => ⟨S16, .i1⟩
  | 42 => ⟨S16x1, .i1⟩
  | 43 => ⟨S_, .f32⟩
  | 44 => ⟨S_, .f32⟩
  | 45 => ⟨S16x128, .i1⟩
  | 46 => ⟨S16x128, .f32⟩
  | 47 => ⟨S16x128, .f32⟩
  | 48 => ⟨S16x256, .f32⟩
  | 49 => ⟨S16x128, .f32⟩
  | 50 => ⟨S1x128, .f32⟩
  | 51 => ⟨S16x128, .f32⟩
  | 52 => ⟨S16x128, .f32⟩
  | 53 => ⟨S16x128, .f32⟩
  | 54 => ⟨S_, .i32⟩
  | 55 => ⟨S16, .i32⟩
  | 56 => ⟨S16, .i1⟩
  | 57 => ⟨S16, .i1⟩
  | 58 => ⟨S16, .i1⟩
  | 59 => ⟨S16x1, .i1⟩
  | 60 => ⟨S16x128, .i1⟩
  | 61 => ⟨S16x128, .f32⟩
  | 62 => ⟨S16, .i1⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S1, .i32⟩
  | 72 => ⟨S_, .i32⟩
  | 73 => ⟨S320000x1, .i32⟩
  | 74 => ⟨S320000x1, .i1⟩
  | 75 => ⟨S1x1, .i32⟩
  | 76 => ⟨S320000x1, .i32⟩
  | 77 => ⟨S320000x1, .i1⟩
  | 78 => ⟨S320000x1, .i1⟩
  | 79 => ⟨S_, .i1⟩
  | 80 => ⟨S320000, .i1⟩
  | 81 => ⟨S320000x128, .f32⟩
  | 82 => ⟨S320000x128, .i1⟩
  | 83 => ⟨S_, .f32⟩
  | 84 => ⟨S320000x128, .f32⟩
  | 85 => ⟨S320000x128, .f32⟩
  | 86 => ⟨S320000x128, .f32⟩
  | 87 => ⟨S_, .f32⟩
  | 88 => ⟨S320000, .f32⟩
  | 89 => ⟨S_, .f32⟩
  | 90 => ⟨S_, .f32⟩
  | 91 => ⟨S320000, .f32⟩
  | 92 => ⟨S320000, .f32⟩
  | 93 => ⟨S16x1, .f32⟩
  | 94 => ⟨S1x1, .f32⟩
  | 95 => ⟨S16x1, .f32⟩
  | 96 => ⟨S16x1, .f32⟩
  | 97 => ⟨S16, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S1, .i32⟩
  | 107 => ⟨S_, .i32⟩
  | 108 => ⟨S320000x1, .i32⟩
  | 109 => ⟨S320000x1, .i1⟩
  | 110 => ⟨S1x1, .i32⟩
  | 111 => ⟨S320000x1, .i32⟩
  | 112 => ⟨S320000x1, .i1⟩
  | 113 => ⟨S320000x1, .i1⟩
  | 114 => ⟨S_, .i1⟩
  | 115 => ⟨S320000, .i1⟩
  | 116 => ⟨S320000, .i1⟩
  | 117 => ⟨S_, .i1⟩
  | 118 => ⟨S320000, .i1⟩
  | 119 => ⟨S320000, .i1⟩
  | 120 => ⟨S320000, .i1⟩
  | 121 => ⟨S_, .f32⟩
  | 122 => ⟨S320000, .f32⟩
  | 123 => ⟨S320000, .f32⟩
  | 124 => ⟨S_, .f32⟩
  | 125 => ⟨S_, .f32⟩
  | 126 => ⟨S320000, .f32⟩
  | 127 => ⟨S320000, .f32⟩
  | _ => ⟨S10000x128, .f32⟩

abbrev hbmTy0_6 (i : Nat) : BufTy := match i % 128 with
  | 0 => ⟨S_, .f32⟩
  | 1 => ⟨S16, .f32⟩
  | 2 => ⟨S16, .f32⟩
  | 3 => ⟨S_, .f32⟩
  | 4 => ⟨S_, .f32⟩
  | 5 => ⟨S16, .f32⟩
  | 6 => ⟨S16, .f32⟩
  | 7 => ⟨S320000x1, .f32⟩
  | 8 => ⟨S_, .f32⟩
  | 9 => ⟨S_, .f32⟩
  | 10 => ⟨S320000x16, .f32⟩
  | 11 => ⟨S320000x16, .f32⟩
  | 12 => ⟨S320000x16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .i1⟩
  | 20 => ⟨S_, .f32⟩
  | 21 => ⟨S_, .f32⟩
  | 22 => ⟨S16, .f32⟩
  | 23 => ⟨S16, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S1, .i32⟩
  | 33 => ⟨S_, .i32⟩
  | 34 => ⟨S320000x1, .i32⟩
  | 35 => ⟨S320000x1, .i1⟩
  | 36 => ⟨S1x1, .i32⟩
  | 37 => ⟨S320000x1, .i32⟩
  | 38 => ⟨S320000x1, .i1⟩
  | 39 => ⟨S320000x1, .i1⟩
  | 40 => ⟨S_, .i1⟩
  | 41 => ⟨S320000, .i1⟩
  | 42 => ⟨S320000, .f32⟩
  | 43 => ⟨S_, .f32⟩
  | 44 => ⟨S320000, .f32⟩
  | 45 => ⟨S320000, .f32⟩
  | 46 => ⟨S320000, .f32⟩
  | 47 => ⟨S320000, .f32⟩
  | 48 => ⟨S320000, .f32⟩
  | 49 => ⟨S320000, .f32⟩
  | 50 => ⟨S_, .f32⟩
  | 51 => ⟨S16, .f32⟩
  | 52 => ⟨S320000x1, .i32⟩
  | 53 => ⟨S16, .f32⟩
  | 54 => ⟨S16, .f32⟩
  | 55 => ⟨S16, .f32⟩
  | 56 => ⟨S16, .f32⟩
  | 57 => ⟨S_, .f32⟩
  | 58 => ⟨S16, .f32⟩
  | 59 => ⟨S16, .f32⟩
  | 60 => ⟨S16, .f32⟩
  | 61 => ⟨S16, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S1, .i32⟩
  | 71 => ⟨S_, .i32⟩
  | 72 => ⟨S320000x1, .i32⟩
  | 73 => ⟨S320000x1, .i1⟩
  | 74 => ⟨S1x1, .i32⟩
  | 75 => ⟨S320000x1, .i32⟩
  | 76 => ⟨S320000x1, .i1⟩
  | 77 => ⟨S320000x1, .i1⟩
  | 78 => ⟨S_, .i1⟩
  | 79 => ⟨S320000, .i1⟩
  | 80 => ⟨S320000, .f32⟩
  | 81 => ⟨S_, .f32⟩
  | 82 => ⟨S320000, .f32⟩
  | 83 => ⟨S320000, .f32⟩
  | 84 => ⟨S320000, .f32⟩
  | 85 => ⟨S16, .f32⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S320000x1, .i32⟩
  | 94 => ⟨S1, .i32⟩
  | 95 => ⟨S_, .i32⟩
  | 96 => ⟨S320000x1, .i32⟩
  | 97 => ⟨S320000x1, .i1⟩
  | 98 => ⟨S1x1, .i32⟩
  | 99 => ⟨S320000x1, .i32⟩
  | 100 => ⟨S320000x1, .i1⟩
  | 101 => ⟨S320000x1, .i1⟩
  | 102 => ⟨S_, .i1⟩
  | 103 => ⟨S320000, .i1⟩
  | 104 => ⟨S320000, .f32⟩
  | 105 => ⟨S_, .f32⟩
  | 106 => ⟨S320000, .f32⟩
  | 107 => ⟨S320000, .f32⟩
  | 108 => ⟨S320000, .i1⟩
  | 109 => ⟨S_, .i32⟩
  | 110 => ⟨S_, .i32⟩
  | 111 => ⟨S320000, .i32⟩
  | 112 => ⟨S320000, .i32⟩
  | 113 => ⟨S_, .i32⟩
  | 114 => ⟨S16, .i32⟩
  | 115 => ⟨S320000x1, .i32⟩
  | 116 => ⟨S16, .i32⟩
  | 117 => ⟨S_, .i32⟩
  | 118 => ⟨S_, .i32⟩
  | 119 => ⟨S_, .i32⟩
  | 120 => ⟨S16, .i32⟩
  | 121 => ⟨S16, .i32⟩
  | 122 => ⟨S_, .i32⟩
  | 123 => ⟨S16, .i32⟩
  | 124 => ⟨S16, .i32⟩
  | 125 => ⟨S_, .f32⟩
  | 126 => ⟨S16, .f32⟩
  | 127 => ⟨S16, .i1⟩
  | _ => ⟨S10000x128, .f32⟩

abbrev hbmTy0_7 (i : Nat) : BufTy := match i % 128 with
  | 0 => ⟨S_, .f32⟩
  | 1 => ⟨S_, .f32⟩
  | 2 => ⟨S16, .f32⟩
  | 3 => ⟨S16, .f32⟩
  | 4 => ⟨S16, .i1⟩
  | 5 => ⟨S16, .i1⟩
  | 6 => ⟨S16, .i1⟩
  | 7 => ⟨S_, .i32⟩
  | 8 => ⟨S_, .i32⟩
  | 9 => ⟨S16, .i32⟩
  | 10 => ⟨S16, .i32⟩
  | 11 => ⟨S_, .i32⟩
  | 12 => ⟨S16, .i32⟩
  | 13 => ⟨S16, .i1⟩
  | 14 => ⟨S_, .i32⟩
  | 15 => ⟨S16, .i32⟩
  | 16 => ⟨S16, .i32⟩
  | 17 => ⟨S16, .i32⟩
  | 18 => ⟨S16x1, .i32⟩
  | 19 => ⟨S1, .i32⟩
  | 20 => ⟨S_, .i32⟩
  | 21 => ⟨S16x1, .i32⟩
  | 22 => ⟨S16x1, .i1⟩
  | 23 => ⟨S1x1, .i32⟩
  | 24 => ⟨S16x1, .i32⟩
  | 25 => ⟨S16x1, .i1⟩
  | 26 => ⟨S16x1, .i1⟩
  | 27 => ⟨S_, .i1⟩
  | 28 => ⟨S16, .i1⟩
  | 29 => ⟨S16, .f32⟩
  | 30 => ⟨S_, .f32⟩
  | 31 => ⟨S16, .f32⟩
  | 32 => ⟨S16, .f32⟩
  | 33 => ⟨S16, .f32⟩
  | 34 => ⟨S_, .i32⟩
  | 35 => ⟨S_, .i32⟩
  | 36 => ⟨S16, .i32⟩
  | 37 => ⟨S16, .i32⟩
  | 38 => ⟨S_, .f32⟩
  | 39 => ⟨S_, .f32⟩
  | 40 => ⟨S16, .f32⟩
  | 41 => ⟨S16, .f32⟩
  | 42 => ⟨S_, .i32⟩
  | 43 => ⟨S_, .i32⟩
  | 44 => ⟨S_, .i32⟩
  | 45 => ⟨S16, .i32⟩
  | 46 => ⟨S16, .i32⟩
  | 47 => ⟨S_, .i32⟩
  | 48 => ⟨S16, .i32⟩
  | 49 => ⟨S16, .i32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S16x1, .i32⟩
  | 58 => ⟨S1, .i32⟩
  | 59 => ⟨S_, .i32⟩
  | 60 => ⟨S16x1, .i32⟩
  | 61 => ⟨S16x1, .i1⟩
  | 62 => ⟨S1x1, .i32⟩
  | 63 => ⟨S16x1, .i32⟩
  | 64 => ⟨S16x1, .i1⟩
  | 65 => ⟨S16x1, .i1⟩
  | 66 => ⟨S_, .i1⟩
  | 67 => ⟨S16, .i1⟩
  | 68 => ⟨S16x128, .f32⟩
  | 69 => ⟨S16x128, .i1⟩
  | 70 => ⟨S_, .f32⟩
  | 71 => ⟨S16x128, .f32⟩
  | 72 => ⟨S16x128, .f32⟩
  | 73 => ⟨S_, .i32⟩
  | 74 => ⟨S16, .i32⟩
  | 75 => ⟨S16, .i1⟩
  | 76 => ⟨S16x1, .i1⟩
  | 77 => ⟨S_, .f32⟩
  | 78 => ⟨S_, .f32⟩
  | 79 => ⟨S16x128, .i1⟩
  | 80 => ⟨S16x128, .f32⟩
  | 81 => ⟨S16x128, .f32⟩
  | 82 => ⟨S16x256, .f32⟩
  | 83 => ⟨S16x128, .f32⟩
  | 84 => ⟨S1x128, .f32⟩
  | 85 => ⟨S16x128, .f32⟩
  | 86 => ⟨S16x128, .f32⟩
  | 87 => ⟨S16x128, .f32⟩
  | 88 => ⟨S_, .i32⟩
  | 89 => ⟨S16, .i32⟩
  | 90 => ⟨S16, .i1⟩
  | 91 => ⟨S16, .i1⟩
  | 92 => ⟨S16, .i1⟩
  | 93 => ⟨S16x1, .i1⟩
  | 94 => ⟨S16x128, .i1⟩
  | 95 => ⟨S16x128, .f32⟩
  | 96 => ⟨S16, .i1⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S1, .i32⟩
  | 106 => ⟨S_, .i32⟩
  | 107 => ⟨S320000x1, .i32⟩
  | 108 => ⟨S320000x1, .i1⟩
  | 109 => ⟨S1x1, .i32⟩
  | 110 => ⟨S320000x1, .i32⟩
  | 111 => ⟨S320000x1, .i1⟩
  | 112 => ⟨S320000x1, .i1⟩
  | 113 => ⟨S_, .i1⟩
  | 114 => ⟨S320000, .i1⟩
  | 115 => ⟨S320000x128, .f32⟩
  | 116 => ⟨S320000x128, .i1⟩
  | 117 => ⟨S_, .f32⟩
  | 118 => ⟨S320000x128, .f32⟩
  | 119 => ⟨S320000x128, .f32⟩
  | 120 => ⟨S320000x128, .f32⟩
  | 121 => ⟨S_, .f32⟩
  | 122 => ⟨S320000, .f32⟩
  | 123 => ⟨S_, .f32⟩
  | 124 => ⟨S_, .f32⟩
  | 125 => ⟨S320000, .f32⟩
  | 126 => ⟨S320000, .f32⟩
  | 127 => ⟨S16x1, .f32⟩
  | _ => ⟨S10000x128, .f32⟩

abbrev hbmTy0_8 (i : Nat) : BufTy := match i % 128 with
  | 0 => ⟨S1x1, .f32⟩
  | 1 => ⟨S16x1, .f32⟩
  | 2 => ⟨S16x1, .f32⟩
  | 3 => ⟨S16, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S1, .i32⟩
  | 13 => ⟨S_, .i32⟩
  | 14 => ⟨S320000x1, .i32⟩
  | 15 => ⟨S320000x1, .i1⟩
  | 16 => ⟨S1x1, .i32⟩
  | 17 => ⟨S320000x1, .i32⟩
  | 18 => ⟨S320000x1, .i1⟩
  | 19 => ⟨S320000x1, .i1⟩
  | 20 => ⟨S_, .i1⟩
  | 21 => ⟨S320000, .i1⟩
  | 22 => ⟨S320000, .i1⟩
  | 23 => ⟨S_, .i1⟩
  | 24 => ⟨S320000, .i1⟩
  | 25 => ⟨S320000, .i1⟩
  | 26 => ⟨S320000, .i1⟩
  | 27 => ⟨S_, .f32⟩
  | 28 => ⟨S320000, .f32⟩
  | 29 => ⟨S320000, .f32⟩
  | 30 => ⟨S_, .f32⟩
  | 31 => ⟨S_, .f32⟩
  | 32 => ⟨S320000, .f32⟩
  | 33 => ⟨S320000, .f32⟩
  | 34 => ⟨S_, .f32⟩
  | 35 => ⟨S16, .f32⟩
  | 36 => ⟨S16, .f32⟩
  | 37 => ⟨S_, .f32⟩
  | 38 => ⟨S_, .f32⟩
  | 39 => ⟨S16, .f32⟩
  | 40 => ⟨S16, .f32⟩
  | 41 => ⟨S320000x1, .f32⟩
  | 42 => ⟨S_, .f32⟩
  | 43 => ⟨S_, .f32⟩
  | 44 => ⟨S320000x16, .f32⟩
  | 45 => ⟨S320000x16, .f32⟩
  | 46 => ⟨S320000x16, .f32⟩
  | 47 => ⟨S_, .f32⟩
  | 48 => ⟨S16, .f32⟩
  | 49 => ⟨S16, .f32⟩
  | 50 => ⟨S16, .f32⟩
  | 51 => ⟨S_, .f32⟩
  | 52 => ⟨S16, .f32⟩
  | 53 => ⟨S16, .i1⟩
  | 54 => ⟨S_, .f32⟩
  | 55 => ⟨S_, .f32⟩
  | 56 => ⟨S16, .f32⟩
  | 57 => ⟨S16, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S1, .i32⟩
  | 67 => ⟨S_, .i32⟩
  | 68 => ⟨S320000x1, .i32⟩
  | 69 => ⟨S320000x1, .i1⟩
  | 70 => ⟨S1x1, .i32⟩
  | 71 => ⟨S320000x1, .i32⟩
  | 72 => ⟨S320000x1, .i1⟩
  | 73 => ⟨S320000x1, .i1⟩
  | 74 => ⟨S_, .i1⟩
  | 75 => ⟨S320000, .i1⟩
  | 76 => ⟨S320000, .f32⟩
  | 77 => ⟨S_, .f32⟩
  | 78 => ⟨S320000, .f32⟩
  | 79 => ⟨S320000, .f32⟩
  | 80 => ⟨S320000, .f32⟩
  | 81 => ⟨S320000, .f32⟩
  | 82 => ⟨S320000, .f32⟩
  | 83 => ⟨S320000, .f32⟩
  | 84 => ⟨S_, .f32⟩
  | 85 => ⟨S16, .f32⟩
  | 86 => ⟨S320000x1, .i32⟩
  | 87 => ⟨S16, .f32⟩
  | 88 => ⟨S16, .f32⟩
  | 89 => ⟨S16, .f32⟩
  | 90 => ⟨S16, .f32⟩
  | 91 => ⟨S_, .f32⟩
  | 92 => ⟨S16, .f32⟩
  | 93 => ⟨S16, .f32⟩
  | 94 => ⟨S16, .f32⟩
  | 95 => ⟨S16, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S1, .i32⟩
  | 105 => ⟨S_, .i32⟩
  | 106 => ⟨S320000x1, .i32⟩
  | 107 => ⟨S320000x1, .i1⟩
  | 108 => ⟨S1x1, .i32⟩
  | 109 => ⟨S320000x1, .i32⟩
  | 110 => ⟨S320000x1, .i1⟩
  | 111 => ⟨S320000x1, .i1⟩
  | 112 => ⟨S_, .i1⟩
  | 113 => ⟨S320000, .i1⟩
  | 114 => ⟨S320000, .f32⟩
  | 115 => ⟨S_, .f32⟩
  | 116 => ⟨S320000, .f32⟩
  | 117 => ⟨S320000, .f32⟩
  | 118 => ⟨S320000, .f32⟩
  | 119 => ⟨S16, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x128, .f32⟩

abbrev hbmTy0_9 (i : Nat) : BufTy := match i % 128 with
  | 0 => ⟨S1, .i32⟩
  | 1 => ⟨S_, .i32⟩
  | 2 => ⟨S320000x1, .i32⟩
  | 3 => ⟨S320000x1, .i1⟩
  | 4 => ⟨S1x1, .i32⟩
  | 5 => ⟨S320000x1, .i32⟩
  | 6 => ⟨S320000x1, .i1⟩
  | 7 => ⟨S320000x1, .i1⟩
  | 8 => ⟨S_, .i1⟩
  | 9 => ⟨S320000, .i1⟩
  | 10 => ⟨S320000, .f32⟩
  | 11 => ⟨S_, .f32⟩
  | 12 => ⟨S320000, .f32⟩
  | 13 => ⟨S320000, .f32⟩
  | 14 => ⟨S320000, .i1⟩
  | 15 => ⟨S_, .i32⟩
  | 16 => ⟨S_, .i32⟩
  | 17 => ⟨S320000, .i32⟩
  | 18 => ⟨S320000, .i32⟩
  | 19 => ⟨S_, .i32⟩
  | 20 => ⟨S16, .i32⟩
  | 21 => ⟨S320000x1, .i32⟩
  | 22 => ⟨S16, .i32⟩
  | 23 => ⟨S_, .i32⟩
  | 24 => ⟨S_, .i32⟩
  | 25 => ⟨S_, .i32⟩
  | 26 => ⟨S16, .i32⟩
  | 27 => ⟨S16, .i32⟩
  | 28 => ⟨S_, .i32⟩
  | 29 => ⟨S16, .i32⟩
  | 30 => ⟨S16, .i32⟩
  | 31 => ⟨S_, .f32⟩
  | 32 => ⟨S16, .f32⟩
  | 33 => ⟨S16, .i1⟩
  | 34 => ⟨S_, .f32⟩
  | 35 => ⟨S_, .f32⟩
  | 36 => ⟨S16, .f32⟩
  | 37 => ⟨S16, .f32⟩
  | 38 => ⟨S16, .i1⟩
  | 39 => ⟨S16, .i1⟩
  | 40 => ⟨S16, .i1⟩
  | 41 => ⟨S_, .i32⟩
  | 42 => ⟨S_, .i32⟩
  | 43 => ⟨S16, .i32⟩
  | 44 => ⟨S16, .i32⟩
  | 45 => ⟨S_, .i32⟩
  | 46 => ⟨S16, .i32⟩
  | 47 => ⟨S16, .i1⟩
  | 48 => ⟨S_, .i32⟩
  | 49 => ⟨S16, .i32⟩
  | 50 => ⟨S16, .i32⟩
  | 51 => ⟨S16, .i32⟩
  | 52 => ⟨S16x1, .i32⟩
  | 53 => ⟨S1, .i32⟩
  | 54 => ⟨S_, .i32⟩
  | 55 => ⟨S16x1, .i32⟩
  | 56 => ⟨S16x1, .i1⟩
  | 57 => ⟨S1x1, .i32⟩
  | 58 => ⟨S16x1, .i32⟩
  | 59 => ⟨S16x1, .i1⟩
  | 60 => ⟨S16x1, .i1⟩
  | 61 => ⟨S_, .i1⟩
  | 62 => ⟨S16, .i1⟩
  | 63 => ⟨S16, .f32⟩
  | 64 => ⟨S_, .f32⟩
  | 65 => ⟨S16, .f32⟩
  | 66 => ⟨S16, .f32⟩
  | 67 => ⟨S16, .f32⟩
  | 68 => ⟨S_, .i32⟩
  | 69 => ⟨S_, .i32⟩
  | 70 => ⟨S16, .i32⟩
  | 71 => ⟨S16, .i32⟩
  | 72 => ⟨S_, .f32⟩
  | 73 => ⟨S_, .f32⟩
  | 74 => ⟨S16, .f32⟩
  | 75 => ⟨S16, .f32⟩
  | 76 => ⟨S_, .i32⟩
  | 77 => ⟨S_, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S_, .i32⟩
  | 85 => ⟨S16, .i32⟩
  | 86 => ⟨S16, .i1⟩
  | 87 => ⟨S_, .i32⟩
  | 88 => ⟨S16, .i32⟩
  | 89 => ⟨S16, .i32⟩
  | 90 => ⟨S16, .i32⟩
  | 91 => ⟨S16x1, .i32⟩
  | 92 => ⟨S1, .i32⟩
  | 93 => ⟨S_, .i32⟩
  | 94 => ⟨S16x1, .i32⟩
  | 95 => ⟨S16x1, .i1⟩
  | 96 => ⟨S1x1, .i32⟩
  | 97 => ⟨S16x1, .i32⟩
  | 98 => ⟨S16x1, .i1⟩
  | 99 => ⟨S16x1, .i1⟩
  | 100 => ⟨S_, .i1⟩
  | 101 => ⟨S16, .i1⟩
  | 102 => ⟨S16x128, .f32⟩
  | 103 => ⟨S16x128, .i1⟩
  | 104 => ⟨S_, .f32⟩
  | 105 => ⟨S16x128, .f32⟩
  | 106 => ⟨S16x128, .f32⟩
  | 107 => ⟨S_, .i32⟩
  | 108 => ⟨S16, .i32⟩
  | 109 => ⟨S16, .i1⟩
  | 110 => ⟨S16x1, .i1⟩
  | 111 => ⟨S_, .f32⟩
  | 112 => ⟨S_, .f32⟩
  | 113 => ⟨S16x128, .i1⟩
  | 114 => ⟨S16x128, .f32⟩
  | 115 => ⟨S16x128, .f32⟩
  | 116 => ⟨S16x256, .f32⟩
  | 117 => ⟨S16x128, .f32⟩
  | 118 => ⟨S1x128, .f32⟩
  | 119 => ⟨S16x128, .f32⟩
  | 120 => ⟨S16x128, .f32⟩
  | 121 => ⟨S16x128, .f32⟩
  | 122 => ⟨S_, .i32⟩
  | 123 => ⟨S16, .i32⟩
  | 124 => ⟨S16, .i1⟩
  | 125 => ⟨S16, .i1⟩
  | 126 => ⟨S16, .i1⟩
  | 127 => ⟨S16x1, .i1⟩
  | _ => ⟨S10000x128, .f32⟩

abbrev hbmTy0_10 (i : Nat) : BufTy := match i % 128 with
  | 0 => ⟨S16x128, .i1⟩
  | 1 => ⟨S16x128, .f32⟩
  | 2 => ⟨S16, .i1⟩
  | 3 => ⟨S16x1, .f32⟩
  | 4 => ⟨S16x1, .f32⟩
  | 5 => ⟨S16x1, .f32⟩
  | 6 => ⟨S16x1, .f32⟩
  | 7 => ⟨S16x4, .f32⟩
  | 8 => ⟨S16x1, .i32⟩
  | 9 => ⟨S16x1, .i32⟩
  | 10 => ⟨S16x1, .i32⟩
  | 11 => ⟨S16x1, .i32⟩
  | 12 => ⟨S16x4, .i32⟩
  | 13 => ⟨S_, .f32⟩
  | 14 => ⟨S16, .f32⟩
  | 15 => ⟨S_, .i32⟩
  | 16 => ⟨S16x4, .i32⟩
  | 17 => ⟨S16x4, .i1⟩
  | 18 => ⟨S16x4, .f32⟩
  | 19 => ⟨S_, .f32⟩
  | 20 => ⟨S16, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_c : Ref sig .tc := ⟨.hbm, 72, rfl⟩
abbrev main_call2_v0 : Ref sig .tc := ⟨.hbm, 73, rfl⟩
abbrev main_call2_v1 : Ref sig .tc := ⟨.hbm, 74, rfl⟩
abbrev main_v11 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v12 : Ref sig .tc := ⟨.hbm, 98, rfl⟩
abbrev main_c_0 : Ref sig .tc := ⟨.hbm, 99, rfl⟩
abbrev main_v13 : Ref sig .tc := ⟨.hbm, 100, rfl⟩
abbrev main_v14 : Ref sig .tc := ⟨.hbm, 101, rfl⟩
abbrev main_v15 : Ref sig .tc := ⟨.hbm, 102, rfl⟩
abbrev main_cst : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_c_1 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_v14 : Ref sig .tc := ⟨.hbm, 142, rfl⟩
abbrev main_call5_cst : Ref sig .tc := ⟨.hbm, 143, rfl⟩
abbrev main_call5_v15 : Ref sig .tc := ⟨.hbm, 144, rfl⟩
abbrev main_v31 : Ref sig .tc := ⟨.hbm, 145, rfl⟩
abbrev main_v32 : Ref sig .tc := ⟨.hbm, 146, rfl⟩
abbrev main_cst_2 : Ref sig .tc := ⟨.hbm, 147, rfl⟩
abbrev main_v33 : Ref sig .tc := ⟨.hbm, 148, rfl⟩
abbrev main_cst_3 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_call6_c : Ref sig .tc := ⟨.hbm, 158, rfl⟩
abbrev main_call6_v0 : Ref sig .tc := ⟨.hbm, 159, rfl⟩
abbrev main_call6_v1 : Ref sig .tc := ⟨.hbm, 160, rfl⟩
abbrev main_call6_c_0 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_call6_v5 : Ref sig .tc := ⟨.hbm, 165, rfl⟩
abbrev main_call6_c_1 : Ref sig .tc := ⟨.hbm, 166, rfl⟩
abbrev main_call6_c_2 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_call6_v11 : Ref sig .tc := ⟨.hbm, 173, rfl⟩
abbrev main_call6_c_3 : Ref sig .tc := ⟨.hbm, 174, rfl⟩
abbrev main_call6_v12 : Ref sig .tc := ⟨.hbm, 175, rfl⟩
abbrev main_call6_v13 : Ref sig .tc := ⟨.hbm, 176, rfl⟩
abbrev main_call6_c_4 : Ref sig .tc := ⟨.hbm, 177, rfl⟩
abbrev main_call6_v14 : Ref sig .tc := ⟨.hbm, 178, rfl⟩
abbrev main_v42 : Ref sig .tc := ⟨.hbm, 179, rfl⟩
abbrev main_v43 : Ref sig .tc := ⟨.hbm, 180, rfl⟩
abbrev main_cst_4 : Ref sig .tc := ⟨.hbm, 181, rfl⟩
abbrev main_v44 : Ref sig .tc := ⟨.hbm, 182, rfl⟩
abbrev main_v45 : Ref sig .tc := ⟨.hbm, 183, rfl⟩
abbrev main_cst_5 : Ref sig .tc := ⟨.hbm, 184, rfl⟩
abbrev main_call7_v0 : Ref sig .tc := ⟨.hbm, 185, rfl⟩
abbrev main_call7_v1 : Ref sig .tc := ⟨.hbm, 186, rfl⟩
abbrev main_v46 : Ref sig .tc := ⟨.hbm, 187, rfl⟩
abbrev main_cst_6 : Ref sig .tc := ⟨.hbm, 188, rfl⟩
abbrev main_v47 : Ref sig .tc := ⟨.hbm, 189, rfl⟩
abbrev main_v48 : Ref sig .tc := ⟨.hbm, 190, rfl⟩
abbrev main_cst_7 : Ref sig .tc := ⟨.hbm, 191, rfl⟩
abbrev main_call8_v0 : Ref sig .tc := ⟨.hbm, 192, rfl⟩
abbrev main_call8_v1 : Ref sig .tc := ⟨.hbm, 193, rfl⟩
abbrev main_v49 : Ref sig .tc := ⟨.hbm, 194, rfl⟩
abbrev main_v50 : Ref sig .tc := ⟨.hbm, 195, rfl⟩
abbrev main_cst_8 : Ref sig .tc := ⟨.hbm, 196, rfl⟩
abbrev main_call9_v0 : Ref sig .tc := ⟨.hbm, 197, rfl⟩
abbrev main_call9_v1 : Ref sig .tc := ⟨.hbm, 198, rfl⟩
abbrev main_call9_v2 : Ref sig .tc := ⟨.hbm, 199, rfl⟩
abbrev main_v51 : Ref sig .tc := ⟨.hbm, 200, rfl⟩
abbrev main_cst_9 : Ref sig .tc := ⟨.hbm, 201, rfl⟩
abbrev main_v52 : Ref sig .tc := ⟨.hbm, 202, rfl⟩
abbrev main_v53 : Ref sig .tc := ⟨.hbm, 203, rfl⟩
abbrev main_v54 : Ref sig .tc := ⟨.hbm, 204, rfl⟩
abbrev main_cst_10 : Ref sig .tc := ⟨.hbm, 205, rfl⟩
abbrev main_v55 : Ref sig .tc := ⟨.hbm, 206, rfl⟩
abbrev main_v56 : Ref sig .tc := ⟨.hbm, 207, rfl⟩
abbrev main_cst_11 : Ref sig .tc := ⟨.hbm, 208, rfl⟩
abbrev main_call10_v0 : Ref sig .tc := ⟨.hbm, 209, rfl⟩
abbrev main_call10_v1 : Ref sig .tc := ⟨.hbm, 210, rfl⟩
abbrev main_v57 : Ref sig .tc := ⟨.hbm, 211, rfl⟩
abbrev main_call11_c : Ref sig .tc := ⟨.hbm, 212, rfl⟩
abbrev main_call11_v0 : Ref sig .tc := ⟨.hbm, 213, rfl⟩
abbrev main_call11_v1 : Ref sig .tc := ⟨.hbm, 214, rfl⟩
abbrev main_call11_c_0 : Ref sig .tc := ⟨.hbm, 215, rfl⟩
abbrev main_call11_v2 : Ref sig .tc := ⟨.hbm, 216, rfl⟩
abbrev main_call11_v3 : Ref sig .tc := ⟨.hbm, 217, rfl⟩
abbrev main_call11_v4 : Ref sig .tc := ⟨.hbm, 218, rfl⟩
abbrev main_call11_v5 : Ref sig .tc := ⟨.hbm, 219, rfl⟩
abbrev main_call11_c_1 : Ref sig .tc := ⟨.hbm, 220, rfl⟩
abbrev main_call11_c_2 : Ref sig .tc := ⟨.hbm, 221, rfl⟩
abbrev main_call11_v6 : Ref sig .tc := ⟨.hbm, 222, rfl⟩
abbrev main_call11_v7 : Ref sig .tc := ⟨.hbm, 223, rfl⟩
abbrev main_call11_v8 : Ref sig .tc := ⟨.hbm, 224, rfl⟩
abbrev main_call11_v9 : Ref sig .tc := ⟨.hbm, 225, rfl⟩
abbrev main_call11_v10 : Ref sig .tc := ⟨.hbm, 226, rfl⟩
abbrev main_call11_v11 : Ref sig .tc := ⟨.hbm, 227, rfl⟩
abbrev main_call11_c_3 : Ref sig .tc := ⟨.hbm, 228, rfl⟩
abbrev main_call11_v12 : Ref sig .tc := ⟨.hbm, 229, rfl⟩
abbrev main_call11_v13 : Ref sig .tc := ⟨.hbm, 230, rfl⟩
abbrev main_call11_cst : Ref sig .tc := ⟨.hbm, 231, rfl⟩
abbrev main_call11_v14 : Ref sig .tc := ⟨.hbm, 232, rfl⟩
abbrev main_v58 : Ref sig .tc := ⟨.hbm, 233, rfl⟩
abbrev main_v59 : Ref sig .tc := ⟨.hbm, 234, rfl⟩
abbrev main_v60 : Ref sig .tc := ⟨.hbm, 235, rfl⟩
abbrev main_v61 : Ref sig .tc := ⟨.hbm, 236, rfl⟩
abbrev main_v62 : Ref sig .tc := ⟨.hbm, 237, rfl⟩
abbrev main_cst_12 : Ref sig .tc := ⟨.hbm, 238, rfl⟩
abbrev main_v63 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_v68 : Ref sig .tc := ⟨.hbm, 244, rfl⟩
abbrev main_cst_13 : Ref sig .tc := ⟨.hbm, 245, rfl⟩
abbrev main_v69 : Ref sig .tc := ⟨.hbm, 246, rfl⟩
abbrev main_v70 : Ref sig .tc := ⟨.hbm, 247, rfl⟩
abbrev main_v71 : Ref sig .tc := ⟨.hbm, 248, rfl⟩
abbrev main_v72 : Ref sig .tc := ⟨.hbm, 249, rfl⟩
abbrev main_call12_c : Ref sig .tc := ⟨.hbm, 250, rfl⟩
abbrev main_call12_v0 : Ref sig .tc := ⟨.hbm, 251, rfl⟩
abbrev main_call12_v1 : Ref sig .tc := ⟨.hbm, 252, rfl⟩
abbrev main_call12_c_0 : Ref sig .tc := ⟨.hbm, 253, rfl⟩
abbrev main_call12_v2 : Ref sig .tc := ⟨.hbm, 254, rfl⟩
abbrev main_call12_v3 : Ref sig .tc := ⟨.hbm, 255, rfl⟩
abbrev main_call12_v4 : Ref sig .tc := ⟨.hbm, 256, rfl⟩
abbrev main_call12_v5 : Ref sig .tc := ⟨.hbm, 257, rfl⟩
abbrev main_call12_c_1 : Ref sig .tc := ⟨.hbm, 258, rfl⟩
abbrev main_call12_c_2 : Ref sig .tc := ⟨.hbm, 259, rfl⟩
abbrev main_call12_v6 : Ref sig .tc := ⟨.hbm, 260, rfl⟩
abbrev main_call12_v7 : Ref sig .tc := ⟨.hbm, 261, rfl⟩
abbrev main_call12_v8 : Ref sig .tc := ⟨.hbm, 262, rfl⟩
abbrev main_call12_v9 : Ref sig .tc := ⟨.hbm, 263, rfl⟩
abbrev main_call12_v10 : Ref sig .tc := ⟨.hbm, 264, rfl⟩
abbrev main_call12_v11 : Ref sig .tc := ⟨.hbm, 265, rfl⟩
abbrev main_call12_c_3 : Ref sig .tc := ⟨.hbm, 266, rfl⟩
abbrev main_call12_v12 : Ref sig .tc := ⟨.hbm, 267, rfl⟩
abbrev main_call12_v13 : Ref sig .tc := ⟨.hbm, 268, rfl⟩
abbrev main_call12_cst : Ref sig .tc := ⟨.hbm, 269, rfl⟩
abbrev main_call12_v14 : Ref sig .tc := ⟨.hbm, 270, rfl⟩
abbrev main_v73 : Ref sig .tc := ⟨.hbm, 271, rfl⟩
abbrev main_v74 : Ref sig .tc := ⟨.hbm, 272, rfl⟩
abbrev main_v75 : Ref sig .tc := ⟨.hbm, 273, rfl⟩
abbrev main_call13_c : Ref sig .tc := ⟨.hbm, 274, rfl⟩
abbrev main_call13_v0 : Ref sig .tc := ⟨.hbm, 275, rfl⟩
abbrev main_call13_v1 : Ref sig .tc := ⟨.hbm, 276, rfl⟩
abbrev main_call13_c_0 : Ref sig .tc := ⟨.hbm, 277, rfl⟩
abbrev main_call13_v2 : Ref sig .tc := ⟨.hbm, 278, rfl⟩
abbrev main_call13_v3 : Ref sig .tc := ⟨.hbm, 279, rfl⟩
abbrev main_call13_v4 : Ref sig .tc := ⟨.hbm, 280, rfl⟩
abbrev main_call13_v5 : Ref sig .tc := ⟨.hbm, 281, rfl⟩
abbrev main_call13_c_1 : Ref sig .tc := ⟨.hbm, 282, rfl⟩
abbrev main_call13_c_2 : Ref sig .tc := ⟨.hbm, 283, rfl⟩
abbrev main_call13_v6 : Ref sig .tc := ⟨.hbm, 284, rfl⟩
abbrev main_call13_v7 : Ref sig .tc := ⟨.hbm, 285, rfl⟩
abbrev main_call13_v8 : Ref sig .tc := ⟨.hbm, 286, rfl⟩
abbrev main_call13_v9 : Ref sig .tc := ⟨.hbm, 287, rfl⟩
abbrev main_call13_v10 : Ref sig .tc := ⟨.hbm, 288, rfl⟩
abbrev main_call13_v11 : Ref sig .tc := ⟨.hbm, 289, rfl⟩
abbrev main_call13_c_3 : Ref sig .tc := ⟨.hbm, 290, rfl⟩
abbrev main_call13_v12 : Ref sig .tc := ⟨.hbm, 291, rfl⟩
abbrev main_call13_v13 : Ref sig .tc := ⟨.hbm, 292, rfl⟩
abbrev main_call13_cst : Ref sig .tc := ⟨.hbm, 293, rfl⟩
abbrev main_call13_v14 : Ref sig .tc := ⟨.hbm, 294, rfl⟩
abbrev main_v76 : Ref sig .tc := ⟨.hbm, 295, rfl⟩
abbrev main_v77 : Ref sig .tc := ⟨.hbm, 296, rfl⟩
abbrev main_c_14 : Ref sig .tc := ⟨.hbm, 297, rfl⟩
abbrev main_call14_v0 : Ref sig .tc := ⟨.hbm, 298, rfl⟩
abbrev main_call14_v1 : Ref sig .tc := ⟨.hbm, 299, rfl⟩
abbrev main_v78 : Ref sig .tc := ⟨.hbm, 300, rfl⟩
abbrev main_c_15 : Ref sig .tc := ⟨.hbm, 301, rfl⟩
abbrev main_v79 : Ref sig .tc := ⟨.hbm, 302, rfl⟩
abbrev main_v80 : Ref sig .tc := ⟨.hbm, 303, rfl⟩
abbrev main_v81 : Ref sig .tc := ⟨.hbm, 304, rfl⟩
abbrev main_c_16 : Ref sig .tc := ⟨.hbm, 305, rfl⟩
abbrev main_c_17 : Ref sig .tc := ⟨.hbm, 306, rfl⟩
abbrev main_call15_v0 : Ref sig .tc := ⟨.hbm, 307, rfl⟩
abbrev main_call15_v1 : Ref sig .tc := ⟨.hbm, 308, rfl⟩
abbrev main_call15_v2 : Ref sig .tc := ⟨.hbm, 309, rfl⟩
abbrev main_call15_v3 : Ref sig .tc := ⟨.hbm, 310, rfl⟩
abbrev main_call15_v4 : Ref sig .tc := ⟨.hbm, 311, rfl⟩
abbrev main_v82 : Ref sig .tc := ⟨.hbm, 312, rfl⟩
abbrev main_cst_18 : Ref sig .tc := ⟨.hbm, 313, rfl⟩
abbrev main_v83 : Ref sig .tc := ⟨.hbm, 314, rfl⟩
abbrev main_v84 : Ref sig .tc := ⟨.hbm, 315, rfl⟩
abbrev main_cst_19 : Ref sig .tc := ⟨.hbm, 316, rfl⟩
abbrev main_call16_v0 : Ref sig .tc := ⟨.hbm, 317, rfl⟩
abbrev main_call16_v1 : Ref sig .tc := ⟨.hbm, 318, rfl⟩
abbrev main_v85 : Ref sig .tc := ⟨.hbm, 319, rfl⟩
abbrev main_v86 : Ref sig .tc := ⟨.hbm, 320, rfl⟩
abbrev main_v87 : Ref sig .tc := ⟨.hbm, 321, rfl⟩
abbrev main_v88 : Ref sig .tc := ⟨.hbm, 322, rfl⟩
abbrev main_c_20 : Ref sig .tc := ⟨.hbm, 323, rfl⟩
abbrev main_call17_v0 : Ref sig .tc := ⟨.hbm, 324, rfl⟩
abbrev main_call17_v1 : Ref sig .tc := ⟨.hbm, 325, rfl⟩
abbrev main_v89 : Ref sig .tc := ⟨.hbm, 326, rfl⟩
abbrev main_call18_c : Ref sig .tc := ⟨.hbm, 327, rfl⟩
abbrev main_call18_v0 : Ref sig .tc := ⟨.hbm, 328, rfl⟩
abbrev main_call18_v1 : Ref sig .tc := ⟨.hbm, 329, rfl⟩
abbrev main_call18_c_0 : Ref sig .tc := ⟨.hbm, 330, rfl⟩
abbrev main_call18_v2 : Ref sig .tc := ⟨.hbm, 331, rfl⟩
abbrev main_call18_v3 : Ref sig .tc := ⟨.hbm, 332, rfl⟩
abbrev main_call18_v4 : Ref sig .tc := ⟨.hbm, 333, rfl⟩
abbrev main_call18_v5 : Ref sig .tc := ⟨.hbm, 334, rfl⟩
abbrev main_call18_c_1 : Ref sig .tc := ⟨.hbm, 335, rfl⟩
abbrev main_call18_c_2 : Ref sig .tc := ⟨.hbm, 336, rfl⟩
abbrev main_call18_v6 : Ref sig .tc := ⟨.hbm, 337, rfl⟩
abbrev main_call18_v7 : Ref sig .tc := ⟨.hbm, 338, rfl⟩
abbrev main_call18_v8 : Ref sig .tc := ⟨.hbm, 339, rfl⟩
abbrev main_call18_v9 : Ref sig .tc := ⟨.hbm, 340, rfl⟩
abbrev main_call18_v10 : Ref sig .tc := ⟨.hbm, 341, rfl⟩
abbrev main_call18_v11 : Ref sig .tc := ⟨.hbm, 342, rfl⟩
abbrev main_call18_c_3 : Ref sig .tc := ⟨.hbm, 343, rfl⟩
abbrev main_call18_v12 : Ref sig .tc := ⟨.hbm, 344, rfl⟩
abbrev main_call18_v13 : Ref sig .tc := ⟨.hbm, 345, rfl⟩
abbrev main_call18_cst : Ref sig .tc := ⟨.hbm, 346, rfl⟩
abbrev main_call18_v14 : Ref sig .tc := ⟨.hbm, 347, rfl⟩
abbrev main_v90 : Ref sig .tc := ⟨.hbm, 348, rfl⟩
abbrev main_v91 : Ref sig .tc := ⟨.hbm, 349, rfl⟩
abbrev main_c_21 : Ref sig .tc := ⟨.hbm, 350, rfl⟩
abbrev main_call20_v0 : Ref sig .tc := ⟨.hbm, 351, rfl⟩
abbrev main_call20_v1 : Ref sig .tc := ⟨.hbm, 352, rfl⟩
abbrev main_v92 : Ref sig .tc := ⟨.hbm, 353, rfl⟩
abbrev main_cst_22 : Ref sig .tc := ⟨.hbm, 354, rfl⟩
abbrev main_call21_v0 : Ref sig .tc := ⟨.hbm, 355, rfl⟩
abbrev main_call21_v1 : Ref sig .tc := ⟨.hbm, 356, rfl⟩
abbrev main_v93 : Ref sig .tc := ⟨.hbm, 357, rfl⟩
abbrev main_c_23 : Ref sig .tc := ⟨.hbm, 358, rfl⟩
abbrev main_c_24 : Ref sig .tc := ⟨.hbm, 359, rfl⟩
abbrev main_call22_v0 : Ref sig .tc := ⟨.hbm, 360, rfl⟩
abbrev main_call22_v1 : Ref sig .tc := ⟨.hbm, 361, rfl⟩
abbrev main_call22_v2 : Ref sig .tc := ⟨.hbm, 362, rfl⟩
abbrev main_call22_v3 : Ref sig .tc := ⟨.hbm, 363, rfl⟩
abbrev main_call22_v4 : Ref sig .tc := ⟨.hbm, 364, rfl⟩
abbrev main_v94 : Ref sig .tc := ⟨.hbm, 365, rfl⟩
abbrev main_call23_c : Ref sig .tc := ⟨.hbm, 366, rfl⟩
abbrev main_call23_v0 : Ref sig .tc := ⟨.hbm, 367, rfl⟩
abbrev main_call23_v1 : Ref sig .tc := ⟨.hbm, 368, rfl⟩
abbrev main_call23_c_0 : Ref sig .tc := ⟨.hbm, 369, rfl⟩
abbrev main_call23_v2 : Ref sig .tc := ⟨.hbm, 370, rfl⟩
abbrev main_call23_v3 : Ref sig .tc := ⟨.hbm, 371, rfl⟩
abbrev main_call23_v4 : Ref sig .tc := ⟨.hbm, 372, rfl⟩
abbrev main_call23_v5 : Ref sig .tc := ⟨.hbm, 373, rfl⟩
abbrev main_call23_c_1 : Ref sig .tc := ⟨.hbm, 374, rfl⟩
abbrev main_call23_c_2 : Ref sig .tc := ⟨.hbm, 375, rfl⟩
abbrev main_call23_v6 : Ref sig .tc := ⟨.hbm, 376, rfl⟩
abbrev main_call23_v7 : Ref sig .tc := ⟨.hbm, 377, rfl⟩
abbrev main_call23_v8 : Ref sig .tc := ⟨.hbm, 378, rfl⟩
abbrev main_call23_v9 : Ref sig .tc := ⟨.hbm, 379, rfl⟩
abbrev main_call23_v10 : Ref sig .tc := ⟨.hbm, 380, rfl⟩
abbrev main_call23_v11 : Ref sig .tc := ⟨.hbm, 381, rfl⟩
abbrev main_call23_c_3 : Ref sig .tc := ⟨.hbm, 382, rfl⟩
abbrev main_call23_v12 : Ref sig .tc := ⟨.hbm, 383, rfl⟩
abbrev main_call23_v13 : Ref sig .tc := ⟨.hbm, 384, rfl⟩
abbrev main_call23_v14 : Ref sig .tc := ⟨.hbm, 385, rfl⟩
abbrev main_call23_cst : Ref sig .tc := ⟨.hbm, 386, rfl⟩
abbrev main_call23_v15 : Ref sig .tc := ⟨.hbm, 387, rfl⟩
abbrev main_v95 : Ref sig .tc := ⟨.hbm, 388, rfl⟩
abbrev main_c_25 : Ref sig .tc := ⟨.hbm, 389, rfl⟩
abbrev main_v96 : Ref sig .tc := ⟨.hbm, 390, rfl⟩
abbrev main_v97 : Ref sig .tc := ⟨.hbm, 391, rfl⟩
abbrev main_v98 : Ref sig .tc := ⟨.hbm, 392, rfl⟩
abbrev main_cst_26 : Ref sig .tc := ⟨.hbm, 393, rfl⟩
abbrev main_call24_v0 : Ref sig .tc := ⟨.hbm, 394, rfl⟩
abbrev main_call24_v1 : Ref sig .tc := ⟨.hbm, 395, rfl⟩
abbrev main_call24_v2 : Ref sig .tc := ⟨.hbm, 396, rfl⟩
abbrev main_v99 : Ref sig .tc := ⟨.hbm, 397, rfl⟩
abbrev main_v100 : Ref sig .tc := ⟨.hbm, 398, rfl⟩
abbrev main_v101 : Ref sig .tc := ⟨.hbm, 399, rfl⟩
abbrev main_v102 : Ref sig .tc := ⟨.hbm, 400, rfl⟩
abbrev main_v103 : Ref sig .tc := ⟨.hbm, 401, rfl⟩
abbrev main_v104 : Ref sig .tc := ⟨.hbm, 402, rfl⟩
abbrev main_v105 : Ref sig .tc := ⟨.hbm, 403, rfl⟩
abbrev main_c_27 : Ref sig .tc := ⟨.hbm, 404, rfl⟩
abbrev main_v106 : Ref sig .tc := ⟨.hbm, 405, rfl⟩
abbrev main_v107 : Ref sig .tc := ⟨.hbm, 406, rfl⟩
abbrev main_v108 : Ref sig .tc := ⟨.hbm, 407, rfl⟩
abbrev main_v109 : Ref sig .tc := ⟨.hbm, 408, rfl⟩
abbrev main_v110 : Ref sig .tc := ⟨.hbm, 409, rfl⟩
abbrev main_call25_v0 : Ref sig .tc := ⟨.hbm, 410, rfl⟩
abbrev main_v111 : Ref sig .tc := ⟨.hbm, 411, rfl⟩
abbrev main_v112 : Ref sig .tc := ⟨.hbm, 412, rfl⟩
abbrev main_call26_c : Ref sig .tc := ⟨.hbm, 413, rfl⟩
abbrev main_call26_v0 : Ref sig .tc := ⟨.hbm, 414, rfl⟩
abbrev main_call26_v1 : Ref sig .tc := ⟨.hbm, 415, rfl⟩
abbrev main_call26_c_0 : Ref sig .tc := ⟨.hbm, 416, rfl⟩
abbrev main_call26_v2 : Ref sig .tc := ⟨.hbm, 417, rfl⟩
abbrev main_call26_v3 : Ref sig .tc := ⟨.hbm, 418, rfl⟩
abbrev main_call26_v4 : Ref sig .tc := ⟨.hbm, 419, rfl⟩
abbrev main_call26_v5 : Ref sig .tc := ⟨.hbm, 420, rfl⟩
abbrev main_call26_c_1 : Ref sig .tc := ⟨.hbm, 421, rfl⟩
abbrev main_call26_c_2 : Ref sig .tc := ⟨.hbm, 422, rfl⟩
abbrev main_call26_v6 : Ref sig .tc := ⟨.hbm, 423, rfl⟩
abbrev main_call26_v7 : Ref sig .tc := ⟨.hbm, 424, rfl⟩
abbrev main_call26_v8 : Ref sig .tc := ⟨.hbm, 425, rfl⟩
abbrev main_call26_v9 : Ref sig .tc := ⟨.hbm, 426, rfl⟩
abbrev main_call26_v10 : Ref sig .tc := ⟨.hbm, 427, rfl⟩
abbrev main_call26_v11 : Ref sig .tc := ⟨.hbm, 428, rfl⟩
abbrev main_call26_c_3 : Ref sig .tc := ⟨.hbm, 429, rfl⟩
abbrev main_call26_v12 : Ref sig .tc := ⟨.hbm, 430, rfl⟩
abbrev main_call26_v13 : Ref sig .tc := ⟨.hbm, 431, rfl⟩
abbrev main_call26_v14 : Ref sig .tc := ⟨.hbm, 432, rfl⟩
abbrev main_call26_cst : Ref sig .tc := ⟨.hbm, 433, rfl⟩
abbrev main_call26_v15 : Ref sig .tc := ⟨.hbm, 434, rfl⟩
abbrev main_v113 : Ref sig .tc := ⟨.hbm, 435, rfl⟩
abbrev main_v114 : Ref sig .tc := ⟨.hbm, 436, rfl⟩
abbrev main_cst_28 : Ref sig .tc := ⟨.hbm, 437, rfl⟩
abbrev main_v115 : Ref sig .tc := ⟨.hbm, 438, rfl⟩
abbrev main_cst_29 : Ref sig .tc := ⟨.hbm, 439, rfl⟩
abbrev main_v116 : Ref sig .tc := ⟨.hbm, 440, rfl⟩
abbrev main_v117 : Ref sig .tc := ⟨.hbm, 441, rfl⟩
abbrev main_v118 : Ref sig .tc := ⟨.hbm, 442, rfl⟩
abbrev main_v119 : Ref sig .tc := ⟨.hbm, 443, rfl⟩
abbrev main_v120 : Ref sig .tc := ⟨.hbm, 444, rfl⟩
abbrev main_v121 : Ref sig .tc := ⟨.hbm, 445, rfl⟩
abbrev main_v122 : Ref sig .tc := ⟨.hbm, 446, rfl⟩
abbrev main_v123 : Ref sig .tc := ⟨.hbm, 447, rfl⟩
abbrev main_call27_c : Ref sig .tc := ⟨.hbm, 448, rfl⟩
abbrev main_call27_v0 : Ref sig .tc := ⟨.hbm, 449, rfl⟩
abbrev main_call27_v1 : Ref sig .tc := ⟨.hbm, 450, rfl⟩
abbrev main_call27_c_0 : Ref sig .tc := ⟨.hbm, 451, rfl⟩
abbrev main_call27_v2 : Ref sig .tc := ⟨.hbm, 452, rfl⟩
abbrev main_call27_v3 : Ref sig .tc := ⟨.hbm, 453, rfl⟩
abbrev main_call27_v4 : Ref sig .tc := ⟨.hbm, 454, rfl⟩
abbrev main_call27_v5 : Ref sig .tc := ⟨.hbm, 455, rfl⟩
abbrev main_call27_c_1 : Ref sig .tc := ⟨.hbm, 456, rfl⟩
abbrev main_call27_c_2 : Ref sig .tc := ⟨.hbm, 457, rfl⟩
abbrev main_call27_v6 : Ref sig .tc := ⟨.hbm, 458, rfl⟩
abbrev main_call27_v7 : Ref sig .tc := ⟨.hbm, 459, rfl⟩
abbrev main_call27_v8 : Ref sig .tc := ⟨.hbm, 460, rfl⟩
abbrev main_call27_v9 : Ref sig .tc := ⟨.hbm, 461, rfl⟩
abbrev main_call27_v10 : Ref sig .tc := ⟨.hbm, 462, rfl⟩
abbrev main_call27_v11 : Ref sig .tc := ⟨.hbm, 463, rfl⟩
abbrev main_call27_c_3 : Ref sig .tc := ⟨.hbm, 464, rfl⟩
abbrev main_call27_v12 : Ref sig .tc := ⟨.hbm, 465, rfl⟩
abbrev main_call27_v13 : Ref sig .tc := ⟨.hbm, 466, rfl⟩
abbrev main_call27_c_4 : Ref sig .tc := ⟨.hbm, 467, rfl⟩
abbrev main_call27_v14 : Ref sig .tc := ⟨.hbm, 468, rfl⟩
abbrev main_v124 : Ref sig .tc := ⟨.hbm, 469, rfl⟩
abbrev main_v125 : Ref sig .tc := ⟨.hbm, 470, rfl⟩
abbrev main_cst_30 : Ref sig .tc := ⟨.hbm, 471, rfl⟩
abbrev main_v126 : Ref sig .tc := ⟨.hbm, 472, rfl⟩
abbrev main_v127 : Ref sig .tc := ⟨.hbm, 473, rfl⟩
abbrev main_cst_31 : Ref sig .tc := ⟨.hbm, 474, rfl⟩
abbrev main_call28_v0 : Ref sig .tc := ⟨.hbm, 475, rfl⟩
abbrev main_call28_v1 : Ref sig .tc := ⟨.hbm, 476, rfl⟩
abbrev main_v128 : Ref sig .tc := ⟨.hbm, 477, rfl⟩
abbrev main_cst_32 : Ref sig .tc := ⟨.hbm, 478, rfl⟩
abbrev main_v129 : Ref sig .tc := ⟨.hbm, 479, rfl⟩
abbrev main_v130 : Ref sig .tc := ⟨.hbm, 480, rfl⟩
abbrev main_cst_33 : Ref sig .tc := ⟨.hbm, 481, rfl⟩
abbrev main_call29_v0 : Ref sig .tc := ⟨.hbm, 482, rfl⟩
abbrev main_call29_v1 : Ref sig .tc := ⟨.hbm, 483, rfl⟩
abbrev main_v131 : Ref sig .tc := ⟨.hbm, 484, rfl⟩
abbrev main_v132 : Ref sig .tc := ⟨.hbm, 485, rfl⟩
abbrev main_cst_34 : Ref sig .tc := ⟨.hbm, 486, rfl⟩
abbrev main_call30_v0 : Ref sig .tc := ⟨.hbm, 487, rfl⟩
abbrev main_call30_v1 : Ref sig .tc := ⟨.hbm, 488, rfl⟩
abbrev main_call30_v2 : Ref sig .tc := ⟨.hbm, 489, rfl⟩
abbrev main_v133 : Ref sig .tc := ⟨.hbm, 490, rfl⟩
abbrev main_cst_35 : Ref sig .tc := ⟨.hbm, 491, rfl⟩
abbrev main_v134 : Ref sig .tc := ⟨.hbm, 492, rfl⟩
abbrev main_v135 : Ref sig .tc := ⟨.hbm, 493, rfl⟩
abbrev main_v136 : Ref sig .tc := ⟨.hbm, 494, rfl⟩
abbrev main_cst_36 : Ref sig .tc := ⟨.hbm, 495, rfl⟩
abbrev main_v137 : Ref sig .tc := ⟨.hbm, 496, rfl⟩
abbrev main_v138 : Ref sig .tc := ⟨.hbm, 497, rfl⟩
abbrev main_cst_37 : Ref sig .tc := ⟨.hbm, 498, rfl⟩
abbrev main_call31_v0 : Ref sig .tc := ⟨.hbm, 499, rfl⟩
abbrev main_call31_v1 : Ref sig .tc := ⟨.hbm, 500, rfl⟩
abbrev main_v139 : Ref sig .tc := ⟨.hbm, 501, rfl⟩
abbrev main_call32_c : Ref sig .tc := ⟨.hbm, 502, rfl⟩
abbrev main_call32_v0 : Ref sig .tc := ⟨.hbm, 503, rfl⟩
abbrev main_call32_v1 : Ref sig .tc := ⟨.hbm, 504, rfl⟩
abbrev main_call32_c_0 : Ref sig .tc := ⟨.hbm, 505, rfl⟩
abbrev main_call32_v2 : Ref sig .tc := ⟨.hbm, 506, rfl⟩
abbrev main_call32_v3 : Ref sig .tc := ⟨.hbm, 507, rfl⟩
abbrev main_call32_v4 : Ref sig .tc := ⟨.hbm, 508, rfl⟩
abbrev main_call32_v5 : Ref sig .tc := ⟨.hbm, 509, rfl⟩
abbrev main_call32_c_1 : Ref sig .tc := ⟨.hbm, 510, rfl⟩
abbrev main_call32_c_2 : Ref sig .tc := ⟨.hbm, 511, rfl⟩
abbrev main_call32_v6 : Ref sig .tc := ⟨.hbm, 512, rfl⟩
abbrev main_call32_v7 : Ref sig .tc := ⟨.hbm, 513, rfl⟩
abbrev main_call32_v8 : Ref sig .tc := ⟨.hbm, 514, rfl⟩
abbrev main_call32_v9 : Ref sig .tc := ⟨.hbm, 515, rfl⟩
abbrev main_call32_v10 : Ref sig .tc := ⟨.hbm, 516, rfl⟩
abbrev main_call32_v11 : Ref sig .tc := ⟨.hbm, 517, rfl⟩
abbrev main_call32_c_3 : Ref sig .tc := ⟨.hbm, 518, rfl⟩
abbrev main_call32_v12 : Ref sig .tc := ⟨.hbm, 519, rfl⟩
abbrev main_call32_v13 : Ref sig .tc := ⟨.hbm, 520, rfl⟩
abbrev main_call32_cst : Ref sig .tc := ⟨.hbm, 521, rfl⟩
abbrev main_call32_v14 : Ref sig .tc := ⟨.hbm, 522, rfl⟩
abbrev main_v140 : Ref sig .tc := ⟨.hbm, 523, rfl⟩
abbrev main_v141 : Ref sig .tc := ⟨.hbm, 524, rfl⟩
abbrev main_v142 : Ref sig .tc := ⟨.hbm, 525, rfl⟩
abbrev main_v143 : Ref sig .tc := ⟨.hbm, 526, rfl⟩
abbrev main_v144 : Ref sig .tc := ⟨.hbm, 527, rfl⟩
abbrev main_cst_38 : Ref sig .tc := ⟨.hbm, 528, rfl⟩
abbrev main_v145 : Ref sig .tc := ⟨.hbm, 529, rfl⟩
abbrev main_v146 : Ref sig .tc := ⟨.hbm, 530, rfl⟩
abbrev main_v147 : Ref sig .tc := ⟨.hbm, 531, rfl⟩
abbrev main_v148 : Ref sig .tc := ⟨.hbm, 532, rfl⟩
abbrev main_v149 : Ref sig .tc := ⟨.hbm, 533, rfl⟩
abbrev main_v150 : Ref sig .tc := ⟨.hbm, 534, rfl⟩
abbrev main_cst_39 : Ref sig .tc := ⟨.hbm, 535, rfl⟩
abbrev main_v151 : Ref sig .tc := ⟨.hbm, 536, rfl⟩
abbrev main_v152 : Ref sig .tc := ⟨.hbm, 537, rfl⟩
abbrev main_v153 : Ref sig .tc := ⟨.hbm, 538, rfl⟩
abbrev main_v154 : Ref sig .tc := ⟨.hbm, 539, rfl⟩
abbrev main_call33_c : Ref sig .tc := ⟨.hbm, 540, rfl⟩
abbrev main_call33_v0 : Ref sig .tc := ⟨.hbm, 541, rfl⟩
abbrev main_call33_v1 : Ref sig .tc := ⟨.hbm, 542, rfl⟩
abbrev main_call33_c_0 : Ref sig .tc := ⟨.hbm, 543, rfl⟩
abbrev main_call33_v2 : Ref sig .tc := ⟨.hbm, 544, rfl⟩
abbrev main_call33_v3 : Ref sig .tc := ⟨.hbm, 545, rfl⟩
abbrev main_call33_v4 : Ref sig .tc := ⟨.hbm, 546, rfl⟩
abbrev main_call33_v5 : Ref sig .tc := ⟨.hbm, 547, rfl⟩
abbrev main_call33_c_1 : Ref sig .tc := ⟨.hbm, 548, rfl⟩
abbrev main_call33_c_2 : Ref sig .tc := ⟨.hbm, 549, rfl⟩
abbrev main_call33_v6 : Ref sig .tc := ⟨.hbm, 550, rfl⟩
abbrev main_call33_v7 : Ref sig .tc := ⟨.hbm, 551, rfl⟩
abbrev main_call33_v8 : Ref sig .tc := ⟨.hbm, 552, rfl⟩
abbrev main_call33_v9 : Ref sig .tc := ⟨.hbm, 553, rfl⟩
abbrev main_call33_v10 : Ref sig .tc := ⟨.hbm, 554, rfl⟩
abbrev main_call33_v11 : Ref sig .tc := ⟨.hbm, 555, rfl⟩
abbrev main_call33_c_3 : Ref sig .tc := ⟨.hbm, 556, rfl⟩
abbrev main_call33_v12 : Ref sig .tc := ⟨.hbm, 557, rfl⟩
abbrev main_call33_v13 : Ref sig .tc := ⟨.hbm, 558, rfl⟩
abbrev main_call33_cst : Ref sig .tc := ⟨.hbm, 559, rfl⟩
abbrev main_call33_v14 : Ref sig .tc := ⟨.hbm, 560, rfl⟩
abbrev main_v155 : Ref sig .tc := ⟨.hbm, 561, rfl⟩
abbrev main_v156 : Ref sig .tc := ⟨.hbm, 562, rfl⟩
abbrev main_v157 : Ref sig .tc := ⟨.hbm, 563, rfl⟩
abbrev main_call34_c : Ref sig .tc := ⟨.hbm, 564, rfl⟩
abbrev main_call34_v0 : Ref sig .tc := ⟨.hbm, 565, rfl⟩
abbrev main_call34_v1 : Ref sig .tc := ⟨.hbm, 566, rfl⟩
abbrev main_call34_c_0 : Ref sig .tc := ⟨.hbm, 567, rfl⟩
abbrev main_call34_v2 : Ref sig .tc := ⟨.hbm, 568, rfl⟩
abbrev main_call34_v3 : Ref sig .tc := ⟨.hbm, 569, rfl⟩
abbrev main_call34_v4 : Ref sig .tc := ⟨.hbm, 570, rfl⟩
abbrev main_call34_v5 : Ref sig .tc := ⟨.hbm, 571, rfl⟩
abbrev main_call34_c_1 : Ref sig .tc := ⟨.hbm, 572, rfl⟩
abbrev main_call34_c_2 : Ref sig .tc := ⟨.hbm, 573, rfl⟩
abbrev main_call34_v6 : Ref sig .tc := ⟨.hbm, 574, rfl⟩
abbrev main_call34_v7 : Ref sig .tc := ⟨.hbm, 575, rfl⟩
abbrev main_call34_v8 : Ref sig .tc := ⟨.hbm, 576, rfl⟩
abbrev main_call34_v9 : Ref sig .tc := ⟨.hbm, 577, rfl⟩
abbrev main_call34_v10 : Ref sig .tc := ⟨.hbm, 578, rfl⟩
abbrev main_call34_v11 : Ref sig .tc := ⟨.hbm, 579, rfl⟩
abbrev main_call34_c_3 : Ref sig .tc := ⟨.hbm, 580, rfl⟩
abbrev main_call34_v12 : Ref sig .tc := ⟨.hbm, 581, rfl⟩
abbrev main_call34_v13 : Ref sig .tc := ⟨.hbm, 582, rfl⟩
abbrev main_call34_cst : Ref sig .tc := ⟨.hbm, 583, rfl⟩
abbrev main_call34_v14 : Ref sig .tc := ⟨.hbm, 584, rfl⟩
abbrev main_v158 : Ref sig .tc := ⟨.hbm, 585, rfl⟩
abbrev main_v159 : Ref sig .tc := ⟨.hbm, 586, rfl⟩
abbrev main_c_40 : Ref sig .tc := ⟨.hbm, 587, rfl⟩
abbrev main_call35_v0 : Ref sig .tc := ⟨.hbm, 588, rfl⟩
abbrev main_call35_v1 : Ref sig .tc := ⟨.hbm, 589, rfl⟩
abbrev main_v160 : Ref sig .tc := ⟨.hbm, 590, rfl⟩
abbrev main_c_41 : Ref sig .tc := ⟨.hbm, 591, rfl⟩
abbrev main_v161 : Ref sig .tc := ⟨.hbm, 592, rfl⟩
abbrev main_v162 : Ref sig .tc := ⟨.hbm, 593, rfl⟩
abbrev main_v163 : Ref sig .tc := ⟨.hbm, 594, rfl⟩
abbrev main_c_42 : Ref sig .tc := ⟨.hbm, 595, rfl⟩
abbrev main_c_43 : Ref sig .tc := ⟨.hbm, 596, rfl⟩
abbrev main_call36_v0 : Ref sig .tc := ⟨.hbm, 597, rfl⟩
abbrev main_call36_v1 : Ref sig .tc := ⟨.hbm, 598, rfl⟩
abbrev main_call36_v2 : Ref sig .tc := ⟨.hbm, 599, rfl⟩
abbrev main_call36_v3 : Ref sig .tc := ⟨.hbm, 600, rfl⟩
abbrev main_call36_v4 : Ref sig .tc := ⟨.hbm, 601, rfl⟩
abbrev main_v164 : Ref sig .tc := ⟨.hbm, 602, rfl⟩
abbrev main_cst_44 : Ref sig .tc := ⟨.hbm, 603, rfl⟩
abbrev main_v165 : Ref sig .tc := ⟨.hbm, 604, rfl⟩
abbrev main_v166 : Ref sig .tc := ⟨.hbm, 605, rfl⟩
abbrev main_cst_45 : Ref sig .tc := ⟨.hbm, 606, rfl⟩
abbrev main_call37_v0 : Ref sig .tc := ⟨.hbm, 607, rfl⟩
abbrev main_call37_v1 : Ref sig .tc := ⟨.hbm, 608, rfl⟩
abbrev main_v167 : Ref sig .tc := ⟨.hbm, 609, rfl⟩
abbrev main_v168 : Ref sig .tc := ⟨.hbm, 610, rfl⟩
abbrev main_v169 : Ref sig .tc := ⟨.hbm, 611, rfl⟩
abbrev main_v170 : Ref sig .tc := ⟨.hbm, 612, rfl⟩
abbrev main_c_46 : Ref sig .tc := ⟨.hbm, 613, rfl⟩
abbrev main_call38_v0 : Ref sig .tc := ⟨.hbm, 614, rfl⟩
abbrev main_call38_v1 : Ref sig .tc := ⟨.hbm, 615, rfl⟩
abbrev main_v171 : Ref sig .tc := ⟨.hbm, 616, rfl⟩
abbrev main_call39_c : Ref sig .tc := ⟨.hbm, 617, rfl⟩
abbrev main_call39_v0 : Ref sig .tc := ⟨.hbm, 618, rfl⟩
abbrev main_call39_v1 : Ref sig .tc := ⟨.hbm, 619, rfl⟩
abbrev main_call39_c_0 : Ref sig .tc := ⟨.hbm, 620, rfl⟩
abbrev main_call39_v2 : Ref sig .tc := ⟨.hbm, 621, rfl⟩
abbrev main_call39_v3 : Ref sig .tc := ⟨.hbm, 622, rfl⟩
abbrev main_call39_v4 : Ref sig .tc := ⟨.hbm, 623, rfl⟩
abbrev main_call39_v5 : Ref sig .tc := ⟨.hbm, 624, rfl⟩
abbrev main_call39_c_1 : Ref sig .tc := ⟨.hbm, 625, rfl⟩
abbrev main_call39_c_2 : Ref sig .tc := ⟨.hbm, 626, rfl⟩
abbrev main_call39_v6 : Ref sig .tc := ⟨.hbm, 627, rfl⟩
abbrev main_call39_v7 : Ref sig .tc := ⟨.hbm, 628, rfl⟩
abbrev main_call39_v8 : Ref sig .tc := ⟨.hbm, 629, rfl⟩
abbrev main_call39_v9 : Ref sig .tc := ⟨.hbm, 630, rfl⟩
abbrev main_call39_v10 : Ref sig .tc := ⟨.hbm, 631, rfl⟩
abbrev main_call39_v11 : Ref sig .tc := ⟨.hbm, 632, rfl⟩
abbrev main_call39_c_3 : Ref sig .tc := ⟨.hbm, 633, rfl⟩
abbrev main_call39_v12 : Ref sig .tc := ⟨.hbm, 634, rfl⟩
abbrev main_call39_v13 : Ref sig .tc := ⟨.hbm, 635, rfl⟩
abbrev main_call39_cst : Ref sig .tc := ⟨.hbm, 636, rfl⟩
abbrev main_call39_v14 : Ref sig .tc := ⟨.hbm, 637, rfl⟩
abbrev main_v172 : Ref sig .tc := ⟨.hbm, 638, rfl⟩
abbrev main_v173 : Ref sig .tc := ⟨.hbm, 639, rfl⟩
abbrev main_c_47 : Ref sig .tc := ⟨.hbm, 640, rfl⟩
abbrev main_call41_v0 : Ref sig .tc := ⟨.hbm, 641, rfl⟩
abbrev main_call41_v1 : Ref sig .tc := ⟨.hbm, 642, rfl⟩
abbrev main_v174 : Ref sig .tc := ⟨.hbm, 643, rfl⟩
abbrev main_cst_48 : Ref sig .tc := ⟨.hbm, 644, rfl⟩
abbrev main_call42_v0 : Ref sig .tc := ⟨.hbm, 645, rfl⟩
abbrev main_call42_v1 : Ref sig .tc := ⟨.hbm, 646, rfl⟩
abbrev main_v175 : Ref sig .tc := ⟨.hbm, 647, rfl⟩
abbrev main_c_49 : Ref sig .tc := ⟨.hbm, 648, rfl⟩
abbrev main_c_50 : Ref sig .tc := ⟨.hbm, 649, rfl⟩
abbrev main_call43_v0 : Ref sig .tc := ⟨.hbm, 650, rfl⟩
abbrev main_call43_v1 : Ref sig .tc := ⟨.hbm, 651, rfl⟩
abbrev main_call43_v2 : Ref sig .tc := ⟨.hbm, 652, rfl⟩
abbrev main_call43_v3 : Ref sig .tc := ⟨.hbm, 653, rfl⟩
abbrev main_call43_v4 : Ref sig .tc := ⟨.hbm, 654, rfl⟩
abbrev main_v176 : Ref sig .tc := ⟨.hbm, 655, rfl⟩
abbrev main_call44_c : Ref sig .tc := ⟨.hbm, 656, rfl⟩
abbrev main_call44_v0 : Ref sig .tc := ⟨.hbm, 657, rfl⟩
abbrev main_call44_v1 : Ref sig .tc := ⟨.hbm, 658, rfl⟩
abbrev main_call44_c_0 : Ref sig .tc := ⟨.hbm, 659, rfl⟩
abbrev main_call44_v2 : Ref sig .tc := ⟨.hbm, 660, rfl⟩
abbrev main_call44_v3 : Ref sig .tc := ⟨.hbm, 661, rfl⟩
abbrev main_call44_v4 : Ref sig .tc := ⟨.hbm, 662, rfl⟩
abbrev main_call44_v5 : Ref sig .tc := ⟨.hbm, 663, rfl⟩
abbrev main_call44_c_1 : Ref sig .tc := ⟨.hbm, 664, rfl⟩
abbrev main_call44_c_2 : Ref sig .tc := ⟨.hbm, 665, rfl⟩
abbrev main_call44_v6 : Ref sig .tc := ⟨.hbm, 666, rfl⟩
abbrev main_call44_v7 : Ref sig .tc := ⟨.hbm, 667, rfl⟩
abbrev main_call44_v8 : Ref sig .tc := ⟨.hbm, 668, rfl⟩
abbrev main_call44_v9 : Ref sig .tc := ⟨.hbm, 669, rfl⟩
abbrev main_call44_v10 : Ref sig .tc := ⟨.hbm, 670, rfl⟩
abbrev main_call44_v11 : Ref sig .tc := ⟨.hbm, 671, rfl⟩
abbrev main_call44_c_3 : Ref sig .tc := ⟨.hbm, 672, rfl⟩
abbrev main_call44_v12 : Ref sig .tc := ⟨.hbm, 673, rfl⟩
abbrev main_call44_v13 : Ref sig .tc := ⟨.hbm, 674, rfl⟩
abbrev main_call44_v14 : Ref sig .tc := ⟨.hbm, 675, rfl⟩
abbrev main_call44_cst : Ref sig .tc := ⟨.hbm, 676, rfl⟩
abbrev main_call44_v15 : Ref sig .tc := ⟨.hbm, 677, rfl⟩
abbrev main_v177 : Ref sig .tc := ⟨.hbm, 678, rfl⟩
abbrev main_c_51 : Ref sig .tc := ⟨.hbm, 679, rfl⟩
abbrev main_v178 : Ref sig .tc := ⟨.hbm, 680, rfl⟩
abbrev main_v179 : Ref sig .tc := ⟨.hbm, 681, rfl⟩
abbrev main_v180 : Ref sig .tc := ⟨.hbm, 682, rfl⟩
abbrev main_cst_52 : Ref sig .tc := ⟨.hbm, 683, rfl⟩
abbrev main_call45_v0 : Ref sig .tc := ⟨.hbm, 684, rfl⟩
abbrev main_call45_v1 : Ref sig .tc := ⟨.hbm, 685, rfl⟩
abbrev main_call45_v2 : Ref sig .tc := ⟨.hbm, 686, rfl⟩
abbrev main_v181 : Ref sig .tc := ⟨.hbm, 687, rfl⟩
abbrev main_v182 : Ref sig .tc := ⟨.hbm, 688, rfl⟩
abbrev main_v183 : Ref sig .tc := ⟨.hbm, 689, rfl⟩
abbrev main_v184 : Ref sig .tc := ⟨.hbm, 690, rfl⟩
abbrev main_v185 : Ref sig .tc := ⟨.hbm, 691, rfl⟩
abbrev main_v186 : Ref sig .tc := ⟨.hbm, 692, rfl⟩
abbrev main_v187 : Ref sig .tc := ⟨.hbm, 693, rfl⟩
abbrev main_c_53 : Ref sig .tc := ⟨.hbm, 694, rfl⟩
abbrev main_v188 : Ref sig .tc := ⟨.hbm, 695, rfl⟩
abbrev main_v189 : Ref sig .tc := ⟨.hbm, 696, rfl⟩
abbrev main_v190 : Ref sig .tc := ⟨.hbm, 697, rfl⟩
abbrev main_v191 : Ref sig .tc := ⟨.hbm, 698, rfl⟩
abbrev main_v192 : Ref sig .tc := ⟨.hbm, 699, rfl⟩
abbrev main_call46_v0 : Ref sig .tc := ⟨.hbm, 700, rfl⟩
abbrev main_v193 : Ref sig .tc := ⟨.hbm, 701, rfl⟩
abbrev main_v194 : Ref sig .tc := ⟨.hbm, 702, rfl⟩
abbrev main_call47_c : Ref sig .tc := ⟨.hbm, 703, rfl⟩
abbrev main_call47_v0 : Ref sig .tc := ⟨.hbm, 704, rfl⟩
abbrev main_call47_v1 : Ref sig .tc := ⟨.hbm, 705, rfl⟩
abbrev main_call47_c_0 : Ref sig .tc := ⟨.hbm, 706, rfl⟩
abbrev main_call47_v2 : Ref sig .tc := ⟨.hbm, 707, rfl⟩
abbrev main_call47_v3 : Ref sig .tc := ⟨.hbm, 708, rfl⟩
abbrev main_call47_v4 : Ref sig .tc := ⟨.hbm, 709, rfl⟩
abbrev main_call47_v5 : Ref sig .tc := ⟨.hbm, 710, rfl⟩
abbrev main_call47_c_1 : Ref sig .tc := ⟨.hbm, 711, rfl⟩
abbrev main_call47_c_2 : Ref sig .tc := ⟨.hbm, 712, rfl⟩
abbrev main_call47_v6 : Ref sig .tc := ⟨.hbm, 713, rfl⟩
abbrev main_call47_v7 : Ref sig .tc := ⟨.hbm, 714, rfl⟩
abbrev main_call47_v8 : Ref sig .tc := ⟨.hbm, 715, rfl⟩
abbrev main_call47_v9 : Ref sig .tc := ⟨.hbm, 716, rfl⟩
abbrev main_call47_v10 : Ref sig .tc := ⟨.hbm, 717, rfl⟩
abbrev main_call47_v11 : Ref sig .tc := ⟨.hbm, 718, rfl⟩
abbrev main_call47_c_3 : Ref sig .tc := ⟨.hbm, 719, rfl⟩
abbrev main_call47_v12 : Ref sig .tc := ⟨.hbm, 720, rfl⟩
abbrev main_call47_v13 : Ref sig .tc := ⟨.hbm, 721, rfl⟩
abbrev main_call47_v14 : Ref sig .tc := ⟨.hbm, 722, rfl⟩
abbrev main_call47_cst : Ref sig .tc := ⟨.hbm, 723, rfl⟩
abbrev main_call47_v15 : Ref sig .tc := ⟨.hbm, 724, rfl⟩
abbrev main_v195 : Ref sig .tc := ⟨.hbm, 725, rfl⟩
abbrev main_v196 : Ref sig .tc := ⟨.hbm, 726, rfl⟩
abbrev main_cst_54 : Ref sig .tc := ⟨.hbm, 727, rfl⟩
abbrev main_v197 : Ref sig .tc := ⟨.hbm, 728, rfl⟩
abbrev main_cst_55 : Ref sig .tc := ⟨.hbm, 729, rfl⟩
abbrev main_v198 : Ref sig .tc := ⟨.hbm, 730, rfl⟩
abbrev main_v199 : Ref sig .tc := ⟨.hbm, 731, rfl⟩
abbrev main_v200 : Ref sig .tc := ⟨.hbm, 732, rfl⟩
abbrev main_v201 : Ref sig .tc := ⟨.hbm, 733, rfl⟩
abbrev main_v202 : Ref sig .tc := ⟨.hbm, 734, rfl⟩
abbrev main_v203 : Ref sig .tc := ⟨.hbm, 735, rfl⟩
abbrev main_v204 : Ref sig .tc := ⟨.hbm, 736, rfl⟩
abbrev main_v205 : Ref sig .tc := ⟨.hbm, 737, rfl⟩
abbrev main_call48_c : Ref sig .tc := ⟨.hbm, 738, rfl⟩
abbrev main_call48_v0 : Ref sig .tc := ⟨.hbm, 739, rfl⟩
abbrev main_call48_v1 : Ref sig .tc := ⟨.hbm, 740, rfl⟩
abbrev main_call48_c_0 : Ref sig .tc := ⟨.hbm, 741, rfl⟩
abbrev main_call48_v2 : Ref sig .tc := ⟨.hbm, 742, rfl⟩
abbrev main_call48_v3 : Ref sig .tc := ⟨.hbm, 743, rfl⟩
abbrev main_call48_v4 : Ref sig .tc := ⟨.hbm, 744, rfl⟩
abbrev main_call48_v5 : Ref sig .tc := ⟨.hbm, 745, rfl⟩
abbrev main_call48_c_1 : Ref sig .tc := ⟨.hbm, 746, rfl⟩
abbrev main_call48_c_2 : Ref sig .tc := ⟨.hbm, 747, rfl⟩
abbrev main_call48_v6 : Ref sig .tc := ⟨.hbm, 748, rfl⟩
abbrev main_call48_v7 : Ref sig .tc := ⟨.hbm, 749, rfl⟩
abbrev main_call48_v8 : Ref sig .tc := ⟨.hbm, 750, rfl⟩
abbrev main_call48_v9 : Ref sig .tc := ⟨.hbm, 751, rfl⟩
abbrev main_call48_v10 : Ref sig .tc := ⟨.hbm, 752, rfl⟩
abbrev main_call48_v11 : Ref sig .tc := ⟨.hbm, 753, rfl⟩
abbrev main_call48_c_3 : Ref sig .tc := ⟨.hbm, 754, rfl⟩
abbrev main_call48_v12 : Ref sig .tc := ⟨.hbm, 755, rfl⟩
abbrev main_call48_v13 : Ref sig .tc := ⟨.hbm, 756, rfl⟩
abbrev main_call48_c_4 : Ref sig .tc := ⟨.hbm, 757, rfl⟩
abbrev main_call48_v14 : Ref sig .tc := ⟨.hbm, 758, rfl⟩
abbrev main_v206 : Ref sig .tc := ⟨.hbm, 759, rfl⟩
abbrev main_v207 : Ref sig .tc := ⟨.hbm, 760, rfl⟩
abbrev main_cst_56 : Ref sig .tc := ⟨.hbm, 761, rfl⟩
abbrev main_v208 : Ref sig .tc := ⟨.hbm, 762, rfl⟩
abbrev main_v209 : Ref sig .tc := ⟨.hbm, 763, rfl⟩
abbrev main_cst_57 : Ref sig .tc := ⟨.hbm, 764, rfl⟩
abbrev main_call49_v0 : Ref sig .tc := ⟨.hbm, 765, rfl⟩
abbrev main_call49_v1 : Ref sig .tc := ⟨.hbm, 766, rfl⟩
abbrev main_v210 : Ref sig .tc := ⟨.hbm, 767, rfl⟩
abbrev main_cst_58 : Ref sig .tc := ⟨.hbm, 768, rfl⟩
abbrev main_v211 : Ref sig .tc := ⟨.hbm, 769, rfl⟩
abbrev main_v212 : Ref sig .tc := ⟨.hbm, 770, rfl⟩
abbrev main_cst_59 : Ref sig .tc := ⟨.hbm, 771, rfl⟩
abbrev main_call50_v0 : Ref sig .tc := ⟨.hbm, 772, rfl⟩
abbrev main_call50_v1 : Ref sig .tc := ⟨.hbm, 773, rfl⟩
abbrev main_v213 : Ref sig .tc := ⟨.hbm, 774, rfl⟩
abbrev main_v214 : Ref sig .tc := ⟨.hbm, 775, rfl⟩
abbrev main_cst_60 : Ref sig .tc := ⟨.hbm, 776, rfl⟩
abbrev main_call51_v0 : Ref sig .tc := ⟨.hbm, 777, rfl⟩
abbrev main_call51_v1 : Ref sig .tc := ⟨.hbm, 778, rfl⟩
abbrev main_call51_v2 : Ref sig .tc := ⟨.hbm, 779, rfl⟩
abbrev main_v215 : Ref sig .tc := ⟨.hbm, 780, rfl⟩
abbrev main_cst_61 : Ref sig .tc := ⟨.hbm, 781, rfl⟩
abbrev main_v216 : Ref sig .tc := ⟨.hbm, 782, rfl⟩
abbrev main_v217 : Ref sig .tc := ⟨.hbm, 783, rfl⟩
abbrev main_v218 : Ref sig .tc := ⟨.hbm, 784, rfl⟩
abbrev main_cst_62 : Ref sig .tc := ⟨.hbm, 785, rfl⟩
abbrev main_v219 : Ref sig .tc := ⟨.hbm, 786, rfl⟩
abbrev main_v220 : Ref sig .tc := ⟨.hbm, 787, rfl⟩
abbrev main_cst_63 : Ref sig .tc := ⟨.hbm, 788, rfl⟩
abbrev main_call52_v0 : Ref sig .tc := ⟨.hbm, 789, rfl⟩
abbrev main_call52_v1 : Ref sig .tc := ⟨.hbm, 790, rfl⟩
abbrev main_v221 : Ref sig .tc := ⟨.hbm, 791, rfl⟩
abbrev main_call53_c : Ref sig .tc := ⟨.hbm, 792, rfl⟩
abbrev main_call53_v0 : Ref sig .tc := ⟨.hbm, 793, rfl⟩
abbrev main_call53_v1 : Ref sig .tc := ⟨.hbm, 794, rfl⟩
abbrev main_call53_c_0 : Ref sig .tc := ⟨.hbm, 795, rfl⟩
abbrev main_call53_v2 : Ref sig .tc := ⟨.hbm, 796, rfl⟩
abbrev main_call53_v3 : Ref sig .tc := ⟨.hbm, 797, rfl⟩
abbrev main_call53_v4 : Ref sig .tc := ⟨.hbm, 798, rfl⟩
abbrev main_call53_v5 : Ref sig .tc := ⟨.hbm, 799, rfl⟩
abbrev main_call53_c_1 : Ref sig .tc := ⟨.hbm, 800, rfl⟩
abbrev main_call53_c_2 : Ref sig .tc := ⟨.hbm, 801, rfl⟩
abbrev main_call53_v6 : Ref sig .tc := ⟨.hbm, 802, rfl⟩
abbrev main_call53_v7 : Ref sig .tc := ⟨.hbm, 803, rfl⟩
abbrev main_call53_v8 : Ref sig .tc := ⟨.hbm, 804, rfl⟩
abbrev main_call53_v9 : Ref sig .tc := ⟨.hbm, 805, rfl⟩
abbrev main_call53_v10 : Ref sig .tc := ⟨.hbm, 806, rfl⟩
abbrev main_call53_v11 : Ref sig .tc := ⟨.hbm, 807, rfl⟩
abbrev main_call53_c_3 : Ref sig .tc := ⟨.hbm, 808, rfl⟩
abbrev main_call53_v12 : Ref sig .tc := ⟨.hbm, 809, rfl⟩
abbrev main_call53_v13 : Ref sig .tc := ⟨.hbm, 810, rfl⟩
abbrev main_call53_cst : Ref sig .tc := ⟨.hbm, 811, rfl⟩
abbrev main_call53_v14 : Ref sig .tc := ⟨.hbm, 812, rfl⟩
abbrev main_v222 : Ref sig .tc := ⟨.hbm, 813, rfl⟩
abbrev main_v223 : Ref sig .tc := ⟨.hbm, 814, rfl⟩
abbrev main_v224 : Ref sig .tc := ⟨.hbm, 815, rfl⟩
abbrev main_v225 : Ref sig .tc := ⟨.hbm, 816, rfl⟩
abbrev main_v226 : Ref sig .tc := ⟨.hbm, 817, rfl⟩
abbrev main_cst_64 : Ref sig .tc := ⟨.hbm, 818, rfl⟩
abbrev main_v227 : Ref sig .tc := ⟨.hbm, 819, rfl⟩
abbrev main_v228 : Ref sig .tc := ⟨.hbm, 820, rfl⟩
abbrev main_v229 : Ref sig .tc := ⟨.hbm, 821, rfl⟩
abbrev main_v230 : Ref sig .tc := ⟨.hbm, 822, rfl⟩
abbrev main_v231 : Ref sig .tc := ⟨.hbm, 823, rfl⟩
abbrev main_v232 : Ref sig .tc := ⟨.hbm, 824, rfl⟩
abbrev main_cst_65 : Ref sig .tc := ⟨.hbm, 825, rfl⟩
abbrev main_v233 : Ref sig .tc := ⟨.hbm, 826, rfl⟩
abbrev main_v234 : Ref sig .tc := ⟨.hbm, 827, rfl⟩
abbrev main_v235 : Ref sig .tc := ⟨.hbm, 828, rfl⟩
abbrev main_v236 : Ref sig .tc := ⟨.hbm, 829, rfl⟩
abbrev main_call54_c : Ref sig .tc := ⟨.hbm, 830, rfl⟩
abbrev main_call54_v0 : Ref sig .tc := ⟨.hbm, 831, rfl⟩
abbrev main_call54_v1 : Ref sig .tc := ⟨.hbm, 832, rfl⟩
abbrev main_call54_c_0 : Ref sig .tc := ⟨.hbm, 833, rfl⟩
abbrev main_call54_v2 : Ref sig .tc := ⟨.hbm, 834, rfl⟩
abbrev main_call54_v3 : Ref sig .tc := ⟨.hbm, 835, rfl⟩
abbrev main_call54_v4 : Ref sig .tc := ⟨.hbm, 836, rfl⟩
abbrev main_call54_v5 : Ref sig .tc := ⟨.hbm, 837, rfl⟩
abbrev main_call54_c_1 : Ref sig .tc := ⟨.hbm, 838, rfl⟩
abbrev main_call54_c_2 : Ref sig .tc := ⟨.hbm, 839, rfl⟩
abbrev main_call54_v6 : Ref sig .tc := ⟨.hbm, 840, rfl⟩
abbrev main_call54_v7 : Ref sig .tc := ⟨.hbm, 841, rfl⟩
abbrev main_call54_v8 : Ref sig .tc := ⟨.hbm, 842, rfl⟩
abbrev main_call54_v9 : Ref sig .tc := ⟨.hbm, 843, rfl⟩
abbrev main_call54_v10 : Ref sig .tc := ⟨.hbm, 844, rfl⟩
abbrev main_call54_v11 : Ref sig .tc := ⟨.hbm, 845, rfl⟩
abbrev main_call54_c_3 : Ref sig .tc := ⟨.hbm, 846, rfl⟩
abbrev main_call54_v12 : Ref sig .tc := ⟨.hbm, 847, rfl⟩
abbrev main_call54_v13 : Ref sig .tc := ⟨.hbm, 848, rfl⟩
abbrev main_call54_cst : Ref sig .tc := ⟨.hbm, 849, rfl⟩
abbrev main_call54_v14 : Ref sig .tc := ⟨.hbm, 850, rfl⟩
abbrev main_v237 : Ref sig .tc := ⟨.hbm, 851, rfl⟩
abbrev main_v238 : Ref sig .tc := ⟨.hbm, 852, rfl⟩
abbrev main_v239 : Ref sig .tc := ⟨.hbm, 853, rfl⟩
abbrev main_call55_c : Ref sig .tc := ⟨.hbm, 854, rfl⟩
abbrev main_call55_v0 : Ref sig .tc := ⟨.hbm, 855, rfl⟩
abbrev main_call55_v1 : Ref sig .tc := ⟨.hbm, 856, rfl⟩
abbrev main_call55_c_0 : Ref sig .tc := ⟨.hbm, 857, rfl⟩
abbrev main_call55_v2 : Ref sig .tc := ⟨.hbm, 858, rfl⟩
abbrev main_call55_v3 : Ref sig .tc := ⟨.hbm, 859, rfl⟩
abbrev main_call55_v4 : Ref sig .tc := ⟨.hbm, 860, rfl⟩
abbrev main_call55_v5 : Ref sig .tc := ⟨.hbm, 861, rfl⟩
abbrev main_call55_c_1 : Ref sig .tc := ⟨.hbm, 862, rfl⟩
abbrev main_call55_c_2 : Ref sig .tc := ⟨.hbm, 863, rfl⟩
abbrev main_call55_v6 : Ref sig .tc := ⟨.hbm, 864, rfl⟩
abbrev main_call55_v7 : Ref sig .tc := ⟨.hbm, 865, rfl⟩
abbrev main_call55_v8 : Ref sig .tc := ⟨.hbm, 866, rfl⟩
abbrev main_call55_v9 : Ref sig .tc := ⟨.hbm, 867, rfl⟩
abbrev main_call55_v10 : Ref sig .tc := ⟨.hbm, 868, rfl⟩
abbrev main_call55_v11 : Ref sig .tc := ⟨.hbm, 869, rfl⟩
abbrev main_call55_c_3 : Ref sig .tc := ⟨.hbm, 870, rfl⟩
abbrev main_call55_v12 : Ref sig .tc := ⟨.hbm, 871, rfl⟩
abbrev main_call55_v13 : Ref sig .tc := ⟨.hbm, 872, rfl⟩
abbrev main_call55_cst : Ref sig .tc := ⟨.hbm, 873, rfl⟩
abbrev main_call55_v14 : Ref sig .tc := ⟨.hbm, 874, rfl⟩
abbrev main_v240 : Ref sig .tc := ⟨.hbm, 875, rfl⟩
abbrev main_v241 : Ref sig .tc := ⟨.hbm, 876, rfl⟩
abbrev main_c_66 : Ref sig .tc := ⟨.hbm, 877, rfl⟩
abbrev main_call56_v0 : Ref sig .tc := ⟨.hbm, 878, rfl⟩
abbrev main_call56_v1 : Ref sig .tc := ⟨.hbm, 879, rfl⟩
abbrev main_v242 : Ref sig .tc := ⟨.hbm, 880, rfl⟩
abbrev main_c_67 : Ref sig .tc := ⟨.hbm, 881, rfl⟩
abbrev main_v243 : Ref sig .tc := ⟨.hbm, 882, rfl⟩
abbrev main_v244 : Ref sig .tc := ⟨.hbm, 883, rfl⟩
abbrev main_v245 : Ref sig .tc := ⟨.hbm, 884, rfl⟩
abbrev main_c_68 : Ref sig .tc := ⟨.hbm, 885, rfl⟩
abbrev main_c_69 : Ref sig .tc := ⟨.hbm, 886, rfl⟩
abbrev main_call57_v0 : Ref sig .tc := ⟨.hbm, 887, rfl⟩
abbrev main_call57_v1 : Ref sig .tc := ⟨.hbm, 888, rfl⟩
abbrev main_call57_v2 : Ref sig .tc := ⟨.hbm, 889, rfl⟩
abbrev main_call57_v3 : Ref sig .tc := ⟨.hbm, 890, rfl⟩
abbrev main_call57_v4 : Ref sig .tc := ⟨.hbm, 891, rfl⟩
abbrev main_v246 : Ref sig .tc := ⟨.hbm, 892, rfl⟩
abbrev main_cst_70 : Ref sig .tc := ⟨.hbm, 893, rfl⟩
abbrev main_v247 : Ref sig .tc := ⟨.hbm, 894, rfl⟩
abbrev main_v248 : Ref sig .tc := ⟨.hbm, 895, rfl⟩
abbrev main_cst_71 : Ref sig .tc := ⟨.hbm, 896, rfl⟩
abbrev main_call58_v0 : Ref sig .tc := ⟨.hbm, 897, rfl⟩
abbrev main_call58_v1 : Ref sig .tc := ⟨.hbm, 898, rfl⟩
abbrev main_v249 : Ref sig .tc := ⟨.hbm, 899, rfl⟩
abbrev main_v250 : Ref sig .tc := ⟨.hbm, 900, rfl⟩
abbrev main_v251 : Ref sig .tc := ⟨.hbm, 901, rfl⟩
abbrev main_v252 : Ref sig .tc := ⟨.hbm, 902, rfl⟩
abbrev main_c_72 : Ref sig .tc := ⟨.hbm, 903, rfl⟩
abbrev main_call59_v0 : Ref sig .tc := ⟨.hbm, 904, rfl⟩
abbrev main_call59_v1 : Ref sig .tc := ⟨.hbm, 905, rfl⟩
abbrev main_v253 : Ref sig .tc := ⟨.hbm, 906, rfl⟩
abbrev main_call60_c : Ref sig .tc := ⟨.hbm, 907, rfl⟩
abbrev main_call60_v0 : Ref sig .tc := ⟨.hbm, 908, rfl⟩
abbrev main_call60_v1 : Ref sig .tc := ⟨.hbm, 909, rfl⟩
abbrev main_call60_c_0 : Ref sig .tc := ⟨.hbm, 910, rfl⟩
abbrev main_call60_v2 : Ref sig .tc := ⟨.hbm, 911, rfl⟩
abbrev main_call60_v3 : Ref sig .tc := ⟨.hbm, 912, rfl⟩
abbrev main_call60_v4 : Ref sig .tc := ⟨.hbm, 913, rfl⟩
abbrev main_call60_v5 : Ref sig .tc := ⟨.hbm, 914, rfl⟩
abbrev main_call60_c_1 : Ref sig .tc := ⟨.hbm, 915, rfl⟩
abbrev main_call60_c_2 : Ref sig .tc := ⟨.hbm, 916, rfl⟩
abbrev main_call60_v6 : Ref sig .tc := ⟨.hbm, 917, rfl⟩
abbrev main_call60_v7 : Ref sig .tc := ⟨.hbm, 918, rfl⟩
abbrev main_call60_v8 : Ref sig .tc := ⟨.hbm, 919, rfl⟩
abbrev main_call60_v9 : Ref sig .tc := ⟨.hbm, 920, rfl⟩
abbrev main_call60_v10 : Ref sig .tc := ⟨.hbm, 921, rfl⟩
abbrev main_call60_v11 : Ref sig .tc := ⟨.hbm, 922, rfl⟩
abbrev main_call60_c_3 : Ref sig .tc := ⟨.hbm, 923, rfl⟩
abbrev main_call60_v12 : Ref sig .tc := ⟨.hbm, 924, rfl⟩
abbrev main_call60_v13 : Ref sig .tc := ⟨.hbm, 925, rfl⟩
abbrev main_call60_cst : Ref sig .tc := ⟨.hbm, 926, rfl⟩
abbrev main_call60_v14 : Ref sig .tc := ⟨.hbm, 927, rfl⟩
abbrev main_v254 : Ref sig .tc := ⟨.hbm, 928, rfl⟩
abbrev main_v255 : Ref sig .tc := ⟨.hbm, 929, rfl⟩
abbrev main_c_73 : Ref sig .tc := ⟨.hbm, 930, rfl⟩
abbrev main_call62_v0 : Ref sig .tc := ⟨.hbm, 931, rfl⟩
abbrev main_call62_v1 : Ref sig .tc := ⟨.hbm, 932, rfl⟩
abbrev main_v256 : Ref sig .tc := ⟨.hbm, 933, rfl⟩
abbrev main_cst_74 : Ref sig .tc := ⟨.hbm, 934, rfl⟩
abbrev main_call63_v0 : Ref sig .tc := ⟨.hbm, 935, rfl⟩
abbrev main_call63_v1 : Ref sig .tc := ⟨.hbm, 936, rfl⟩
abbrev main_v257 : Ref sig .tc := ⟨.hbm, 937, rfl⟩
abbrev main_c_75 : Ref sig .tc := ⟨.hbm, 938, rfl⟩
abbrev main_c_76 : Ref sig .tc := ⟨.hbm, 939, rfl⟩
abbrev main_call64_v0 : Ref sig .tc := ⟨.hbm, 940, rfl⟩
abbrev main_call64_v1 : Ref sig .tc := ⟨.hbm, 941, rfl⟩
abbrev main_call64_v2 : Ref sig .tc := ⟨.hbm, 942, rfl⟩
abbrev main_call64_v3 : Ref sig .tc := ⟨.hbm, 943, rfl⟩
abbrev main_call64_v4 : Ref sig .tc := ⟨.hbm, 944, rfl⟩
abbrev main_v258 : Ref sig .tc := ⟨.hbm, 945, rfl⟩
abbrev main_call65_c : Ref sig .tc := ⟨.hbm, 946, rfl⟩
abbrev main_call65_v0 : Ref sig .tc := ⟨.hbm, 947, rfl⟩
abbrev main_call65_v1 : Ref sig .tc := ⟨.hbm, 948, rfl⟩
abbrev main_call65_c_0 : Ref sig .tc := ⟨.hbm, 949, rfl⟩
abbrev main_call65_v2 : Ref sig .tc := ⟨.hbm, 950, rfl⟩
abbrev main_call65_v3 : Ref sig .tc := ⟨.hbm, 951, rfl⟩
abbrev main_call65_v4 : Ref sig .tc := ⟨.hbm, 952, rfl⟩
abbrev main_call65_v5 : Ref sig .tc := ⟨.hbm, 953, rfl⟩
abbrev main_call65_c_1 : Ref sig .tc := ⟨.hbm, 954, rfl⟩
abbrev main_call65_c_2 : Ref sig .tc := ⟨.hbm, 955, rfl⟩
abbrev main_call65_v6 : Ref sig .tc := ⟨.hbm, 956, rfl⟩
abbrev main_call65_v7 : Ref sig .tc := ⟨.hbm, 957, rfl⟩
abbrev main_call65_v8 : Ref sig .tc := ⟨.hbm, 958, rfl⟩
abbrev main_call65_v9 : Ref sig .tc := ⟨.hbm, 959, rfl⟩
abbrev main_call65_v10 : Ref sig .tc := ⟨.hbm, 960, rfl⟩
abbrev main_call65_v11 : Ref sig .tc := ⟨.hbm, 961, rfl⟩
abbrev main_call65_c_3 : Ref sig .tc := ⟨.hbm, 962, rfl⟩
abbrev main_call65_v12 : Ref sig .tc := ⟨.hbm, 963, rfl⟩
abbrev main_call65_v13 : Ref sig .tc := ⟨.hbm, 964, rfl⟩
abbrev main_call65_v14 : Ref sig .tc := ⟨.hbm, 965, rfl⟩
abbrev main_call65_cst : Ref sig .tc := ⟨.hbm, 966, rfl⟩
abbrev main_call65_v15 : Ref sig .tc := ⟨.hbm, 967, rfl⟩
abbrev main_v259 : Ref sig .tc := ⟨.hbm, 968, rfl⟩
abbrev main_c_77 : Ref sig .tc := ⟨.hbm, 969, rfl⟩
abbrev main_v260 : Ref sig .tc := ⟨.hbm, 970, rfl⟩
abbrev main_v261 : Ref sig .tc := ⟨.hbm, 971, rfl⟩
abbrev main_v262 : Ref sig .tc := ⟨.hbm, 972, rfl⟩
abbrev main_cst_78 : Ref sig .tc := ⟨.hbm, 973, rfl⟩
abbrev main_call66_v0 : Ref sig .tc := ⟨.hbm, 974, rfl⟩
abbrev main_call66_v1 : Ref sig .tc := ⟨.hbm, 975, rfl⟩
abbrev main_call66_v2 : Ref sig .tc := ⟨.hbm, 976, rfl⟩
abbrev main_v263 : Ref sig .tc := ⟨.hbm, 977, rfl⟩
abbrev main_v264 : Ref sig .tc := ⟨.hbm, 978, rfl⟩
abbrev main_v265 : Ref sig .tc := ⟨.hbm, 979, rfl⟩
abbrev main_v266 : Ref sig .tc := ⟨.hbm, 980, rfl⟩
abbrev main_v267 : Ref sig .tc := ⟨.hbm, 981, rfl⟩
abbrev main_v268 : Ref sig .tc := ⟨.hbm, 982, rfl⟩
abbrev main_v269 : Ref sig .tc := ⟨.hbm, 983, rfl⟩
abbrev main_c_79 : Ref sig .tc := ⟨.hbm, 984, rfl⟩
abbrev main_v270 : Ref sig .tc := ⟨.hbm, 985, rfl⟩
abbrev main_v271 : Ref sig .tc := ⟨.hbm, 986, rfl⟩
abbrev main_v272 : Ref sig .tc := ⟨.hbm, 987, rfl⟩
abbrev main_v273 : Ref sig .tc := ⟨.hbm, 988, rfl⟩
abbrev main_v274 : Ref sig .tc := ⟨.hbm, 989, rfl⟩
abbrev main_call67_v0 : Ref sig .tc := ⟨.hbm, 990, rfl⟩
abbrev main_v275 : Ref sig .tc := ⟨.hbm, 991, rfl⟩
abbrev main_v276 : Ref sig .tc := ⟨.hbm, 992, rfl⟩
abbrev main_call68_c : Ref sig .tc := ⟨.hbm, 993, rfl⟩
abbrev main_call68_v0 : Ref sig .tc := ⟨.hbm, 994, rfl⟩
abbrev main_call68_v1 : Ref sig .tc := ⟨.hbm, 995, rfl⟩
abbrev main_call68_c_0 : Ref sig .tc := ⟨.hbm, 996, rfl⟩
abbrev main_call68_v2 : Ref sig .tc := ⟨.hbm, 997, rfl⟩
abbrev main_call68_v3 : Ref sig .tc := ⟨.hbm, 998, rfl⟩
abbrev main_call68_v4 : Ref sig .tc := ⟨.hbm, 999, rfl⟩
abbrev main_call68_v5 : Ref sig .tc := ⟨.hbm, 1000, rfl⟩
abbrev main_call68_c_1 : Ref sig .tc := ⟨.hbm, 1001, rfl⟩
abbrev main_call68_c_2 : Ref sig .tc := ⟨.hbm, 1002, rfl⟩
abbrev main_call68_v6 : Ref sig .tc := ⟨.hbm, 1003, rfl⟩
abbrev main_call68_v7 : Ref sig .tc := ⟨.hbm, 1004, rfl⟩
abbrev main_call68_v8 : Ref sig .tc := ⟨.hbm, 1005, rfl⟩
abbrev main_call68_v9 : Ref sig .tc := ⟨.hbm, 1006, rfl⟩
abbrev main_call68_v10 : Ref sig .tc := ⟨.hbm, 1007, rfl⟩
abbrev main_call68_v11 : Ref sig .tc := ⟨.hbm, 1008, rfl⟩
abbrev main_call68_c_3 : Ref sig .tc := ⟨.hbm, 1009, rfl⟩
abbrev main_call68_v12 : Ref sig .tc := ⟨.hbm, 1010, rfl⟩
abbrev main_call68_v13 : Ref sig .tc := ⟨.hbm, 1011, rfl⟩
abbrev main_call68_v14 : Ref sig .tc := ⟨.hbm, 1012, rfl⟩
abbrev main_call68_cst : Ref sig .tc := ⟨.hbm, 1013, rfl⟩
abbrev main_call68_v15 : Ref sig .tc := ⟨.hbm, 1014, rfl⟩
abbrev main_v277 : Ref sig .tc := ⟨.hbm, 1015, rfl⟩
abbrev main_v278 : Ref sig .tc := ⟨.hbm, 1016, rfl⟩
abbrev main_cst_80 : Ref sig .tc := ⟨.hbm, 1017, rfl⟩
abbrev main_v279 : Ref sig .tc := ⟨.hbm, 1018, rfl⟩
abbrev main_cst_81 : Ref sig .tc := ⟨.hbm, 1019, rfl⟩
abbrev main_v280 : Ref sig .tc := ⟨.hbm, 1020, rfl⟩
abbrev main_v281 : Ref sig .tc := ⟨.hbm, 1021, rfl⟩
abbrev main_v282 : Ref sig .tc := ⟨.hbm, 1022, rfl⟩
abbrev main_v283 : Ref sig .tc := ⟨.hbm, 1023, rfl⟩
abbrev main_v284 : Ref sig .tc := ⟨.hbm, 1024, rfl⟩
abbrev main_v285 : Ref sig .tc := ⟨.hbm, 1025, rfl⟩
abbrev main_v286 : Ref sig .tc := ⟨.hbm, 1026, rfl⟩
abbrev main_v287 : Ref sig .tc := ⟨.hbm, 1027, rfl⟩
abbrev main_call69_c : Ref sig .tc := ⟨.hbm, 1028, rfl⟩
abbrev main_call69_v0 : Ref sig .tc := ⟨.hbm, 1029, rfl⟩
abbrev main_call69_v1 : Ref sig .tc := ⟨.hbm, 1030, rfl⟩
abbrev main_call69_c_0 : Ref sig .tc := ⟨.hbm, 1031, rfl⟩
abbrev main_call69_v2 : Ref sig .tc := ⟨.hbm, 1032, rfl⟩
abbrev main_call69_v3 : Ref sig .tc := ⟨.hbm, 1033, rfl⟩
abbrev main_call69_v4 : Ref sig .tc := ⟨.hbm, 1034, rfl⟩
abbrev main_call69_v5 : Ref sig .tc := ⟨.hbm, 1035, rfl⟩
abbrev main_call69_c_1 : Ref sig .tc := ⟨.hbm, 1036, rfl⟩
abbrev main_call69_c_2 : Ref sig .tc := ⟨.hbm, 1037, rfl⟩
abbrev main_call69_v6 : Ref sig .tc := ⟨.hbm, 1038, rfl⟩
abbrev main_call69_v7 : Ref sig .tc := ⟨.hbm, 1039, rfl⟩
abbrev main_call69_v8 : Ref sig .tc := ⟨.hbm, 1040, rfl⟩
abbrev main_call69_v9 : Ref sig .tc := ⟨.hbm, 1041, rfl⟩
abbrev main_call69_v10 : Ref sig .tc := ⟨.hbm, 1042, rfl⟩
abbrev main_call69_v11 : Ref sig .tc := ⟨.hbm, 1043, rfl⟩
abbrev main_call69_c_3 : Ref sig .tc := ⟨.hbm, 1044, rfl⟩
abbrev main_call69_v12 : Ref sig .tc := ⟨.hbm, 1045, rfl⟩
abbrev main_call69_v13 : Ref sig .tc := ⟨.hbm, 1046, rfl⟩
abbrev main_call69_c_4 : Ref sig .tc := ⟨.hbm, 1047, rfl⟩
abbrev main_call69_v14 : Ref sig .tc := ⟨.hbm, 1048, rfl⟩
abbrev main_v288 : Ref sig .tc := ⟨.hbm, 1049, rfl⟩
abbrev main_v289 : Ref sig .tc := ⟨.hbm, 1050, rfl⟩
abbrev main_cst_82 : Ref sig .tc := ⟨.hbm, 1051, rfl⟩
abbrev main_v290 : Ref sig .tc := ⟨.hbm, 1052, rfl⟩
abbrev main_v291 : Ref sig .tc := ⟨.hbm, 1053, rfl⟩
abbrev main_cst_83 : Ref sig .tc := ⟨.hbm, 1054, rfl⟩
abbrev main_call70_v0 : Ref sig .tc := ⟨.hbm, 1055, rfl⟩
abbrev main_call70_v1 : Ref sig .tc := ⟨.hbm, 1056, rfl⟩
abbrev main_v292 : Ref sig .tc := ⟨.hbm, 1057, rfl⟩
abbrev main_cst_84 : Ref sig .tc := ⟨.hbm, 1058, rfl⟩
abbrev main_v293 : Ref sig .tc := ⟨.hbm, 1059, rfl⟩
abbrev main_v294 : Ref sig .tc := ⟨.hbm, 1060, rfl⟩
abbrev main_cst_85 : Ref sig .tc := ⟨.hbm, 1061, rfl⟩
abbrev main_call71_v0 : Ref sig .tc := ⟨.hbm, 1062, rfl⟩
abbrev main_call71_v1 : Ref sig .tc := ⟨.hbm, 1063, rfl⟩
abbrev main_v295 : Ref sig .tc := ⟨.hbm, 1064, rfl⟩
abbrev main_v296 : Ref sig .tc := ⟨.hbm, 1065, rfl⟩
abbrev main_cst_86 : Ref sig .tc := ⟨.hbm, 1066, rfl⟩
abbrev main_call72_v0 : Ref sig .tc := ⟨.hbm, 1067, rfl⟩
abbrev main_call72_v1 : Ref sig .tc := ⟨.hbm, 1068, rfl⟩
abbrev main_call72_v2 : Ref sig .tc := ⟨.hbm, 1069, rfl⟩
abbrev main_v297 : Ref sig .tc := ⟨.hbm, 1070, rfl⟩
abbrev main_cst_87 : Ref sig .tc := ⟨.hbm, 1071, rfl⟩
abbrev main_v298 : Ref sig .tc := ⟨.hbm, 1072, rfl⟩
abbrev main_v299 : Ref sig .tc := ⟨.hbm, 1073, rfl⟩
abbrev main_v300 : Ref sig .tc := ⟨.hbm, 1074, rfl⟩
abbrev main_cst_88 : Ref sig .tc := ⟨.hbm, 1075, rfl⟩
abbrev main_v301 : Ref sig .tc := ⟨.hbm, 1076, rfl⟩
abbrev main_v302 : Ref sig .tc := ⟨.hbm, 1077, rfl⟩
abbrev main_cst_89 : Ref sig .tc := ⟨.hbm, 1078, rfl⟩
abbrev main_call73_v0 : Ref sig .tc := ⟨.hbm, 1079, rfl⟩
abbrev main_call73_v1 : Ref sig .tc := ⟨.hbm, 1080, rfl⟩
abbrev main_v303 : Ref sig .tc := ⟨.hbm, 1081, rfl⟩
abbrev main_call74_c : Ref sig .tc := ⟨.hbm, 1082, rfl⟩
abbrev main_call74_v0 : Ref sig .tc := ⟨.hbm, 1083, rfl⟩
abbrev main_call74_v1 : Ref sig .tc := ⟨.hbm, 1084, rfl⟩
abbrev main_call74_c_0 : Ref sig .tc := ⟨.hbm, 1085, rfl⟩
abbrev main_call74_v2 : Ref sig .tc := ⟨.hbm, 1086, rfl⟩
abbrev main_call74_v3 : Ref sig .tc := ⟨.hbm, 1087, rfl⟩
abbrev main_call74_v4 : Ref sig .tc := ⟨.hbm, 1088, rfl⟩
abbrev main_call74_v5 : Ref sig .tc := ⟨.hbm, 1089, rfl⟩
abbrev main_call74_c_1 : Ref sig .tc := ⟨.hbm, 1090, rfl⟩
abbrev main_call74_c_2 : Ref sig .tc := ⟨.hbm, 1091, rfl⟩
abbrev main_call74_v6 : Ref sig .tc := ⟨.hbm, 1092, rfl⟩
abbrev main_call74_v7 : Ref sig .tc := ⟨.hbm, 1093, rfl⟩
abbrev main_call74_v8 : Ref sig .tc := ⟨.hbm, 1094, rfl⟩
abbrev main_call74_v9 : Ref sig .tc := ⟨.hbm, 1095, rfl⟩
abbrev main_call74_v10 : Ref sig .tc := ⟨.hbm, 1096, rfl⟩
abbrev main_call74_v11 : Ref sig .tc := ⟨.hbm, 1097, rfl⟩
abbrev main_call74_c_3 : Ref sig .tc := ⟨.hbm, 1098, rfl⟩
abbrev main_call74_v12 : Ref sig .tc := ⟨.hbm, 1099, rfl⟩
abbrev main_call74_v13 : Ref sig .tc := ⟨.hbm, 1100, rfl⟩
abbrev main_call74_cst : Ref sig .tc := ⟨.hbm, 1101, rfl⟩
abbrev main_call74_v14 : Ref sig .tc := ⟨.hbm, 1102, rfl⟩
abbrev main_v304 : Ref sig .tc := ⟨.hbm, 1103, rfl⟩
abbrev main_v305 : Ref sig .tc := ⟨.hbm, 1104, rfl⟩
abbrev main_v306 : Ref sig .tc := ⟨.hbm, 1105, rfl⟩
abbrev main_v307 : Ref sig .tc := ⟨.hbm, 1106, rfl⟩
abbrev main_v308 : Ref sig .tc := ⟨.hbm, 1107, rfl⟩
abbrev main_cst_90 : Ref sig .tc := ⟨.hbm, 1108, rfl⟩
abbrev main_v309 : Ref sig .tc := ⟨.hbm, 1109, rfl⟩
abbrev main_v310 : Ref sig .tc := ⟨.hbm, 1110, rfl⟩
abbrev main_v311 : Ref sig .tc := ⟨.hbm, 1111, rfl⟩
abbrev main_v312 : Ref sig .tc := ⟨.hbm, 1112, rfl⟩
abbrev main_v313 : Ref sig .tc := ⟨.hbm, 1113, rfl⟩
abbrev main_v314 : Ref sig .tc := ⟨.hbm, 1114, rfl⟩
abbrev main_cst_91 : Ref sig .tc := ⟨.hbm, 1115, rfl⟩
abbrev main_v315 : Ref sig .tc := ⟨.hbm, 1116, rfl⟩
abbrev main_v316 : Ref sig .tc := ⟨.hbm, 1117, rfl⟩
abbrev main_v317 : Ref sig .tc := ⟨.hbm, 1118, rfl⟩
abbrev main_v318 : Ref sig .tc := ⟨.hbm, 1119, rfl⟩
abbrev main_call75_c : Ref sig .tc := ⟨.hbm, 1120, rfl⟩
abbrev main_call75_v0 : Ref sig .tc := ⟨.hbm, 1121, rfl⟩
abbrev main_call75_v1 : Ref sig .tc := ⟨.hbm, 1122, rfl⟩
abbrev main_call75_c_0 : Ref sig .tc := ⟨.hbm, 1123, rfl⟩
abbrev main_call75_v2 : Ref sig .tc := ⟨.hbm, 1124, rfl⟩
abbrev main_call75_v3 : Ref sig .tc := ⟨.hbm, 1125, rfl⟩
abbrev main_call75_v4 : Ref sig .tc := ⟨.hbm, 1126, rfl⟩
abbrev main_call75_v5 : Ref sig .tc := ⟨.hbm, 1127, rfl⟩
abbrev main_call75_c_1 : Ref sig .tc := ⟨.hbm, 1128, rfl⟩
abbrev main_call75_c_2 : Ref sig .tc := ⟨.hbm, 1129, rfl⟩
abbrev main_call75_v6 : Ref sig .tc := ⟨.hbm, 1130, rfl⟩
abbrev main_call75_v7 : Ref sig .tc := ⟨.hbm, 1131, rfl⟩
abbrev main_call75_v8 : Ref sig .tc := ⟨.hbm, 1132, rfl⟩
abbrev main_call75_v9 : Ref sig .tc := ⟨.hbm, 1133, rfl⟩
abbrev main_call75_v10 : Ref sig .tc := ⟨.hbm, 1134, rfl⟩
abbrev main_call75_v11 : Ref sig .tc := ⟨.hbm, 1135, rfl⟩
abbrev main_call75_c_3 : Ref sig .tc := ⟨.hbm, 1136, rfl⟩
abbrev main_call75_v12 : Ref sig .tc := ⟨.hbm, 1137, rfl⟩
abbrev main_call75_v13 : Ref sig .tc := ⟨.hbm, 1138, rfl⟩
abbrev main_call75_cst : Ref sig .tc := ⟨.hbm, 1139, rfl⟩
abbrev main_call75_v14 : Ref sig .tc := ⟨.hbm, 1140, rfl⟩
abbrev main_v319 : Ref sig .tc := ⟨.hbm, 1141, rfl⟩
abbrev main_v320 : Ref sig .tc := ⟨.hbm, 1142, rfl⟩
abbrev main_v321 : Ref sig .tc := ⟨.hbm, 1143, rfl⟩
abbrev main_call76_c : Ref sig .tc := ⟨.hbm, 1144, rfl⟩
abbrev main_call76_v0 : Ref sig .tc := ⟨.hbm, 1145, rfl⟩
abbrev main_call76_v1 : Ref sig .tc := ⟨.hbm, 1146, rfl⟩
abbrev main_call76_c_0 : Ref sig .tc := ⟨.hbm, 1147, rfl⟩
abbrev main_call76_v2 : Ref sig .tc := ⟨.hbm, 1148, rfl⟩
abbrev main_call76_v3 : Ref sig .tc := ⟨.hbm, 1149, rfl⟩
abbrev main_call76_v4 : Ref sig .tc := ⟨.hbm, 1150, rfl⟩
abbrev main_call76_v5 : Ref sig .tc := ⟨.hbm, 1151, rfl⟩
abbrev main_call76_c_1 : Ref sig .tc := ⟨.hbm, 1152, rfl⟩
abbrev main_call76_c_2 : Ref sig .tc := ⟨.hbm, 1153, rfl⟩
abbrev main_call76_v6 : Ref sig .tc := ⟨.hbm, 1154, rfl⟩
abbrev main_call76_v7 : Ref sig .tc := ⟨.hbm, 1155, rfl⟩
abbrev main_call76_v8 : Ref sig .tc := ⟨.hbm, 1156, rfl⟩
abbrev main_call76_v9 : Ref sig .tc := ⟨.hbm, 1157, rfl⟩
abbrev main_call76_v10 : Ref sig .tc := ⟨.hbm, 1158, rfl⟩
abbrev main_call76_v11 : Ref sig .tc := ⟨.hbm, 1159, rfl⟩
abbrev main_call76_c_3 : Ref sig .tc := ⟨.hbm, 1160, rfl⟩
abbrev main_call76_v12 : Ref sig .tc := ⟨.hbm, 1161, rfl⟩
abbrev main_call76_v13 : Ref sig .tc := ⟨.hbm, 1162, rfl⟩
abbrev main_call76_cst : Ref sig .tc := ⟨.hbm, 1163, rfl⟩
abbrev main_call76_v14 : Ref sig .tc := ⟨.hbm, 1164, rfl⟩
abbrev main_v322 : Ref sig .tc := ⟨.hbm, 1165, rfl⟩
abbrev main_v323 : Ref sig .tc := ⟨.hbm, 1166, rfl⟩
abbrev main_c_92 : Ref sig .tc := ⟨.hbm, 1167, rfl⟩
abbrev main_call77_v0 : Ref sig .tc := ⟨.hbm, 1168, rfl⟩
abbrev main_call77_v1 : Ref sig .tc := ⟨.hbm, 1169, rfl⟩
abbrev main_v324 : Ref sig .tc := ⟨.hbm, 1170, rfl⟩
abbrev main_c_93 : Ref sig .tc := ⟨.hbm, 1171, rfl⟩
abbrev main_v325 : Ref sig .tc := ⟨.hbm, 1172, rfl⟩
abbrev main_v326 : Ref sig .tc := ⟨.hbm, 1173, rfl⟩
abbrev main_v327 : Ref sig .tc := ⟨.hbm, 1174, rfl⟩
abbrev main_c_94 : Ref sig .tc := ⟨.hbm, 1175, rfl⟩
abbrev main_c_95 : Ref sig .tc := ⟨.hbm, 1176, rfl⟩
abbrev main_call78_v0 : Ref sig .tc := ⟨.hbm, 1177, rfl⟩
abbrev main_call78_v1 : Ref sig .tc := ⟨.hbm, 1178, rfl⟩
abbrev main_call78_v2 : Ref sig .tc := ⟨.hbm, 1179, rfl⟩
abbrev main_call78_v3 : Ref sig .tc := ⟨.hbm, 1180, rfl⟩
abbrev main_call78_v4 : Ref sig .tc := ⟨.hbm, 1181, rfl⟩
abbrev main_v328 : Ref sig .tc := ⟨.hbm, 1182, rfl⟩
abbrev main_cst_96 : Ref sig .tc := ⟨.hbm, 1183, rfl⟩
abbrev main_v329 : Ref sig .tc := ⟨.hbm, 1184, rfl⟩
abbrev main_v330 : Ref sig .tc := ⟨.hbm, 1185, rfl⟩
abbrev main_cst_97 : Ref sig .tc := ⟨.hbm, 1186, rfl⟩
abbrev main_call79_v0 : Ref sig .tc := ⟨.hbm, 1187, rfl⟩
abbrev main_call79_v1 : Ref sig .tc := ⟨.hbm, 1188, rfl⟩
abbrev main_v331 : Ref sig .tc := ⟨.hbm, 1189, rfl⟩
abbrev main_v332 : Ref sig .tc := ⟨.hbm, 1190, rfl⟩
abbrev main_v333 : Ref sig .tc := ⟨.hbm, 1191, rfl⟩
abbrev main_v334 : Ref sig .tc := ⟨.hbm, 1192, rfl⟩
abbrev main_c_98 : Ref sig .tc := ⟨.hbm, 1193, rfl⟩
abbrev main_call80_v0 : Ref sig .tc := ⟨.hbm, 1194, rfl⟩
abbrev main_call80_v1 : Ref sig .tc := ⟨.hbm, 1195, rfl⟩
abbrev main_v335 : Ref sig .tc := ⟨.hbm, 1196, rfl⟩
abbrev main_call81_c : Ref sig .tc := ⟨.hbm, 1197, rfl⟩
abbrev main_call81_v0 : Ref sig .tc := ⟨.hbm, 1198, rfl⟩
abbrev main_call81_v1 : Ref sig .tc := ⟨.hbm, 1199, rfl⟩
abbrev main_call81_c_0 : Ref sig .tc := ⟨.hbm, 1200, rfl⟩
abbrev main_call81_v2 : Ref sig .tc := ⟨.hbm, 1201, rfl⟩
abbrev main_call81_v3 : Ref sig .tc := ⟨.hbm, 1202, rfl⟩
abbrev main_call81_v4 : Ref sig .tc := ⟨.hbm, 1203, rfl⟩
abbrev main_call81_v5 : Ref sig .tc := ⟨.hbm, 1204, rfl⟩
abbrev main_call81_c_1 : Ref sig .tc := ⟨.hbm, 1205, rfl⟩
abbrev main_call81_c_2 : Ref sig .tc := ⟨.hbm, 1206, rfl⟩
abbrev main_call81_v6 : Ref sig .tc := ⟨.hbm, 1207, rfl⟩
abbrev main_call81_v7 : Ref sig .tc := ⟨.hbm, 1208, rfl⟩
abbrev main_call81_v8 : Ref sig .tc := ⟨.hbm, 1209, rfl⟩
abbrev main_call81_v9 : Ref sig .tc := ⟨.hbm, 1210, rfl⟩
abbrev main_call81_v10 : Ref sig .tc := ⟨.hbm, 1211, rfl⟩
abbrev main_call81_v11 : Ref sig .tc := ⟨.hbm, 1212, rfl⟩
abbrev main_call81_c_3 : Ref sig .tc := ⟨.hbm, 1213, rfl⟩
abbrev main_call81_v12 : Ref sig .tc := ⟨.hbm, 1214, rfl⟩
abbrev main_call81_v13 : Ref sig .tc := ⟨.hbm, 1215, rfl⟩
abbrev main_call81_cst : Ref sig .tc := ⟨.hbm, 1216, rfl⟩
abbrev main_call81_v14 : Ref sig .tc := ⟨.hbm, 1217, rfl⟩
abbrev main_v336 : Ref sig .tc := ⟨.hbm, 1218, rfl⟩
abbrev main_v337 : Ref sig .tc := ⟨.hbm, 1219, rfl⟩
abbrev main_c_99 : Ref sig .tc := ⟨.hbm, 1220, rfl⟩
abbrev main_call83_v0 : Ref sig .tc := ⟨.hbm, 1221, rfl⟩
abbrev main_call83_v1 : Ref sig .tc := ⟨.hbm, 1222, rfl⟩
abbrev main_v338 : Ref sig .tc := ⟨.hbm, 1223, rfl⟩
abbrev main_cst_100 : Ref sig .tc := ⟨.hbm, 1224, rfl⟩
abbrev main_call84_v0 : Ref sig .tc := ⟨.hbm, 1225, rfl⟩
abbrev main_call84_v1 : Ref sig .tc := ⟨.hbm, 1226, rfl⟩
abbrev main_v339 : Ref sig .tc := ⟨.hbm, 1227, rfl⟩
abbrev main_c_101 : Ref sig .tc := ⟨.hbm, 1228, rfl⟩
abbrev main_c_102 : Ref sig .tc := ⟨.hbm, 1229, rfl⟩
abbrev main_call85_v0 : Ref sig .tc := ⟨.hbm, 1230, rfl⟩
abbrev main_call85_v1 : Ref sig .tc := ⟨.hbm, 1231, rfl⟩
abbrev main_call85_v2 : Ref sig .tc := ⟨.hbm, 1232, rfl⟩
abbrev main_call85_v3 : Ref sig .tc := ⟨.hbm, 1233, rfl⟩
abbrev main_call85_v4 : Ref sig .tc := ⟨.hbm, 1234, rfl⟩
abbrev main_v340 : Ref sig .tc := ⟨.hbm, 1235, rfl⟩
abbrev main_call86_c : Ref sig .tc := ⟨.hbm, 1236, rfl⟩
abbrev main_call86_v0 : Ref sig .tc := ⟨.hbm, 1237, rfl⟩
abbrev main_call86_v1 : Ref sig .tc := ⟨.hbm, 1238, rfl⟩
abbrev main_call86_c_0 : Ref sig .tc := ⟨.hbm, 1239, rfl⟩
abbrev main_call86_v2 : Ref sig .tc := ⟨.hbm, 1240, rfl⟩
abbrev main_call86_v3 : Ref sig .tc := ⟨.hbm, 1241, rfl⟩
abbrev main_call86_v4 : Ref sig .tc := ⟨.hbm, 1242, rfl⟩
abbrev main_call86_v5 : Ref sig .tc := ⟨.hbm, 1243, rfl⟩
abbrev main_call86_c_1 : Ref sig .tc := ⟨.hbm, 1244, rfl⟩
abbrev main_call86_c_2 : Ref sig .tc := ⟨.hbm, 1245, rfl⟩
abbrev main_call86_v6 : Ref sig .tc := ⟨.hbm, 1246, rfl⟩
abbrev main_call86_v7 : Ref sig .tc := ⟨.hbm, 1247, rfl⟩
abbrev main_call86_v8 : Ref sig .tc := ⟨.hbm, 1248, rfl⟩
abbrev main_call86_v9 : Ref sig .tc := ⟨.hbm, 1249, rfl⟩
abbrev main_call86_v10 : Ref sig .tc := ⟨.hbm, 1250, rfl⟩
abbrev main_call86_v11 : Ref sig .tc := ⟨.hbm, 1251, rfl⟩
abbrev main_call86_c_3 : Ref sig .tc := ⟨.hbm, 1252, rfl⟩
abbrev main_call86_v12 : Ref sig .tc := ⟨.hbm, 1253, rfl⟩
abbrev main_call86_v13 : Ref sig .tc := ⟨.hbm, 1254, rfl⟩
abbrev main_call86_v14 : Ref sig .tc := ⟨.hbm, 1255, rfl⟩
abbrev main_call86_cst : Ref sig .tc := ⟨.hbm, 1256, rfl⟩
abbrev main_call86_v15 : Ref sig .tc := ⟨.hbm, 1257, rfl⟩
abbrev main_v341 : Ref sig .tc := ⟨.hbm, 1258, rfl⟩
abbrev main_c_103 : Ref sig .tc := ⟨.hbm, 1259, rfl⟩
abbrev main_v342 : Ref sig .tc := ⟨.hbm, 1260, rfl⟩
abbrev main_v343 : Ref sig .tc := ⟨.hbm, 1261, rfl⟩
abbrev main_v344 : Ref sig .tc := ⟨.hbm, 1262, rfl⟩
abbrev main_cst_104 : Ref sig .tc := ⟨.hbm, 1263, rfl⟩
abbrev main_call87_v0 : Ref sig .tc := ⟨.hbm, 1264, rfl⟩
abbrev main_call87_v1 : Ref sig .tc := ⟨.hbm, 1265, rfl⟩
abbrev main_call87_v2 : Ref sig .tc := ⟨.hbm, 1266, rfl⟩
abbrev main_v345 : Ref sig .tc := ⟨.hbm, 1267, rfl⟩
abbrev main_v346 : Ref sig .tc := ⟨.hbm, 1268, rfl⟩
abbrev main_v347 : Ref sig .tc := ⟨.hbm, 1269, rfl⟩
abbrev main_v348 : Ref sig .tc := ⟨.hbm, 1270, rfl⟩
abbrev main_v349 : Ref sig .tc := ⟨.hbm, 1271, rfl⟩
abbrev main_v350 : Ref sig .tc := ⟨.hbm, 1272, rfl⟩
abbrev main_v351 : Ref sig .tc := ⟨.hbm, 1273, rfl⟩
abbrev main_c_105 : Ref sig .tc := ⟨.hbm, 1274, rfl⟩
abbrev main_v352 : Ref sig .tc := ⟨.hbm, 1275, rfl⟩
abbrev main_v353 : Ref sig .tc := ⟨.hbm, 1276, rfl⟩
abbrev main_v354 : Ref sig .tc := ⟨.hbm, 1277, rfl⟩
abbrev main_v355 : Ref sig .tc := ⟨.hbm, 1278, rfl⟩
abbrev main_v356 : Ref sig .tc := ⟨.hbm, 1279, rfl⟩
abbrev main_call88_v0 : Ref sig .tc := ⟨.hbm, 1280, rfl⟩
abbrev main_v357 : Ref sig .tc := ⟨.hbm, 1281, rfl⟩
abbrev main_v358 : Ref sig .tc := ⟨.hbm, 1282, rfl⟩
abbrev main_v359 : Ref sig .tc := ⟨.hbm, 1283, rfl⟩
abbrev main_v360 : Ref sig .tc := ⟨.hbm, 1284, rfl⟩
abbrev main_v361 : Ref sig .tc := ⟨.hbm, 1285, rfl⟩
abbrev main_v362 : Ref sig .tc := ⟨.hbm, 1286, rfl⟩
abbrev main_v363 : Ref sig .tc := ⟨.hbm, 1287, rfl⟩
abbrev main_v364 : Ref sig .tc := ⟨.hbm, 1288, rfl⟩
abbrev main_v365 : Ref sig .tc := ⟨.hbm, 1289, rfl⟩
abbrev main_v366 : Ref sig .tc := ⟨.hbm, 1290, rfl⟩
abbrev main_v367 : Ref sig .tc := ⟨.hbm, 1291, rfl⟩
abbrev main_v368 : Ref sig .tc := ⟨.hbm, 1292, rfl⟩
abbrev main_cst_106 : Ref sig .tc := ⟨.hbm, 1293, rfl⟩
abbrev main_v369 : Ref sig .tc := ⟨.hbm, 1294, rfl⟩
abbrev main_c_107 : Ref sig .tc := ⟨.hbm, 1295, rfl⟩
abbrev main_v370 : Ref sig .tc := ⟨.hbm, 1296, rfl⟩
abbrev main_v371 : Ref sig .tc := ⟨.hbm, 1297, rfl⟩
abbrev main_v372 : Ref sig .tc := ⟨.hbm, 1298, rfl⟩
abbrev main_cst_108 : Ref sig .tc := ⟨.hbm, 1299, rfl⟩
abbrev main_v373 : Ref sig .tc := ⟨.hbm, 1300, rfl⟩

abbrev nD : Nat := 1
abbrev τ : Topo := Topo.v7x

variable {F : FTy → Type} [FloatOps F]
-- ==== Proof.Take.lean ====
/- A gather of one row or one element per index, with the wrapping of negative indices and the range test around it, read at
   an index that is in range. -/
module

public import Idealize.ShloMosaic.PureOps.Ideal
public import Idealize.ShloMosaic.Lib.ValueIdx
public import Idealize.ShloMosaic.Lib.WordCmp
public import Idealize.ShloMosaic.Lib.ReduceAll
public import Idealize.ShloMosaic.Lib.IdealHost
public import Idealize.ShloMosaic.Lib.Pipeline.Value

@[expose] public section

noncomputable section

namespace Cert.Proof.Take

open Idealize.ShloMosaic Idealize.ShloMosaic.ValueIdx

variable {α : Type}

/-- Dimension numbers of a gather of single elements of `[N]` at start indices `[B, 1]`. -/
abbrev flatDims (N B : ℕ) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Dimension numbers of a gather of whole rows of `[N, C]` at start indices `[B, 1]`. -/
abbrev rowDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- An element gather reads the operand at the start index, clamped into the array. -/
theorem gather_flat {N B w : ℕ} (hN : 0 < N) (wf) (x : (⟨1, ![N]⟩ : Shape).Idx → α) (idx : IVec ⟨2, ![B, 1]⟩ w) (b : Fin B) :
    Host.gather (flatDims N B wf) x idx (ix1 b) = x (ix1 ⟨min (idx (ix2 b 0)).toInt.toNat (N - 1), by omega⟩) := by
  unfold Host.gather
  congr 1
  funext a
  obtain rfl : a = 0 := Subsingleton.elim _ _
  refine Fin.ext ?_
  show (flatDims N B wf).start (ix1 b) idx 0 + (flatDims N B wf).batchCoord (ix1 b) 0 + (flatDims N B wf).offCoord (ix1 b) 0 = _
  rw [GatherDims.batchCoord_eq_zero _ _ _ List.not_mem_nil,
    GatherDims.offCoord_eq_zero _ _ _ (fun h => ((GatherDims.mem_sKept _ _).mp h).1 (List.mem_singleton.mpr rfl)), Nat.add_zero,
    GatherDims.start, dif_pos (show (0 : Fin 1) ∈ (flatDims N B wf).startIndexMap from List.mem_singleton.mpr rfl)]
  have hs : (flatDims N B wf).siIdx (ix1 b) ⟨List.idxOf (0 : Fin 1) (flatDims N B wf).startIndexMap,
      List.idxOf_lt_length_iff.2 (List.mem_singleton.mpr rfl)⟩ = ix2 b 0 := by
    funext d
    refine Fin.ext ?_
    match d with
    | ⟨0, _⟩ => rfl
    | ⟨1, _⟩ => rfl
  rw [hs]
  rfl

/-- A row gather reads, at row `b` and column `j`, the operand's row at the clamped start index. -/
theorem gather_row {N C B w : ℕ} (hN : 0 < N) (wf) (x : (⟨2, ![N, C]⟩ : Shape).Idx → α) (idx : IVec ⟨2, ![B, 1]⟩ w) (b : Fin B)
    (j : Fin C) :
    Host.gather (rowDims N C B wf) x idx (ix2 b j) = x (ix2 ⟨min (idx (ix2 b 0)).toInt.toNat (N - 1), by omega⟩ j) := by
  unfold Host.gather
  congr 1
  have hb : ∀ a, (rowDims N C B wf).batchCoord (ix2 b j) a = 0 := fun a => GatherDims.batchCoord_eq_zero _ _ _ List.not_mem_nil
  funext a
  refine Fin.ext ?_
  show (rowDims N C B wf).start (ix2 b j) idx a + (rowDims N C B wf).batchCoord (ix2 b j) a
    + (rowDims N C B wf).offCoord (ix2 b j) a = _
  rw [hb a, Nat.add_zero]
  match a with
  | ⟨0, _⟩ =>
    rw [GatherDims.offCoord_eq_zero _ _ _ (fun h => ((GatherDims.mem_sKept _ _).mp h).1 (List.mem_singleton.mpr rfl)), Nat.add_zero,
      GatherDims.start, dif_pos (show (⟨0, by decide⟩ : Fin 2) ∈ (rowDims N C B wf).startIndexMap from List.mem_singleton.mpr rfl)]
    have hs : (rowDims N C B wf).siIdx (ix2 b j) ⟨List.idxOf (⟨0, by decide⟩ : Fin 2) (rowDims N C B wf).startIndexMap,
        List.idxOf_lt_length_iff.2 (List.mem_singleton.mpr rfl)⟩ = ix2 b 0 := by
      funext d
      refine Fin.ext ?_
      match d with
      | ⟨0, _⟩ => rfl
      | ⟨1, _⟩ => rfl
    rw [hs]
    rfl
  | ⟨1, _⟩ =>
    have h0 : (rowDims N C B wf).start (ix2 b j) idx (1 : Fin 2) = 0 := by
      rw [GatherDims.start, dif_neg]
      exact fun h => absurd (List.mem_singleton.mp h) (by simp)
    refine (congrArg (· + _) h0).trans ?_
    rw [Nat.zero_add]
    rfl

/-- The shape relations the operations around a gather of `B` indices take. -/
structure Ok (B : ℕ) : Prop where
  b0 : (⟨0, ![]⟩ : Shape).BroadcastsInDim ⟨1, ![B]⟩ ![]
  b1 : (⟨1, ![B]⟩ : Shape).BroadcastsInDim ⟨2, ![B, 1]⟩ ![0]
  b2 : (⟨0, ![]⟩ : Shape).BroadcastsInDim ⟨2, ![B, 1]⟩ ![]
  b3 : (⟨1, ![1]⟩ : Shape).BroadcastsInDim ⟨2, ![1, 1]⟩ ![1]
  b4 : (⟨2, ![1, 1]⟩ : Shape).BroadcastsInDim ⟨2, ![B, 1]⟩ ![0, 1]
  r : (⟨2, ![B, 1]⟩ : Shape).ReducesTo [1] ⟨1, ![B]⟩
  u : 0 < (⟨0, ![]⟩ : Shape).numel

variable {B : ℕ}

/-- The start indices: a negative index has the array's length `n` added. -/
def starts (ok : Ok B) (n : BitVec 32) (i : IVec ⟨1, ![B]⟩ 32) : IVec ⟨2, ![B, 1]⟩ 32 :=
  broadcastInDim ⟨2, ![B, 1]⟩ ![0] ok.b1 (select (cmpi .slt i (broadcastInDim ⟨1, ![B]⟩ ![] ok.b0 (constantI ⟨0, ![]⟩ 32 0#32)))
    (addi i (broadcastInDim ⟨1, ![B]⟩ ![] ok.b0 (constantI ⟨0, ![]⟩ 32 n))) i)

/-- Whether each start index lies in `[0, l]`. -/
def inside (ok : Ok B) (l : BitVec 32) (s : IVec ⟨2, ![B, 1]⟩ 32) : IVec ⟨1, ![B]⟩ 1 :=
  Host.reduce IntOp.andi (andi (cmpi .sge s (broadcastInDim ⟨2, ![B, 1]⟩ ![] ok.b2 (constantI ⟨0, ![]⟩ 32 0#32)))
    (cmpi .sle s (broadcastInDim ⟨2, ![B, 1]⟩ ![0, 1] ok.b4 (broadcastInDim ⟨2, ![1, 1]⟩ ![1] ok.b3 (constantI ⟨1, ![1]⟩ 32 l)))))
    (constantI ⟨0, ![]⟩ 1 1#1) ok.r ok.u

/-- `B` elements of `[N]`, a fill outside the array. -/
def takeFlat (ok : Ok B) (N : ℕ) (n l : BitVec 32) (wf : GatherDims.WF ⟨1, ![N]⟩ ⟨2, ![B, 1]⟩ ⟨1, ![B]⟩ [] [0] [] [0] [] 1 ![1])
    (fill : (⟨0, ![]⟩ : Shape).Idx → α) (x : (⟨1, ![N]⟩ : Shape).Idx → α) (i : IVec ⟨1, ![B]⟩ 32) : (⟨1, ![B]⟩ : Shape).Idx → α :=
  select (inside ok l (starts ok n i)) (Host.gather (flatDims N B wf) x (starts ok n i)) (broadcastInDim ⟨1, ![B]⟩ ![] ok.b0 fill)

/-- `B` rows of `[N, C]`, a fill outside the array. -/
def takeRows (ok : Ok B) (N C : ℕ) (n l : BitVec 32)
    (wf : GatherDims.WF ⟨2, ![N, C]⟩ ⟨2, ![B, 1]⟩ ⟨2, ![B, C]⟩ [1] [0] [] [0] [] 1 ![1, C])
    (hr : (⟨1, ![B]⟩ : Shape).BroadcastsInDim ⟨2, ![B, C]⟩ ![0]) (hf : (⟨0, ![]⟩ : Shape).BroadcastsInDim ⟨2, ![B, C]⟩ ![])
    (fill : (⟨0, ![]⟩ : Shape).Idx → α) (x : (⟨2, ![N, C]⟩ : Shape).Idx → α) (i : IVec ⟨1, ![B]⟩ 32) :
    (⟨2, ![B, C]⟩ : Shape).Idx → α :=
  select (broadcastInDim ⟨2, ![B, C]⟩ ![0] hr (inside ok l (starts ok n i))) (Host.gather (rowDims N C B wf) x (starts ok n i))
    (broadcastInDim ⟨2, ![B, C]⟩ ![] hf fill)

/-- A vector stretched along the columns reads its row's element. -/
theorem bcast_col {C : ℕ} (h : (⟨1, ![B]⟩ : Shape).BroadcastsInDim ⟨2, ![B, C]⟩ ![0]) (x : (⟨1, ![B]⟩ : Shape).Idx → α) (b : Fin B)
    (j : Fin C) : broadcastInDim ⟨2, ![B, C]⟩ ![0] h x (ix2 b j) = x (ix1 b) := by
  refine broadcastInDim_apply _ h x _ _ fun a => ?_
  match a with
  | ⟨0, _⟩ =>
    show b.val = if B = 1 then 0 else b.val
    split
    · have := b.isLt; omega
    · rfl

/-- A start index that is not negative is the index itself. -/
theorem starts_apply (ok : Ok B) (n : BitVec 32) (i : IVec ⟨1, ![B]⟩ 32) (b : Fin B) (h0 : 0 ≤ (i (ix1 b)).toInt) :
    starts ok n i (ix2 b 0) = i (ix1 b) := by
  unfold starts
  rw [bcast_col]
  show Scalar.select (IntOp.cmpi .slt (i (ix1 b)) 0#32) _ _ = _
  rw [WordCmp.cmpi_slt_eq, decide_eq_false (by simpa using h0)]
  rfl

/-- The range test holds at an index in range. -/
theorem inside_apply (ok : Ok B) (n l : BitVec 32) (i : IVec ⟨1, ![B]⟩ 32) (b : Fin B) (h0 : 0 ≤ (i (ix1 b)).toInt)
    (hl : (i (ix1 b)).toInt ≤ l.toInt) : inside ok l (starts ok n i) (ix1 b) = 1#1 := by
  unfold inside
  rw [Host.reduce_eq_foldl]
  refine IntOp.foldl_andi_one _ _ _ rfl fun k hk => ?_
  have hd : ok.r.drop k = ix1 b := by simpa using (List.mem_filter.mp hk).2
  have hk2 : k = ix2 b 0 := by
    funext a
    match a with
    | ⟨0, _⟩ => exact Fin.ext (congrArg (fun f : (⟨1, ![B]⟩ : Shape).Idx => (f 0).val) hd)
    | ⟨1, _⟩ => exact Subsingleton.elim (α := Fin 1) _ _
  rw [hk2]
  show IntOp.andi (IntOp.cmpi .sge (starts ok n i (ix2 b 0)) 0#32) (IntOp.cmpi .sle (starts ok n i (ix2 b 0)) l) = 1#1
  rw [starts_apply ok n i b h0, WordCmp.cmpi_sge_eq, WordCmp.cmpi_sle_eq, decide_eq_true hl, decide_eq_true (by simpa using h0)]
  rfl

/-- An element take at an index in range. -/
theorem takeFlat_apply (ok : Ok B) {N : ℕ} (n l : BitVec 32) (wf) (fill : (⟨0, ![]⟩ : Shape).Idx → α)
    (x : (⟨1, ![N]⟩ : Shape).Idx → α) (i : IVec ⟨1, ![B]⟩ 32) (b : Fin B) (h0 : 0 ≤ (i (ix1 b)).toInt)
    (hl : (i (ix1 b)).toInt ≤ l.toInt) (k : Fin N) (hk : (i (ix1 b)).toInt = k.val) :
    takeFlat ok N n l wf fill x i (ix1 b) = x (ix1 k) := by
  have hN : 0 < N := Nat.lt_of_le_of_lt (Nat.zero_le _) k.isLt
  show Scalar.select (inside ok l (starts ok n i) (ix1 b)) _ _ = _
  rw [inside_apply ok n l i b h0 hl, select_one, gather_flat hN]
  congr 2
  refine Fin.ext ?_
  show min (starts ok n i (ix2 b 0)).toInt.toNat (N - 1) = k.val
  rw [starts_apply ok n i b h0]
  have := k.isLt
  omega

/-- A row take at an index in range. -/
theorem takeRows_apply (ok : Ok B) {N C : ℕ} (n l : BitVec 32) (wf) (hr) (hf) (fill : (⟨0, ![]⟩ : Shape).Idx → α)
    (x : (⟨2, ![N, C]⟩ : Shape).Idx → α) (i : IVec ⟨1, ![B]⟩ 32) (b : Fin B) (h0 : 0 ≤ (i (ix1 b)).toInt)
    (hl : (i (ix1 b)).toInt ≤ l.toInt) (k : Fin N) (hk : (i (ix1 b)).toInt = k.val) (j : Fin C) :
    takeRows ok N C n l wf hr hf fill x i (ix2 b j) = x (ix2 k j) := by
  have hN : 0 < N := Nat.lt_of_le_of_lt (Nat.zero_le _) k.isLt
  show Scalar.select (broadcastInDim ⟨2, ![B, C]⟩ ![0] hr (inside ok l (starts ok n i)) (ix2 b j)) _ _ = _
  rw [bcast_col, inside_apply ok n l i b h0 hl, select_one, gather_row hN]
  congr 2
  refine Fin.ext ?_
  show min (starts ok n i (ix2 b 0)).toInt.toNat (N - 1) = k.val
  rw [starts_apply ok n i b h0]
  have := k.isLt
  omega

end Cert.Proof.Take
-- ==== Proof.Reduce.lean ====
/- Reductions read at an index: a maximum or a minimum down the rows, the sum down the rows, and the two scatters of one word
   per update, whose results are a graph's sum and a graph's minimum. -/
module

public import Idealize.ShloMosaic.PureOps.Ideal
public import Idealize.ShloMosaic.PureOps.Reduce
public import Idealize.ShloMosaic.Lib.ValueIdx
public import Idealize.ShloMosaic.Lib.ValueIdxRank1
public import Idealize.ShloMosaic.Lib.WordCmp

@[expose] public section

noncomputable section

namespace Cert.Proof.Reduce

open Idealize.ShloMosaic Idealize.ShloMosaic.ValueIdx

variable {α β L : Type} [LinearOrder L]

/-- `f` keeps one of its two operands, one with the lesser rank `k`. -/
def Picks (k : α → L) (f : α → α → α) : Prop := ∀ a b, (f a b = a ∨ f a b = b) ∧ k (f a b) ≤ k a ∧ k (f a b) ≤ k b

/-- A left fold of such an operation keeps the start or one of the elements, and nothing folded has a lesser rank. -/
theorem Picks.foldl {k : α → L} {f : α → α → α} (hf : Picks k f) (g : β → α) : ∀ (l : List β) (a : α),
    k (l.foldl (fun r n => f r (g n)) a) ≤ k a ∧ (∀ n ∈ l, k (l.foldl (fun r n => f r (g n)) a) ≤ k (g n)) ∧
      (l.foldl (fun r n => f r (g n)) a = a ∨ ∃ n ∈ l, l.foldl (fun r n => f r (g n)) a = g n)
  | [], a => ⟨le_rfl, fun _ h => absurd h List.not_mem_nil, Or.inl rfl⟩
  | m :: l, a => by
    obtain ⟨h1, h2, h3⟩ := hf.foldl g l (f a (g m))
    obtain ⟨p1, p2, p3⟩ := hf a (g m)
    refine ⟨h1.trans p2, fun n hn => ?_, ?_⟩
    · rcases List.mem_cons.mp hn with rfl | hn
      · exact h1.trans p3
      · exact h2 n hn
    · rcases h3 with h3 | ⟨n, hn, h3⟩
      · rcases p1 with p1 | p1
        · exact Or.inl (h3.trans p1)
        · exact Or.inr ⟨m, List.mem_cons_self, h3.trans p1⟩
      · exact Or.inr ⟨n, List.mem_cons_of_mem _ hn, h3⟩

/-- The exact maximum is such an operation, the greater value having the lesser rank. -/
theorem picks_max : Picks (fun x : EReal => OrderDual.toDual x) (fun a b => max a b) := fun a b =>
  ⟨by rcases max_choice a b with h | h <;> simp [h], OrderDual.toDual_le_toDual.mpr (le_max_left a b),
    OrderDual.toDual_le_toDual.mpr (le_max_right a b)⟩

/-- The signed minimum is such an operation. -/
theorem picks_minsi : Picks (fun x : BitVec 32 => x.toInt) (IntOp.minsi) := fun a b => by
  unfold IntOp.minsi
  by_cases h : a.slt b = true
  · rw [if_pos h]
    exact ⟨Or.inl rfl, le_rfl, le_of_lt (by simpa [BitVec.slt] using h)⟩
  · rw [if_neg h]
    exact ⟨Or.inr rfl, by simpa [BitVec.slt] using h, le_rfl⟩

variable {E G : ℕ}

/-- An index of `[E, G]` whose row is dropped is its column. -/
theorem drop_to (h : (⟨2, ![E, G]⟩ : Shape).ReducesTo [0] ⟨1, ![G]⟩) (e : Fin E) (b : Fin G) : h.drop (ix2 e b) = ix1 b := by
  funext a; match a with | ⟨0, _⟩ => exact Fin.ext rfl

/-- The same of a kernel's reduction. -/
theorem drop_of (h : (⟨2, ![E, G]⟩ : Shape).Reduces [0] ⟨1, ![G]⟩) (e : Fin E) (b : Fin G) : h.drop (ix2 e b) = ix1 b := by
  funext a; match a with | ⟨0, _⟩ => exact Fin.ext rfl

/-- Every index of `[E, G]` that goes to column `b` is a row of it. -/
theorem mem_col {d : (⟨2, ![E, G]⟩ : Shape).Idx → (⟨1, ![G]⟩ : Shape).Idx} (hd : ∀ e b, d (ix2 e b) = ix1 b)
    {i : (⟨2, ![E, G]⟩ : Shape).Idx} {b : Fin G} (h : d i = ix1 b) : ∃ e : Fin E, i = ix2 e b := by
  obtain ⟨e, b', rfl⟩ : ∃ (e : Fin E) (b' : Fin G), i = ix2 e b' := ⟨_, _, eq_ix2 i⟩
  rw [hd] at h
  exact ⟨e, by rw [show b' = b from congrArg (fun f : (⟨1, ![G]⟩ : Shape).Idx => f 0) h]⟩

/-- The row-major list of the indices that go to column `b` holds the column's rows and nothing else. -/
theorem mem_list (d : (⟨2, ![E, G]⟩ : Shape).Idx → (⟨1, ![G]⟩ : Shape).Idx) (hd : ∀ e b, d (ix2 e b) = ix1 b) (b : Fin G)
    (i : (⟨2, ![E, G]⟩ : Shape).Idx) :
    i ∈ (((List.finRange (⟨2, ![E, G]⟩ : Shape).numel).map (⟨2, ![E, G]⟩ : Shape).rowMajor.symm).filter fun i => d i = ix1 b)
      ↔ ∃ e : Fin E, i = ix2 e b := by
  rw [List.mem_filter]
  constructor
  · exact fun h => mem_col hd (by simpa using h.2)
  · rintro ⟨e, rfl⟩
    refine ⟨List.mem_map.mpr ⟨(⟨2, ![E, G]⟩ : Shape).rowMajor (ix2 e b), List.mem_finRange _, Equiv.symm_apply_apply _ _⟩, ?_⟩
    rw [hd]; simp

/-- What a fold down a column gives, for an operation that keeps one of its operands. -/
theorem fold_col {k : α → L} {f : α → α → α} (hf : Picks k f) (d : (⟨2, ![E, G]⟩ : Shape).Idx → (⟨1, ![G]⟩ : Shape).Idx)
    (hd : ∀ e b, d (ix2 e b) = ix1 b) (x : (⟨2, ![E, G]⟩ : Shape).Idx → α) (a : α) (b : Fin G) (r : α)
    (hr : r = (((List.finRange (⟨2, ![E, G]⟩ : Shape).numel).map (⟨2, ![E, G]⟩ : Shape).rowMajor.symm).filter
      fun i => d i = ix1 b).foldl (fun r i => f r (x i)) a) :
    k r ≤ k a ∧ (∀ e, k r ≤ k (x (ix2 e b))) ∧ (r = a ∨ ∃ e, r = x (ix2 e b)) := by
  obtain ⟨h1, h2, h3⟩ := hf.foldl x (((List.finRange (⟨2, ![E, G]⟩ : Shape).numel).map (⟨2, ![E, G]⟩ : Shape).rowMajor.symm).filter
    fun i => d i = ix1 b) a
  rw [← hr] at h1 h2 h3
  refine ⟨h1, fun e => h2 _ ((mem_list d hd b _).mpr ⟨e, rfl⟩), h3.imp_right ?_⟩
  rintro ⟨i, hi, h⟩
  obtain ⟨e, rfl⟩ := (mem_list d hd b i).mp hi
  exact ⟨e, h⟩

/-- The host's maximum down a column. -/
theorem hostMax (x : FVec Ideal ⟨2, ![E, G]⟩ .f32) {u : Shape} (init : FVec Ideal u .f32)
    (h : (⟨2, ![E, G]⟩ : Shape).ReducesTo [0] ⟨1, ![G]⟩) (hu : 0 < u.numel) (b : Fin G) :
    (∀ e, x (ix2 e b) ≤ Host.reduce FloatOps.maximumf x init h hu (ix1 b)) ∧
      (Host.reduce FloatOps.maximumf x init h hu (ix1 b) = init (Shape.Idx.first hu) ∨
        ∃ e, Host.reduce FloatOps.maximumf x init h hu (ix1 b) = x (ix2 e b)) :=
  (fold_col picks_max h.drop (drop_to h) x _ b _ (Host.reduce_eq_foldl _ x init h hu (ix1 b))).2

/-- A tile's maximum down a column. -/
theorem tileMax (x : FVec Ideal ⟨2, ![E, G]⟩ .f32) (acc : BitVec 32) (h : (⟨2, ![E, G]⟩ : Shape).Reduces [0] ⟨1, ![G]⟩)
    (hφ : FKind.Formats .f32) (ha : acc = FKind.maximumf.neutral .f32 hφ) (b : Fin G) :
    (∀ e, x (ix2 e b) ≤ multiReduction (F := Ideal) .maximumf [0] ⟨1, ![G]⟩ x acc h hφ ha (ix1 b)) ∧
      (multiReduction (F := Ideal) .maximumf [0] ⟨1, ![G]⟩ x acc h hφ ha (ix1 b) = Ideal.ofBits .f32 acc ∨
        ∃ e, multiReduction (F := Ideal) .maximumf [0] ⟨1, ![G]⟩ x acc h hφ ha (ix1 b) = x (ix2 e b)) :=
  (fold_col picks_max h.drop (drop_of h) x _ b _ (reduceFold_eq_foldl h FloatOps.maximumf (FloatOps.ofBits .f32 acc) x (ix1 b))).2

/-- A tile's signed minimum down a column. -/
theorem tileMin (x : IVec ⟨2, ![E, G]⟩ 32) (acc : BitVec 32) (h : (⟨2, ![E, G]⟩ : Shape).Reduces [0] ⟨1, ![G]⟩)
    (ha : acc = IKind.minsi.neutral) (b : Fin G) :
    (∀ e, (multiReductionI .minsi [0] ⟨1, ![G]⟩ x acc h ha (ix1 b)).toInt ≤ (x (ix2 e b)).toInt) ∧
      (multiReductionI .minsi [0] ⟨1, ![G]⟩ x acc h ha (ix1 b) = acc ∨
        ∃ e, multiReductionI .minsi [0] ⟨1, ![G]⟩ x acc h ha (ix1 b) = x (ix2 e b)) :=
  (fold_col picks_minsi h.drop (drop_of h) x _ b _ (reduceFold_eq_foldl h IntOp.minsi acc x (ix1 b))).2

/-- A tile's sum down a column. -/
theorem tileSum (x : FVec Ideal ⟨2, ![E, G]⟩ .f32) (acc : BitVec 32) (h : (⟨2, ![E, G]⟩ : Shape).Reduces [0] ⟨1, ![G]⟩)
    (hφ : FKind.Formats .f32) (ha : acc = FKind.add.neutral .f32 hφ) (b : Fin G) :
    multiReduction (F := Ideal) .add [0] ⟨1, ![G]⟩ x acc h hφ ha (ix1 b) = ∑ e : Fin E, x (ix2 e b) := by
  show ∑ i ∈ Finset.univ.filter (fun i => h.drop i = ix1 b), x i = _
  symm
  refine Finset.sum_bij (fun e _ => ix2 e b) (fun e _ => Finset.mem_filter.mpr ⟨Finset.mem_univ _, drop_of h e b⟩)
    (fun e _ e' _ hee => congrArg (fun f : (⟨2, ![E, G]⟩ : Shape).Idx => f 0) hee) (fun i hi => ?_) (fun _ _ => rfl)
  obtain ⟨e, rfl⟩ := mem_col (drop_of h) (Finset.mem_filter.mp hi).2
  exact ⟨e, Finset.mem_univ _, rfl⟩

/-- Dimension numbers of a scatter of `B` single words into `[M]` at `[B, 1]` indices. -/
abbrev oneDims (M B : ℕ) (wf : ScatterDims.WF ⟨1, ![M]⟩ ⟨2, ![B, 1]⟩ ⟨1, ![B]⟩ [] [0] [0] 1) :
    ScatterDims ⟨1, ![M]⟩ ⟨2, ![B, 1]⟩ ⟨1, ![B]⟩ where
  updateWindowDims := []
  insertedWindowDims := [0]
  scatterDimsToOperandDims := [0]
  indexVectorDim := 1
  wf := wf

variable {M B : ℕ}

/-- An update lands at element `b` exactly when its index, read signed, is `b`. -/
theorem lands (wf) (idx : IVec ⟨2, ![B, 1]⟩ 32) (e : Fin B) (b : Fin M) :
    (oneDims M B wf).resultIdx? (ix1 e) idx = some (ix1 b) ↔ (idx (ix2 e 0)).toInt = b.val := by
  have hi : (oneDims M B wf).siIdx (ix1 e) ⟨List.idxOf (0 : Fin 1) (oneDims M B wf).scatterDimsToOperandDims,
      List.idxOf_lt_length_iff.2 (List.mem_singleton.mpr rfl)⟩ = ix2 e 0 := by
    funext d
    refine Fin.ext ?_
    match d with
    | ⟨0, _⟩ => rfl
    | ⟨1, _⟩ => rfl
  have hs : (oneDims M B wf).start (ix1 e) idx (0 : Fin 1) = (idx (ix2 e 0)).toInt := by
    rw [ScatterDims.start, dif_pos (show (0 : Fin 1) ∈ (oneDims M B wf).scatterDimsToOperandDims from List.mem_singleton.mpr rfl), hi]
  have hw : (oneDims M B wf).window (ix1 e) (0 : Fin 1) = 0 := by
    rw [ScatterDims.window, dif_neg]
    intro h
    have := (List.mem_filter.mp h).2
    simp at this
  have hz : ∀ a : Fin 1, (oneDims M B wf).start (ix1 e) idx a + ((oneDims M B wf).window (ix1 e) a : ℤ) = (idx (ix2 e 0)).toInt := by
    intro a
    obtain rfl : a = 0 := Subsingleton.elim _ _
    rw [hs, hw]; simp
  unfold ScatterDims.resultIdx?
  split
  · rename_i h
    rw [Option.some.injEq]
    constructor
    · intro hc
      have h0 : ((oneDims M B wf).start (ix1 e) idx (0 : Fin 1) + ((oneDims M B wf).window (ix1 e) (0 : Fin 1) : ℤ)).toNat = b.val :=
        congrArg (fun f : (⟨1, ![M]⟩ : Shape).Idx => (f 0).val) hc
      have h1 := (h (0 : Fin 1)).1
      rw [hz] at h0 h1
      omega
    · intro hc
      funext a
      obtain rfl : a = (0 : Fin 1) := Subsingleton.elim _ _
      refine Fin.ext ?_
      show ((oneDims M B wf).start (ix1 e) idx (0 : Fin 1) + ((oneDims M B wf).window (ix1 e) (0 : Fin 1) : ℤ)).toNat = b.val
      rw [hz, hc]; simp
  · rename_i h
    refine ⟨fun hc => absurd hc (by simp), fun hc => absurd (fun a : Fin 1 => ?_) h⟩
    rw [hz a, hc]
    obtain rfl : a = 0 := Subsingleton.elim _ _
    exact ⟨by omega, by exact_mod_cast b.isLt⟩

/-- A segment sum: the start plus the sum of the updates whose index is the element's. -/
theorem scatterSum (wf) (x : FVec Ideal ⟨1, ![M]⟩ .f32) (idx : IVec ⟨2, ![B, 1]⟩ 32) (upd : FVec Ideal ⟨1, ![B]⟩ .f32) (b : Fin M) :
    Host.scatterAdd (F := Ideal) (oneDims M B wf) x idx upd (ix1 b)
      = x (ix1 b) + ∑ e : Fin B, if (idx (ix2 e 0)).toInt = b.val then upd (ix1 e) else 0 := by
  show x (ix1 b) + ∑ j ∈ Finset.univ.filter (fun j => (oneDims M B wf).resultIdx? j idx = some (ix1 b)), upd j = _
  congr 1
  rw [Finset.sum_filter, ← Equiv.sum_comp idxEquiv1.symm]
  exact Finset.sum_congr rfl fun e _ => if_congr (lands wf idx e b) rfl rfl

/-- A scatter, read at element `b`, is the fold over the updates that land there. -/
theorem scatter_fold {s si u : Shape} {w : ℕ} (d : ScatterDims s si u) (f : α → α → α) (idx : IVec si w) (upd : u.Idx → α) (i : s.Idx) :
    ∀ (l : List (Fin u.numel)) (x : s.Idx → α),
      l.foldl (fun r n => match d.resultIdx? (u.rowMajor.symm n) idx with
        | some i => fun i' => if i' = i then f (r i) (upd (u.rowMajor.symm n)) else r i'
        | none => r) x i
      = (l.filter fun n => d.resultIdx? (u.rowMajor.symm n) idx = some i).foldl (fun r n => f r (upd (u.rowMajor.symm n))) (x i)
  | [], x => rfl
  | n :: l, x => by
    rw [List.foldl_cons, scatter_fold d f idx upd i l, List.filter_cons]
    cases hn : d.resultIdx? (u.rowMajor.symm n) idx with
    | none => simp
    | some j =>
      by_cases hj : i = j
      · subst hj; simp
      · have : ¬ j = i := fun h => hj h.symm
        simp [hj, this]

/-- A segment minimum: no update whose index is the element's is less, and it is one of them or the start. -/
theorem scatterMin (wf) (x : IVec ⟨1, ![M]⟩ 32) (idx : IVec ⟨2, ![B, 1]⟩ 32) (upd : IVec ⟨1, ![B]⟩ 32) (b : Fin M) :
    (∀ e, (idx (ix2 e 0)).toInt = b.val →
      (Host.scatter (oneDims M B wf) IntOp.minsi x idx upd (ix1 b)).toInt ≤ (upd (ix1 e)).toInt) ∧
    (Host.scatter (oneDims M B wf) IntOp.minsi x idx upd (ix1 b) = x (ix1 b) ∨
      ∃ e, (idx (ix2 e 0)).toInt = b.val ∧ Host.scatter (oneDims M B wf) IntOp.minsi x idx upd (ix1 b) = upd (ix1 e)) := by
  have hr : Host.scatter (oneDims M B wf) IntOp.minsi x idx upd (ix1 b) = _ :=
    scatter_fold (oneDims M B wf) IntOp.minsi idx upd (ix1 b) (List.finRange _) x
  obtain ⟨-, h2, h3⟩ := picks_minsi.foldl (fun n => upd ((⟨1, ![B]⟩ : Shape).rowMajor.symm n))
    ((List.finRange _).filter fun n => (oneDims M B wf).resultIdx? ((⟨1, ![B]⟩ : Shape).rowMajor.symm n) idx = some (ix1 b)) (x (ix1 b))
  rw [← hr] at h2 h3
  refine ⟨fun e he => ?_, h3.imp_right ?_⟩
  · have := h2 ((⟨1, ![B]⟩ : Shape).rowMajor (ix1 e)) (List.mem_filter.mpr ⟨List.mem_finRange _, by
      rw [Equiv.symm_apply_apply]; simpa using (lands wf idx e b).mpr he⟩)
    simpa using this
  · rintro ⟨n, hn, h⟩
    obtain ⟨e, he⟩ : ∃ e : Fin B, (⟨1, ![B]⟩ : Shape).rowMajor.symm n = ix1 e := ⟨_, eq_ix1 _⟩
    refine ⟨e, (lands wf idx e b).mp ?_, he ▸ h⟩
    simpa [he] using (List.mem_filter.mp hn).2

end Cert.Proof.Reduce
-- ==== Proof.Ops.lean ====
/- The operations the two programs share, and the reference's own, as functions of the arrays they read: one step of the walk is
   a composition of these. Nothing is proved here. -/
module

public import proofs.«01_k».proof.Proof.Take
public import proofs.«01_k».proof.Proof.Reduce
public import Idealize.ShloMosaic.Lib.MatmulPlain

@[expose] public section

noncomputable section

namespace Cert.Proof.Ops

open Idealize.ShloMosaic Idealize.ShloMosaic.ValueIdx Cert.Proof.Take Cert.Proof.Reduce

abbrev F0 := FVec Ideal ⟨0, ![]⟩ .f32
abbrev FG := FVec Ideal ⟨1, ![16]⟩ .f32
abbrev IG := IVec ⟨1, ![16]⟩ 32
abbrev BG := IVec ⟨1, ![16]⟩ 1
abbrev FE := FVec Ideal ⟨1, ![320000]⟩ .f32
abbrev IE := IVec ⟨1, ![320000]⟩ 32
abbrev FH := FVec Ideal ⟨2, ![16, 128]⟩ .f32
abbrev FN := FVec Ideal ⟨2, ![10000, 128]⟩ .f32
abbrev FEd := FVec Ideal ⟨2, ![320000, 128]⟩ .f32
abbrev FD (a b : ℕ) := FVec Ideal ⟨2, ![a, b]⟩ .f32
abbrev FV (a : ℕ) := FVec Ideal ⟨1, ![a]⟩ .f32

theorem ok16 : Ok 16 := by constructor <;> decide
theorem okE : Ok 320000 := by constructor <;> decide

/-- A float constant per graph. -/
def fG (b : BitVec 32) : FG := broadcastInDim ⟨1, ![16]⟩ ![] ok16.b0 (constant (F := Ideal) ⟨0, ![]⟩ .f32 b)
/-- A word per graph. -/
def iG (b : BitVec 32) : IG := broadcastInDim ⟨1, ![16]⟩ ![] ok16.b0 (constantI ⟨0, ![]⟩ 32 b)
/-- A float constant per edge. -/
def fE (b : BitVec 32) : FE := broadcastInDim ⟨1, ![320000]⟩ ![] okE.b0 (constant (F := Ideal) ⟨0, ![]⟩ .f32 b)
/-- A word per edge. -/
def iE (b : BitVec 32) : IE := broadcastInDim ⟨1, ![320000]⟩ ![] okE.b0 (constantI ⟨0, ![]⟩ 32 b)

/-- The fill of a float take. -/
def nan : F0 := constant (F := Ideal) ⟨0, ![]⟩ .f32 0x7FC00000#32

/-- Node rows for sixteen indices. -/
def nodes16 (x0 : FN) (i : IG) : FH :=
  takeRows ok16 10000 128 10000#32 9999#32 (by decide) (by decide) (by decide) nan x0 i
/-- Node rows for every edge. -/
def nodesE (x0 : FN) (i : IE) : FEd :=
  takeRows okE 10000 128 10000#32 9999#32 (by decide) (by decide) (by decide) nan x0 i

/-- A row kept where the word is not negative, zero elsewhere. -/
def keepRow (i : IG) (r : FH) : FH :=
  select (broadcastInDim ⟨2, ![16, 128]⟩ ![0, 1] (by decide : (⟨2, ![16, 1]⟩ : Shape).BroadcastsInDim ⟨2, ![16, 128]⟩ ![0, 1])
    (broadcastInDim ⟨2, ![16, 1]⟩ ![0] ok16.b1 (cmpi .sge i (iG 0#32)))) r
    (broadcastInDim ⟨2, ![16, 128]⟩ ![] (by decide) (constant (F := Ideal) ⟨0, ![]⟩ .f32 0x00000000#32))

/-- The dense layer `tanh([a, b] W + c)`. -/
def layer (a b : FH) (W : FD 256 128) (c : FV 128) : FH :=
  Host.tanh (addf (Host.dotGeneral (DotDims.plain 16 256 128) none
      (concatenate ⟨2, ![16, 256]⟩ 1 [⟨⟨2, ![16, 128]⟩, a⟩, ⟨⟨2, ![16, 128]⟩, b⟩]
        (by decide : Shape.Concatenates [(⟨2, ![16, 128]⟩ : Shape), ⟨2, ![16, 128]⟩] ⟨2, ![16, 256]⟩ 1)) W)
    (broadcastInDim ⟨2, ![16, 128]⟩ ![0, 1] (by decide : (⟨2, ![1, 128]⟩ : Shape).BroadcastsInDim ⟨2, ![16, 128]⟩ ![0, 1])
      (broadcastInDim ⟨2, ![1, 128]⟩ ![1] (by decide) c)))

/-- The hidden state before the first step. -/
def hidden0 (x0 : FN) (x2 : FH) (x7 : IG) (x8 : FD 256 128) (x9 : FV 128) : FH :=
  layer x2 (keepRow x7 (nodes16 x0 (maxsi (iG 0#32) x7))) x8 x9

/-- No graph is done before the first step. -/
def done0 : BG := broadcastInDim ⟨1, ![16]⟩ ![] ok16.b0 (constantI ⟨0, ![]⟩ 1 0#1)

/-- The logit of stopping. -/
def stopLogit (h : FH) (x13 : FD 128 1) (x14 : FV 1) : FG :=
  shapeCast ⟨1, ![16]⟩ (addf (Host.dotGeneral (DotDims.plain 16 128 1) none h x13)
    (broadcastInDim ⟨2, ![16, 1]⟩ ![0, 1] (by decide : (⟨2, ![1, 1]⟩ : Shape).BroadcastsInDim ⟨2, ![16, 1]⟩ ![0, 1])
      (broadcastInDim ⟨2, ![1, 1]⟩ ![1] (by decide) x14))) (by decide)

/-- The logit of stopping, the floor where the graph is done. -/
def stopOf (d : BG) (l : FG) : FG := select d (fG 0xCE6E6B28#32) l

/-- The reference point of the exponentials: the greater of the edge maximum and the stop logit, zero if not finite. -/
def pivot (m st : FG) : FG :=
  select (cmpf .olt (Host.absf (maximumf m st)) (fG 0x7F800000#32)) (maximumf m st) (fG 0x00000000#32)

/-- The log of the normaliser. -/
def logZ (p st s : FG) : FG := addf p (Host.log (addf (addf s (Host.exp (subf st p))) (fG 0x0DA24260#32)))

/-- Whether a graph has an edge to take. -/
def hasEdge (m : FG) : BG := cmpf .ogt m (fG 0xCDEE6B28#32)

/-- Whether a graph stops. -/
def stops (m st : FG) : BG := ori (cmpf .oge st (select (hasEdge m) m (fG 0xCE6E6B28#32))) (noti (hasEdge m))

/-- A graph's action: the chosen edge, or -1. -/
def actionOf (d ch : BG) (best : IG) : IG := select d (iG 4294967295#32) (select ch (iG 4294967295#32) best)

/-- A graph's log probability of its action. -/
def logPfOf (d ch : BG) (s e : FG) : FG := select d (fG 0x00000000#32) (select ch s e)

/-- An edge number brought into the range of the edges. -/
def clipE (i : IG) : IG := minsi (iG 319999#32) (maxsi (iG 0#32) i)

/-- The hidden state after a step, from the rows of the chosen edges' ends. -/
def hiddenOf (h : FH) (d : BG) (a : IG) (sel : FH) (x15 : FD 256 128) (x16 : FV 128) : FH :=
  select (broadcastInDim ⟨2, ![16, 128]⟩ ![0, 1] (by decide : (⟨2, ![16, 1]⟩ : Shape).BroadcastsInDim ⟨2, ![16, 128]⟩ ![0, 1])
      (broadcastInDim ⟨2, ![16, 1]⟩ ![0] ok16.b1 (andi (cmpi .sge a (iG 0#32)) (noti d))))
    (layer h (keepRow a sel) x15 x16) h

/-! ## The kernel's own -/

/-- The kernel's edge sum brought to the reference point. -/
def kSum (s m p : FG) : FG := mulf s (Host.exp (subf m p))

/-- The kernel's choice of the rows of the chosen edges' ends. -/
def kSel (x0 : FN) (tails : IE) (a : IG) : FH :=
  nodes16 x0 (takeFlat ok16 320000 320000#32 319999#32 (by decide) (constantI ⟨0, ![]⟩ 32 2147483648#32) tails (clipE a))

/-- The kernel's per-edge part of the scores, from the products of the nodes. -/
def kGather (u : FD 10000 32) (ft fh : IE) : FD 320000 1 :=
  broadcastInDim ⟨2, ![320000, 1]⟩ ![0] okE.b1
    (addf (takeFlat okE 320000 320000#32 319999#32 (by decide) nan (shapeCast ⟨1, ![320000]⟩ u (by decide)) ft)
      (takeFlat okE 320000 320000#32 319999#32 (by decide) nan (shapeCast ⟨1, ![320000]⟩ u (by decide)) fh))

/-! ## The reference's own -/

/-- The features of the edges. -/
def edgeFeat (x0 : FN) (x1 : FEd) (t h : IE) (x10 x11 x12 : FD 128 128) : FEd :=
  addf (addf (Host.dotGeneral (DotDims.plain 320000 128 128) none x1 x10)
    (Host.dotGeneral (DotDims.plain 320000 128 128) none (nodesE x0 t) x11))
    (Host.dotGeneral (DotDims.plain 320000 128 128) none (nodesE x0 h) x12)

/-- One float per graph, handed to the graph's edges. -/
def spread (x : FG) (eb : IE) : FE := takeFlat okE 16 16#32 15#32 (by decide) nan x eb

/-- Whether an edge's graph goes on. -/
def valid (d : BG) (eb : IE) : IVec ⟨1, ![320000]⟩ 1 :=
  noti (takeFlat okE 16 16#32 15#32 (by decide) (constantI ⟨0, ![]⟩ 1 1#1) d eb)

/-- The edges' scores before the mask. -/
def rScore (h : FH) (ef : FEd) (eb : IE) : FE :=
  Host.divf (Host.divf (Host.reduceAdd (F := Ideal) (mulf (takeRows okE 16 128 16#32 15#32 (by decide) (by decide) (by decide) nan h eb) ef)
      (constant (F := Ideal) ⟨0, ![]⟩ .f32 0x00000000#32) (by decide : (⟨2, ![320000, 128]⟩ : Shape).ReducesTo [1] ⟨1, ![320000]⟩) ok16.u)
    (broadcastInDim ⟨1, ![320000]⟩ ![] okE.b0 (Host.sqrt (constant (F := Ideal) ⟨0, ![]⟩ .f32 0x43000000#32)))) (fE 0x3F800000#32)

/-- The edges' scores, the floor where the graph is done. -/
def rMasked (h : FH) (d : BG) (ef : FEd) (eb : IE) : FE := select (valid d eb) (rScore h ef eb) (fE 0xCE6E6B28#32)

/-- Whether an edge belongs to a graph. -/
def member (eb : IE) : IVec ⟨2, ![320000, 16]⟩ 1 :=
  cmpi .eq (broadcastInDim ⟨2, ![320000, 16]⟩ ![0, 1] (by decide : (⟨2, ![320000, 1]⟩ : Shape).BroadcastsInDim ⟨2, ![320000, 16]⟩ ![0, 1])
      (broadcastInDim ⟨2, ![320000, 1]⟩ ![0] okE.b1 eb))
    (broadcastInDim ⟨2, ![320000, 16]⟩ ![0, 1] (by decide : (⟨2, ![1, 16]⟩ : Shape).BroadcastsInDim ⟨2, ![320000, 16]⟩ ![0, 1])
      (broadcastInDim ⟨2, ![1, 16]⟩ ![1] (by decide) (iotaInDim ⟨1, ![16]⟩ 32 0)))

/-- The greatest score of each graph. -/
def rMax (s : FE) (eb : IE) : FG :=
  Host.reduce FloatOps.maximumf (select (member eb)
      (broadcastInDim ⟨2, ![320000, 16]⟩ ![0, 1] (by decide : (⟨2, ![320000, 1]⟩ : Shape).BroadcastsInDim ⟨2, ![320000, 16]⟩ ![0, 1])
        (broadcastInDim ⟨2, ![320000, 1]⟩ ![0] okE.b1 s))
      (broadcastInDim ⟨2, ![320000, 16]⟩ ![] (by decide) (constant (F := Ideal) ⟨0, ![]⟩ .f32 0xFF800000#32)))
    (constant (F := Ideal) ⟨0, ![]⟩ .f32 0xFF800000#32) (by decide : (⟨2, ![320000, 16]⟩ : Shape).ReducesTo [0] ⟨1, ![16]⟩) ok16.u

/-- The sum of the exponentials of each graph's edges. -/
def rSum (s : FE) (p : FG) (d : BG) (eb : IE) : FG :=
  Host.scatterAdd (F := Ideal) (oneDims 16 320000 (by decide)) (fG 0x00000000#32) (broadcastInDim ⟨2, ![320000, 1]⟩ ![0] okE.b1 eb)
    (mulf (Host.exp (subf s (spread p eb))) (uitofp (F := Ideal) .f32 (valid d eb)))

/-- The first edge of each graph that reaches its maximum. -/
def rBest (s : FE) (m : FG) (eb : IE) : IG :=
  clipE (Host.scatter (oneDims 16 320000 (by decide)) IntOp.minsi (iG 2147483647#32) (broadcastInDim ⟨2, ![320000, 1]⟩ ![0] okE.b1 eb)
    (select (cmpf .oge s (spread m eb)) (iotaInDim ⟨1, ![320000]⟩ 32 0) (iE 320000#32)))

/-- One edge's float for each graph. -/
def pick (x : FE) (i : IG) : FG := takeFlat ok16 320000 320000#32 319999#32 (by decide) nan x i

/-- The rows of the chosen edges' ends, out of the edges' rows. -/
def rSel (te : FEd) (a : IG) : FH :=
  takeRows ok16 320000 128 320000#32 319999#32 (by decide) (by decide) (by decide) nan te (clipE a)

end Cert.Proof.Ops
-- ==== Proof.Steps.lean ====
/- One step of the walk, as the reference takes it and as the kernel's host code takes it from the maximum, sum and first index that
   the step kernel leaves. -/
module

public import proofs.«01_k».proof.Proof.Ops

@[expose] public section

noncomputable section

namespace Cert.Proof.Ops

open Idealize.ShloMosaic Idealize.ShloMosaic.ValueIdx Cert.Proof.Take Cert.Proof.Reduce

section Reference

variable (h : FH) (d : BG) (ef te : FEd) (eb : IE) (x13 : FD 128 1) (x14 : FV 1)

/-- The stop logits. -/
def rStop : FG := stopOf d (Host.divf (stopLogit h x13 x14) (fG 0x3F800000#32))
/-- The maxima of the graphs' scores. -/
def rM : FG := rMax (rMasked h d ef eb) eb
/-- The reference points of the exponentials. -/
def rPiv : FG := pivot (rM h d ef eb) (rStop h d x13 x14)
/-- The logs of the normalisers. -/
def rLogZ : FG :=
  logZ (rPiv h d ef eb x13 x14) (rStop h d x13 x14) (rSum (rMasked h d ef eb) (rPiv h d ef eb x13 x14) d eb)
/-- Which graphs stop. -/
def rStops : BG := stops (rM h d ef eb) (rStop h d x13 x14)
/-- The chosen edges. -/
def rB : IG := rBest (rMasked h d ef eb) (rM h d ef eb) eb
/-- The actions. -/
def rAct : IG := actionOf d (rStops h d ef eb x13 x14) (rB h d ef eb)
/-- The log probabilities of the actions. -/
def rLpf : FG :=
  logPfOf d (rStops h d ef eb x13 x14) (subf (rStop h d x13 x14) (rLogZ h d ef eb x13 x14))
    (pick (subf (rMasked h d ef eb) (spread (rLogZ h d ef eb x13 x14) eb)) (rB h d ef eb))
/-- The hidden state after the step. -/
def rHid (x15 : FD 256 128) (x16 : FV 128) : FH :=
  hiddenOf h d (rAct h d ef eb x13 x14) (rSel te (rAct h d ef eb x13 x14)) x15 x16
/-- The done graphs after the step. -/
def rDone : BG := ori d (rStops h d ef eb x13 x14)

end Reference

section Kernel

variable (h : FH) (d : BG) (m s : FG) (i : IG) (x13 : FD 128 1) (x14 : FV 1)

/-- The stop logits. -/
def kStop : FG := stopOf d (stopLogit h x13 x14)
/-- The reference points of the exponentials. -/
def kPiv : FG := pivot m (kStop h d x13 x14)
/-- The logs of the normalisers. -/
def kLogZ : FG := logZ (kPiv h d m x13 x14) (kStop h d x13 x14) (kSum s m (kPiv h d m x13 x14))
/-- Which graphs stop. -/
def kStops : BG := stops m (kStop h d x13 x14)
/-- The actions. -/
def kAct : IG := actionOf d (kStops h d m x13 x14) (clipE i)
/-- The log probabilities of the actions. -/
def kLpf : FG :=
  logPfOf d (kStops h d m x13 x14) (subf (kStop h d x13 x14) (kLogZ h d m s x13 x14)) (subf m (kLogZ h d m s x13 x14))
/-- The hidden state after the step. -/
def kHid (x0 : FN) (tails : IE) (x15 : FD 256 128) (x16 : FV 128) : FH :=
  hiddenOf h d (kAct h d m i x13 x14) (kSel x0 tails (kAct h d m i x13 x14)) x15 x16
/-- The done graphs after the step. -/
def kDone : BG := ori d (kStops h d m x13 x14)

end Kernel

end Cert.Proof.Ops
-- ==== Proof.RHost.lean ====
/- The reference program's stages, as the step functions: its features, its first hidden state and, step after step, the actions, the
   log probabilities, the hidden state and the done graphs. -/
module

public import proofs.«01_k».proof.Proof.Steps
public import proofs.«01_k».proof.Proof.Gen.ReferenceIdeal.Read

@[expose] public section

set_option maxRecDepth 16384

noncomputable section

namespace Cert.Proof.RHost

open Idealize.ShloMosaic Idealize.ShloMosaic.ValueIdx Cert.Proof.Take Cert.Proof.Reduce Cert.Proof.Ops Cert.ReferenceIdeal.Read

variable (x0 : FN) (x1 : FEd) (x2 : FH) (x3 : IVec ⟨2, ![2, 320000]⟩ 32) (x4 : IE) (x7 : IG) (x8 : FD 256 128) (x9 : FV 128)
  (x10 x11 x12 : FD 128 128) (x13 : FD 128 1) (x14 : FV 1) (x15 : FD 256 128) (x16 : FV 128)

/-- The features of the edges. -/
theorem feat : val_main_v10 (F := Ideal) x0 x1 x3 x10 x11 x12
    = edgeFeat x0 x1 (val_main_v1 (F := Ideal) x3) (val_main_v4 (F := Ideal) x3) x10 x11 x12 := rfl

/-- The rows of the edges' tails. -/
theorem tail_rows : val_main_v2 (F := Ideal) x0 x3 = nodesE x0 (val_main_v1 (F := Ideal) x3) := rfl

/-- The first hidden state. -/
theorem hid0 : val_main_v22 (F := Ideal) x0 x2 x7 x8 x9 = hidden0 x0 x2 x7 x8 x9 := rfl

/-- No graph is done at first. -/
theorem dn0 : val_main_v23 (F := Ideal) = done0 := rfl

/-- The actions of the first step. -/
theorem act0 : val_main_v92 (F := Ideal) x0 x1 x2 x3 x4 x7 x8 x9 x10 x11 x12 x13 x14
    = rAct (val_main_v22 (F := Ideal) x0 x2 x7 x8 x9) (val_main_v23 (F := Ideal)) (val_main_v10 (F := Ideal) x0 x1 x3 x10 x11 x12) x4 x13 x14 := rfl

/-- The log probabilities of the first step. -/
theorem lpf0 : val_main_v93 (F := Ideal) x0 x1 x2 x3 x4 x7 x8 x9 x10 x11 x12 x13 x14
    = rLpf (val_main_v22 (F := Ideal) x0 x2 x7 x8 x9) (val_main_v23 (F := Ideal)) (val_main_v10 (F := Ideal) x0 x1 x3 x10 x11 x12) x4 x13 x14 := rfl

/-- The hidden state after the first step. -/
theorem hid1 : val_main_v111 (F := Ideal) x0 x1 x2 x3 x4 x7 x8 x9 x10 x11 x12 x13 x14 x15 x16
    = rHid (val_main_v22 (F := Ideal) x0 x2 x7 x8 x9) (val_main_v23 (F := Ideal)) (val_main_v10 (F := Ideal) x0 x1 x3 x10 x11 x12) (val_main_v2 (F := Ideal) x0 x3) x4 x13 x14 x15 x16 := rfl

/-- The done graphs after the first step. -/
theorem dn1 : val_main_v112 (F := Ideal) x0 x1 x2 x3 x4 x7 x8 x9 x10 x11 x12 x13 x14
    = rDone (val_main_v22 (F := Ideal) x0 x2 x7 x8 x9) (val_main_v23 (F := Ideal)) (val_main_v10 (F := Ideal) x0 x1 x3 x10 x11 x12) x4 x13 x14 := rfl

/-- The actions of the second step. -/
theorem act1 : val_main_v174 (F := Ideal) x0 x1 x2 x3 x4 x7 x8 x9 x10 x11 x12 x13 x14 x15 x16
    = rAct (val_main_v111 (F := Ideal) x0 x1 x2 x3 x4 x7 x8 x9 x10 x11 x12 x13 x14 x15 x16) (val_main_v112 (F := Ideal) x0 x1 x2 x3 x4 x7 x8 x9 x10 x11 x12 x13 x14) (val_main_v10 (F := Ideal) x0 x1 x3 x10 x11 x12) x4 x13 x14 := rfl

/-- The log probabilities of the second step. -/
theorem lpf1 : val_main_v175 (F := Ideal) x0 x1 x2 x3 x4 x7 x8 x9 x10 x11 x12 x13 x14 x15 x16
    = rLpf (val_main_v111 (F := Ideal) x0 x1 x2 x3 x4 x7 x8 x9 x10 x11 x12 x13 x14 x15 x16) (val_main_v112 (F := Ideal) x0 x1 x2 x3 x4 x7 x8 x9 x10 x11 x12 x13 x14) (val_main_v10 (F := Ideal) x0 x1 x3 x10 x11 x12) x4 x13 x14 := rfl

/-- The hidden state after the second step. -/
theorem hid2 : val_main_v193 (F := Ideal) x0 x1 x2 x3 x4 x7 x8 x9 x10 x11 x12 x13 x14 x15 x16
    = rHid (val_main_v111 (F := Ideal) x0 x1 x2 x3 x4 x7 x8 x9 x10 x11 x12 x13 x14 x15 x16) (val_main_v112 (F := Ideal) x0 x1 x2 x3 x4 x7 x8 x9 x10 x11 x12 x13 x14) (val_main_v10 (F := Ideal) x0 x1 x3 x10 x11 x12) (val_main_v2 (F := Ideal) x0 x3) x4 x13 x14 x15 x16 := rfl

/-- The done graphs after the second step. -/
theorem dn2 : val_main_v194 (F := Ideal) x0 x1 x2 x3 x4 x7 x8 x9 x10 x11 x12 x13 x14 x15 x16
    = rDone (val_main_v111 (F := Ideal) x0 x1 x2 x3 x4 x7 x8 x9 x10 x11 x12 x13 x14 x15 x16) (val_main_v112 (F := Ideal) x0 x1 x2 x3 x4 x7 x8 x9 x10 x11 x12 x13 x14) (val_main_v10 (F := Ideal) x0 x1 x3 x10 x11 x12) x4 x13 x14 := rfl

/-- The actions of the third step. -/
theorem act2 : val_main_v256 (F := Ideal) x0 x1 x2 x3 x4 x7 x8 x9 x10 x11 x12 x13 x14 x15 x16
    = rAct (val_main_v193 (F := Ideal) x0 x1 x2 x3 x4 x7 x8 x9 x10 x11 x12 x13 x14 x15 x16) (val_main_v194 (F := Ideal) x0 x1 x2 x3 x4 x7 x8 x9 x10 x11 x12 x13 x14 x15 x16) (val_main_v10 (F := Ideal) x0 x1 x3 x10 x11 x12) x4 x13 x14 := rfl

/-- The log probabilities of the third step. -/
theorem lpf2 : val_main_v257 (F := Ideal) x0 x1 x2 x3 x4 x7 x8 x9 x10 x11 x12 x13 x14 x15 x16
    = rLpf (val_main_v193 (F := Ideal) x0 x1 x2 x3 x4 x7 x8 x9 x10 x11 x12 x13 x14 x15 x16) (val_main_v194 (F := Ideal) x0 x1 x2 x3 x4 x7 x8 x9 x10 x11 x12 x13 x14 x15 x16) (val_main_v10 (F := Ideal) x0 x1 x3 x10 x11 x12) x4 x13 x14 := rfl

/-- The hidden state after the third step. -/
theorem hid3 : val_main_v275 (F := Ideal) x0 x1 x2 x3 x4 x7 x8 x9 x10 x11 x12 x13 x14 x15 x16
    = rHid (val_main_v193 (F := Ideal) x0 x1 x2 x3 x4 x7 x8 x9 x10 x11 x12 x13 x14 x15 x16) (val_main_v194 (F := Ideal) x0 x1 x2 x3 x4 x7 x8 x9 x10 x11 x12 x13 x14 x15 x16) (val_main_v10 (F := Ideal) x0 x1 x3 x10 x11 x12) (val_main_v2 (F := Ideal) x0 x3) x4 x13 x14 x15 x16 := rfl

/-- The done graphs after the third step. -/
theorem dn3 : val_main_v276 (F := Ideal) x0 x1 x2 x3 x4 x7 x8 x9 x10 x11 x12 x13 x14 x15 x16
    = rDone (val_main_v193 (F := Ideal) x0 x1 x2 x3 x4 x7 x8 x9 x10 x11 x12 x13 x14 x15 x16) (val_main_v194 (F := Ideal) x0 x1 x2 x3 x4 x7 x8 x9 x10 x11 x12 x13 x14 x15 x16) (val_main_v10 (F := Ideal) x0 x1 x3 x10 x11 x12) x4 x13 x14 := rfl

/-- The actions of the fourth step. -/
theorem act3 : val_main_v338 (F := Ideal) x0 x1 x2 x3 x4 x7 x8 x9 x10 x11 x12 x13 x14 x15 x16
    = rAct (val_main_v275 (F := Ideal) x0 x1 x2 x3 x4 x7 x8 x9 x10 x11 x12 x13 x14 x15 x16) (val_main_v276 (F := Ideal) x0 x1 x2 x3 x4 x7 x8 x9 x10 x11 x12 x13 x14 x15 x16) (val_main_v10 (F := Ideal) x0 x1 x3 x10 x11 x12) x4 x13 x14 := rfl

/-- The log probabilities of the fourth step. -/
theorem lpf3 : val_main_v339 (F := Ideal) x0 x1 x2 x3 x4 x7 x8 x9 x10 x11 x12 x13 x14 x15 x16
    = rLpf (val_main_v275 (F := Ideal) x0 x1 x2 x3 x4 x7 x8 x9 x10 x11 x12 x13 x14 x15 x16) (val_main_v276 (F := Ideal) x0 x1 x2 x3 x4 x7 x8 x9 x10 x11 x12 x13 x14 x15 x16) (val_main_v10 (F := Ideal) x0 x1 x3 x10 x11 x12) x4 x13 x14 := rfl

end Cert.Proof.RHost
-- ==== Proof.Consts.lean ====
/- The literals of the two programs, as extended reals. -/
module

public import Idealize.ShloMosaic.PureOps.Ideal
public import Mathlib.Tactic.Ring
public import Mathlib.Tactic.Linarith

@[expose] public section

noncomputable section

namespace Cert.Proof

open Idealize.ShloMosaic

/-- The floor of the maxima, the word of -1e9. -/
theorem lit_floor : Ideal.ofBits .f32 0xCE6E6B28#32 = ((-1000000000 : ℝ) : EReal) := by
  simp [Ideal.ofBits, Ideal.ieee, -EReal.coe_mul]; norm_num

/-- Half the floor. -/
theorem lit_half : Ideal.ofBits .f32 0xCDEE6B28#32 = ((-500000000 : ℝ) : EReal) := by
  simp [Ideal.ofBits, Ideal.ieee, -EReal.coe_mul]; norm_num

/-- The bound on the stop head's weights. -/
theorem lit_million : Ideal.ofBits .f32 0x49742400#32 = ((1000000 : ℝ) : EReal) := by
  simp [Ideal.ofBits, Ideal.ieee, -EReal.coe_mul]; norm_num

/-- The width of a feature. -/
theorem lit_width : Ideal.ofBits .f32 0x43000000#32 = ((128 : ℝ) : EReal) := by
  simp [Ideal.ofBits, Ideal.ieee, -EReal.coe_mul]; norm_num

/-- The word of one. -/
theorem lit_one : Ideal.ofBits .f32 0x3F800000#32 = ((1 : ℝ) : EReal) := by
  simp [Ideal.ofBits, Ideal.ieee, -EReal.coe_mul]; norm_num

/-- The word of zero. -/
theorem lit_zero : Ideal.ofBits .f32 0x00000000#32 = ((0 : ℝ) : EReal) := by
  simp [Ideal.ofBits, Ideal.ieee]

/-- The word of infinity. -/
theorem lit_top : Ideal.ofBits .f32 0x7F800000#32 = (⊤ : EReal) := by
  simp [Ideal.ofBits, Ideal.ieee]

/-- The word of minus infinity. -/
theorem lit_bot : Ideal.ofBits .f32 0xFF800000#32 = (⊥ : EReal) := by
  simp [Ideal.ofBits, Ideal.ieee]

/-- The small number added to the normaliser is a positive real. -/
theorem lit_eps : ∃ ε : ℝ, 0 < ε ∧ Ideal.ofBits .f32 0x0DA24260#32 = (ε : EReal) := by
  refine ⟨_, ?_, by simp [Ideal.ofBits, Ideal.ieee, -EReal.coe_mul]; rfl⟩
  norm_num

end Cert.Proof

end
-- ==== Proof.UMath.lean ====
/- The products of the kernel's two matrix regions, as sums. -/
module

public import proofs.«01_k».proof.Proof.Gen.KernelIdeal.Skeleton
public import proofs.«01_k».proof.Proof.Consts
public import proofs.«01_k».proof.Proof.Steps
public import Idealize.ShloMosaic.Lib.Pipeline.Value

@[expose] public section

set_option maxRecDepth 16384

noncomputable section

namespace Cert.KernelIdeal.Gen

open Idealize.ShloMosaic Idealize.ShloMosaic.TcCoe Idealize.ShloMosaic.ValueIdx Cert.Proof Cert.Proof.Ops

/-- The relation features times their weights. -/
def rfProd (x1 : FEd) (x10 : FD 128 128) : FEd := fun i =>
  ∑ j : Fin 128, x1 (ix2 (n0 := 320000) (n1 := 128) (i 0) j) * x10 (ix2 (n0 := 128) (n1 := 128) j (i 1))

/-- Column `b` (tails) or `16 + b` (heads) of the weights times the hidden state of graph `b`. -/
def wProd (x11 x12 : FD 128 128) (h : FH) (k : Fin 128) (b : Fin 32) : EReal :=
  if hb : b.val < 16 then ∑ j : Fin 128, x11 (ix2 k j) * h (ix2 ⟨b.val, hb⟩ j)
  else ∑ j : Fin 128, x12 (ix2 k j) * h (ix2 ⟨b.val - 16, by omega⟩ j)

/-- The nodes times those. -/
def uProd (x0 : FN) (x11 x12 : FD 128 128) (h : FH) : FD 10000 32 := fun i =>
  ∑ k : Fin 128, x0 (ix2 (n0 := 10000) (n1 := 128) (i 0) k) * wProd x11 x12 h k (i 1)

/-- A tile of the relation product. -/
theorem pay0_apply (v0 : Vec Ideal S12800x128 .f32) (v1 : Vec Ideal S128x128 .f32) (r : Fin 12800) (k : Fin 128) :
    k0_pay1 (F := Ideal) v0 v1 (ix2 r k) = ∑ j : Fin 128, v0 (ix2 r j) * v1 (ix2 j k) := by
  unfold k0_pay1
  show FloatOps.matmul (F := Ideal) (DotDims.plain 12800 128 128) none (v0 : FVec Ideal ⟨2, ![12800, 128]⟩ .f32) _ _ (ix2 r k) = _
  rw [Ideal.matmul_plain_apply, constant_apply, lit_zero, EReal.coe_zero, zero_add]

/-- The weights times the hidden states, tails' and heads' side by side. -/
theorem cat_apply (v0 v4 : FVec Ideal S128x16 .f32) (k : Fin 128) (b : Fin 32) :
    concatenate S128x32 1 [⟨S128x16, v0⟩, ⟨S128x16, v4⟩] concatenates_S128x16_S128x16_S128x32_d1 (ix2 k b)
      = if hb : b.val < 16 then v0 (ix2 k ⟨b.val, hb⟩) else v4 (ix2 k ⟨b.val - 16, by omega⟩) := by
  by_cases hb : b.val < 16
  · rw [dif_pos hb]
    refine concatenate_pair_apply_left (t := S128x32) (s₁ := S128x16) (s₂ := S128x16) 1 v0 v4 _ (ix2 k b) rfl (ix2 k ⟨b.val, hb⟩) fun a => ?_
    match a with
    | ⟨0, _⟩ => rfl
    | ⟨1, _⟩ => rfl
  · rw [dif_neg hb]
    refine concatenate_pair_apply_right (t := S128x32) (s₁ := S128x16) (s₂ := S128x16) 1 v0 v4 _ (ix2 k b) rfl rfl (ix2 k ⟨b.val - 16, by omega⟩) (fun a ha => ?_) ?_
    · match a with
      | ⟨0, _⟩ => rfl
      | ⟨1, _⟩ => exact absurd rfl ha
    · show b.val - 16 + 16 = b.val
      omega

/-- The weights times the transposed hidden state. -/
theorem wdot_apply (w : Vec Ideal S128x128 .f32) (h : Vec Ideal S16x128 .f32) (k : Fin 128) (b : Fin 16) :
    matmul (F := Ideal) (φ₁ := .f32) (φ₂ := .f32) dot_S128x128_S16x128_S128x16_1_1_0_0_n_n none (w : FVec Ideal S128x128 .f32) (h : FVec Ideal S16x128 .f32) (constant S128x16 .f32 0x00000000#32) (ix2 k b)
      = ∑ j : Fin 128, w (ix2 k j) * h (ix2 b j) := by
  show FloatOps.matmul (F := Ideal) (DotDims.transposedRhs 128 128 16) none (w : FVec Ideal ⟨2, ![128, 128]⟩ .f32) _ _ (ix2 k b) = _
  rw [Ideal.matmul_transposedRhs_apply, constant_apply, lit_zero, EReal.coe_zero, zero_add]

/-- The node product. -/
theorem pay1_eq (x0 : Vec Ideal S10000x128 .f32) (x11 x12 : Vec Ideal S128x128 .f32) (h : Vec Ideal S16x128 .f32) :
    k1_pay1 (F := Ideal) x11 h x12 h x0 = uProd x0 x11 x12 h := by
  funext i
  obtain ⟨n, b, rfl⟩ : ∃ (n : Fin 10000) (b : Fin 32), i = ix2 n b := ⟨_, _, eq_ix2 i⟩
  unfold k1_pay1
  rw [shapeCast_self]
  show FloatOps.matmul (F := Ideal) (DotDims.plain 10000 128 32) none (x0 : FVec Ideal ⟨2, ![10000, 128]⟩ .f32) _ _ (ix2 n b) = _
  rw [Ideal.matmul_plain_apply, constant_apply, lit_zero, EReal.coe_zero, zero_add]
  refine Finset.sum_congr rfl fun k _ => congrArg (x0 (ix2 n k) * ·) ?_
  refine (cat_apply _ _ k b).trans ?_
  show _ = wProd x11 x12 h k b
  unfold wProd
  split
  · exact wdot_apply ..
  · exact wdot_apply ..

end Cert.KernelIdeal.Gen

end
-- ==== Proof.TileDefs.lean ====
/- One tile of the step kernel as a function of the blocks it loads and of the accumulators it finds. -/
module

public import proofs.«01_k».proof.Proof.Gen.KernelIdeal.Skeleton
public import Idealize.ShloMosaic.Lib.Pipeline.Value

@[expose] public section

set_option maxRecDepth 16384

noncomputable section

namespace Cert.KernelIdeal.Gen

open Idealize.ShloMosaic Idealize.ShloMosaic.TcCoe

variable {F : FTy → Type} [FloatOps F] [Named F]

/-- The first edge of each graph. -/
abbrev fromE (x0 : Vec F S1x32 .i32) : Vec F S1x16 .i32 := View.ld x0 (Rect.unit (s := S1x32) ![0, 0] S1x16.size inb_S1x32_S1x16_0_0)

/-- The first edge after each graph. -/
abbrev toE (x0 : Vec F S1x32 .i32) : Vec F S1x16 .i32 := View.ld x0 (Rect.unit (s := S1x32) ![0, 1] S1x16.size inb_S1x32_S1x16_0_1)

/-- The running maximum after a tile. -/
def tileM (i : grid2.Coords) (x0 : Vec F S1x32 .i32) (x1 : Vec F S12800x128 .f32) (x2 : Vec F S12800x1 .f32) (x3 : Vec F S16x128 .f32)
    (m : Vec F S1x16 .f32) : Vec F S1x16 .f32 :=
  k2_pay2 (k2_pay11 i (fromE x0) (toE x0) x1 x3 x2) m

/-- The running sum after a tile. -/
def tileS (i : grid2.Coords) (x0 : Vec F S1x32 .i32) (x1 : Vec F S12800x128 .f32) (x2 : Vec F S12800x1 .f32) (x3 : Vec F S16x128 .f32)
    (m s : Vec F S1x16 .f32) : Vec F S1x16 .f32 :=
  k2_pay3 (k2_pay11 i (fromE x0) (toE x0) x1 x3 x2) (k2_pay12 i (fromE x0) (toE x0) x1 x3 x2) m s

/-- The running index of the maximum after a tile. -/
def tileI (i : grid2.Coords) (x0 : Vec F S1x32 .i32) (x1 : Vec F S12800x128 .f32) (x2 : Vec F S12800x1 .f32) (x3 : Vec F S16x128 .f32)
    (m : Vec F S1x16 .f32) (n : Vec F S1x16 .i32) : Vec F S1x16 .i32 :=
  k2_pay4 (k2_pay8 i) (k2_pay9 i (fromE x0) (toE x0)) (k2_pay10 i (fromE x0) (toE x0) x1 x3 x2) (k2_pay11 i (fromE x0) (toE x0) x1 x3 x2) m n

/-- The three accumulators after a tile. -/
def tile (i : grid2.Coords) (x0 : Vec F S1x32 .i32) (x1 : Vec F S12800x128 .f32) (x2 : Vec F S12800x1 .f32) (x3 : Vec F S16x128 .f32)
    (a : Vec F S1x16 .f32 × Vec F S1x16 .f32 × Vec F S1x16 .i32) : Vec F S1x16 .f32 × Vec F S1x16 .f32 × Vec F S1x16 .i32 :=
  (tileM i x0 x1 x2 x3 a.1, tileS i x0 x1 x2 x3 a.1 a.2.1, tileI i x0 x1 x2 x3 a.1 a.2.2)

/-- The accumulators before the first tile. -/
def tile0 : Vec F S1x16 .f32 × Vec F S1x16 .f32 × Vec F S1x16 .i32 := (k2_pay5, k2_pay6, k2_pay7)

/-- The offset of a whole rectangle of rank two is zero. -/
theorem zero2 : (![0, 0] : Fin 2 → Nat) = fun _ => 0 := funext fun a => by fin_cases a <;> rfl

end Cert.KernelIdeal.Gen

end
-- ==== Proof.Fold.lean ====
/- One graph's online softmax, over the reals: what the kernel's three accumulators hold after the edges below `n`, and that
   one more tile keeps it so. Nothing here mentions a program. -/
module

public import Idealize.ShloMosaic.PureOps.Ideal
public import Mathlib.Tactic.Ring
public import Mathlib.Tactic.Linarith

@[expose] public section

noncomputable section

namespace Cert.Proof.Fold

open Finset

/-- After the edges below `n`: `M` is the greatest score of a member (or the floor `lo`), `S` the sum of the members'
    exponentials relative to `M`, and `i` the first member that reaches `M`, when `M` is above the floor. -/
structure Inv (lo : ℝ) (mem : ℕ → Prop) [DecidablePred mem] (x : ℕ → ℝ) (n : ℕ) (M S : ℝ) (i : ℕ) : Prop where
  floor : lo ≤ M
  le : ∀ e < n, mem e → x e ≤ M
  first : lo < M → i < n ∧ mem i ∧ x i = M ∧ ∀ e < i, mem e → x e < M
  sum : S = ∑ e ∈ range n, if mem e then Real.exp (x e - M) else 0

/-- The same of one tile of `T` edges from `n` on, whose maximum counts an edge outside the graph at the floor. -/
structure Tile (lo : ℝ) (mem : ℕ → Prop) [DecidablePred mem] (x : ℕ → ℝ) (n T : ℕ) (M S : ℝ) (i : ℕ) : Prop where
  le : ∀ r < T, (if mem (n + r) then x (n + r) else lo) ≤ M
  att : ∃ r < T, (if mem (n + r) then x (n + r) else lo) = M
  first : lo < M → n ≤ i ∧ i < n + T ∧ mem i ∧ x i = M ∧ ∀ e < i, n ≤ e → mem e → x e < M
  sum : S = ∑ r ∈ range T, if mem (n + r) then Real.exp (x (n + r) - M) else 0

variable {lo : ℝ} {mem : ℕ → Prop} [DecidablePred mem] {x : ℕ → ℝ} {n T : ℕ} {M S TM TS : ℝ} {i j : ℕ}

/-- Before any edge the accumulators hold the floor and the empty sum. -/
theorem Inv.zero (i : ℕ) : Inv lo mem x 0 lo 0 i :=
  ⟨le_rfl, fun e he => absurd he (Nat.not_lt_zero e), fun h => absurd h (lt_irrefl lo), by simp⟩

/-- A sum of exponentials relative to `M`, rescaled, is the sum relative to `M'`. -/
theorem rescale (s : Finset ℕ) (p : ℕ → Prop) [DecidablePred p] (y : ℕ → ℝ) (M M' : ℝ) :
    (∑ e ∈ s, if p e then Real.exp (y e - M) else 0) * Real.exp (M - M') = ∑ e ∈ s, if p e then Real.exp (y e - M') else 0 := by
  rw [sum_mul]
  refine sum_congr rfl fun e _ => ?_
  split
  · rw [← Real.exp_add]; congr 1; ring
  · exact zero_mul _

/-- One more tile: the accumulators' update keeps the invariant. -/
theorem Inv.step (h : Inv lo mem x n M S i) (t : Tile lo mem x n T TM TS j) :
    Inv lo mem x (n + T) (max M TM) (S * Real.exp (M - max M TM) + TS * Real.exp (TM - max M TM)) (if M < TM then j else i) := by
  have tle : ∀ e, n ≤ e → e < n + T → mem e → x e ≤ TM := fun e h1 h2 hm => by
    have := t.le (e - n) (by omega)
    rw [show n + (e - n) = e by omega, if_pos hm] at this
    exact this
  refine ⟨le_max_of_le_left h.floor, fun e he hm => ?_, fun hlo => ?_, ?_⟩
  · rcases lt_or_ge e n with h' | h'
    · exact le_max_of_le_left (h.le e h' hm)
    · exact le_max_of_le_right (tle e h' he hm)
  · by_cases hc : M < TM
    · rw [if_pos hc, max_eq_right hc.le]
      obtain ⟨h1, h2, h3, h4, h5⟩ := t.first (lt_of_le_of_lt h.floor hc)
      refine ⟨h2, h3, h4, fun e he hm => ?_⟩
      rcases lt_or_ge e n with h' | h'
      · exact lt_of_le_of_lt (h.le e h' hm) hc
      · exact h5 e he h' hm
    · rw [if_neg hc, max_eq_left (not_lt.1 hc)]
      rw [max_eq_left (not_lt.1 hc)] at hlo
      obtain ⟨h1, h2, h3, h4⟩ := h.first hlo
      exact ⟨by omega, h2, h3, h4⟩
  · rw [h.sum, t.sum, rescale, rescale (range T) (fun r => mem (n + r)) (fun r => x (n + r)), sum_range_add]

end Cert.Proof.Fold
-- ==== Proof.TileMath.lean ====
/- One tile of the step kernel keeps the invariant of the running maximum, sum and index. -/
module

public import proofs.«01_k».proof.Proof.TileDefs
public import proofs.«01_k».proof.Proof.Fold
public import proofs.«01_k».proof.Proof.Reduce
public import proofs.«01_k».proof.Proof.Consts
public import Idealize.ShloMosaic.Lib.ValueIdx
public import Idealize.ShloMosaic.Lib.ValueLayout
public import Idealize.ShloMosaic.Lib.MatmulPlain
public import Idealize.ShloMosaic.Lib.WordCmp

@[expose] public section

set_option maxRecDepth 16384

noncomputable section

namespace Cert.KernelIdeal.Gen

open Idealize.ShloMosaic Idealize.ShloMosaic.ValueIdx Idealize.ShloMosaic.TcCoe Cert.Proof Cert.Proof.Fold Cert.Proof.Reduce

/-- Whether edge `e` is in graph `b`, given the bounds of the graphs' runs. -/
def mem (v7 v9 : Vec Ideal S1x16 .i32) (b : Fin 16) (e : ℕ) : Prop :=
  (v7 (ix2 0 b) : BitVec 32).toInt ≤ (e : ℤ) ∧ (e : ℤ) < (v9 (ix2 0 b) : BitVec 32).toInt

instance (v7 v9 : Vec Ideal S1x16 .i32) (b : Fin 16) : DecidablePred (mem v7 v9 b) := fun _ => by unfold mem; infer_instance

/-- The score of row `r` of a tile in graph `b`. -/
def rowScore (x1 : Vec Ideal S12800x128 .f32) (x2 : Vec Ideal S12800x1 .f32) (x3 : Vec Ideal S16x128 .f32) (r : Fin 12800) (b : Fin 16) : EReal :=
  ((∑ k : Fin 128, x1 (ix2 r k) * x3 (ix2 b k)) + x2 (ix2 r 0)) * (((Real.sqrt 128)⁻¹ : ℝ) : EReal)

/-- A column spread over the rows, read at an index. -/
theorem bcol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val
              split <;> omega
  | ⟨1, _⟩ => rfl

/-- A sum of reals is the real sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

variable (i : grid2.Coords)

theorem row_lt : (i 0).val < 25 := (i 0).isLt

/-- The row index of a tile counts the edges from the start. -/
theorem pay8_apply (r : Fin 12800) : k2_pay8 i (ix2 r 0) = BitVec.ofNat 32 (12800 * (i 0).val + r.val) := by
  have h : k2_pay8 i (ix2 r 0) = BitVec.ofNat 32 (i 0).val * 12800#32 + BitVec.ofNat 32 (0 * 12800 + r.val) := rfl
  have := row_lt i
  rw [h]
  apply BitVec.eq_of_toNat_eq
  simp only [BitVec.toNat_add, BitVec.toNat_mul, BitVec.toNat_ofNat]
  have := r.isLt
  omega

theorem pay8_toInt (r : Fin 12800) : (k2_pay8 i (ix2 r 0)).toInt = ((12800 * (i 0).val + r.val : ℕ) : ℤ) := by
  rw [pay8_apply, WordCmp.toInt_ofNat_of_lt]
  have := row_lt i
  have := r.isLt
  norm_num; omega

/-- The mask of a tile is set on the graph's edges. -/
theorem pay9_apply (v7 v9 : Vec Ideal S1x16 .i32) (r : Fin 12800) (b : Fin 16) :
    k2_pay9 (F := Ideal) i v7 v9 (ix2 r b) = BitVec.ofBool (decide (mem v7 v9 b (12800 * (i 0).val + r.val))) := by
  have h : k2_pay9 (F := Ideal) i v7 v9 (ix2 r b)
      = IntOp.andi (IntOp.cmpi .sge (k2_pay8 i (ix2 r 0)) (v7 (ix2 0 b))) (IntOp.cmpi .slt (k2_pay8 i (ix2 r 0)) (v9 (ix2 0 b))) := by
    unfold k2_pay9
    simp only [shapeCast_self]
    show IntOp.andi (IntOp.cmpi .sge (broadcastTo S12800x16 _ _ _) (broadcastTo S12800x16 _ _ _)) (IntOp.cmpi .slt (broadcastTo S12800x16 _ _ _) (broadcastTo S12800x16 _ _ _)) = _
    rw [broadcastTo_1b_ab_apply, broadcastTo_1b_ab_apply, bcol_apply]
  rw [h, WordCmp.cmpi_sge_eq, WordCmp.cmpi_slt_eq, WordCmp.andi_ofBool, pay8_toInt, ← Bool.decide_and]
  rfl

/-- The masked score of a tile. -/
theorem pay10_apply (v7 v9 : Vec Ideal S1x16 .i32) (x1 : Vec Ideal S12800x128 .f32) (x3 : Vec Ideal S16x128 .f32) (x2 : Vec Ideal S12800x1 .f32)
    (r : Fin 12800) (b : Fin 16) : k2_pay10 (F := Ideal) i v7 v9 x1 x3 x2 (ix2 r b)
      = if mem v7 v9 b (12800 * (i 0).val + r.val) then rowScore x1 x2 x3 r b else ((-1000000000 : ℝ) : EReal) := by
  unfold k2_pay10
  simp only [shapeCast_self]
  rw [select_apply, pay9_apply]
  by_cases h : mem v7 v9 b (12800 * (i 0).val + r.val)
  · rw [if_pos h, decide_eq_true h]
    show mulf _ _ _ = _
    rw [mulf_apply, addf_apply, bcol_apply]
    show (FloatOps.matmul (F := Ideal) (DotDims.plain 12800 128 16) none (x1 : FVec Ideal ⟨2, ![12800, 128]⟩ .f32) _ _ (ix2 r b) + _) * _ = _
    rw [Ideal.matmul_plain_apply, constant_apply, lit_zero]
    rw [EReal.coe_zero, zero_add]
    exact congrArg₂ (· * ·) (congrArg (· + _) (Finset.sum_congr rfl fun k _ => congrArg (x1 (ix2 r k) * ·) (transpose_ix2_apply ..))) rfl
  · rw [if_neg h, decide_eq_false h]
    exact lit_floor

variable {v7 v9 : Vec Ideal S1x16 .i32} {x1 : Vec Ideal S12800x128 .f32} {x2 : Vec Ideal S12800x1 .f32} {x3 : Vec Ideal S16x128 .f32} {b : Fin 16}

/-- The candidate index of a tile: the least row at the tile's maximum. -/
def cand (v6 : IVec S12800x1 32) (v17 : IVec S12800x16 1) (v31 : FVec Ideal S12800x16 .f32) (v33 : FVec Ideal S1x16 .f32) : IVec S16 32 :=
  multiReductionI .minsi [0] S16 (select (andi (cmpf .oge v31 (broadcastTo S12800x16 v33 broadcasts_S1x16_S12800x16)) v17)
    (broadcastTo S12800x16 v6 broadcasts_S12800x1_S12800x16) (broadcast S12800x16 320000#32)) 2147483647#32 reduces_S12800x16_S16 rfl

/-- The word the candidate's minimum is taken over. -/
theorem cand_row (x : ℕ → ℝ) (TM : ℝ)
    (hy : ∀ r : Fin 12800, mem v7 v9 b (12800 * (i 0).val + r.val) → k2_pay10 (F := Ideal) i v7 v9 x1 x3 x2 (ix2 r b) = (x (12800 * (i 0).val + r.val) : EReal))
    (v33 : FVec Ideal S1x16 .f32) (hM : v33 (ix2 0 b) = (TM : EReal)) (r : Fin 12800) :
    select (andi (cmpf .oge (k2_pay10 (F := Ideal) i v7 v9 x1 x3 x2) (broadcastTo S12800x16 v33 broadcasts_S1x16_S12800x16)) (k2_pay9 (F := Ideal) i v7 v9))
      (broadcastTo S12800x16 (k2_pay8 i) broadcasts_S12800x1_S12800x16) (broadcast S12800x16 320000#32) (ix2 r b)
      = if mem v7 v9 b (12800 * (i 0).val + r.val) ∧ TM ≤ x (12800 * (i 0).val + r.val) then BitVec.ofNat 32 (12800 * (i 0).val + r.val) else 320000#32 := by
  rw [select_apply, bcol_apply, pay8_apply]
  have h : andi (cmpf .oge (k2_pay10 (F := Ideal) i v7 v9 x1 x3 x2) (broadcastTo S12800x16 v33 broadcasts_S1x16_S12800x16)) (k2_pay9 (F := Ideal) i v7 v9) (ix2 r b)
      = BitVec.ofBool (decide (mem v7 v9 b (12800 * (i 0).val + r.val) ∧ TM ≤ x (12800 * (i 0).val + r.val))) := by
    show IntOp.andi (Ideal.cmp .oge (k2_pay10 (F := Ideal) i v7 v9 x1 x3 x2 (ix2 r b)) (broadcastTo S12800x16 v33 broadcasts_S1x16_S12800x16 (ix2 r b))) (k2_pay9 (F := Ideal) i v7 v9 (ix2 r b)) = _
    rw [pay9_apply, broadcastTo_1b_ab_apply, hM]
    unfold Ideal.cmp
    rw [WordCmp.andi_ofBool]
    by_cases hm : mem v7 v9 b (12800 * (i 0).val + r.val)
    · rw [hy r hm]
      simp only [hm, decide_true, Bool.and_true, true_and, EReal.coe_le_coe_iff]
    · simp [hm]
  rw [h]
  by_cases hc : mem v7 v9 b (12800 * (i 0).val + r.val) ∧ TM ≤ x (12800 * (i 0).val + r.val)
  · rw [if_pos hc, decide_eq_true hc]; rfl
  · rw [if_neg hc, decide_eq_false hc]; rfl

/-- One tile's maximum, sum and candidate index are those of its edges. -/
theorem tile_of (x : ℕ → ℝ)
    (hx : ∀ r : Fin 12800, mem v7 v9 b (12800 * (i 0).val + r.val) → rowScore x1 x2 x3 r b = (x (12800 * (i 0).val + r.val) : EReal)) :
    ∃ (TM TS : ℝ) (j : ℕ), k2_pay11 (F := Ideal) i v7 v9 x1 x3 x2 (ix2 0 b) = (TM : EReal)
      ∧ (∑ r : Fin 12800, k2_pay12 (F := Ideal) i v7 v9 x1 x3 x2 (ix2 r b)) = (TS : EReal)
      ∧ cand (k2_pay8 i) (k2_pay9 (F := Ideal) i v7 v9) (k2_pay10 (F := Ideal) i v7 v9 x1 x3 x2) (k2_pay11 (F := Ideal) i v7 v9 x1 x3 x2) (ix1 b) = BitVec.ofNat 32 j
      ∧ Tile (-1000000000) (mem v7 v9 b) x (12800 * (i 0).val) 12800 TM TS j := by
  have hi := row_lt i
  have hy : ∀ r : Fin 12800, k2_pay10 (F := Ideal) i v7 v9 x1 x3 x2 (ix2 r b)
      = ((if mem v7 v9 b (12800 * (i 0).val + r.val) then x (12800 * (i 0).val + r.val) else -1000000000 : ℝ) : EReal) := fun r => by
    rw [pay10_apply]
    by_cases h : mem v7 v9 b (12800 * (i 0).val + r.val)
    · rw [if_pos h, if_pos h, hx r h]
    · rw [if_neg h, if_neg h]
  have h11 : k2_pay11 (F := Ideal) i v7 v9 x1 x3 x2 (ix2 0 b)
      = multiReduction (F := Ideal) .maximumf [0] S16 (k2_pay10 (F := Ideal) i v7 v9 x1 x3 x2) 0xFF800000#32 reduces_S12800x16_S16 (.inl rfl) rfl (ix1 b) := by
    unfold k2_pay11
    exact shapeCast_a_1a_apply ..
  obtain ⟨hle, hat⟩ := tileMax (k2_pay10 (F := Ideal) i v7 v9 x1 x3 x2) 0xFF800000#32 reduces_S12800x16_S16 (.inl rfl) rfl b
  rw [← h11] at hle hat
  have hat' : ∃ r : Fin 12800, k2_pay11 (F := Ideal) i v7 v9 x1 x3 x2 (ix2 0 b) = k2_pay10 (F := Ideal) i v7 v9 x1 x3 x2 (ix2 r b) := by
    rcases hat with h | h
    · have := hle 0
      rw [h, lit_bot, hy 0, le_bot_iff] at this
      exact absurd this (EReal.coe_ne_bot _)
    · exact h
  obtain ⟨r0, hr0⟩ := hat'
  rw [hy r0] at hr0
  set TM : ℝ := if mem v7 v9 b (12800 * (i 0).val + r0.val) then x (12800 * (i 0).val + r0.val) else -1000000000 with hTM
  have hle' : ∀ r : Fin 12800, (if mem v7 v9 b (12800 * (i 0).val + r.val) then x (12800 * (i 0).val + r.val) else -1000000000 : ℝ) ≤ TM := fun r => by
    have := hle r
    rwa [hr0, hy r, EReal.coe_le_coe_iff] at this
  have h12 : ∀ r : Fin 12800, k2_pay12 (F := Ideal) i v7 v9 x1 x3 x2 (ix2 r b)
      = ((if mem v7 v9 b (12800 * (i 0).val + r.val) then Real.exp (x (12800 * (i 0).val + r.val) - TM) else 0 : ℝ) : EReal) := fun r => by
    unfold k2_pay12
    rw [select_apply, pay9_apply]
    by_cases h : mem v7 v9 b (12800 * (i 0).val + r.val)
    · rw [if_pos h, decide_eq_true h]
      show Ideal.exp (k2_pay10 (F := Ideal) i v7 v9 x1 x3 x2 (ix2 r b) - broadcastTo S12800x16 _ _ (ix2 r b)) = _
      rw [broadcastTo_1b_ab_apply, hr0, hy r, if_pos h, ← EReal.coe_sub, Ideal.exp_coe]
    · rw [if_neg h, decide_eq_false h]
      exact lit_zero
  have hrow := fun r => cand_row i x TM (fun r hm => by rw [hy r, if_pos hm]) (k2_pay11 (F := Ideal) i v7 v9 x1 x3 x2) hr0 (x1 := x1) (x2 := x2) (x3 := x3) (v7 := v7) (v9 := v9) (b := b) r
  obtain ⟨cle, cat⟩ := tileMin (select (andi (cmpf .oge (k2_pay10 (F := Ideal) i v7 v9 x1 x3 x2) (broadcastTo S12800x16 (k2_pay11 (F := Ideal) i v7 v9 x1 x3 x2) broadcasts_S1x16_S12800x16)) (k2_pay9 (F := Ideal) i v7 v9))
      (broadcastTo S12800x16 (k2_pay8 i) broadcasts_S12800x1_S12800x16) (broadcast S12800x16 320000#32)) 2147483647#32 reduces_S12800x16_S16 rfl b
  simp only [hrow] at cle cat
  set w := cand (k2_pay8 i) (k2_pay9 (F := Ideal) i v7 v9) (k2_pay10 (F := Ideal) i v7 v9 x1 x3 x2) (k2_pay11 (F := Ideal) i v7 v9 x1 x3 x2) (ix1 b) with hw
  change ∀ e : Fin 12800, w.toInt ≤ _ at cle
  change w = _ ∨ ∃ e : Fin 12800, w = _ at cat
  have toI : ∀ k : ℕ, k < 2147483648 → (BitVec.ofNat 32 k).toInt = (k : ℤ) := fun k hk => WordCmp.toInt_ofNat_of_lt (by norm_num; omega)
  refine ⟨TM, ∑ r ∈ Finset.range 12800, if mem v7 v9 b (12800 * (i 0).val + r) then Real.exp (x (12800 * (i 0).val + r) - TM) else 0, w.toNat,
    hr0, ?_, by rw [BitVec.ofNat_toNat, BitVec.setWidth_eq], ⟨fun r hr => hle' ⟨r, hr⟩, ⟨r0.val, r0.isLt, hTM.symm⟩, fun hlo => ?_, rfl⟩⟩
  · rw [Finset.sum_congr rfl fun r _ => h12 r, coe_sum, Finset.sum_range]
  · have hm0 : mem v7 v9 b (12800 * (i 0).val + r0.val) := by
      by_contra h
      rw [hTM, if_neg h] at hlo
      exact lt_irrefl _ hlo
    have hx0 : x (12800 * (i 0).val + r0.val) = TM := by rw [hTM, if_pos hm0]
    have hb0 := cle r0
    rw [if_pos ⟨hm0, hx0.ge⟩, toI _ (by omega)] at hb0
    rcases cat with h | ⟨r, h⟩
    · rw [h, show (2147483647#32).toInt = 2147483647 from rfl] at hb0
      omega
    · by_cases hc : mem v7 v9 b (12800 * (i 0).val + r.val) ∧ TM ≤ x (12800 * (i 0).val + r.val)
      · rw [if_pos hc] at h
        have hj : w.toNat = 12800 * (i 0).val + r.val := by
          rw [h, BitVec.toNat_ofNat]; omega
        have hjI : w.toInt = ((12800 * (i 0).val + r.val : ℕ) : ℤ) := by rw [h, toI _ (by omega)]
        have hle2 := hle' r
        rw [if_pos hc.1] at hle2
        rw [hj]
        refine ⟨by omega, by omega, hc.1, le_antisymm hle2 hc.2, fun e he hn hm => ?_⟩
        have hr : e - 12800 * (i 0).val < 12800 := by omega
        have hee : 12800 * (i 0).val + (e - 12800 * (i 0).val) = e := by omega
        have h1 := hle' ⟨e - 12800 * (i 0).val, hr⟩
        have h2 := cle ⟨e - 12800 * (i 0).val, hr⟩
        simp only [hee, if_pos hm] at h1
        refine lt_of_le_of_ne h1 fun heq => ?_
        simp only [hee] at h2
        rw [if_pos ⟨hm, heq.ge⟩, toI _ (by omega), hjI] at h2
        omega
      · rw [if_neg hc] at h
        rw [h, show (320000#32).toInt = 320000 from rfl] at hb0
        omega

/-- The new maximum at a graph. -/
theorem pay2_apply (v33 : FVec Ideal S1x16 .f32) (v50 : Vec Ideal S1x16 .f32) (b : Fin 16) :
    k2_pay2 (F := Ideal) v33 v50 (ix2 0 b) = max (v50 (ix2 0 b) : EReal) (v33 (ix2 0 b)) := by
  unfold k2_pay2 k2_pay1
  simp only [shapeCast_self]
  rfl

/-- The new sum at a graph. -/
theorem pay3_apply (v33 : FVec Ideal S1x16 .f32) (v38 : FVec Ideal S12800x16 .f32) (v50 v52 : Vec Ideal S1x16 .f32) (b : Fin 16) :
    k2_pay3 (F := Ideal) v33 v38 v50 v52 (ix2 0 b)
      = (v52 (ix2 0 b) : EReal) * Ideal.exp ((v50 (ix2 0 b) : EReal) - k2_pay2 (F := Ideal) v33 v50 (ix2 0 b))
        + (∑ r : Fin 12800, v38 (ix2 r b)) * Ideal.exp (v33 (ix2 0 b) - k2_pay2 (F := Ideal) v33 v50 (ix2 0 b)) := by
  rw [← tileSum v38 0x00000000#32 reduces_S12800x16_S16 (.inl rfl) rfl b]
  unfold k2_pay3 k2_pay1
  simp only [shapeCast_self]
  rw [addf_apply, mulf_apply, mulf_apply]
  refine congrArg₂ (· + ·) rfl (congrArg₂ (· * ·) ?_ rfl)
  exact shapeCast_a_1a_apply ..

/-- The new index at a graph. -/
theorem pay4_apply (v6 : IVec S12800x1 32) (v17 : IVec S12800x16 1) (v31 : FVec Ideal S12800x16 .f32) (v33 : FVec Ideal S1x16 .f32)
    (v50 : Vec Ideal S1x16 .f32) (v54 : Vec Ideal S1x16 .i32) (b : Fin 16) :
    k2_pay4 (F := Ideal) v6 v17 v31 v33 v50 v54 (ix2 0 b)
      = if (v50 (ix2 0 b) : EReal) < v33 (ix2 0 b) then cand v6 v17 v31 v33 (ix1 b) else v54 (ix2 0 b) := by
  unfold k2_pay4 k2_pay1 cand
  simp only [shapeCast_self]
  rw [select_apply, shapeCast_a_1a_apply, cmpf_apply]
  show Scalar.select (Ideal.cmp .ogt _ _) _ _ = _
  unfold Ideal.cmp
  by_cases h : (v50 (ix2 0 b) : EReal) < v33 (ix2 0 b)
  · rw [if_pos h, decide_eq_true h]; rfl
  · rw [if_neg h, decide_eq_false h]; rfl

/-- What the accumulators hold after `n` edges: the real maximum, sum and index of the fold. -/
def Holds (v7 v9 : Vec Ideal S1x16 .i32) (x : Fin 16 → ℕ → ℝ) (n : ℕ) (a : Vec Ideal S1x16 .f32 × Vec Ideal S1x16 .f32 × Vec Ideal S1x16 .i32) : Prop :=
  ∀ b : Fin 16, ∃ (M S : ℝ) (j : ℕ), a.1 (ix2 0 b) = (M : EReal) ∧ a.2.1 (ix2 0 b) = (S : EReal) ∧ a.2.2 (ix2 0 b) = BitVec.ofNat 32 j
    ∧ Inv (-1000000000) (mem v7 v9 b) (x b) n M S j

/-- The initial accumulators hold the empty fold. -/
theorem holds0 (v7 v9 : Vec Ideal S1x16 .i32) (x : Fin 16 → ℕ → ℝ) : Holds v7 v9 x 0 (tile0 (F := Ideal)) := fun b =>
  ⟨-1000000000, 0, 320000, lit_floor, lit_zero, rfl, Inv.zero _⟩

/-- One tile keeps what the accumulators hold. -/
theorem holds_step (x0 : Vec Ideal S1x32 .i32) (x : Fin 16 → ℕ → ℝ) (a)
    (hx : ∀ (b : Fin 16) (r : Fin 12800), mem (fromE x0) (toE x0) b (12800 * (i 0).val + r.val) →
      rowScore x1 x2 x3 r b = (x b (12800 * (i 0).val + r.val) : EReal))
    (h : Holds (fromE x0) (toE x0) x (12800 * (i 0).val) a) :
    Holds (fromE x0) (toE x0) x (12800 * (i 0).val + 12800) (tile (F := Ideal) i x0 x1 x2 x3 a) := fun b => by
  obtain ⟨M, S, j, hM, hS, hj, hI⟩ := h b
  obtain ⟨TM, TS, k, hTM, hTS, hk, hT⟩ := tile_of i (x b) (hx b)
  have e2 : tileM (F := Ideal) i x0 x1 x2 x3 a.1 (ix2 0 b) = ((max M TM : ℝ) : EReal) := by
    unfold tileM
    rw [pay2_apply, hM, hTM]
    rcases le_total M TM with h | h
    · rw [max_eq_right h, max_eq_right (EReal.coe_le_coe_iff.mpr h)]
    · rw [max_eq_left h, max_eq_left (EReal.coe_le_coe_iff.mpr h)]
  refine ⟨_, _, _, e2, ?_, ?_, hI.step hT⟩
  · show k2_pay3 (F := Ideal) _ _ a.1 a.2.1 (ix2 0 b) = _
    rw [pay3_apply, show k2_pay2 (F := Ideal) _ a.1 (ix2 0 b) = _ from e2, hTS, hM, hS, hTM]
    simp only [← EReal.coe_sub, Ideal.exp_coe, ← EReal.coe_mul, ← EReal.coe_add]
  · have e4 := pay4_apply (k2_pay8 i) (k2_pay9 (F := Ideal) i (fromE x0) (toE x0)) (k2_pay10 (F := Ideal) i (fromE x0) (toE x0) x1 x3 x2)
      (k2_pay11 (F := Ideal) i (fromE x0) (toE x0) x1 x3 x2) a.1 a.2.2 b
    rw [hTM, hM] at e4
    unfold tile tileI
    dsimp only
    rw [e4]
    by_cases h : M < TM
    · rw [if_pos h, if_pos (EReal.coe_lt_coe_iff.mpr h)]
      exact hk
    · rw [if_neg h, if_neg (fun h' => h (EReal.coe_lt_coe_iff.mp h'))]
      exact hj

/-- The score of edge `e` in graph `b`. -/
def edgeScore (rf : Vec Ideal S320000x128 .f32) (g : Vec Ideal S320000x1 .f32) (h : Vec Ideal S16x128 .f32) (e : Fin 320000) (b : Fin 16) : EReal :=
  ((∑ k : Fin 128, rf (ix2 e k) * h (ix2 b k)) + g (ix2 e 0)) * (((Real.sqrt 128)⁻¹ : ℝ) : EReal)

/-- A point of a row of 25 is its own coordinate. -/
theorem mod25 {n : ℕ} (h : n < 25) : n / 1 % 25 = n := by omega

end Cert.KernelIdeal.Gen

end
-- ==== Proof.EdgeOps.lean ====
/- The reference's edge operations read at one graph: a value handed to an edge of the graph, the masked score, the greatest score, the
   sum of exponentials and the first edge at the maximum. -/
module

public import proofs.«01_k».proof.Proof.Steps
public import proofs.«01_k».proof.Proof.Consts

@[expose] public section

set_option maxRecDepth 16384

noncomputable section

namespace Cert.Proof.Ops

open Idealize.ShloMosaic Idealize.ShloMosaic.ValueIdx Cert.Proof.Take Cert.Proof.Reduce

/-- Edge `e` belongs to graph `b`. -/
abbrev Of (eb : IE) (b : Fin 16) (e : Fin 320000) : Prop := eb (ix1 e) = BitVec.ofNat 32 b.val

variable {eb : IE} {b : Fin 16} {e : Fin 320000}

/-- A graph's number as a signed word. -/
theorem graph_toInt (b : Fin 16) : (BitVec.ofNat 32 b.val).toInt = (b.val : ℤ) :=
  WordCmp.toInt_ofNat_of_lt (by have := b.isLt; norm_num; omega)

/-- An edge's number as a signed word. -/
theorem edge_toInt {n : ℕ} (h : n < 2147483648) : (BitVec.ofNat 32 n).toInt = (n : ℤ) :=
  WordCmp.toInt_ofNat_of_lt (by norm_num; omega)

/-- An edge lands on the graph it belongs to. -/
theorem of_iff : (eb (ix1 e)).toInt = b.val ↔ Of eb b e :=
  ⟨fun h => BitVec.eq_of_toInt_eq (h.trans (graph_toInt b).symm), fun h => by rw [h, graph_toInt]⟩

/-- A take by the edges' graphs reads the graph's element. -/
theorem take_of {α : Type} (wf) (fill : (⟨0, ![]⟩ : Shape).Idx → α) (x : (⟨1, ![16]⟩ : Shape).Idx → α) (h : Of eb b e) :
    takeFlat okE 16 16#32 15#32 wf fill x eb (ix1 e) = x (ix1 b) := by
  have hb := b.isLt
  have ht : (eb (ix1 e)).toInt = b.val := of_iff.mpr h
  refine takeFlat_apply okE _ _ wf fill x eb e ?_ ?_ b ht
  · rw [ht]; omega
  · rw [ht, show (15#32).toInt = 15 from rfl]; omega

/-- A graph's value at its edge. -/
theorem spread_of (x : FG) (h : Of eb b e) : spread x eb (ix1 e) = x (ix1 b) := take_of _ _ x h

/-- A graph that is not done keeps its edges. -/
theorem valid_of (d : BG) (h : Of eb b e) (hd : d (ix1 b) = 0#1) : valid d eb (ix1 e) = 1#1 := by
  unfold valid
  show ~~~(takeFlat okE 16 16#32 15#32 _ _ d eb (ix1 e)) = 1#1
  rw [take_of _ _ d h, hd]
  rfl

/-- Such a graph's masked score is the score. -/
theorem masked_of (hh : FH) (d : BG) (ef : FEd) (h : Of eb b e) (hd : d (ix1 b) = 0#1) :
    rMasked hh d ef eb (ix1 e) = rScore hh ef eb (ix1 e) := by
  unfold rMasked
  rw [select_apply, valid_of d h hd, ValueIdx.select_one]

/-- A column of an edge array. -/
theorem col_of {α : Type} (h0 : (⟨2, ![320000, 1]⟩ : Shape).BroadcastsInDim ⟨2, ![320000, 16]⟩ ![0, 1]) (x : (⟨1, ![320000]⟩ : Shape).Idx → α) (e : Fin 320000) (b : Fin 16) :
    broadcastInDim ⟨2, ![320000, 16]⟩ ![0, 1] h0 (broadcastInDim ⟨2, ![320000, 1]⟩ ![0] okE.b1 x) (ix2 e b) = x (ix1 e) := by
  refine (broadcastInDim_apply ![0, 1] h0 _ (ix2 e b) (ix2 e 0) fun a => ?_).trans (bcast_col okE.b1 x e 0)
  match a with
  | ⟨0, _⟩ => rfl
  | ⟨1, _⟩ => rfl

/-- Membership as a bit. -/
theorem member_apply (e : Fin 320000) (b : Fin 16) : member eb (ix2 e b) = BitVec.ofBool (decide (Of eb b e)) := by
  unfold member
  show IntOp.cmpi .eq _ _ = _
  rw [WordCmp.cmpi_eq_eq, col_of]
  congr 1

/-- The masked column of scores. -/
theorem maxArg_apply (s : FE) (h0 h1) (e : Fin 320000) (b : Fin 16) :
    select (member eb)
      (broadcastInDim ⟨2, ![320000, 16]⟩ ![0, 1] h0 (broadcastInDim ⟨2, ![320000, 1]⟩ ![0] okE.b1 s))
      (broadcastInDim ⟨2, ![320000, 16]⟩ ![] h1 (constant (F := Ideal) ⟨0, ![]⟩ .f32 0xFF800000#32)) (ix2 e b)
      = if Of eb b e then s (ix1 e) else (⊥ : EReal) := by
  rw [select_apply, member_apply, col_of]
  by_cases h : Of eb b e
  · rw [if_pos h, decide_eq_true h]; rfl
  · rw [if_neg h, decide_eq_false h]; exact lit_bot

/-- The greatest score of a graph. -/
theorem rMax_spec (s : FE) (b : Fin 16) : (∀ e, Of eb b e → s (ix1 e) ≤ rMax s eb (ix1 b)) ∧
    (rMax s eb (ix1 b) = (⊥ : EReal) ∨ ∃ e, Of eb b e ∧ rMax s eb (ix1 b) = s (ix1 e)) := by
  obtain ⟨h1, h2⟩ := hostMax (E := 320000) (G := 16) (select (member eb)
      (broadcastInDim ⟨2, ![320000, 16]⟩ ![0, 1] (by decide : (⟨2, ![320000, 1]⟩ : Shape).BroadcastsInDim ⟨2, ![320000, 16]⟩ ![0, 1])
        (broadcastInDim ⟨2, ![320000, 1]⟩ ![0] okE.b1 s))
      (broadcastInDim ⟨2, ![320000, 16]⟩ ![] (by decide) (constant (F := Ideal) ⟨0, ![]⟩ .f32 0xFF800000#32)))
    (constant (F := Ideal) ⟨0, ![]⟩ .f32 0xFF800000#32) (by decide : (⟨2, ![320000, 16]⟩ : Shape).ReducesTo [0] ⟨1, ![16]⟩) ok16.u b
  have hA := fun e => maxArg_apply (eb := eb) s (by decide) (by decide) e b
  change ∀ e, _ ≤ rMax s eb (ix1 b) at h1
  change rMax s eb (ix1 b) = _ ∨ ∃ e, rMax s eb (ix1 b) = _ at h2
  refine ⟨fun e he => (if_pos he).symm.le.trans ((hA e).symm.le.trans (h1 e)), ?_⟩
  rcases h2 with h2 | ⟨e, h2⟩
  · exact Or.inl (h2.trans lit_bot)
  · by_cases he : Of eb b e
    · exact Or.inr ⟨e, he, h2.trans ((hA e).trans (if_pos he))⟩
    · exact Or.inl (h2.trans ((hA e).trans (if_neg he)))

/-- The sum of a graph's exponentials. -/
theorem rSum_apply (s : FE) (p : FG) (d : BG) (b : Fin 16) (hd : d (ix1 b) = 0#1) :
    rSum s p d eb (ix1 b) = ∑ e : Fin 320000, if Of eb b e then Ideal.exp (s (ix1 e) - p (ix1 b)) else (0 : EReal) := by
  unfold rSum
  rw [scatterSum]
  have h0 : fG 0x00000000#32 (ix1 b) = (0 : EReal) := lit_zero
  rw [h0, zero_add]
  refine Finset.sum_congr rfl fun e _ => ?_
  rw [bcast_col]
  by_cases h : Of eb b e
  · rw [if_pos (of_iff.mpr h), if_pos h, mulf_apply]
    show Ideal.exp (s (ix1 e) - spread p eb (ix1 e)) * (((valid d eb (ix1 e)).toNat : ℝ) : EReal) = _
    rw [spread_of p h, valid_of d h hd]
    rw [show (((1#1 : BitVec 1).toNat : ℝ) : EReal) = 1 by norm_num, mul_one]
  · rw [if_neg (fun h' => h (of_iff.mp h')), if_neg h]

/-- The word brought into the edges' range, when it is there. -/
theorem clip_of (i : IG) (n : ℕ) (hn : n < 320000) (h : i (ix1 b) = BitVec.ofNat 32 n) : clipE i (ix1 b) = BitVec.ofNat 32 n := by
  unfold clipE
  show IntOp.minsi 319999#32 (IntOp.maxsi 0#32 (i (ix1 b))) = _
  rw [h]
  have ht : (BitVec.ofNat 32 n).toInt = (n : ℤ) := edge_toInt (by omega)
  have h1 : IntOp.maxsi 0#32 (BitVec.ofNat 32 n) = BitVec.ofNat 32 n := by
    unfold IntOp.maxsi
    rw [if_neg]
    simp only [BitVec.slt, ht, decide_eq_true_eq, show (0#32).toInt = 0 from rfl]
    omega
  rw [h1]
  unfold IntOp.minsi
  split
  · rename_i h
    simp only [BitVec.slt, ht, decide_eq_true_eq, show (319999#32).toInt = 319999 from rfl] at h
    omega
  · rfl

/-- The word brought into the edges' range lies there. -/
theorem clip_range (i : IG) (b : Fin 16) : ∃ k : Fin 320000, (clipE i (ix1 b)).toInt = k.val := by
  have h : 0 ≤ (clipE i (ix1 b)).toInt ∧ (clipE i (ix1 b)).toInt ≤ 319999 := by
    unfold clipE
    show 0 ≤ (IntOp.minsi 319999#32 (IntOp.maxsi 0#32 (i (ix1 b)))).toInt ∧ (IntOp.minsi 319999#32 (IntOp.maxsi 0#32 (i (ix1 b)))).toInt ≤ 319999
    have h1 : 0 ≤ (IntOp.maxsi 0#32 (i (ix1 b))).toInt := by
      unfold IntOp.maxsi
      split
      · exact le_of_eq rfl
      · rename_i h
        simpa [BitVec.slt] using h
    generalize IntOp.maxsi 0#32 (i (ix1 b)) = w at h1 ⊢
    unfold IntOp.minsi
    split
    · exact ⟨by decide, by decide⟩
    · rename_i h
      refine ⟨h1, ?_⟩
      simpa [BitVec.slt] using h
  exact ⟨⟨(clipE i (ix1 b)).toInt.toNat, by omega⟩, by simp only; omega⟩

/-- The first edge at the maximum. -/
theorem rBest_of (s : FE) (m : FG) (b : Fin 16) (i : Fin 320000) (hi : Of eb b i) (h1 : m (ix1 b) ≤ s (ix1 i))
    (h2 : ∀ e : Fin 320000, Of eb b e → m (ix1 b) ≤ s (ix1 e) → i.val ≤ e.val) : rBest s m eb (ix1 b) = BitVec.ofNat 32 i.val := by
  have hl := i.isLt
  unfold rBest
  refine clip_of _ i.val hl ?_
  obtain ⟨h3, h4⟩ := scatterMin (M := 16) (B := 320000) (by decide) (iG 2147483647#32) (broadcastInDim ⟨2, ![320000, 1]⟩ ![0] okE.b1 eb)
    (select (cmpf .oge s (spread m eb)) (iotaInDim ⟨1, ![320000]⟩ 32 0) (iE 320000#32)) b
  have hu : ∀ e : Fin 320000, Of eb b e → select (cmpf .oge s (spread m eb)) (iotaInDim ⟨1, ![320000]⟩ 32 0) (iE 320000#32) (ix1 e)
      = if m (ix1 b) ≤ s (ix1 e) then BitVec.ofNat 32 e.val else 320000#32 := fun e he => by
    rw [select_apply, cmpf_apply, spread_of m he]
    show Scalar.select (Ideal.cmp .oge _ _) _ _ = _
    unfold Ideal.cmp
    by_cases h : (m (ix1 b) : EReal) ≤ s (ix1 e)
    · rw [if_pos h, decide_eq_true h]; rfl
    · rw [if_neg h, decide_eq_false h]; rfl
  have hb : ∀ e : Fin 320000, (broadcastInDim ⟨2, ![320000, 1]⟩ ![0] okE.b1 eb (ix2 e 0)).toInt = b.val ↔ Of eb b e := fun e => by
    rw [bcast_col]; exact of_iff
  simp only [hb] at h3 h4
  have h5 := h3 i hi
  rw [hu i hi, if_pos h1, edge_toInt (by omega)] at h5
  rcases h4 with h4 | ⟨e, he, h4⟩
  · rw [h4] at h5
    have : (iG 2147483647#32 (ix1 b)).toInt = 2147483647 := rfl
    omega
  · have hel := e.isLt
    rw [hu e he] at h4
    by_cases h : (m (ix1 b) : EReal) ≤ s (ix1 e)
    · rw [if_pos h] at h4
      rw [h4] at h5 ⊢
      rw [edge_toInt (by omega)] at h5
      have := h2 e he h
      rw [show e.val = i.val by omega]
    · rw [if_neg h] at h4
      rw [h4, show (320000#32).toInt = 320000 from rfl] at h5
      omega

/-- The float of an edge of the graphs. -/
theorem pick_of (x : FE) (i : IG) (k : Fin 320000) (h : i (ix1 b) = BitVec.ofNat 32 k.val) : pick x i (ix1 b) = x (ix1 k) := by
  have hl := k.isLt
  have ht : (i (ix1 b)).toInt = k.val := by rw [h, edge_toInt (by omega)]
  refine takeFlat_apply ok16 _ _ _ _ x i b ?_ ?_ k ht
  · rw [ht]; omega
  · rw [ht, show (319999#32).toInt = 319999 from rfl]; omega

end Cert.Proof.Ops

end
-- ==== Proof.Score.lean ====
/- The score of an edge in its graph: the kernel's sum of three products in parts, and the reference's product of the hidden state with the
   edge's features, are one real number. -/
module

public import proofs.«01_k».proof.Proof.UMath
public import proofs.«01_k».proof.Proof.TileMath
public import proofs.«01_k».proof.Proof.EdgeOps
public import Idealize.ShloMosaic.Lib.StackMember
public import Mathlib.Tactic.Ring

@[expose] public section

set_option maxRecDepth 16384

noncomputable section

namespace Cert.Proof.Ops

open Idealize.ShloMosaic Idealize.ShloMosaic.ValueIdx Idealize.ShloMosaic.StackMember Cert.Proof.Take Cert.KernelIdeal.Gen

/-- Every element of a matrix is a real number. -/
def Real2 {a b : ℕ} (x : FD a b) : Prop := ∃ f : Fin a → Fin b → ℝ, ∀ i j, x (ix2 i j) = (f i j : EReal)

/-- The kernel's place of the tails' products. -/
def flatT (tails eb : IE) : IE := addi (muli tails (iE 32#32)) eb
/-- The kernel's place of the heads' products. -/
def flatH (heads eb : IE) : IE := addi (addi (muli heads (iE 32#32)) (iE 16#32)) eb

/-- Sums of products of reals, inside the extended reals. -/
theorem dot_coe {n : ℕ} (f g : Fin n → ℝ) : (∑ k : Fin n, (f k : EReal) * (g k : EReal)) = ((∑ k : Fin n, f k * g k : ℝ) : EReal) := by
  rw [← coe_sum]
  exact Finset.sum_congr rfl fun k _ => (EReal.coe_mul _ _).symm

/-- A product of three may be summed in either order. -/
theorem swap_sum {n m : ℕ} (p : Fin n → ℝ) (C : Fin n → Fin m → ℝ) (h : Fin m → ℝ) :
    (∑ k, p k * ∑ j, C k j * h j) = ∑ j, h j * ∑ k, p k * C k j := by
  simp only [Finset.mul_sum]
  rw [Finset.sum_comm]
  exact Finset.sum_congr rfl fun j _ => Finset.sum_congr rfl fun k _ => by ring

/-- The two ways of summing an edge's score. -/
theorem score_ring {n m : ℕ} (a p q : Fin n → ℝ) (B C D : Fin n → Fin m → ℝ) (h : Fin m → ℝ) :
    (∑ k, (∑ j, a j * B j k) * h k) + ((∑ k, p k * ∑ j, C k j * h j) + ∑ k, q k * ∑ j, D k j * h j)
      = ∑ j, h j * ((∑ k, a k * B k j) + (∑ k, p k * C k j) + ∑ k, q k * D k j) := by
  rw [swap_sum, swap_sum]
  simp only [mul_add, Finset.sum_add_distrib]
  rw [show (∑ k, (∑ j, a j * B j k) * h k) = ∑ k, h k * ∑ j, a j * B j k from Finset.sum_congr rfl fun k _ => by ring]
  ring

/-- A word whose signed value is a small natural number. -/
theorem word_of {w : BitVec 32} {n : ℕ} (hn : n < 2147483648) (h : w.toInt = (n : ℤ)) : w = BitVec.ofNat 32 n :=
  BitVec.eq_of_toInt_eq (h.trans (edge_toInt hn).symm)

/-- The flat products read at a place. -/
theorem flat_apply (u : FD 10000 32) (h0) (n : Fin 10000) (c : Fin 32) (k : Fin 320000) (hk : k.val = n.val * 32 + c.val) :
    shapeCast ⟨1, ![320000]⟩ u h0 (ix1 k) = u (ix2 n c) := by
  refine shapeCast_apply u h0 (ix1 k) (ix2 n c) ?_
  rw [Shape.rowMajor_val_one, Shape.rowMajor_val_two]
  exact hk.symm

variable {x0 : FN} {x1 : FEd} {x10 x11 x12 : FD 128 128} {h : FH} {tails heads eb : IE} {e : Fin 320000} {b : Fin 16} {n m : Fin 10000}

/-- The place of a tail's product. -/
theorem flatT_apply (he : Of eb b e) (ht : (tails (ix1 e)).toInt = n.val) : (flatT tails eb (ix1 e)).toInt = ((n.val * 32 + b.val : ℕ) : ℤ) := by
  have := n.isLt
  have := b.isLt
  have h1 : flatT tails eb (ix1 e) = tails (ix1 e) * 32#32 + eb (ix1 e) := rfl
  rw [h1, he, word_of (by omega) ht, show (32#32 : BitVec 32) = BitVec.ofNat 32 32 from rfl, ← BitVec.ofNat_mul, ← BitVec.ofNat_add, edge_toInt (by omega)]

/-- The place of a head's product. -/
theorem flatH_apply (he : Of eb b e) (ht : (heads (ix1 e)).toInt = n.val) : (flatH heads eb (ix1 e)).toInt = ((n.val * 32 + (16 + b.val) : ℕ) : ℤ) := by
  have := n.isLt
  have := b.isLt
  have h1 : flatH heads eb (ix1 e) = heads (ix1 e) * 32#32 + 16#32 + eb (ix1 e) := rfl
  rw [h1, he, word_of (by omega) ht, show (32#32 : BitVec 32) = BitVec.ofNat 32 32 from rfl, show (16#32 : BitVec 32) = BitVec.ofNat 32 16 from rfl,
    ← BitVec.ofNat_mul, ← BitVec.ofNat_add, ← BitVec.ofNat_add, edge_toInt (by omega)]
  push_cast; ring

/-- The take of a product at a place. -/
theorem takeU (u : FD 10000 32) (wf) (h0) (i : IE) (n : Fin 10000) (c : Fin 32) (hi : (i (ix1 e)).toInt = ((n.val * 32 + c.val : ℕ) : ℤ)) :
    takeFlat okE 320000 320000#32 319999#32 wf nan (shapeCast ⟨1, ![320000]⟩ u h0) i (ix1 e) = u (ix2 n c) := by
  have := n.isLt
  have := c.isLt
  refine (takeFlat_apply okE _ _ wf nan _ i e ?_ ?_ ⟨n.val * 32 + c.val, by omega⟩ hi).trans (flat_apply u h0 n c _ rfl)
  · rw [hi]; omega
  · rw [hi, show (319999#32).toInt = 319999 from rfl]; omega

/-- The kernel's per-edge part at an edge of graph `b`. -/
theorem gather_apply (u : FD 10000 32) (he : Of eb b e) (ht : (tails (ix1 e)).toInt = n.val) (hh : (heads (ix1 e)).toInt = m.val) :
    kGather u (flatT tails eb) (flatH heads eb) (ix2 e 0) = u (ix2 n ⟨b.val, by omega⟩) + u (ix2 m ⟨16 + b.val, by omega⟩) := by
  unfold kGather
  rw [bcast_col, ValueIdx.addf_apply, takeU u _ _ _ n ⟨b.val, by omega⟩ (flatT_apply he ht), takeU u _ _ _ m ⟨16 + b.val, by omega⟩ (flatH_apply he hh)]

/-- A node's product with the tails' weights. -/
theorem uProd_tail (n : Fin 10000) (b : Fin 16) : uProd x0 x11 x12 h (ix2 n ⟨b.val, by omega⟩)
    = ∑ k : Fin 128, x0 (ix2 n k) * ∑ j : Fin 128, x11 (ix2 k j) * h (ix2 b j) := by
  show (∑ k : Fin 128, x0 (ix2 n k) * wProd x11 x12 h k ⟨b.val, by omega⟩) = _
  refine Finset.sum_congr rfl fun k _ => ?_
  unfold wProd
  rw [dif_pos b.isLt]

/-- A node's product with the heads' weights. -/
theorem uProd_head (n : Fin 10000) (b : Fin 16) : uProd x0 x11 x12 h (ix2 n ⟨16 + b.val, by omega⟩)
    = ∑ k : Fin 128, x0 (ix2 n k) * ∑ j : Fin 128, x12 (ix2 k j) * h (ix2 b j) := by
  show (∑ k : Fin 128, x0 (ix2 n k) * wProd x11 x12 h k ⟨16 + b.val, by omega⟩) = _
  refine Finset.sum_congr rfl fun k _ => ?_
  unfold wProd
  rw [dif_neg (by show ¬ (16 + b.val < 16); omega)]
  have hb : (⟨16 + b.val - 16, by omega⟩ : Fin 16) = b := Fin.ext (by show 16 + b.val - 16 = b.val; omega)
  exact congrArg (x0 (ix2 n k) * ·) (Finset.sum_congr rfl fun j _ => by rw [hb])

/-- A node's row taken for an edge. -/
theorem nodesE_apply (i : IE) (hi : (i (ix1 e)).toInt = n.val) (k : Fin 128) : nodesE x0 i (ix2 e k) = x0 (ix2 n k) := by
  have := n.isLt
  refine takeRows_apply okE _ _ _ _ _ nan x0 i e ?_ ?_ n hi k
  · rw [hi]; omega
  · rw [hi, show (9999#32).toInt = 9999 from rfl]; omega

/-- An edge's features. -/
theorem edgeFeat_apply (ht : (tails (ix1 e)).toInt = n.val) (hh : (heads (ix1 e)).toInt = m.val) (j : Fin 128) :
    edgeFeat x0 x1 tails heads x10 x11 x12 (ix2 e j) = (∑ k : Fin 128, x1 (ix2 e k) * x10 (ix2 k j))
      + (∑ k : Fin 128, x0 (ix2 n k) * x11 (ix2 k j)) + ∑ k : Fin 128, x0 (ix2 m k) * x12 (ix2 k j) := by
  unfold edgeFeat
  rw [ValueIdx.addf_apply, ValueIdx.addf_apply, dotGeneral_plain_apply, dotGeneral_plain_apply, dotGeneral_plain_apply]
  simp only [nodesE_apply (x0 := x0) tails ht, nodesE_apply (x0 := x0) heads hh]

/-- The hidden state of an edge's graph. -/
theorem hidden_of (he : Of eb b e) (wf hr hf) (j : Fin 128) : takeRows okE 16 128 16#32 15#32 wf hr hf nan h eb (ix2 e j) = h (ix2 b j) := by
  have := b.isLt
  have ht : (eb (ix1 e)).toInt = b.val := of_iff.mpr he
  refine takeRows_apply okE _ _ wf hr hf nan h eb e ?_ ?_ b ht j
  · rw [ht]; omega
  · rw [ht, show (15#32).toInt = 15 from rfl]; omega

/-- A row's sum on the host. -/
theorem rowsum_apply (v : FEd) (init : F0) (h0) (hu) : Host.reduceAdd (F := Ideal) v init (h0 : (⟨2, ![320000, 128]⟩ : Shape).ReducesTo [1] ⟨1, ![320000]⟩) hu (ix1 e)
    = init (Shape.Idx.first hu) + ∑ j : Fin 128, v (ix2 e j) := by
  rw [hostReduceAdd_apply, Ideal.hostReduceAdd_single h0 (by decide)]
  congr 1
  refine Finset.sum_congr rfl fun j _ => congrArg v ?_
  funext a
  match a with
  | ⟨0, _⟩ => rfl
  | ⟨1, _⟩ => rfl

/-- The reference's score of an edge of graph `b`. -/
theorem rScore_apply (ef : FEd) (he : Of eb b e) (s : ℝ) (hs : (∑ j : Fin 128, h (ix2 b j) * ef (ix2 e j)) = (s : EReal)) :
    rScore h ef eb (ix1 e) = ((s * (Real.sqrt 128)⁻¹ : ℝ) : EReal) := by
  have h128 : (0 : ℝ) < Real.sqrt 128 := Real.sqrt_pos.mpr (by norm_num)
  unfold rScore
  rw [hostDivf_apply, hostDivf_apply, rowsum_apply]
  simp only [ValueIdx.mulf_apply, hidden_of he]
  rw [hs, broadcastInDim_scalar_apply]
  have e1 : fE 0x3F800000#32 (ix1 e) = ((1 : ℝ) : EReal) := lit_one
  have e2 : constant (F := Ideal) ⟨0, ![]⟩ .f32 0x00000000#32 (Shape.Idx.first ok16.u) = (0 : EReal) := lit_zero
  have e3 : Host.sqrt (F := Ideal) (constant (F := Ideal) ⟨0, ![]⟩ .f32 0x43000000#32) ix0 = ((Real.sqrt 128 : ℝ) : EReal) := by
    show Ideal.sqrt (Ideal.ofBits .f32 0x43000000#32) = _
    rw [lit_width, Ideal.sqrt_coe, if_neg (by norm_num)]
  rw [e1, e2, e3, zero_add]
  show Ideal.div (Ideal.div _ _) _ = _
  unfold Ideal.div
  rw [if_neg (by norm_num), if_neg (by exact_mod_cast h128.ne'), EReal.coe_one, inv_one, mul_one, ← EReal.coe_inv, ← EReal.coe_mul]

/-- The kernel's and the reference's score of an edge of graph `b` are one real number. -/
theorem score_eq (r0 : Real2 x0) (r1 : Real2 x1) (r10 : Real2 x10) (r11 : Real2 x11) (r12 : Real2 x12) (rh : Real2 h)
    (he : Of eb b e) (ht : (tails (ix1 e)).toInt = n.val) (hh : (heads (ix1 e)).toInt = m.val) :
    ∃ r : ℝ, edgeScore (rfProd x1 x10) (kGather (uProd x0 x11 x12 h) (flatT tails eb) (flatH heads eb)) h e b = (r : EReal)
      ∧ rScore h (edgeFeat x0 x1 tails heads x10 x11 x12) eb (ix1 e) = (r : EReal) := by
  obtain ⟨f0, r0⟩ := r0
  obtain ⟨f1, r1⟩ := r1
  obtain ⟨f10, r10⟩ := r10
  obtain ⟨f11, r11⟩ := r11
  obtain ⟨f12, r12⟩ := r12
  obtain ⟨fh, rh⟩ := rh
  refine ⟨_, ?_, rScore_apply _ he (∑ j, fh b j * ((∑ k, f1 e k * f10 k j) + (∑ k, f0 n k * f11 k j) + ∑ k, f0 m k * f12 k j)) ?_⟩
  · unfold edgeScore
    rw [gather_apply _ he ht hh, uProd_tail, uProd_head]
    have hrf : ∀ k : Fin 128, rfProd x1 x10 (ix2 e k) = ((∑ j, f1 e j * f10 j k : ℝ) : EReal) := fun k => by
      show (∑ j : Fin 128, x1 (ix2 e j) * x10 (ix2 j k)) = _
      simp only [r1, r10, dot_coe]
    simp only [hrf, r0, r11, r12, rh, dot_coe]
    rw [← EReal.coe_add, ← EReal.coe_add, ← EReal.coe_mul, score_ring]
  · simp only [edgeFeat_apply ht hh, r0, r1, r10, r11, r12, rh, dot_coe, ← EReal.coe_add]

end Cert.Proof.Ops
-- ==== Proof.Tail.lean ====
/- One step at one graph that is not done: the kernel's and the reference's reference points, normalisers, stop decisions, actions and log
   probabilities are equal. -/
module

public import proofs.«01_k».proof.Proof.EdgeOps
public import proofs.«01_k».proof.Proof.Fold
public import proofs.«01_k».proof.Proof.TileMath

@[expose] public section

set_option maxRecDepth 16384

noncomputable section

namespace Cert.Proof.Ops

open Idealize.ShloMosaic Idealize.ShloMosaic.ValueIdx Cert.Proof.Fold

/-- The greater of two reals. -/
theorem coe_max (a b : ℝ) : max (a : EReal) (b : EReal) = ((max a b : ℝ) : EReal) :=
  (Monotone.map_max EReal.coe_strictMono.monotone).symm

/-- A bit is zero or one. -/
theorem bit_cases (w : BitVec 1) : w = 0#1 ∨ w = 1#1 := by
  revert w; decide

/-- The log of the normaliser at a graph. -/
theorem logZ_apply (p st s : FG) (b : Fin 16) : logZ p st s (ix1 b)
    = p (ix1 b) + Ideal.log (s (ix1 b) + Ideal.exp (st (ix1 b) - p (ix1 b)) + fG 0x0DA24260#32 (ix1 b)) := rfl

/-- What is known of graph `b` in a step: it is not done, its scores and its stop logit are real, and the step kernel's three results
    are the fold of the scores. -/
structure Graph (h : FH) (d : BG) (ef : FEd) (eb : IE) (x13 : FD 128 1) (x14 : FV 1) (m s : FG) (i : IG) (b : Fin 16) (x : ℕ → ℝ)
    (mem : ℕ → Prop) [DecidablePred mem] (M S σ : ℝ) (j : ℕ) : Prop where
  live : d (ix1 b) = 0#1
  mem_iff : ∀ e : Fin 320000, mem e.val ↔ Of eb b e
  score : ∀ e : Fin 320000, Of eb b e → rScore h ef eb (ix1 e) = (x e.val : EReal)
  hm : m (ix1 b) = (M : EReal)
  hs : s (ix1 b) = (S : EReal)
  hi : i (ix1 b) = BitVec.ofNat 32 j
  inv : Inv (-1000000000) mem x 320000 M S j
  stop : stopLogit h x13 x14 (ix1 b) = (σ : EReal)
  far : -1000000000 ≤ σ

variable {h : FH} {d : BG} {ef : FEd} {eb : IE} {x13 : FD 128 1} {x14 : FV 1} {m s : FG} {i : IG} {b : Fin 16} {x : ℕ → ℝ}
  {mem : ℕ → Prop} [DecidablePred mem] {M S σ : ℝ} {j : ℕ}

section

variable (G : Graph h d ef eb x13 x14 m s i b x mem M S σ j)
include G

/-- The kernel's stop logit. -/
theorem Graph.kStop : kStop h d x13 x14 (ix1 b) = (σ : EReal) := by
  unfold Ops.kStop stopOf
  rw [select_apply, G.live, ValueIdx.select_zero, G.stop]

/-- The reference's stop logit. -/
theorem Graph.rStop : rStop h d x13 x14 (ix1 b) = (σ : EReal) := by
  unfold Ops.rStop stopOf
  rw [select_apply, G.live, ValueIdx.select_zero, hostDivf_apply, G.stop]
  show Ideal.div _ (Ideal.ofBits .f32 0x3F800000#32) = _
  rw [lit_one]
  unfold Ideal.div
  rw [if_neg (by norm_num), EReal.coe_one, inv_one, mul_one]

/-- The masked score of an edge. -/
theorem Graph.masked (e : Fin 320000) (he : Of eb b e) : rMasked h d ef eb (ix1 e) = (x e.val : EReal) :=
  (masked_of h d ef he G.live).trans (G.score e he)

/-- No edge's score exceeds the kernel's maximum. -/
theorem Graph.le (e : Fin 320000) (he : Of eb b e) : x e.val ≤ M := G.inv.le e.val e.isLt ((G.mem_iff e).mpr he)

/-- Above the floor the two maxima agree. -/
theorem Graph.rM_eq (hM : -1000000000 < M) : rM h d ef eb (ix1 b) = (M : EReal) := by
  obtain ⟨hlt, hmem, hx, -⟩ := G.inv.first hM
  have he : Of eb b ⟨j, hlt⟩ := (G.mem_iff ⟨j, hlt⟩).mp hmem
  obtain ⟨h1, h2⟩ := rMax_spec (eb := eb) (rMasked h d ef eb) b
  have h3 := h1 ⟨j, hlt⟩ he
  rw [G.masked _ he, hx] at h3
  refine le_antisymm ?_ h3
  rcases h2 with h2 | ⟨e, h4, h2⟩
  · exact h2.le.trans bot_le
  · rw [G.masked e h4] at h2
    exact h2.le.trans (EReal.coe_le_coe_iff.mpr (G.le e h4))

/-- At the floor the reference's maximum is not above it. -/
theorem Graph.rM_le (hM : M = -1000000000) : rM h d ef eb (ix1 b) ≤ ((-1000000000 : ℝ) : EReal) := by
  obtain ⟨-, h2⟩ := rMax_spec (eb := eb) (rMasked h d ef eb) b
  rcases h2 with h2 | ⟨e, h4, h2⟩
  · exact h2.le.trans bot_le
  · rw [G.masked e h4] at h2
    exact h2.le.trans (EReal.coe_le_coe_iff.mpr (hM ▸ G.le e h4))

/-- The greater of maximum and stop logit. -/
theorem Graph.max_eq : max (rM h d ef eb (ix1 b) : EReal) (σ : EReal) = ((max M σ : ℝ) : EReal) := by
  rcases G.inv.floor.lt_or_eq with hM | hM
  · rw [G.rM_eq hM]; exact coe_max M σ
  · rw [max_eq_right ((G.rM_le hM.symm).trans (EReal.coe_le_coe_iff.mpr G.far)), max_eq_right (hM ▸ G.far)]

omit G in
/-- The reference point of a real maximum. -/
theorem pivot_real (m st : FG) (b : Fin 16) (r : ℝ) (hr : max (m (ix1 b) : EReal) (st (ix1 b)) = (r : EReal)) :
    pivot m st (ix1 b) = (r : EReal) := by
  unfold pivot
  rw [select_apply, cmpf_apply]
  have h1 : maximumf m st (ix1 b) = (r : EReal) := hr
  show Scalar.select (Ideal.cmp .olt (max (maximumf m st (ix1 b)) (-(maximumf m st (ix1 b)))) (Ideal.ofBits .f32 0x7F800000#32)) _ _ = _
  rw [h1, lit_top]
  unfold Ideal.cmp
  dsimp only
  rw [decide_eq_true (max_lt (EReal.coe_lt_top r) (by rw [← EReal.coe_neg]; exact EReal.coe_lt_top _))]
  rfl

/-- The kernel's reference point. -/
theorem Graph.kPiv : kPiv h d m x13 x14 (ix1 b) = ((max M σ : ℝ) : EReal) :=
  pivot_real _ _ b _ (by rw [G.hm, G.kStop]; exact coe_max M σ)

/-- The reference's reference point. -/
theorem Graph.rPiv : rPiv h d ef eb x13 x14 (ix1 b) = ((max M σ : ℝ) : EReal) :=
  pivot_real _ _ b _ (by rw [G.rStop]; exact G.max_eq)

/-- The sums of exponentials agree. -/
theorem Graph.sum_eq : kSum s m (Ops.kPiv h d m x13 x14) (ix1 b)
    = rSum (rMasked h d ef eb) (Ops.rPiv h d ef eb x13 x14) d eb (ix1 b) := by
  rw [rSum_apply _ _ _ b G.live, G.rPiv]
  unfold kSum
  rw [mulf_apply]
  show s (ix1 b) * Ideal.exp (m (ix1 b) - Ops.kPiv h d m x13 x14 (ix1 b)) = _
  rw [G.kPiv, G.hm, G.hs, ← EReal.coe_sub, Ideal.exp_coe, ← EReal.coe_mul, G.inv.sum, rescale, Finset.sum_range]
  rw [← Cert.KernelIdeal.Gen.coe_sum]
  refine Finset.sum_congr rfl fun e _ => ?_
  by_cases he : Of eb b e
  · rw [if_pos he, if_pos ((G.mem_iff e).mpr he), G.masked e he, ← EReal.coe_sub, Ideal.exp_coe]
  · rw [if_neg he, if_neg (fun h' => he ((G.mem_iff e).mp h')), EReal.coe_zero]

/-- The logs of the normalisers agree. -/
theorem Graph.logZ_eq : kLogZ h d m s x13 x14 (ix1 b) = rLogZ h d ef eb x13 x14 (ix1 b) := by
  unfold kLogZ rLogZ
  rw [logZ_apply, logZ_apply]
  rw [← G.sum_eq, G.kPiv, G.rPiv, G.kStop, G.rStop]

omit G in
/-- Whether there is an edge to take, as a bit. -/
theorem hasEdge_apply (m : FG) (b : Fin 16) : hasEdge m (ix1 b) = BitVec.ofBool (decide (((-500000000 : ℝ) : EReal) < m (ix1 b))) := by
  unfold hasEdge
  rw [cmpf_apply]
  show Ideal.cmp .ogt (m (ix1 b)) (Ideal.ofBits .f32 0xCDEE6B28#32) = _
  rw [lit_half]
  rfl

omit G in
/-- Whether a graph stops, as a bit. -/
theorem stops_apply (m st : FG) (b : Fin 16) :
    stops m st (ix1 b) = BitVec.ofBool (decide (((-500000000 : ℝ) : EReal) < m (ix1 b) → (m (ix1 b) : EReal) ≤ st (ix1 b))) := by
  unfold stops
  show IntOp.ori (Ideal.cmp .oge (st (ix1 b)) (select (hasEdge m) m (fG 0xCE6E6B28#32) (ix1 b))) (~~~(hasEdge m (ix1 b))) = _
  rw [select_apply, hasEdge_apply]
  unfold Ideal.cmp
  dsimp only
  by_cases h : ((-500000000 : ℝ) : EReal) < m (ix1 b)
  · rw [decide_eq_true h, show BitVec.ofBool true = 1#1 from rfl, ValueIdx.select_one]
    by_cases h' : (m (ix1 b) : EReal) ≤ st (ix1 b)
    · rw [decide_eq_true h', decide_eq_true (fun _ => h')]; decide
    · rw [decide_eq_false h', decide_eq_false (fun k => h' (k h))]; decide
  · rw [decide_eq_false h, decide_eq_true (fun h' => absurd h' h)]
    show IntOp.ori _ 1#1 = 1#1
    generalize BitVec.ofBool _ = w
    revert w
    decide

/-- The stop decisions agree. -/
theorem Graph.stops_eq : kStops h d m x13 x14 (ix1 b) = rStops h d ef eb x13 x14 (ix1 b) := by
  unfold kStops rStops
  rw [stops_apply, stops_apply, G.kStop, G.rStop, G.hm]
  rcases G.inv.floor.lt_or_eq with hM | hM
  · rw [G.rM_eq hM]
  · have h1 : ¬ ((-500000000 : ℝ) : EReal) < (M : EReal) := by
      rw [EReal.coe_lt_coe_iff, ← hM]; norm_num
    have h2 : ¬ ((-500000000 : ℝ) : EReal) < rM h d ef eb (ix1 b) := fun h' =>
      absurd (h'.trans_le (G.rM_le hM.symm)) (by rw [EReal.coe_lt_coe_iff]; norm_num)
    rw [decide_eq_true (fun h' => absurd h' h1), decide_eq_true (fun h' => absurd h' h2)]

/-- A graph that goes on has an edge above the floor. -/
theorem Graph.above (hs : kStops h d m x13 x14 (ix1 b) = 0#1) : -1000000000 < M := by
  unfold kStops at hs
  rw [stops_apply, WordCmp.ofBool_decide_eq_zero_iff, G.hm, Classical.not_imp, EReal.coe_lt_coe_iff] at hs
  linarith [hs.1]

/-- The chosen edges agree, and both are the kernel's index. -/
theorem Graph.best (hM : -1000000000 < M) : ∃ k : Fin 320000, k.val = j ∧ Of eb b k ∧ x j = M
    ∧ clipE i (ix1 b) = BitVec.ofNat 32 j ∧ rB h d ef eb (ix1 b) = BitVec.ofNat 32 j := by
  obtain ⟨hlt, hmem, hx, hfirst⟩ := G.inv.first hM
  have he : Of eb b ⟨j, hlt⟩ := (G.mem_iff ⟨j, hlt⟩).mp hmem
  refine ⟨⟨j, hlt⟩, rfl, he, hx, clip_of i j hlt G.hi, ?_⟩
  refine rBest_of _ _ b ⟨j, hlt⟩ he ?_ fun e h1 h2 => ?_
  · rw [G.rM_eq hM, G.masked _ he, hx]
  · rw [G.rM_eq hM, G.masked e h1, EReal.coe_le_coe_iff] at h2
    by_contra h3
    exact absurd h2 (not_le.mpr (hfirst e.val (by simpa using h3) ((G.mem_iff e).mpr h1)))

/-- The actions agree. -/
theorem Graph.act_eq : kAct h d m i x13 x14 (ix1 b) = rAct h d ef eb x13 x14 (ix1 b) := by
  unfold kAct rAct actionOf
  simp only [select_apply]
  rw [G.live, ValueIdx.select_zero, ValueIdx.select_zero, ← G.stops_eq]
  rcases bit_cases (kStops h d m x13 x14 (ix1 b)) with h0 | h1
  · obtain ⟨k, -, -, -, e1, e2⟩ := G.best (G.above h0)
    rw [h0, ValueIdx.select_zero, ValueIdx.select_zero, e1, e2]
  · rw [h1, ValueIdx.select_one, ValueIdx.select_one]

/-- The log probabilities agree. -/
theorem Graph.lpf_eq : kLpf h d m s x13 x14 (ix1 b) = rLpf h d ef eb x13 x14 (ix1 b) := by
  unfold kLpf rLpf logPfOf
  simp only [select_apply, subf_apply]
  rw [G.live, ValueIdx.select_zero, ValueIdx.select_zero, ← G.stops_eq, G.kStop, G.rStop, G.logZ_eq]
  rcases bit_cases (kStops h d m x13 x14 (ix1 b)) with h0 | h1
  · obtain ⟨k, hk, he, hx, -, e2⟩ := G.best (G.above h0)
    rw [h0, ValueIdx.select_zero, ValueIdx.select_zero, pick_of _ _ k (hk ▸ e2), subf_apply, spread_of _ he, G.masked k he, hk, hx, G.hm]
  · rw [h1, ValueIdx.select_one, ValueIdx.select_one]

end

end Cert.Proof.Ops

end
-- ==== Proof.Eq.lean ====
/- One step of the walk: from inputs that are real, in range and not too large, the kernel's step and the reference's step give equal
   actions, log probabilities, hidden states and done graphs. -/
module

public import proofs.«01_k».proof.Proof.Score
public import proofs.«01_k».proof.Proof.Tail

@[expose] public section

set_option maxRecDepth 16384

noncomputable section

namespace Cert.Proof.Ops

open Idealize.ShloMosaic Idealize.ShloMosaic.ValueIdx Idealize.ShloMosaic.StackMember Cert.Proof.Take Cert.Proof.Fold Cert.KernelIdeal.Gen

/-- Every element of a hidden state is a real number of absolute value at most one. -/
def Bdd (h : FH) : Prop := ∃ f : Fin 16 → Fin 128 → ℝ, ∀ b k, h (ix2 b k) = (f b k : EReal) ∧ |f b k| ≤ 1

/-- What the inputs of the walk are assumed to be. -/
structure Good (x0 : FN) (x1 : FEd) (tails heads : IE) (x10 x11 x12 : FD 128 128) (x13 : FD 128 1) (x14 : FV 1) : Prop where
  r0 : Real2 x0
  r1 : Real2 x1
  r10 : Real2 x10
  r11 : Real2 x11
  r12 : Real2 x12
  stopW : ∃ f : Fin 128 → ℝ, ∀ k, x13 (ix2 k 0) = (f k : EReal) ∧ |f k| ≤ 1000000
  stopB : ∃ r : ℝ, x14 (ix1 0) = (r : EReal) ∧ |r| ≤ 1000000
  tails : ∀ e, ∃ n : Fin 10000, (tails (ix1 e)).toInt = n.val
  heads : ∀ e, ∃ n : Fin 10000, (heads (ix1 e)).toInt = n.val

/-- A bounded hidden state is real. -/
theorem Bdd.real {h : FH} (hb : Bdd h) : Real2 h := by
  obtain ⟨f, hf⟩ := hb
  exact ⟨f, fun b k => (hf b k).1⟩

/-- The hyperbolic tangent of a real is at most one. -/
theorem tanh_le (r : ℝ) : |Real.tanh r| ≤ 1 := by
  rw [Real.tanh_eq, abs_div, abs_of_pos (a := Real.exp r + Real.exp (-r)) (add_pos (Real.exp_pos _) (Real.exp_pos _)),
    div_le_one (add_pos (Real.exp_pos _) (Real.exp_pos _)), abs_le]
  constructor <;> linarith [Real.exp_pos r, Real.exp_pos (-r)]

/-- The hyperbolic tangent is real and at most one everywhere. -/
theorem tanh_bdd (y : EReal) : ∃ r : ℝ, Ideal.tanh y = (r : EReal) ∧ |r| ≤ 1 := by
  induction y with
  | bot => exact ⟨-1, by rw [Ideal.tanh_bot]; norm_num, by norm_num⟩
  | coe r => exact ⟨Real.tanh r, Ideal.tanh_coe r, tanh_le r⟩
  | top => exact ⟨1, by rw [Ideal.tanh_top]; norm_num, by norm_num⟩

/-- An array of hyperbolic tangents is bounded. -/
theorem tanh_host (v : FH) (i : (⟨2, ![16, 128]⟩ : Shape).Idx) : ∃ r : ℝ, (Host.tanh (F := Ideal) v) i = (r : EReal) ∧ |r| ≤ 1 := tanh_bdd (v i)

/-- A state whose elements are each bounded is bounded. -/
theorem bdd_of {h : FH} (H : ∀ i, ∃ r : ℝ, h i = (r : EReal) ∧ |r| ≤ 1) : Bdd h :=
  ⟨fun b k => (H (ix2 b k)).choose, fun b k => (H (ix2 b k)).choose_spec⟩

/-- A layer is bounded. -/
theorem layer_bdd (a b : FH) (W : FD 256 128) (c : FV 128) (i : (⟨2, ![16, 128]⟩ : Shape).Idx) :
    ∃ r : ℝ, layer a b W c i = (r : EReal) ∧ |r| ≤ 1 := tanh_host _ i

/-- The first hidden state is bounded. -/
theorem bdd0 (x0 : FN) (x2 : FH) (x7 : IG) (x8 : FD 256 128) (x9 : FV 128) : Bdd (hidden0 x0 x2 x7 x8 x9) := bdd_of fun i => layer_bdd _ _ _ _ i

/-- So is the hidden state after a step. -/
theorem bdd_step {h : FH} (hb : Bdd h) (d : BG) (a : IG) (sel : FH) (x15 : FD 256 128) (x16 : FV 128) : Bdd (hiddenOf h d a sel x15 x16) := bdd_of fun i => by
  unfold hiddenOf
  rw [select_apply]
  rcases bit_cases (broadcastInDim ⟨2, ![16, 128]⟩ ![0, 1] (by decide : (⟨2, ![16, 1]⟩ : Shape).BroadcastsInDim ⟨2, ![16, 128]⟩ ![0, 1])
      (broadcastInDim ⟨2, ![16, 1]⟩ ![0] ok16.b1 (andi (cmpi .sge a (iG 0#32)) (noti d))) i) with h0 | h0
  · rw [h0, ValueIdx.select_zero]
    obtain ⟨f, hf⟩ := hb
    rw [eq_ix2 i]
    exact ⟨_, hf _ _⟩
  · rw [h0, ValueIdx.select_one]
    exact layer_bdd _ _ _ _ i

/-- The stop logit at a graph. -/
theorem stopLogit_apply (h : FH) (x13 : FD 128 1) (x14 : FV 1) (b : Fin 16) :
    stopLogit h x13 x14 (ix1 b) = (∑ k : Fin 128, h (ix2 b k) * x13 (ix2 k 0)) + x14 (ix1 0) := by
  unfold stopLogit
  rw [shapeCast_apply _ _ (ix1 b) (ix2 b 0) (by rw [Shape.rowMajor_val_one, Shape.rowMajor_val_two]; show b.val * 1 + 0 = b.val; omega),
    ValueIdx.addf_apply, dotGeneral_plain_apply]
  refine congrArg (_ + ·) ?_
  refine (broadcastInDim_apply _ _ _ (ix2 b 0) (ix2 (n0 := 1) (n1 := 1) 0 0) fun a => ?_).trans (broadcastInDim_apply _ _ _ (ix2 0 0) (ix1 0) fun a => ?_)
  · match a with
    | ⟨0, _⟩ => rfl
    | ⟨1, _⟩ => rfl
  · match a with
    | ⟨0, _⟩ => rfl

variable {x0 : FN} {x1 : FEd} {tails heads : IE} {x10 x11 x12 : FD 128 128} {x13 : FD 128 1} {x14 : FV 1} {h : FH} {eb : IE}

/-- The stop logit is real and not far below zero. -/
theorem stop_far (G : Good x0 x1 tails heads x10 x11 x12 x13 x14) (hb : Bdd h) (b : Fin 16) :
    ∃ σ : ℝ, stopLogit h x13 x14 (ix1 b) = (σ : EReal) ∧ -1000000000 ≤ σ := by
  obtain ⟨f, hf⟩ := hb
  obtain ⟨g, hg⟩ := G.stopW
  obtain ⟨r, hr, hr1⟩ := G.stopB
  refine ⟨(∑ k, f b k * g k) + r, ?_, ?_⟩
  · rw [stopLogit_apply, hr]
    simp only [(hf b _).1, (hg _).1, dot_coe]
    rw [← EReal.coe_add]
  · have h1 : ∀ k : Fin 128, -1000000 ≤ f b k * g k := fun k => by
      have h2 : |f b k * g k| ≤ 1 * 1000000 := by
        rw [abs_mul]
        exact mul_le_mul (hf b k).2 (hg k).2 (abs_nonneg _) (by norm_num)
      linarith [(abs_le.mp h2).1]
    have h3 : (∑ _k : Fin 128, (-1000000 : ℝ)) ≤ ∑ k, f b k * g k := Finset.sum_le_sum fun k _ => h1 k
    rw [Finset.sum_const, Finset.card_univ, Fintype.card_fin, nsmul_eq_mul] at h3
    have h4 := (abs_le.mp hr1).1
    push_cast at h3
    linarith

/-- The scores as reals, by graph and edge. -/
def scores (h : FH) (ef : FEd) (eb : IE) (_b : Fin 16) (e : ℕ) : ℝ := if he : e < 320000 then (rScore h ef eb (ix1 ⟨e, he⟩)).toReal else 0

/-- The two programs' scores of an edge of graph `b`. -/
theorem scores_eq (G : Good x0 x1 tails heads x10 x11 x12 x13 x14) (hb : Bdd h) (b : Fin 16) (e : Fin 320000) (he : Of eb b e) :
    edgeScore (rfProd x1 x10) (kGather (uProd x0 x11 x12 h) (flatT tails eb) (flatH heads eb)) h e b
        = (scores h (edgeFeat x0 x1 tails heads x10 x11 x12) eb b e.val : EReal)
      ∧ rScore h (edgeFeat x0 x1 tails heads x10 x11 x12) eb (ix1 e) = (scores h (edgeFeat x0 x1 tails heads x10 x11 x12) eb b e.val : EReal) := by
  obtain ⟨n, hn⟩ := G.tails e
  obtain ⟨m, hm⟩ := G.heads e
  obtain ⟨r, h1, h2⟩ := score_eq (eb := eb) (b := b) G.r0 G.r1 G.r10 G.r11 G.r12 hb.real he hn hm
  have h3 : scores h (edgeFeat x0 x1 tails heads x10 x11 x12) eb b e.val = r := by
    unfold scores
    rw [dif_pos e.isLt]
    show (rScore h (edgeFeat x0 x1 tails heads x10 x11 x12) eb (ix1 e)).toReal = r
    rw [h2, EReal.toReal_coe]
  rw [h3]
  exact ⟨h1, h2⟩

/-- The rows of the chosen edges' tails, taken either way. -/
theorem sel_eq (ht : ∀ e, ∃ n : Fin 10000, (tails (ix1 e)).toInt = n.val) (a : IG) : kSel x0 tails a = rSel (nodesE x0 tails) a := by
  funext i
  obtain ⟨b, j, rfl⟩ : ∃ (b : Fin 16) (j : Fin 128), i = ix2 b j := ⟨_, _, eq_ix2 i⟩
  obtain ⟨k, hk⟩ := clip_range a b
  obtain ⟨n, hn⟩ := ht k
  have hkl := k.isLt
  have hnl := n.isLt
  have e1 : takeFlat ok16 320000 320000#32 319999#32 (by decide) (constantI ⟨0, ![]⟩ 32 2147483648#32) tails (clipE a) (ix1 b) = tails (ix1 k) := by
    refine takeFlat_apply ok16 _ _ _ _ tails (clipE a) b ?_ ?_ k hk
    · rw [hk]; omega
    · rw [hk, show (319999#32).toInt = 319999 from rfl]; omega
  have e2 : kSel x0 tails a (ix2 b j) = x0 (ix2 n j) := by
    refine takeRows_apply ok16 _ _ _ _ _ nan x0 _ b ?_ ?_ n (by rw [e1]; exact hn) j
    · rw [e1, hn]; omega
    · rw [e1, hn, show (9999#32).toInt = 9999 from rfl]; omega
  have e3 : rSel (nodesE x0 tails) a (ix2 b j) = nodesE x0 tails (ix2 k j) := by
    refine takeRows_apply ok16 _ _ _ _ _ nan (nodesE x0 tails) _ b ?_ ?_ k hk j
    · rw [hk]; omega
    · rw [hk, show (319999#32).toInt = 319999 from rfl]; omega
  rw [e2, e3, nodesE_apply tails hn]

variable {d : BG} {vf vt : IVec ⟨2, ![1, 16]⟩ 32} {m s : FVec Ideal ⟨2, ![1, 16]⟩ .f32} {i : IVec ⟨2, ![1, 16]⟩ 32}

/-- A row of sixteen as a vector. -/
theorem row_apply {α : Type} (v : (⟨2, ![1, 16]⟩ : Shape).Idx → α) (h0 : (⟨2, ![1, 16]⟩ : Shape).ShapeCasts ⟨1, ![16]⟩) (b : Fin 16) :
    shapeCast ⟨1, ![16]⟩ v h0 (ix1 b) = v (ix2 0 b) :=
  shapeCast_apply v h0 (ix1 b) (ix2 0 b) (by rw [Shape.rowMajor_val_one, Shape.rowMajor_val_two]; show 0 * 16 + b.val = b.val; omega)

/-- A graph that is not done, from what the step kernel leaves. -/
theorem graph_of (G : Good x0 x1 tails heads x10 x11 x12 x13 x14) (hb : Bdd h) (hm : ∀ (b : Fin 16) (e : Fin 320000), mem vf vt b e.val ↔ Of eb b e)
    (H : Holds vf vt (scores h (edgeFeat x0 x1 tails heads x10 x11 x12) eb) 320000 (m, s, i)) (h0) (h1) (h2) (b : Fin 16) (hd : d (ix1 b) = 0#1) :
    ∃ (M S σ : ℝ) (j : ℕ), Graph h d (edgeFeat x0 x1 tails heads x10 x11 x12) eb x13 x14 (shapeCast ⟨1, ![16]⟩ m h0) (shapeCast ⟨1, ![16]⟩ s h1)
      (shapeCast ⟨1, ![16]⟩ i h2) b (scores h (edgeFeat x0 x1 tails heads x10 x11 x12) eb b) (mem vf vt b) M S σ j := by
  obtain ⟨M, S, j, e1, e2, e3, e4⟩ := H b
  obtain ⟨σ, e5, e6⟩ := stop_far G hb b
  exact ⟨M, S, σ, j, hd, hm b, fun e he => (scores_eq G hb b e he).2, (row_apply m h0 b).trans e1, (row_apply s h1 b).trans e2,
    (row_apply i h2 b).trans e3, e4, e5, e6⟩

/-- A done graph's action. -/
theorem action_done (ch : BG) (best : IG) (b : Fin 16) (hd : d (ix1 b) = 1#1) : actionOf d ch best (ix1 b) = iG 4294967295#32 (ix1 b) := by
  unfold actionOf
  rw [select_apply, hd, ValueIdx.select_one]

/-- A done graph's log probability. -/
theorem lpf_done (ch : BG) (p q : FG) (b : Fin 16) (hd : d (ix1 b) = 1#1) : logPfOf d ch p q (ix1 b) = fG 0x00000000#32 (ix1 b) := by
  unfold logPfOf
  rw [select_apply, hd, ValueIdx.select_one]

section

variable (G : Good x0 x1 tails heads x10 x11 x12 x13 x14) (hb : Bdd h) (hm : ∀ (b : Fin 16) (e : Fin 320000), mem vf vt b e.val ↔ Of eb b e)
  (H : Holds vf vt (scores h (edgeFeat x0 x1 tails heads x10 x11 x12) eb) 320000 (m, s, i)) (h0 h1 h2 : (⟨2, ![1, 16]⟩ : Shape).ShapeCasts ⟨1, ![16]⟩)

include G hb hm H

/-- One step's actions. -/
theorem act_eq : kAct h d (shapeCast ⟨1, ![16]⟩ m h0) (shapeCast ⟨1, ![16]⟩ i h2) x13 x14 = rAct h d (edgeFeat x0 x1 tails heads x10 x11 x12) eb x13 x14 := by
  funext z
  obtain ⟨b, rfl⟩ : ∃ b : Fin 16, z = ix1 b := ⟨z 0, eq_ix1 z⟩
  rcases bit_cases (d (ix1 b)) with hd | hd
  · obtain ⟨M, S, σ, j, Γ⟩ := graph_of (d := d) G hb hm H h0 h0 h2 b hd
    exact Γ.act_eq
  · unfold kAct rAct
    exact (action_done _ _ b hd).trans (action_done _ _ b hd).symm

/-- One step's log probabilities. -/
theorem lpf_eq : kLpf h d (shapeCast ⟨1, ![16]⟩ m h0) (shapeCast ⟨1, ![16]⟩ s h1) x13 x14 = rLpf h d (edgeFeat x0 x1 tails heads x10 x11 x12) eb x13 x14 := by
  funext z
  obtain ⟨b, rfl⟩ : ∃ b : Fin 16, z = ix1 b := ⟨z 0, eq_ix1 z⟩
  rcases bit_cases (d (ix1 b)) with hd | hd
  · obtain ⟨M, S, σ, j, Γ⟩ := graph_of (d := d) G hb hm H h0 h1 h0 b hd
    exact Γ.lpf_eq
  · unfold kLpf rLpf
    exact (lpf_done _ _ _ b hd).trans (lpf_done _ _ _ b hd).symm

/-- One step's hidden states. -/
theorem hid_eq (x15 : FD 256 128) (x16 : FV 128) : kHid h d (shapeCast ⟨1, ![16]⟩ m h0) (shapeCast ⟨1, ![16]⟩ i h2) x13 x14 x0 tails x15 x16
    = rHid h d (edgeFeat x0 x1 tails heads x10 x11 x12) (nodesE x0 tails) eb x13 x14 x15 x16 := by
  unfold kHid rHid
  rw [act_eq G hb hm H h0 h2, sel_eq G.tails]

omit G hb hm H in
/-- Two bit vectors joined with `d` agree where the second parts agree on the graphs that are not done. -/
theorem ori_congr (p q : BG) (hpq : ∀ b : Fin 16, d (ix1 b) = 0#1 → p (ix1 b) = q (ix1 b)) : ori d p = ori d q := by
  funext z
  obtain ⟨b, rfl⟩ : ∃ b : Fin 16, z = ix1 b := ⟨z 0, eq_ix1 z⟩
  show IntOp.ori (d (ix1 b)) (p (ix1 b)) = IntOp.ori (d (ix1 b)) (q (ix1 b))
  rcases bit_cases (d (ix1 b)) with hd | hd
  · rw [hpq b hd]
  · rw [hd]
    have h1 : ∀ w : BitVec 1, IntOp.ori 1#1 w = 1#1 := by decide
    rw [h1, h1]

/-- One step's done graphs. -/
theorem done_eq : kDone h d (shapeCast ⟨1, ![16]⟩ m h0) x13 x14 = rDone h d (edgeFeat x0 x1 tails heads x10 x11 x12) eb x13 x14 := by
  unfold kDone rDone
  refine ori_congr _ _ fun b hd => ?_
  obtain ⟨M, S, σ, j, Γ⟩ := graph_of (d := d) G hb hm H h0 h0 h0 b hd
  exact Γ.stops_eq

end

end Cert.Proof.Ops
-- ==== Proof.Ptr.lean ====
/- The padded table of the graphs' first edges, read at an entry. -/
module

public import proofs.«01_k».proof.Proof.TileMath
public import proofs.«01_k».proof.Proof.Ops
public import Idealize.ShloMosaic.Lib.Routing.OpsOne

@[expose] public section

set_option maxRecDepth 16384

noncomputable section

namespace Cert.KernelIdeal.Gen

open Idealize.ShloMosaic Idealize.ShloMosaic.ValueIdx Idealize.ShloMosaic.Routing Cert.Proof.Ops

/-- Update `k` of a row lands where the first index word is the row and the second plus `k` is the column. -/
theorem lands_row {R C U w : Nat} (d : ScatterDims ⟨2, ![R, C]⟩ ⟨1, ![2]⟩ ⟨1, ![U]⟩) (hiw : d.insertedWindowDims = [0]) (hsd : d.scatterDimsToOperandDims = [0, 1])
    (hivd : d.indexVectorDim = 0) (idx : IVec ⟨1, ![2]⟩ w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (⟨2, ![R, C]⟩ : Shape).kept d.insertedWindowDims = _
      rw [hiw]
      rfl
    unfold ScatterDims.window
    rw [dif_pos (by rw [hk]; simp)]
    exact congrArg (fun t => ((ix1 k : (⟨1, ![U]⟩ : Shape).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

/-- A row set from column zero, read in the part that was set. -/
theorem set_row {α : Type} {R C U w : Nat} (d : ScatterDims ⟨2, ![R, C]⟩ ⟨1, ![2]⟩ ⟨1, ![U]⟩) (hiw : d.insertedWindowDims = [0])
    (hsd : d.scatterDimsToOperandDims = [0, 1]) (hivd : d.indexVectorDim = 0) (x : (⟨2, ![R, C]⟩ : Shape).Idx → α) (idx : IVec ⟨1, ![2]⟩ w)
    (upd : (⟨1, ![U]⟩ : Shape).Idx → α) (r : Fin R) (c : Fin C) (k : Fin U) (hr : (idx (ix1 (0 : Fin 2))).toInt = r.val)
    (h0 : (idx (ix1 (1 : Fin 2))).toInt = 0) (hk : k.val = c.val) : Host.scatter d (fun _ b => b) x idx upd (ix2 r c) = upd (ix1 k) := by
  refine scatter_set_hit d x idx upd _ _ (fun k' hk' => ?_) (ix1 k) ((lands_row d hiw hsd hivd idx k r c).mpr ⟨hr, by omega⟩)
  obtain ⟨q, rfl⟩ : ∃ q : Fin U, k' = ix1 q := ⟨k' 0, eq_ix1 k'⟩
  have h := ((lands_row d hiw hsd hivd idx q r c).mp hk').2
  have hq : q = k := Fin.ext (by omega)
  rw [hq]

variable (p : IVec ⟨2, ![1, 32]⟩ 32) (b : Fin 16)

/-- The first edge of a graph. -/
theorem from_apply : fromE (F := Ideal) p (ix2 0 b) = p (ix2 (n0 := 1) (n1 := 32) 0 ⟨b.val, by omega⟩) := by
  refine congrArg p (funext fun a => Fin.ext ?_)
  match a with
  | ⟨0, _⟩ => rfl
  | ⟨1, _⟩ => show 0 + 1 * b.val = b.val; omega

/-- The first edge after a graph. -/
theorem to_apply : toE (F := Ideal) p (ix2 0 b) = p (ix2 (n0 := 1) (n1 := 32) 0 ⟨b.val + 1, by omega⟩) := by
  refine congrArg p (funext fun a => Fin.ext ?_)
  match a with
  | ⟨0, _⟩ => rfl
  | ⟨1, _⟩ => show 1 + 1 * b.val = b.val + 1; omega

end Cert.KernelIdeal.Gen
-- ==== Proof.Pre.lean ====
/- What the precondition says of the inputs. -/
module

public import proofs.«01_k».proof.Pre_sound_inputs
public import proofs.«01_k».proof.Proof.Eq
public import proofs.«01_k».proof.Proof.Ptr

@[expose] public section

set_option maxRecDepth 16384

noncomputable section

namespace Cert.Proof.Ops

open Idealize.ShloMosaic Idealize.ShloMosaic.ValueIdx Cert.KernelIdeal.Gen

/-- The shape conditions of the precondition's operations. -/
theorem pre_facts : Cert.Pre_sound_inputs.Facts := by constructor <;> decide

/-- A number whose absolute value lies below infinity is real. -/
theorem real_of {y : EReal} (h : Ideal.cmp .olt (max y (-y)) (Ideal.ofBits .f32 0x7F800000#32) = 1#1) : ∃ r : ℝ, y = (r : EReal) := by
  unfold Ideal.cmp at h
  dsimp only at h
  rw [WordCmp.ofBool_decide_eq_one_iff, lit_top] at h
  induction y with
  | bot => exact absurd h (by simp)
  | coe r => exact ⟨r, rfl⟩
  | top => exact absurd h (by simp)

/-- A number whose absolute value is at most a million is a real with that bound. -/
theorem bound_of {y : EReal} (h : Ideal.cmp .ole (max y (-y)) (Ideal.ofBits .f32 0x49742400#32) = 1#1) : ∃ r : ℝ, y = (r : EReal) ∧ |r| ≤ 1000000 := by
  unfold Ideal.cmp at h
  dsimp only at h
  rw [WordCmp.ofBool_decide_eq_one_iff, lit_million] at h
  induction y with
  | bot => exact absurd h (by simp)
  | coe r =>
    refine ⟨r, rfl, ?_⟩
    rw [← EReal.coe_neg, coe_max, EReal.coe_le_coe_iff] at h
    exact abs_le'.mpr ⟨(le_max_left _ _).trans h, (le_max_right _ _).trans h⟩
  | top => exact absurd h (by simp)

/-- A matrix whose entries' absolute values lie below infinity is real. -/
theorem real2_of {a b : ℕ} (x : FD a b) (hb : (⟨0, ![]⟩ : Shape).BroadcastsInDim ⟨2, ![a, b]⟩ ![])
    (h : cmpf .olt (Host.absf x) (broadcastInDim ⟨2, ![a, b]⟩ ![] hb (constant (F := Ideal) ⟨0, ![]⟩ .f32 0x7F800000#32)) = fun _ => 1#1) : Real2 x := by
  have H : ∀ i j, ∃ r : ℝ, x (ix2 i j) = (r : EReal) := fun i j => real_of (congrFun h (ix2 i j))
  exact ⟨fun i j => (H i j).choose, fun i j => (H i j).choose_spec⟩

/-- A word between zero and ten thousand. -/
theorem range_of {w : BitVec 32} (h : IntOp.andi (IntOp.cmpi .sge w 0#32) (IntOp.cmpi .slt w 10000#32) = 1#1) : ∃ n : Fin 10000, w.toInt = n.val := by
  rw [WordCmp.cmpi_sge_eq, WordCmp.cmpi_slt_eq, WordCmp.andi_ofBool, ← Bool.decide_and, WordCmp.ofBool_decide_eq_one_iff] at h
  have h0 : (0#32 : BitVec 32).toInt = 0 := rfl
  have h1 : (10000#32 : BitVec 32).toInt = 10000 := rfl
  rw [h0, h1] at h
  exact ⟨⟨w.toInt.toNat, by omega⟩, by show w.toInt = (w.toInt.toNat : ℤ); omega⟩

/-- A row of the table of the edges' ends. -/
def rowOf (x3 : IVec ⟨2, ![2, 320000]⟩ 32) (r : Fin 2) : IE := fun e => x3 (ix2 (n0 := 2) (n1 := 320000) r (e 0))

/-- The table's range holds along its rows. -/
theorem rows_of (x3 : IVec ⟨2, ![2, 320000]⟩ 32) (hb)
    (h : andi (cmpi .sge x3 (broadcastInDim ⟨2, ![2, 320000]⟩ ![] hb (constantI ⟨0, ![]⟩ 32 0#32)))
      (cmpi .slt x3 (broadcastInDim ⟨2, ![2, 320000]⟩ ![] hb (constantI ⟨0, ![]⟩ 32 10000#32))) = fun _ => 1#1) (r : Fin 2) (e : Fin 320000) :
    ∃ n : Fin 10000, (rowOf x3 r (ix1 e)).toInt = n.val := range_of (congrFun h (ix2 r e))

/-- A row of sixteen spread over the edges. -/
theorem row_of {α : Type} (h0 : (⟨2, ![1, 16]⟩ : Shape).BroadcastsInDim ⟨2, ![320000, 16]⟩ ![0, 1]) (h1 : (⟨1, ![16]⟩ : Shape).BroadcastsInDim ⟨2, ![1, 16]⟩ ![1])
    (v : (⟨1, ![16]⟩ : Shape).Idx → α) (e : Fin 320000) (b : Fin 16) :
    broadcastInDim ⟨2, ![320000, 16]⟩ ![0, 1] h0 (broadcastInDim ⟨2, ![1, 16]⟩ ![1] h1 v) (ix2 e b) = v (ix1 b) := by
  refine (broadcastInDim_apply ![0, 1] h0 _ (ix2 e b) (ix2 0 b) fun a => ?_).trans (broadcastInDim_apply ![1] h1 v (ix2 0 b) (ix1 b) fun a => ?_)
  · match a with
    | ⟨0, _⟩ => rfl
    | ⟨1, _⟩ => rfl
  · match a with
    | ⟨0, _⟩ => rfl

/-- Sixteen of seventeen words. -/
theorem part_of (v : IVec ⟨1, ![17]⟩ 32) (o : ℕ) (h : (⟨1, ![17]⟩ : Shape).Slices ![o] ⟨1, ![16]⟩) (b : Fin 16) (k : Fin 17) (hk : k.val = o + b.val) :
    extractStridedSlice ⟨1, ![16]⟩ ![o] v h (ix1 b) = v (ix1 k) := by
  refine extractStridedSlice_apply ![o] v h (ix1 b) (ix1 k) fun a => ?_
  match a with
  | ⟨0, _⟩ => exact hk

/-- Whether edge `e` lies between the table's entries of graph `b`, as the precondition computes it. -/
theorem run_of (lo hi e : BitVec 32) (w : BitVec 1) (h : IntOp.cmpi .eq (IntOp.andi (IntOp.cmpi .sle lo e) (IntOp.cmpi .slt e hi)) w = 1#1) :
    w = BitVec.ofBool (decide (lo.toInt ≤ e.toInt ∧ e.toInt < hi.toInt)) := by
  rw [WordCmp.cmpi_eq_eq, WordCmp.ofBool_decide_eq_one_iff, WordCmp.cmpi_sle_eq, WordCmp.cmpi_slt_eq, WordCmp.andi_ofBool, ← Bool.decide_and] at h
  exact h.symm

section

variable (x0 : FN) (x1 : FEd) (x2 : FH) (x3 : IVec ⟨2, ![2, 320000]⟩ 32) (x4 : IE) (x5 x6 : IVec ⟨1, ![17]⟩ 32) (x7 : IG) (x8 : FD 256 128) (x9 : FV 128)
  (x10 x11 x12 : FD 128 128) (x13 : FD 128 1) (x14 : FV 1) (x15 : FD 256 128) (x16 : FV 128)

/-- The precondition's nine arrays are all ones. -/
def Sound [Cert.Pre_sound_inputs.Facts] : Prop :=
  (Cert.Pre_sound_inputs.fn (F := Ideal) x0 x1 x2 x3 x4 x5 x6 x7 x8 x9 x10 x11 x12 x13 x14 x15 x16).1 = (fun _ => 1#1)
  ∧ (Cert.Pre_sound_inputs.fn (F := Ideal) x0 x1 x2 x3 x4 x5 x6 x7 x8 x9 x10 x11 x12 x13 x14 x15 x16).2.1 = (fun _ => 1#1)
  ∧ (Cert.Pre_sound_inputs.fn (F := Ideal) x0 x1 x2 x3 x4 x5 x6 x7 x8 x9 x10 x11 x12 x13 x14 x15 x16).2.2.1 = (fun _ => 1#1)
  ∧ (Cert.Pre_sound_inputs.fn (F := Ideal) x0 x1 x2 x3 x4 x5 x6 x7 x8 x9 x10 x11 x12 x13 x14 x15 x16).2.2.2.1 = (fun _ => 1#1)
  ∧ (Cert.Pre_sound_inputs.fn (F := Ideal) x0 x1 x2 x3 x4 x5 x6 x7 x8 x9 x10 x11 x12 x13 x14 x15 x16).2.2.2.2.1 = (fun _ => 1#1)
  ∧ (Cert.Pre_sound_inputs.fn (F := Ideal) x0 x1 x2 x3 x4 x5 x6 x7 x8 x9 x10 x11 x12 x13 x14 x15 x16).2.2.2.2.2.1 = (fun _ => 1#1)
  ∧ (Cert.Pre_sound_inputs.fn (F := Ideal) x0 x1 x2 x3 x4 x5 x6 x7 x8 x9 x10 x11 x12 x13 x14 x15 x16).2.2.2.2.2.2.1 = (fun _ => 1#1)
  ∧ (Cert.Pre_sound_inputs.fn (F := Ideal) x0 x1 x2 x3 x4 x5 x6 x7 x8 x9 x10 x11 x12 x13 x14 x15 x16).2.2.2.2.2.2.2.1 = (fun _ => 1#1)
  ∧ (Cert.Pre_sound_inputs.fn (F := Ideal) x0 x1 x2 x3 x4 x5 x6 x7 x8 x9 x10 x11 x12 x13 x14 x15 x16).2.2.2.2.2.2.2.2 = (fun _ => 1#1)

variable {x0 x1 x2 x3 x4 x5 x6 x7 x8 x9 x10 x11 x12 x13 x14 x15 x16}
variable [Cert.Pre_sound_inputs.Facts] (H : Sound x0 x1 x2 x3 x4 x5 x6 x7 x8 x9 x10 x11 x12 x13 x14 x15 x16)
include H

/-- Sound inputs are real, in range and not too large. -/
theorem good_of : Good x0 x1 (rowOf x3 1) (rowOf x3 0) x10 x11 x12 x13 x14 := by
  obtain ⟨h0, h1, h2, h3, h4, h5, h6, h7, -⟩ := H
  have hw : ∀ k : Fin 128, ∃ r : ℝ, x13 (ix2 k 0) = (r : EReal) ∧ |r| ≤ 1000000 := fun k => bound_of (congrFun h5 (ix2 k 0))
  exact ⟨real2_of x0 _ h0, real2_of x1 _ h1, real2_of x10 _ h2, real2_of x11 _ h3, real2_of x12 _ h4,
    ⟨fun k => (hw k).choose, fun k => (hw k).choose_spec⟩, bound_of (congrFun h6 (ix1 0)), rows_of x3 _ h7 1, rows_of x3 _ h7 0⟩

/-- Sound tables: an edge lies between its graph's entries and no other's. -/
theorem mem_of (p : IVec ⟨2, ![1, 32]⟩ 32) (hp : ∀ c : Fin 17, p (ix2 (n0 := 1) (n1 := 32) 0 ⟨c.val, by omega⟩) = x5 (ix1 c)) (b : Fin 16) (e : Fin 320000) :
    mem (fromE (F := Ideal) p) (toE (F := Ideal) p) b e.val ↔ Of x4 b e := by
  obtain ⟨-, -, -, -, -, -, -, -, h8⟩ := H
  have hl := e.isLt
  have h := run_of (x5 (ix1 ⟨b.val, by omega⟩)) (x5 (ix1 ⟨b.val + 1, by omega⟩)) (BitVec.ofNat 32 e.val) (IntOp.cmpi .eq (x4 (ix1 e)) (BitVec.ofNat 32 b.val)) (by
    have h9 := congrFun h8 (ix2 e b)
    refine Eq.trans ?_ h9
    refine congrArg₂ (IntOp.cmpi .eq) (congrArg₂ IntOp.andi (congrArg₂ (IntOp.cmpi .sle) ?_ ?_) (congrArg₂ (IntOp.cmpi .slt) ?_ ?_))
      (congrArg₂ (IntOp.cmpi .eq) ?_ ?_)
    · exact ((row_of _ _ _ e b).trans (part_of x5 0 _ b ⟨b.val, by omega⟩ (Nat.zero_add _).symm)).symm
    · exact (col_of _ (iotaInDim ⟨1, ![320000]⟩ 32 0) e b).symm
    · exact (col_of _ (iotaInDim ⟨1, ![320000]⟩ 32 0) e b).symm
    · exact ((row_of _ _ _ e b).trans (part_of x5 1 _ b ⟨b.val + 1, by omega⟩ (Nat.add_comm _ _))).symm
    · exact (col_of _ x4 e b).symm
    · exact (row_of _ _ (iotaInDim ⟨1, ![16]⟩ 32 0) e b).symm)
  rw [WordCmp.cmpi_eq_eq, edge_toInt (by omega)] at h
  have h' := congrArg (fun w : BitVec 1 => w = 1#1) h
  simp only [WordCmp.ofBool_decide_eq_one_iff, eq_iff_iff] at h'
  unfold mem
  rw [from_apply, to_apply, hp ⟨b.val, by omega⟩, hp ⟨b.val + 1, by omega⟩]
  exact h'.symm

end

end Cert.Proof.Ops
-- ==== Proof.Core.lean ====
/- One step from sound inputs: what the step kernel leaves gives the reference's actions, log probabilities, hidden state and done graphs. -/
module

public import proofs.«01_k».proof.Proof.Eq
public import proofs.«01_k».proof.Proof.Pre
public import proofs.«01_k».proof.Proof.Ptr

@[expose] public section

set_option maxRecDepth 16384

noncomputable section

namespace Cert.Proof.Ops

open Idealize.ShloMosaic Idealize.ShloMosaic.ValueIdx Cert.Proof.Fold Cert.KernelIdeal.Gen

variable {x0 : FN} {x1 : FEd} {x2 : FH} {x3 : IVec ⟨2, ![2, 320000]⟩ 32} {x4 : IE} {x5 x6 : IVec ⟨1, ![17]⟩ 32} {x7 : IG} {x8 : FD 256 128} {x9 : FV 128}
  {x10 x11 x12 : FD 128 128} {x13 : FD 128 1} {x14 : FV 1} {x15 : FD 256 128} {x16 : FV 128}
variable [Cert.Pre_sound_inputs.Facts] (S : Sound x0 x1 x2 x3 x4 x5 x6 x7 x8 x9 x10 x11 x12 x13 x14 x15 x16)
include S

/-- One step. -/
theorem core {h : FH} (hb : Bdd h) (d : BG) (p : IVec ⟨2, ![1, 32]⟩ 32) (rel : FEd) (g : FD 320000 1) (hid : FH) (m s : FVec Ideal ⟨2, ![1, 16]⟩ .f32) (i : IVec ⟨2, ![1, 16]⟩ 32)
    (hp : ∀ k : Fin 17, p (ix2 (n0 := 1) (n1 := 32) 0 ⟨k.val, by omega⟩) = x5 (ix1 k)) (hr : rel = rfProd x1 x10)
    (hg : g = kGather (uProd x0 x11 x12 h) (flatT (rowOf x3 1) x4) (flatH (rowOf x3 0) x4)) (hh : hid = h)
    (hst : ∀ x : Fin 16 → ℕ → ℝ, (∀ (b : Fin 16) (e : Fin 320000), mem (fromE (F := Ideal) p) (toE (F := Ideal) p) b e.val → edgeScore rel g hid e b = (x b e.val : EReal)) →
      Holds (fromE (F := Ideal) p) (toE (F := Ideal) p) x 320000 (m, s, i))
    (h0 h1 h2 : (⟨2, ![1, 16]⟩ : Shape).ShapeCasts ⟨1, ![16]⟩) :
    kAct h d (shapeCast ⟨1, ![16]⟩ m h0) (shapeCast ⟨1, ![16]⟩ i h2) x13 x14 = rAct h d (edgeFeat x0 x1 (rowOf x3 1) (rowOf x3 0) x10 x11 x12) x4 x13 x14
    ∧ kLpf h d (shapeCast ⟨1, ![16]⟩ m h0) (shapeCast ⟨1, ![16]⟩ s h1) x13 x14 = rLpf h d (edgeFeat x0 x1 (rowOf x3 1) (rowOf x3 0) x10 x11 x12) x4 x13 x14
    ∧ kHid h d (shapeCast ⟨1, ![16]⟩ m h0) (shapeCast ⟨1, ![16]⟩ i h2) x13 x14 x0 (rowOf x3 1) x15 x16
      = rHid h d (edgeFeat x0 x1 (rowOf x3 1) (rowOf x3 0) x10 x11 x12) (nodesE x0 (rowOf x3 1)) x4 x13 x14 x15 x16
    ∧ kDone h d (shapeCast ⟨1, ![16]⟩ m h0) x13 x14 = rDone h d (edgeFeat x0 x1 (rowOf x3 1) (rowOf x3 0) x10 x11 x12) x4 x13 x14 := by
  subst hr hg hh
  have hm := mem_of S p hp
  have G := good_of S
  have H := hst (scores hid (edgeFeat x0 x1 (rowOf x3 1) (rowOf x3 0) x10 x11 x12) x4) fun b e he => (scores_eq G hb b e ((hm b e).mp he)).1
  exact ⟨act_eq G hb hm H h0 h2, lpf_eq G hb hm H h0 h1, hid_eq G hb hm H h0 h2 x15 x16, done_eq G hb hm H h0⟩

end Cert.Proof.Ops
-- ==== Proof.RegionU.lean ====
/- What the matrix regions leave: the relation features times their weights, and at each step the nodes times the weighted hidden state. -/
module

public import proofs.«01_k».proof.Proof.UMath
public import proofs.«01_k».proof.Proof.TileMath
public import proofs.«01_k».proof.Proof.Gen.KernelIdeal.Frame.Region0
public import proofs.«01_k».proof.Proof.Gen.KernelIdeal.Frame.Region1
public import proofs.«01_k».proof.Proof.Gen.KernelIdeal.Frame.Region3
public import proofs.«01_k».proof.Proof.Gen.KernelIdeal.Frame.Region5
public import proofs.«01_k».proof.Proof.Gen.KernelIdeal.Frame.Region7

@[expose] public section

set_option maxRecDepth 16384

noncomputable section

namespace Cert.KernelIdeal.Gen

open Idealize.ShloMosaic Idealize.ShloMosaic.TcCoe Idealize.ShloMosaic.ValueIdx Cert.Proof Cert.Proof.Ops

variable (V : (c : Dev nD) → (b : Ref sig .tc) → b.ty.Contents (Elt Ideal))

theorem lt0 (t : Fin cfg0.N) : t.val < 25 := lt_of_lt_of_eq t.isLt N_0

theorem coord0 (t : Fin cfg0.N) : (grid0.coords t 0).val = t.val :=
  (Pipeline.Grid.coords_val t 0 (by decide) rfl).trans (mod25 (lt0 t))

/-- The rows' block index of window 0 is the point. -/
theorem row0_0 (t : Fin cfg0.N) : win0_0.index t 0 = t.val := by
  have ht := lt0 t
  show (BitVec.ofNat 32 (grid0.coords t 0).val).toNat = t.val
  rw [coord0, BitVec.toNat_ofNat]; omega

/-- The rows' block index of the output is the point. -/
theorem row0_2 (t : Fin cfg0.N) : win0_2.index t 0 = t.val := by
  have ht := lt0 t
  show (BitVec.ofNat 32 (grid0.coords t 0).val).toNat = t.val
  rw [coord0, BitVec.toNat_ofNat]; omega

/-- The weights' block is the whole array. -/
theorem blk0_1 (c : Dev nD) (t : Fin cfg0.N) : (iblk0 V c 1 t : Vec Ideal S128x128 .f32) = V c main_arg10 := by
  have hz : (fun a => win0_1.index t a * main_arg10.ty.shape.size a) = fun _ => 0 := funext fun a => by fin_cases a <;> rfl
  exact Memref.read_access_unit_zero (Elt Ideal) main_arg10 hz (fun a => by rw [congrFun hz a]; simp) _

/-- The features' block is a tile of rows. -/
theorem blk0_0 (c : Dev nD) (t : Fin cfg0.N) (r : Fin 12800) (k : Fin 128) (e : Fin 320000) (he : e.val = 12800 * t.val + r.val) :
    (iblk0 V c 0 t : Vec Ideal S12800x128 .f32) (ix2 r k) = (V c main_arg1 : Vec Ideal S320000x128 .f32) (ix2 e k) := by
  unfold iblk0
  rw [View.read_apply]
  show V c main_arg1 _ = V c main_arg1 _
  congr 1
  funext a
  apply Fin.ext
  match a with
  | ⟨0, _⟩ => show win0_0.index t 0 * 12800 + 1 * r.val = e.val; rw [row0_0]; omega
  | ⟨1, _⟩ => show win0_0.index t 1 * 128 + 1 * k.val = k.val; rw [show win0_0.index t 1 = 0 from rfl]; omega

/-- The relation product. -/
theorem region0 (c : Dev nD) : (dat0 V c).arrAt 2 cfg0.N = rfProd (V c main_arg1) (V c main_arg10) := by
  refine (dat0 V c).arrAt_eq_of_cover 2 (rfProd (V c main_arg1) (V c main_arg10)) (fun t _ => ?_) fun i => ?_
  · show (cfg0.win 2).cut (grid0.coords t) ((dat0 V c).after 2 t) = _
    rw [after0_2]
    unfold out0_2
    rw [View.canon_unit_zero zero2, View.ld_unit_zero (S := S12800x128) zero2, View.ld_unit_zero (S := S128x128) zero2, blk0_1]
    funext j
    obtain ⟨r, k, rfl⟩ : ∃ (r : Fin 12800) (k : Fin 128), j = ix2 r k := ⟨_, _, eq_ix2 j⟩
    have ht := lt0 t
    have hr := r.isLt
    rw [View.read_apply]
    refine (pay0_apply _ _ r k).trans ?_
    have hi : (((cfg0.win 2).blk t).view.emb (ix2 r k) : S320000x128.Idx) = ix2 (⟨12800 * t.val + r.val, by omega⟩ : Fin 320000) k := by
      funext a
      apply Fin.ext
      match a with
      | ⟨0, _⟩ => show win0_2.index t 0 * 12800 + 1 * r.val = 12800 * t.val + r.val; rw [row0_2]; omega
      | ⟨1, _⟩ => show win0_2.index t 1 * 128 + 1 * k.val = k.val; rw [show win0_2.index t 1 = 0 from rfl]; omega
    refine Eq.trans ?_ (congrArg (rfProd (V c main_arg1) (V c main_arg10)) hi).symm
    exact Finset.sum_congr rfl fun j _ => congrArg (· * _) (blk0_0 V c t r j ⟨12800 * t.val + r.val, by omega⟩ rfl)
  · have he : (i 0 : Nat) < 320000 := (i 0).isLt
    have hk : (i 1 : Nat) < 128 := (i 1).isLt
    obtain ⟨t, ht⟩ : ∃ t : Fin cfg0.N, t.val = (i 0 : Nat) / 12800 := ⟨⟨(i 0 : Nat) / 12800, by rw [show cfg0.N = 25 from N_0]; omega⟩, rfl⟩
    refine ⟨t, flush0_2 t, ?_⟩
    show i ∈ ((View.whole main_v4).slice (win0_2.rect t)).set
    rw [View.set_slice_whole, Rect.mem_set_unit]
    intro a
    match a with
    | ⟨0, _⟩ =>
      show win0_2.index t 0 * 12800 ≤ (i 0 : Nat) ∧ (i 0 : Nat) < win0_2.index t 0 * 12800 + 12800
      rw [row0_2]; omega
    | ⟨1, _⟩ =>
      show win0_2.index t 1 * 128 ≤ (i 1 : Nat) ∧ (i 1 : Nat) < win0_2.index t 1 * 128 + 128
      rw [show win0_2.index t 1 = 0 from rfl]; omega

theorem blk1_0 (c : Dev nD) (t : Fin cfg1.N) : (iblk1 V c 0 t : Vec Ideal S10000x128 .f32) = V c main_arg0 := by
  have hz : (fun a => win1_0.index t a * main_arg0.ty.shape.size a) = fun _ => 0 := funext fun a => Nat.zero_mul _
  exact Memref.read_access_unit_zero (Elt Ideal) main_arg0 hz (fun a => by rw [congrFun hz a]; simp) _

theorem blk1_1 (c : Dev nD) (t : Fin cfg1.N) : (iblk1 V c 1 t : Vec Ideal S128x128 .f32) = V c main_arg11 := by
  have hz : (fun a => win1_1.index t a * main_arg11.ty.shape.size a) = fun _ => 0 := funext fun a => Nat.zero_mul _
  exact Memref.read_access_unit_zero (Elt Ideal) main_arg11 hz (fun a => by rw [congrFun hz a]; simp) _

theorem blk1_2 (c : Dev nD) (t : Fin cfg1.N) : (iblk1 V c 2 t : Vec Ideal S128x128 .f32) = V c main_arg12 := by
  have hz : (fun a => win1_2.index t a * main_arg12.ty.shape.size a) = fun _ => 0 := funext fun a => Nat.zero_mul _
  exact Memref.read_access_unit_zero (Elt Ideal) main_arg12 hz (fun a => by rw [congrFun hz a]; simp) _

theorem blk1_3 (c : Dev nD) (t : Fin cfg1.N) : (iblk1 V c 3 t : Vec Ideal S16x128 .f32) = V c main_v21 := by
  have hz : (fun a => win1_3.index t a * main_v21.ty.shape.size a) = fun _ => 0 := funext fun a => Nat.zero_mul _
  exact Memref.read_access_unit_zero (Elt Ideal) main_v21 hz (fun a => by rw [congrFun hz a]; simp) _

/-- The first step's node product. -/
theorem region1 (c : Dev nD) : (dat1 V c).arrAt 4 cfg1.N = uProd (V c main_arg0) (V c main_arg11) (V c main_arg12) (V c main_v21) := by
  refine (dat1 V c).arrAt_eq_of_cover 4 (uProd (V c main_arg0) (V c main_arg11) (V c main_arg12) (V c main_v21)) (fun t _ => ?_)
    fun i => ?_
  · show (cfg1.win 4).cut (grid1.coords t) ((dat1 V c).after 4 t) = _
    rw [after1_4, blk1_0, blk1_1, blk1_2, blk1_3]
    unfold out1_4
    rw [View.canon_unit_zero zero2, View.ld_unit_zero (S := S10000x128) zero2, View.ld_unit_zero (S := S128x128) zero2,
      View.ld_unit_zero (S := S128x128) zero2, View.ld_unit_zero (S := S16x128) zero2]
    have hz : (fun a => win1_4.index t a * main_v31.ty.shape.size a) = fun _ => 0 := funext fun a => Nat.zero_mul _
    refine Eq.trans ?_ (Memref.read_access_unit_zero (Elt Ideal) main_v31 hz (fun a => by rw [congrFun hz a]; simp) _).symm
    exact pay1_eq (V c main_arg0) (V c main_arg11) (V c main_arg12) (V c main_v21)
  · obtain ⟨t, -⟩ : ∃ t : Fin cfg1.N, t.val = 0 := ⟨⟨0, by decide⟩, rfl⟩
    refine ⟨t, flush1_4 t, ?_⟩
    show i ∈ ((View.whole main_v31).slice (win1_4.rect t)).set
    rw [View.set_slice_whole, Rect.mem_set_unit]
    intro a
    show 0 * _ ≤ (i a : Nat) ∧ (i a : Nat) < 0 * _ + main_v31.ty.shape.size a
    rw [Nat.zero_mul]
    exact ⟨Nat.zero_le _, lt_of_lt_of_eq (i a).isLt (Nat.zero_add _).symm⟩

theorem blk3_0 (c : Dev nD) (t : Fin cfg3.N) : (iblk3 V c 0 t : Vec Ideal S10000x128 .f32) = V c main_arg0 := by
  have hz : (fun a => win3_0.index t a * main_arg0.ty.shape.size a) = fun _ => 0 := funext fun a => Nat.zero_mul _
  exact Memref.read_access_unit_zero (Elt Ideal) main_arg0 hz (fun a => by rw [congrFun hz a]; simp) _

theorem blk3_1 (c : Dev nD) (t : Fin cfg3.N) : (iblk3 V c 1 t : Vec Ideal S128x128 .f32) = V c main_arg11 := by
  have hz : (fun a => win3_1.index t a * main_arg11.ty.shape.size a) = fun _ => 0 := funext fun a => Nat.zero_mul _
  exact Memref.read_access_unit_zero (Elt Ideal) main_arg11 hz (fun a => by rw [congrFun hz a]; simp) _

theorem blk3_2 (c : Dev nD) (t : Fin cfg3.N) : (iblk3 V c 2 t : Vec Ideal S128x128 .f32) = V c main_arg12 := by
  have hz : (fun a => win3_2.index t a * main_arg12.ty.shape.size a) = fun _ => 0 := funext fun a => Nat.zero_mul _
  exact Memref.read_access_unit_zero (Elt Ideal) main_arg12 hz (fun a => by rw [congrFun hz a]; simp) _

theorem blk3_3 (c : Dev nD) (t : Fin cfg3.N) : (iblk3 V c 3 t : Vec Ideal S16x128 .f32) = V c main_v94 := by
  have hz : (fun a => win3_3.index t a * main_v94.ty.shape.size a) = fun _ => 0 := funext fun a => Nat.zero_mul _
  exact Memref.read_access_unit_zero (Elt Ideal) main_v94 hz (fun a => by rw [congrFun hz a]; simp) _

/-- The second step's node product. -/
theorem region3 (c : Dev nD) : (dat3 V c).arrAt 4 cfg3.N = uProd (V c main_arg0) (V c main_arg11) (V c main_arg12) (V c main_v94) := by
  refine (dat3 V c).arrAt_eq_of_cover 4 (uProd (V c main_arg0) (V c main_arg11) (V c main_arg12) (V c main_v94)) (fun t _ => ?_)
    fun i => ?_
  · show (cfg3.win 4).cut (grid3.coords t) ((dat3 V c).after 4 t) = _
    rw [after3_4, blk3_0, blk3_1, blk3_2, blk3_3]
    unfold out3_4
    rw [View.canon_unit_zero zero2, View.ld_unit_zero (S := S10000x128) zero2, View.ld_unit_zero (S := S128x128) zero2,
      View.ld_unit_zero (S := S128x128) zero2, View.ld_unit_zero (S := S16x128) zero2]
    have hz : (fun a => win3_4.index t a * main_v96.ty.shape.size a) = fun _ => 0 := funext fun a => Nat.zero_mul _
    refine Eq.trans ?_ (Memref.read_access_unit_zero (Elt Ideal) main_v96 hz (fun a => by rw [congrFun hz a]; simp) _).symm
    exact pay1_eq (V c main_arg0) (V c main_arg11) (V c main_arg12) (V c main_v94)
  · obtain ⟨t, -⟩ : ∃ t : Fin cfg3.N, t.val = 0 := ⟨⟨0, by decide⟩, rfl⟩
    refine ⟨t, flush3_4 t, ?_⟩
    show i ∈ ((View.whole main_v96).slice (win3_4.rect t)).set
    rw [View.set_slice_whole, Rect.mem_set_unit]
    intro a
    show 0 * _ ≤ (i a : Nat) ∧ (i a : Nat) < 0 * _ + main_v96.ty.shape.size a
    rw [Nat.zero_mul]
    exact ⟨Nat.zero_le _, lt_of_lt_of_eq (i a).isLt (Nat.zero_add _).symm⟩

theorem blk5_0 (c : Dev nD) (t : Fin cfg5.N) : (iblk5 V c 0 t : Vec Ideal S10000x128 .f32) = V c main_arg0 := by
  have hz : (fun a => win5_0.index t a * main_arg0.ty.shape.size a) = fun _ => 0 := funext fun a => Nat.zero_mul _
  exact Memref.read_access_unit_zero (Elt Ideal) main_arg0 hz (fun a => by rw [congrFun hz a]; simp) _

theorem blk5_1 (c : Dev nD) (t : Fin cfg5.N) : (iblk5 V c 1 t : Vec Ideal S128x128 .f32) = V c main_arg11 := by
  have hz : (fun a => win5_1.index t a * main_arg11.ty.shape.size a) = fun _ => 0 := funext fun a => Nat.zero_mul _
  exact Memref.read_access_unit_zero (Elt Ideal) main_arg11 hz (fun a => by rw [congrFun hz a]; simp) _

theorem blk5_2 (c : Dev nD) (t : Fin cfg5.N) : (iblk5 V c 2 t : Vec Ideal S128x128 .f32) = V c main_arg12 := by
  have hz : (fun a => win5_2.index t a * main_arg12.ty.shape.size a) = fun _ => 0 := funext fun a => Nat.zero_mul _
  exact Memref.read_access_unit_zero (Elt Ideal) main_arg12 hz (fun a => by rw [congrFun hz a]; simp) _

theorem blk5_3 (c : Dev nD) (t : Fin cfg5.N) : (iblk5 V c 3 t : Vec Ideal S16x128 .f32) = V c main_v159 := by
  have hz : (fun a => win5_3.index t a * main_v159.ty.shape.size a) = fun _ => 0 := funext fun a => Nat.zero_mul _
  exact Memref.read_access_unit_zero (Elt Ideal) main_v159 hz (fun a => by rw [congrFun hz a]; simp) _

/-- The third step's node product. -/
theorem region5 (c : Dev nD) : (dat5 V c).arrAt 4 cfg5.N = uProd (V c main_arg0) (V c main_arg11) (V c main_arg12) (V c main_v159) := by
  refine (dat5 V c).arrAt_eq_of_cover 4 (uProd (V c main_arg0) (V c main_arg11) (V c main_arg12) (V c main_v159)) (fun t _ => ?_)
    fun i => ?_
  · show (cfg5.win 4).cut (grid5.coords t) ((dat5 V c).after 4 t) = _
    rw [after5_4, blk5_0, blk5_1, blk5_2, blk5_3]
    unfold out5_4
    rw [View.canon_unit_zero zero2, View.ld_unit_zero (S := S10000x128) zero2, View.ld_unit_zero (S := S128x128) zero2,
      View.ld_unit_zero (S := S128x128) zero2, View.ld_unit_zero (S := S16x128) zero2]
    have hz : (fun a => win5_4.index t a * main_v161.ty.shape.size a) = fun _ => 0 := funext fun a => Nat.zero_mul _
    refine Eq.trans ?_ (Memref.read_access_unit_zero (Elt Ideal) main_v161 hz (fun a => by rw [congrFun hz a]; simp) _).symm
    exact pay1_eq (V c main_arg0) (V c main_arg11) (V c main_arg12) (V c main_v159)
  · obtain ⟨t, -⟩ : ∃ t : Fin cfg5.N, t.val = 0 := ⟨⟨0, by decide⟩, rfl⟩
    refine ⟨t, flush5_4 t, ?_⟩
    show i ∈ ((View.whole main_v161).slice (win5_4.rect t)).set
    rw [View.set_slice_whole, Rect.mem_set_unit]
    intro a
    show 0 * _ ≤ (i a : Nat) ∧ (i a : Nat) < 0 * _ + main_v161.ty.shape.size a
    rw [Nat.zero_mul]
    exact ⟨Nat.zero_le _, lt_of_lt_of_eq (i a).isLt (Nat.zero_add _).symm⟩

theorem blk7_0 (c : Dev nD) (t : Fin cfg7.N) : (iblk7 V c 0 t : Vec Ideal S10000x128 .f32) = V c main_arg0 := by
  have hz : (fun a => win7_0.index t a * main_arg0.ty.shape.size a) = fun _ => 0 := funext fun a => Nat.zero_mul _
  exact Memref.read_access_unit_zero (Elt Ideal) main_arg0 hz (fun a => by rw [congrFun hz a]; simp) _

theorem blk7_1 (c : Dev nD) (t : Fin cfg7.N) : (iblk7 V c 1 t : Vec Ideal S128x128 .f32) = V c main_arg11 := by
  have hz : (fun a => win7_1.index t a * main_arg11.ty.shape.size a) = fun _ => 0 := funext fun a => Nat.zero_mul _
  exact Memref.read_access_unit_zero (Elt Ideal) main_arg11 hz (fun a => by rw [congrFun hz a]; simp) _

theorem blk7_2 (c : Dev nD) (t : Fin cfg7.N) : (iblk7 V c 2 t : Vec Ideal S128x128 .f32) = V c main_arg12 := by
  have hz : (fun a => win7_2.index t a * main_arg12.ty.shape.size a) = fun _ => 0 := funext fun a => Nat.zero_mul _
  exact Memref.read_access_unit_zero (Elt Ideal) main_arg12 hz (fun a => by rw [congrFun hz a]; simp) _

theorem blk7_3 (c : Dev nD) (t : Fin cfg7.N) : (iblk7 V c 3 t : Vec Ideal S16x128 .f32) = V c main_v224 := by
  have hz : (fun a => win7_3.index t a * main_v224.ty.shape.size a) = fun _ => 0 := funext fun a => Nat.zero_mul _
  exact Memref.read_access_unit_zero (Elt Ideal) main_v224 hz (fun a => by rw [congrFun hz a]; simp) _

/-- The fourth step's node product. -/
theorem region7 (c : Dev nD) : (dat7 V c).arrAt 4 cfg7.N = uProd (V c main_arg0) (V c main_arg11) (V c main_arg12) (V c main_v224) := by
  refine (dat7 V c).arrAt_eq_of_cover 4 (uProd (V c main_arg0) (V c main_arg11) (V c main_arg12) (V c main_v224)) (fun t _ => ?_)
    fun i => ?_
  · show (cfg7.win 4).cut (grid7.coords t) ((dat7 V c).after 4 t) = _
    rw [after7_4, blk7_0, blk7_1, blk7_2, blk7_3]
    unfold out7_4
    rw [View.canon_unit_zero zero2, View.ld_unit_zero (S := S10000x128) zero2, View.ld_unit_zero (S := S128x128) zero2,
      View.ld_unit_zero (S := S128x128) zero2, View.ld_unit_zero (S := S16x128) zero2]
    have hz : (fun a => win7_4.index t a * main_v226.ty.shape.size a) = fun _ => 0 := funext fun a => Nat.zero_mul _
    refine Eq.trans ?_ (Memref.read_access_unit_zero (Elt Ideal) main_v226 hz (fun a => by rw [congrFun hz a]; simp) _).symm
    exact pay1_eq (V c main_arg0) (V c main_arg11) (V c main_arg12) (V c main_v224)
  · obtain ⟨t, -⟩ : ∃ t : Fin cfg7.N, t.val = 0 := ⟨⟨0, by decide⟩, rfl⟩
    refine ⟨t, flush7_4 t, ?_⟩
    show i ∈ ((View.whole main_v226).slice (win7_4.rect t)).set
    rw [View.set_slice_whole, Rect.mem_set_unit]
    intro a
    show 0 * _ ≤ (i a : Nat) ∧ (i a : Nat) < 0 * _ + main_v226.ty.shape.size a
    rw [Nat.zero_mul]
    exact ⟨Nat.zero_le _, lt_of_lt_of_eq (i a).isLt (Nat.zero_add _).symm⟩

end Cert.KernelIdeal.Gen

end
-- ==== Proof.KHead.lean ====
/- What the host operations before the first step leave: the rows of the edges' ends, the padded table of first edges, the flat indices, the
   per-edge products, and the first hidden state. -/
module

public import proofs.«01_k».proof.Proof.Score
public import proofs.«01_k».proof.Proof.Pre
public import proofs.«01_k».proof.Proof.Ptr
public import proofs.«01_k».proof.Proof.RegionU
public import proofs.«01_k».proof.Proof.Gen.KernelIdeal.Frame.Fold0
public import Idealize.ShloMosaic.Lib.StableHlo.RunRead

@[expose] public section

set_option maxRecDepth 16384
set_option maxHeartbeats 2000000

noncomputable section

namespace Cert.Proof.Ops

open Idealize.ShloMosaic Idealize.ShloMosaic.ValueIdx

/-- A row sliced out of the table of the edges' ends and flattened. -/
theorem row_slice (x3 : IVec ⟨2, ![2, 320000]⟩ 32) (o : ℕ) (r : Fin 2) (ho : o = r.val) (hs : (⟨2, ![2, 320000]⟩ : Shape).Slices ![o, 0] ⟨2, ![1, 320000]⟩)
    (hc : (⟨2, ![1, 320000]⟩ : Shape).ShapeCasts ⟨1, ![320000]⟩) :
    shapeCast ⟨1, ![320000]⟩ (extractStridedSlice ⟨2, ![1, 320000]⟩ ![o, 0] x3 hs) hc = rowOf x3 r := by
  funext z
  obtain ⟨e, rfl⟩ : ∃ e : Fin 320000, z = ix1 e := ⟨z 0, eq_ix1 z⟩
  refine (shapeCast_1a_a_apply _ hc e).trans ?_
  refine extractStridedSlice_apply ![o, 0] x3 hs (ix2 0 e) (ix2 r e) fun a => ?_
  match a with
  | ⟨0, _⟩ => exact (by omega : r.val = o + 0)
  | ⟨1, _⟩ => exact (by omega : e.val = 0 + e.val)

end Cert.Proof.Ops

namespace Cert.KernelIdeal.Gen

open Idealize.ShloMosaic Idealize.ShloMosaic.ValueIdx Idealize.ShloMosaic.TcCoe Idealize.ShloMosaic.StableHlo Cert.Proof.Ops

variable (m : (ℓ : Loc nD τ sig) → Buf (Elt Ideal) ℓ) (ρ : Dev nD → PrngReg) (c : Dev nD)

/-- The heads' row. -/
theorem heads1 : W1 m ρ c (Proc.devRef .tc main_v1) = rowOf (W0 m ρ c (Proc.devRef .tc main_arg3)) 0 := by
  after_reads_simp
  exact row_slice _ 0 0 rfl _ _

/-- The tails' row. -/
theorem tails1 : W1 m ρ c (Proc.devRef .tc main_v3) = rowOf (W0 m ρ c (Proc.devRef .tc main_arg3)) 1 := by
  after_reads_simp
  exact row_slice _ 1 1 rfl _ _

/-- The tails' row before the first step. -/
theorem tails8 : W8 m ρ c (Proc.devRef .tc main_v3) = rowOf (W0 m ρ c (Proc.devRef .tc main_arg3)) 1 := by
  have h : W8 m ρ c (Proc.devRef .tc main_v3) = W2 m ρ c (Proc.devRef .tc main_v3) := by after_reads_simp
  exact h.trans ((W2_of m ρ c main_v3 (by decide)).trans (tails1 m ρ c))

/-- The flat indices of the tails. -/
theorem flatT8 : W8 m ρ c (Proc.devRef .tc main_v25)
    = flatT (rowOf (W0 m ρ c (Proc.devRef .tc main_arg3)) 1) (W7 m ρ c (Proc.devRef .tc main_arg4)) := by
  have h : W7 m ρ c (Proc.devRef .tc main_v3) = W2 m ρ c (Proc.devRef .tc main_v3) := by after_reads_simp
  have h1 : W8 m ρ c (Proc.devRef .tc main_v25) = flatT (W7 m ρ c (Proc.devRef .tc main_v3)) (W7 m ρ c (Proc.devRef .tc main_arg4)) := by
    after_reads_simp
    rfl
  rw [h1, h, W2_of m ρ c main_v3 (by decide), tails1]

/-- The flat indices of the heads. -/
theorem flatH8 : W8 m ρ c (Proc.devRef .tc main_v30)
    = flatH (rowOf (W0 m ρ c (Proc.devRef .tc main_arg3)) 0) (W7 m ρ c (Proc.devRef .tc main_arg4)) := by
  have h : W7 m ρ c (Proc.devRef .tc main_v1) = W2 m ρ c (Proc.devRef .tc main_v1) := by after_reads_simp
  have h1 : W8 m ρ c (Proc.devRef .tc main_v30) = flatH (W7 m ρ c (Proc.devRef .tc main_v1)) (W7 m ρ c (Proc.devRef .tc main_arg4)) := by
    after_reads_simp
    rfl
  rw [h1, h, W2_of m ρ c main_v1 (by decide), heads1]

/-- The products of the edges' relations. -/
theorem rel8 : W8 m ρ c (Proc.devRef .tc main_v4)
    = rfProd (W1 m ρ c (Proc.devRef .tc main_arg1)) (W1 m ρ c (Proc.devRef .tc main_arg10)) := by
  have h : W8 m ρ c (Proc.devRef .tc main_v4) = W2 m ρ c (Proc.devRef .tc main_v4) := by after_reads_simp
  exact h.trans ((W2_arr m ρ c 2).trans (region0 (V1 m ρ) c))

/-- The padded table of first edges. -/
theorem table8 (k : Fin 17) : W8 m ρ c (Proc.devRef .tc main_v9) (ix2 (n0 := 1) (n1 := 32) 0 ⟨k.val, by omega⟩)
    = W2 m ρ c (Proc.devRef .tc main_arg5) (ix1 k) := by
  have h : W8 m ρ c (Proc.devRef .tc main_v9) = W3 m ρ c (Proc.devRef .tc main_v9) := by after_reads_simp
  rw [h]
  after_reads_simp
  exact set_row scatter_S1x32_S2_S17_0_0_01_0 rfl rfl rfl _ _ _ 0 ⟨k.val, by omega⟩ k rfl rfl rfl

/-- The first nodes brought into range. -/
theorem hclip : W4 m ρ c (Proc.devRef .tc main_v10) = maxsi (iG 0#32) (W2 m ρ c (Proc.devRef .tc main_arg7)) := by
  after_reads_simp
  rfl

/-- Their rows. -/
theorem hrow (V : Valuation τ sig (Elt Ideal)) : after hostOps1_2 V (Proc.devRef .tc main_v11)
    = nodes16 (V (Proc.devRef .tc main_arg0)) (V (Proc.devRef .tc main_v10)) := by
  after_reads_simp
  rfl

/-- Those rows, zero where there is no first node. -/
theorem hkeep (V : Valuation τ sig (Elt Ideal)) : after hostOps1_4 (after hostOps1_3 V) (Proc.devRef .tc main_v15)
    = keepRow (V (Proc.devRef .tc main_arg7)) (V (Proc.devRef .tc main_v11)) := by
  after_reads_simp
  rfl

/-- The layer on them. -/
theorem hlayer (V : Valuation τ sig (Elt Ideal)) : after hostOps1_5 V (Proc.devRef .tc main_v21)
    = layer (V (Proc.devRef .tc main_arg2)) (V (Proc.devRef .tc main_v15)) (V (Proc.devRef .tc main_arg8)) (V (Proc.devRef .tc main_arg9)) := by
  after_reads_simp
  rfl

/-- The hidden state before the first step. -/
theorem hid8 : W8 m ρ c (Proc.devRef .tc main_v21)
    = hidden0 (W4 m ρ c (Proc.devRef .tc main_arg0)) (W7 m ρ c (Proc.devRef .tc main_arg2)) (W2 m ρ c (Proc.devRef .tc main_arg7))
      (W7 m ρ c (Proc.devRef .tc main_arg8)) (W7 m ρ c (Proc.devRef .tc main_arg9)) := by
  have e1 : W5 m ρ c (Proc.devRef .tc main_v11) = _ := hrow (W4 m ρ c)
  have e2 : W7 m ρ c (Proc.devRef .tc main_v15) = _ := hkeep (W5 m ρ c)
  have e3 : W8 m ρ c (Proc.devRef .tc main_v21) = _ := hlayer (W7 m ρ c)
  have h7 : W5 m ρ c (Proc.devRef .tc main_arg7) = W2 m ρ c (Proc.devRef .tc main_arg7) := by after_reads_simp
  rw [e3, e2, e1, hclip, h7]
  rfl

/-- No graph is done before the first step. -/
theorem done8 : W8 m ρ c (Proc.devRef .tc main_v22) = done0 := by
  after_reads_simp
  rfl

end Cert.KernelIdeal.Gen
-- ==== Proof.KKeep.lean ====
/- What every step reads and none writes, carried from the first step's entry to the last's. -/
module

public import proofs.«01_k».proof.Proof.Ops
public import proofs.«01_k».proof.Proof.Gen.KernelIdeal.Frame.Fold0
public import Idealize.ShloMosaic.Lib.StableHlo.RunRead

@[expose] public section

set_option maxRecDepth 16384
set_option maxHeartbeats 2000000

noncomputable section

namespace Cert.KernelIdeal.Gen

open Idealize.ShloMosaic Idealize.ShloMosaic.TcCoe Idealize.ShloMosaic.StableHlo Cert.Proof.Ops

variable (m : (ℓ : Loc nD τ sig) → Buf (Elt Ideal) ℓ) (ρ : Dev nD → PrngReg) (c : Dev nD)

/-- The buffers that hold through the steps. -/
abbrev held : List (Ref sig .tc) := [main_v3, main_v4, main_v9, main_v25, main_v30]

/-- The first step's first pipeline keeps them, its hidden state and done graphs. -/
theorem keepA0 : ∀ r ∈ held ++ [main_v21, main_v22], W9 m ρ c (Proc.devRef .tc r) = W8 m ρ c (Proc.devRef .tc r) :=
  fun r hr => W9_of m ρ c r ((ListAll.forall_mem_of_all_decide (by decide +kernel) :
    ∀ r ∈ held ++ [main_v21, main_v22], ∀ w : Fin cfg1.W, Pipeline.arrRef spec1 w = r → (cfg1.win w).isOut = false) r hr)

/-- The host operations before its second pipeline keep them. -/
theorem keepB0 : ∀ r ∈ held ++ [main_v21, main_v22], W14 m ρ c (Proc.devRef .tc r) = W9 m ρ c (Proc.devRef .tc r) := by
  intro r hr
  simp only [held, List.cons_append, List.nil_append, List.mem_cons, List.not_mem_nil, or_false] at hr
  rcases hr with rfl | rfl | rfl | rfl | rfl | rfl | rfl <;> after_reads_simp

/-- Its second pipeline keeps them. -/
theorem keepC0 : ∀ r ∈ held ++ [main_v21, main_v22], W15 m ρ c (Proc.devRef .tc r) = W14 m ρ c (Proc.devRef .tc r) :=
  fun r hr => W15_of m ρ c r ((ListAll.forall_mem_of_all_decide (by decide +kernel) :
    ∀ r ∈ held ++ [main_v21, main_v22], ∀ w : Fin cfg2.W, Pipeline.arrRef spec2 w = r → (cfg2.win w).isOut = false) r hr)

/-- The host operations after it keep what every step reads. -/
theorem keepD0 : ∀ r ∈ held, W40 m ρ c (Proc.devRef .tc r) = W15 m ρ c (Proc.devRef .tc r) := by
  intro r hr
  simp only [held, List.cons_append, List.nil_append, List.mem_cons, List.not_mem_nil, or_false] at hr
  rcases hr with rfl | rfl | rfl | rfl | rfl <;> after_reads_simp

/-- The second step's first pipeline keeps them, its hidden state and done graphs and the earlier steps' results. -/
theorem keepA1 : ∀ r ∈ held ++ [main_v94, main_v95, main_v74, main_v75], W41 m ρ c (Proc.devRef .tc r) = W40 m ρ c (Proc.devRef .tc r) :=
  fun r hr => W41_of m ρ c r ((ListAll.forall_mem_of_all_decide (by decide +kernel) :
    ∀ r ∈ held ++ [main_v94, main_v95, main_v74, main_v75], ∀ w : Fin cfg3.W, Pipeline.arrRef spec3 w = r → (cfg3.win w).isOut = false) r hr)

/-- The host operations before its second pipeline keep them. -/
theorem keepB1 : ∀ r ∈ held ++ [main_v94, main_v95, main_v74, main_v75], W46 m ρ c (Proc.devRef .tc r) = W41 m ρ c (Proc.devRef .tc r) := by
  intro r hr
  simp only [held, List.cons_append, List.nil_append, List.mem_cons, List.not_mem_nil, or_false] at hr
  rcases hr with rfl | rfl | rfl | rfl | rfl | rfl | rfl | rfl | rfl <;> after_reads_simp

/-- Its second pipeline keeps them. -/
theorem keepC1 : ∀ r ∈ held ++ [main_v94, main_v95, main_v74, main_v75], W47 m ρ c (Proc.devRef .tc r) = W46 m ρ c (Proc.devRef .tc r) :=
  fun r hr => W47_of m ρ c r ((ListAll.forall_mem_of_all_decide (by decide +kernel) :
    ∀ r ∈ held ++ [main_v94, main_v95, main_v74, main_v75], ∀ w : Fin cfg4.W, Pipeline.arrRef spec4 w = r → (cfg4.win w).isOut = false) r hr)

/-- The host operations after it keep what every step reads and the earlier steps' results. -/
theorem keepD1 : ∀ r ∈ held ++ [main_v74, main_v75], W72 m ρ c (Proc.devRef .tc r) = W47 m ρ c (Proc.devRef .tc r) := by
  intro r hr
  simp only [held, List.cons_append, List.nil_append, List.mem_cons, List.not_mem_nil, or_false] at hr
  rcases hr with rfl | rfl | rfl | rfl | rfl | rfl | rfl <;> after_reads_simp

/-- The third step's first pipeline keeps them, its hidden state and done graphs and the earlier steps' results. -/
theorem keepA2 : ∀ r ∈ held ++ [main_v159, main_v160, main_v74, main_v75, main_v139, main_v140], W73 m ρ c (Proc.devRef .tc r) = W72 m ρ c (Proc.devRef .tc r) :=
  fun r hr => W73_of m ρ c r ((ListAll.forall_mem_of_all_decide (by decide +kernel) :
    ∀ r ∈ held ++ [main_v159, main_v160, main_v74, main_v75, main_v139, main_v140], ∀ w : Fin cfg5.W, Pipeline.arrRef spec5 w = r → (cfg5.win w).isOut = false) r hr)

/-- The host operations before its second pipeline keep them. -/
theorem keepB2 : ∀ r ∈ held ++ [main_v159, main_v160, main_v74, main_v75, main_v139, main_v140], W78 m ρ c (Proc.devRef .tc r) = W73 m ρ c (Proc.devRef .tc r) := by
  intro r hr
  simp only [held, List.cons_append, List.nil_append, List.mem_cons, List.not_mem_nil, or_false] at hr
  rcases hr with rfl | rfl | rfl | rfl | rfl | rfl | rfl | rfl | rfl | rfl | rfl <;> after_reads_simp

/-- Its second pipeline keeps them. -/
theorem keepC2 : ∀ r ∈ held ++ [main_v159, main_v160, main_v74, main_v75, main_v139, main_v140], W79 m ρ c (Proc.devRef .tc r) = W78 m ρ c (Proc.devRef .tc r) :=
  fun r hr => W79_of m ρ c r ((ListAll.forall_mem_of_all_decide (by decide +kernel) :
    ∀ r ∈ held ++ [main_v159, main_v160, main_v74, main_v75, main_v139, main_v140], ∀ w : Fin cfg6.W, Pipeline.arrRef spec6 w = r → (cfg6.win w).isOut = false) r hr)

/-- The host operations after it keep what every step reads and the earlier steps' results. -/
theorem keepD2 : ∀ r ∈ held ++ [main_v74, main_v75, main_v139, main_v140], W104 m ρ c (Proc.devRef .tc r) = W79 m ρ c (Proc.devRef .tc r) := by
  intro r hr
  simp only [held, List.cons_append, List.nil_append, List.mem_cons, List.not_mem_nil, or_false] at hr
  rcases hr with rfl | rfl | rfl | rfl | rfl | rfl | rfl | rfl | rfl <;> after_reads_simp

/-- The fourth step's first pipeline keeps them, its hidden state and done graphs and the earlier steps' results. -/
theorem keepA3 : ∀ r ∈ held ++ [main_v224, main_v225, main_v74, main_v75, main_v139, main_v140, main_v204, main_v205], W105 m ρ c (Proc.devRef .tc r) = W104 m ρ c (Proc.devRef .tc r) :=
  fun r hr => W105_of m ρ c r ((ListAll.forall_mem_of_all_decide (by decide +kernel) :
    ∀ r ∈ held ++ [main_v224, main_v225, main_v74, main_v75, main_v139, main_v140, main_v204, main_v205], ∀ w : Fin cfg7.W, Pipeline.arrRef spec7 w = r → (cfg7.win w).isOut = false) r hr)

/-- The host operations before its second pipeline keep them. -/
theorem keepB3 : ∀ r ∈ held ++ [main_v224, main_v225, main_v74, main_v75, main_v139, main_v140, main_v204, main_v205], W110 m ρ c (Proc.devRef .tc r) = W105 m ρ c (Proc.devRef .tc r) := by
  intro r hr
  simp only [held, List.cons_append, List.nil_append, List.mem_cons, List.not_mem_nil, or_false] at hr
  rcases hr with rfl | rfl | rfl | rfl | rfl | rfl | rfl | rfl | rfl | rfl | rfl | rfl | rfl <;> after_reads_simp

/-- Its second pipeline keeps them. -/
theorem keepC3 : ∀ r ∈ held ++ [main_v224, main_v225, main_v74, main_v75, main_v139, main_v140, main_v204, main_v205], W111 m ρ c (Proc.devRef .tc r) = W110 m ρ c (Proc.devRef .tc r) :=
  fun r hr => W111_of m ρ c r ((ListAll.forall_mem_of_all_decide (by decide +kernel) :
    ∀ r ∈ held ++ [main_v224, main_v225, main_v74, main_v75, main_v139, main_v140, main_v204, main_v205], ∀ w : Fin cfg8.W, Pipeline.arrRef spec8 w = r → (cfg8.win w).isOut = false) r hr)

/-- The host operations after it keep the earlier steps' results. -/
theorem keepD3 : ∀ r ∈ ([main_v74, main_v75, main_v139, main_v140, main_v204, main_v205] : List (Ref sig .tc)), W136 m ρ c (Proc.devRef .tc r) = W111 m ρ c (Proc.devRef .tc r) := by
  intro r hr
  simp only [held, List.cons_append, List.nil_append, List.mem_cons, List.not_mem_nil, or_false] at hr
  rcases hr with rfl | rfl | rfl | rfl | rfl | rfl <;> after_reads_simp

end Cert.KernelIdeal.Gen
-- ==== Proof.KHost0.lean ====
/- The first step: what the host operations around the pipelines of the kernel leave in the buffers that the next pipeline, or the results, read. -/
module

public import proofs.«01_k».proof.Proof.Steps
public import proofs.«01_k».proof.Proof.Gen.KernelIdeal.Frame.Fold0
public import Idealize.ShloMosaic.Lib.StableHlo.RunRead

@[expose] public section

set_option maxRecDepth 16384
set_option maxHeartbeats 2000000

noncomputable section

namespace Cert.KernelIdeal.Gen

open Idealize.ShloMosaic Idealize.ShloMosaic.TcCoe Idealize.ShloMosaic.StableHlo Cert.Proof.Ops

variable (m : (ℓ : Loc nD τ sig) → Buf (Elt Ideal) ℓ) (ρ : Dev nD → PrngReg) (c : Dev nD)

/-- The per-edge part of the scores in the first step. -/
theorem gather0 : W14 m ρ c (Proc.devRef .tc main_v37)
    = kGather (W9 m ρ c (Proc.devRef .tc main_v31)) (W9 m ρ c (Proc.devRef .tc main_v25)) (W9 m ρ c (Proc.devRef .tc main_v30)) := by
  after_reads_simp
  simp only [TRef.ofBuf_toBuf, TRef.ofBuf, TRef.toBuf, cast_eq]
  rfl

/-- The actions of the first step, where they are computed. -/
theorem kact0_at : W31 m ρ c (Proc.devRef .tc main_v74)
    = kAct (W15 m ρ c (Proc.devRef .tc main_v21)) (W15 m ρ c (Proc.devRef .tc main_v22)) (shapeCast _ (W15 m ρ c (Proc.devRef .tc main_v38_0)) shapeCasts_S1x16_S16) (shapeCast _ (W15 m ρ c (Proc.devRef .tc main_v38_2)) shapeCasts_S1x16_S16) (W15 m ρ c (Proc.devRef .tc main_arg13)) (W15 m ρ c (Proc.devRef .tc main_arg14)) := by
  after_reads_simp
  simp only [TRef.ofBuf_toBuf, TRef.ofBuf, TRef.toBuf, cast_eq]
  rfl

/-- They stand while the rows are taken. -/
theorem kmid0 (V : Valuation τ sig (Elt Ideal)) :
    after hostOps3_19 (after hostOps3_18 (after hostOps3_17 (after hostOps3_16 V))) (Proc.devRef .tc main_v74) = V (Proc.devRef .tc main_v74) := by
  after_reads_simp

/-- They stand to the end of the step. -/
theorem kend0 (V : Valuation τ sig (Elt Ideal)) :
    after hostOps3_24 (after hostOps3_23 (after hostOps3_22 (after hostOps3_21 (after hostOps3_20 V)))) (Proc.devRef .tc main_v74) = V (Proc.devRef .tc main_v74) := by
  after_reads_simp

/-- The actions of the first step. -/
theorem kact0 : W40 m ρ c (Proc.devRef .tc main_v74)
    = kAct (W15 m ρ c (Proc.devRef .tc main_v21)) (W15 m ρ c (Proc.devRef .tc main_v22)) (shapeCast _ (W15 m ρ c (Proc.devRef .tc main_v38_0)) shapeCasts_S1x16_S16) (shapeCast _ (W15 m ρ c (Proc.devRef .tc main_v38_2)) shapeCasts_S1x16_S16) (W15 m ρ c (Proc.devRef .tc main_arg13)) (W15 m ρ c (Proc.devRef .tc main_arg14)) :=
  (kend0 _).trans ((kmid0 _).trans (kact0_at m ρ c))

/-- The log probabilities of the first step. -/
theorem klpf0 : W40 m ρ c (Proc.devRef .tc main_v75)
    = kLpf (W15 m ρ c (Proc.devRef .tc main_v21)) (W15 m ρ c (Proc.devRef .tc main_v22)) (shapeCast _ (W15 m ρ c (Proc.devRef .tc main_v38_0)) shapeCasts_S1x16_S16) (shapeCast _ (W15 m ρ c (Proc.devRef .tc main_v38_1)) shapeCasts_S1x16_S16) (W15 m ρ c (Proc.devRef .tc main_arg13)) (W15 m ρ c (Proc.devRef .tc main_arg14)) := by
  after_reads_simp
  simp only [TRef.ofBuf_toBuf, TRef.ofBuf, TRef.toBuf, cast_eq]
  rfl

/-- The chosen edges brought into range. -/
theorem kclip0 (V : Valuation τ sig (Elt Ideal)) : after hostOps3_17 (after hostOps3_16 V) (Proc.devRef .tc main_v76)
    = clipE (V (Proc.devRef .tc main_v74)) := by
  after_reads_simp
  rfl

/-- Their tails. -/
theorem ktail0 (V : Valuation τ sig (Elt Ideal)) : after hostOps3_18 V (Proc.devRef .tc main_v77)
    = Cert.Proof.Take.takeFlat ok16 320000 320000#32 319999#32 (by decide) (constantI ⟨0, ![]⟩ 32 2147483648#32) (V (Proc.devRef .tc main_v3))
      (V (Proc.devRef .tc main_v76)) := by
  after_reads_simp
  rfl

/-- The rows of those. -/
theorem krow0 (V : Valuation τ sig (Elt Ideal)) : after hostOps3_19 V (Proc.devRef .tc main_v78)
    = nodes16 (V (Proc.devRef .tc main_arg0)) (V (Proc.devRef .tc main_v77)) := by
  after_reads_simp
  rfl

/-- The layer on those rows. -/
theorem klayer0 (V : Valuation τ sig (Elt Ideal)) :
    after hostOps3_24 (after hostOps3_23 (after hostOps3_22 (after hostOps3_21 (after hostOps3_20 V)))) (Proc.devRef .tc main_v94)
    = hiddenOf (V (Proc.devRef .tc main_v21)) (V (Proc.devRef .tc main_v22)) (V (Proc.devRef .tc main_v74)) (V (Proc.devRef .tc main_v78)) (V (Proc.devRef .tc main_arg15)) (V (Proc.devRef .tc main_arg16)) := by
  after_reads_simp
  rfl

/-- The hidden state after the first step. -/
theorem khid0 : W40 m ρ c (Proc.devRef .tc main_v94)
    = kHid (W15 m ρ c (Proc.devRef .tc main_v21)) (W15 m ρ c (Proc.devRef .tc main_v22)) (shapeCast _ (W15 m ρ c (Proc.devRef .tc main_v38_0)) shapeCasts_S1x16_S16) (shapeCast _ (W15 m ρ c (Proc.devRef .tc main_v38_2)) shapeCasts_S1x16_S16) (W15 m ρ c (Proc.devRef .tc main_arg13)) (W15 m ρ c (Proc.devRef .tc main_arg14)) (W15 m ρ c (Proc.devRef .tc main_arg0)) (W15 m ρ c (Proc.devRef .tc main_v3)) (W15 m ρ c (Proc.devRef .tc main_arg15)) (W15 m ρ c (Proc.devRef .tc main_arg16)) := by
  have e1 : W33 m ρ c (Proc.devRef .tc main_v76) = _ := kclip0 (W31 m ρ c)
  have e2 : W34 m ρ c (Proc.devRef .tc main_v77) = _ := ktail0 (W33 m ρ c)
  have e3 : W35 m ρ c (Proc.devRef .tc main_v78) = _ := krow0 (W34 m ρ c)
  have e4 : W40 m ρ c (Proc.devRef .tc main_v94) = _ := klayer0 (W35 m ρ c)
  have t1 : W35 m ρ c (Proc.devRef .tc main_v74) = W31 m ρ c (Proc.devRef .tc main_v74) := kmid0 _
  have h1 : W35 m ρ c (Proc.devRef .tc main_v21) = (W15 m ρ c (Proc.devRef .tc main_v21)) := by after_reads_simp
  have h2 : W35 m ρ c (Proc.devRef .tc main_v22) = (W15 m ρ c (Proc.devRef .tc main_v22)) := by after_reads_simp
  have h3 : W33 m ρ c (Proc.devRef .tc main_v3) = (W15 m ρ c (Proc.devRef .tc main_v3)) := by after_reads_simp
  have h4 : W34 m ρ c (Proc.devRef .tc main_arg0) = (W15 m ρ c (Proc.devRef .tc main_arg0)) := by after_reads_simp
  have h5 : W35 m ρ c (Proc.devRef .tc main_arg15) = (W15 m ρ c (Proc.devRef .tc main_arg15)) := by after_reads_simp
  have h6 : W35 m ρ c (Proc.devRef .tc main_arg16) = (W15 m ρ c (Proc.devRef .tc main_arg16)) := by after_reads_simp
  rw [e4, e3, e2, e1, t1, h1, h2, h3, h4, h5, h6, kact0_at]
  rfl

/-- The done graphs after the first step. -/
theorem kdn0 : W40 m ρ c (Proc.devRef .tc main_v95)
    = kDone (W15 m ρ c (Proc.devRef .tc main_v21)) (W15 m ρ c (Proc.devRef .tc main_v22)) (shapeCast _ (W15 m ρ c (Proc.devRef .tc main_v38_0)) shapeCasts_S1x16_S16) (W15 m ρ c (Proc.devRef .tc main_arg13)) (W15 m ρ c (Proc.devRef .tc main_arg14)) := by
  after_reads_simp
  simp only [TRef.ofBuf_toBuf, TRef.ofBuf, TRef.toBuf, cast_eq]
  rfl

end Cert.KernelIdeal.Gen
-- ==== Proof.KHost1.lean ====
/- The second step: what the host operations around the pipelines of the kernel leave in the buffers that the next pipeline, or the results, read. -/
module

public import proofs.«01_k».proof.Proof.Steps
public import proofs.«01_k».proof.Proof.Gen.KernelIdeal.Frame.Fold0
public import Idealize.ShloMosaic.Lib.StableHlo.RunRead

@[expose] public section

set_option maxRecDepth 16384
set_option maxHeartbeats 2000000

noncomputable section

namespace Cert.KernelIdeal.Gen

open Idealize.ShloMosaic Idealize.ShloMosaic.TcCoe Idealize.ShloMosaic.StableHlo Cert.Proof.Ops

variable (m : (ℓ : Loc nD τ sig) → Buf (Elt Ideal) ℓ) (ρ : Dev nD → PrngReg) (c : Dev nD)

/-- The per-edge part of the scores in the second step. -/
theorem gather1 : W46 m ρ c (Proc.devRef .tc main_v102)
    = kGather (W41 m ρ c (Proc.devRef .tc main_v96)) (W41 m ρ c (Proc.devRef .tc main_v25)) (W41 m ρ c (Proc.devRef .tc main_v30)) := by
  after_reads_simp
  simp only [TRef.ofBuf_toBuf, TRef.ofBuf, TRef.toBuf, cast_eq]
  rfl

/-- The actions of the second step, where they are computed. -/
theorem kact1_at : W63 m ρ c (Proc.devRef .tc main_v139)
    = kAct (W47 m ρ c (Proc.devRef .tc main_v94)) (W47 m ρ c (Proc.devRef .tc main_v95)) (shapeCast _ (W47 m ρ c (Proc.devRef .tc main_v103_0)) shapeCasts_S1x16_S16) (shapeCast _ (W47 m ρ c (Proc.devRef .tc main_v103_2)) shapeCasts_S1x16_S16) (W47 m ρ c (Proc.devRef .tc main_arg13)) (W47 m ρ c (Proc.devRef .tc main_arg14)) := by
  after_reads_simp
  simp only [TRef.ofBuf_toBuf, TRef.ofBuf, TRef.toBuf, cast_eq]
  rfl

/-- They stand while the rows are taken. -/
theorem kmid1 (V : Valuation τ sig (Elt Ideal)) :
    after hostOps5_19 (after hostOps5_18 (after hostOps5_17 (after hostOps5_16 V))) (Proc.devRef .tc main_v139) = V (Proc.devRef .tc main_v139) := by
  after_reads_simp

/-- They stand to the end of the step. -/
theorem kend1 (V : Valuation τ sig (Elt Ideal)) :
    after hostOps5_24 (after hostOps5_23 (after hostOps5_22 (after hostOps5_21 (after hostOps5_20 V)))) (Proc.devRef .tc main_v139) = V (Proc.devRef .tc main_v139) := by
  after_reads_simp

/-- The actions of the second step. -/
theorem kact1 : W72 m ρ c (Proc.devRef .tc main_v139)
    = kAct (W47 m ρ c (Proc.devRef .tc main_v94)) (W47 m ρ c (Proc.devRef .tc main_v95)) (shapeCast _ (W47 m ρ c (Proc.devRef .tc main_v103_0)) shapeCasts_S1x16_S16) (shapeCast _ (W47 m ρ c (Proc.devRef .tc main_v103_2)) shapeCasts_S1x16_S16) (W47 m ρ c (Proc.devRef .tc main_arg13)) (W47 m ρ c (Proc.devRef .tc main_arg14)) :=
  (kend1 _).trans ((kmid1 _).trans (kact1_at m ρ c))

/-- The log probabilities of the second step. -/
theorem klpf1 : W72 m ρ c (Proc.devRef .tc main_v140)
    = kLpf (W47 m ρ c (Proc.devRef .tc main_v94)) (W47 m ρ c (Proc.devRef .tc main_v95)) (shapeCast _ (W47 m ρ c (Proc.devRef .tc main_v103_0)) shapeCasts_S1x16_S16) (shapeCast _ (W47 m ρ c (Proc.devRef .tc main_v103_1)) shapeCasts_S1x16_S16) (W47 m ρ c (Proc.devRef .tc main_arg13)) (W47 m ρ c (Proc.devRef .tc main_arg14)) := by
  after_reads_simp
  simp only [TRef.ofBuf_toBuf, TRef.ofBuf, TRef.toBuf, cast_eq]
  rfl

/-- The chosen edges brought into range. -/
theorem kclip1 (V : Valuation τ sig (Elt Ideal)) : after hostOps5_17 (after hostOps5_16 V) (Proc.devRef .tc main_v141)
    = clipE (V (Proc.devRef .tc main_v139)) := by
  after_reads_simp
  rfl

/-- Their tails. -/
theorem ktail1 (V : Valuation τ sig (Elt Ideal)) : after hostOps5_18 V (Proc.devRef .tc main_v142)
    = Cert.Proof.Take.takeFlat ok16 320000 320000#32 319999#32 (by decide) (constantI ⟨0, ![]⟩ 32 2147483648#32) (V (Proc.devRef .tc main_v3))
      (V (Proc.devRef .tc main_v141)) := by
  after_reads_simp
  rfl

/-- The rows of those. -/
theorem krow1 (V : Valuation τ sig (Elt Ideal)) : after hostOps5_19 V (Proc.devRef .tc main_v143)
    = nodes16 (V (Proc.devRef .tc main_arg0)) (V (Proc.devRef .tc main_v142)) := by
  after_reads_simp
  rfl

/-- The layer on those rows. -/
theorem klayer1 (V : Valuation τ sig (Elt Ideal)) :
    after hostOps5_24 (after hostOps5_23 (after hostOps5_22 (after hostOps5_21 (after hostOps5_20 V)))) (Proc.devRef .tc main_v159)
    = hiddenOf (V (Proc.devRef .tc main_v94)) (V (Proc.devRef .tc main_v95)) (V (Proc.devRef .tc main_v139)) (V (Proc.devRef .tc main_v143)) (V (Proc.devRef .tc main_arg15)) (V (Proc.devRef .tc main_arg16)) := by
  after_reads_simp
  rfl

/-- The hidden state after the second step. -/
theorem khid1 : W72 m ρ c (Proc.devRef .tc main_v159)
    = kHid (W47 m ρ c (Proc.devRef .tc main_v94)) (W47 m ρ c (Proc.devRef .tc main_v95)) (shapeCast _ (W47 m ρ c (Proc.devRef .tc main_v103_0)) shapeCasts_S1x16_S16) (shapeCast _ (W47 m ρ c (Proc.devRef .tc main_v103_2)) shapeCasts_S1x16_S16) (W47 m ρ c (Proc.devRef .tc main_arg13)) (W47 m ρ c (Proc.devRef .tc main_arg14)) (W47 m ρ c (Proc.devRef .tc main_arg0)) (W47 m ρ c (Proc.devRef .tc main_v3)) (W47 m ρ c (Proc.devRef .tc main_arg15)) (W47 m ρ c (Proc.devRef .tc main_arg16)) := by
  have e1 : W65 m ρ c (Proc.devRef .tc main_v141) = _ := kclip1 (W63 m ρ c)
  have e2 : W66 m ρ c (Proc.devRef .tc main_v142) = _ := ktail1 (W65 m ρ c)
  have e3 : W67 m ρ c (Proc.devRef .tc main_v143) = _ := krow1 (W66 m ρ c)
  have e4 : W72 m ρ c (Proc.devRef .tc main_v159) = _ := klayer1 (W67 m ρ c)
  have t1 : W67 m ρ c (Proc.devRef .tc main_v139) = W63 m ρ c (Proc.devRef .tc main_v139) := kmid1 _
  have h1 : W67 m ρ c (Proc.devRef .tc main_v94) = (W47 m ρ c (Proc.devRef .tc main_v94)) := by after_reads_simp
  have h2 : W67 m ρ c (Proc.devRef .tc main_v95) = (W47 m ρ c (Proc.devRef .tc main_v95)) := by after_reads_simp
  have h3 : W65 m ρ c (Proc.devRef .tc main_v3) = (W47 m ρ c (Proc.devRef .tc main_v3)) := by after_reads_simp
  have h4 : W66 m ρ c (Proc.devRef .tc main_arg0) = (W47 m ρ c (Proc.devRef .tc main_arg0)) := by after_reads_simp
  have h5 : W67 m ρ c (Proc.devRef .tc main_arg15) = (W47 m ρ c (Proc.devRef .tc main_arg15)) := by after_reads_simp
  have h6 : W67 m ρ c (Proc.devRef .tc main_arg16) = (W47 m ρ c (Proc.devRef .tc main_arg16)) := by after_reads_simp
  rw [e4, e3, e2, e1, t1, h1, h2, h3, h4, h5, h6, kact1_at]
  rfl

/-- The done graphs after the second step. -/
theorem kdn1 : W72 m ρ c (Proc.devRef .tc main_v160)
    = kDone (W47 m ρ c (Proc.devRef .tc main_v94)) (W47 m ρ c (Proc.devRef .tc main_v95)) (shapeCast _ (W47 m ρ c (Proc.devRef .tc main_v103_0)) shapeCasts_S1x16_S16) (W47 m ρ c (Proc.devRef .tc main_arg13)) (W47 m ρ c (Proc.devRef .tc main_arg14)) := by
  after_reads_simp
  simp only [TRef.ofBuf_toBuf, TRef.ofBuf, TRef.toBuf, cast_eq]
  rfl

end Cert.KernelIdeal.Gen
-- ==== Proof.KHost2.lean ====
/- The third step: what the host operations around the pipelines of the kernel leave in the buffers that the next pipeline, or the results, read. -/
module

public import proofs.«01_k».proof.Proof.Steps
public import proofs.«01_k».proof.Proof.Gen.KernelIdeal.Frame.Fold0
public import Idealize.ShloMosaic.Lib.StableHlo.RunRead

@[expose] public section

set_option maxRecDepth 16384
set_option maxHeartbeats 2000000

noncomputable section

namespace Cert.KernelIdeal.Gen

open Idealize.ShloMosaic Idealize.ShloMosaic.TcCoe Idealize.ShloMosaic.StableHlo Cert.Proof.Ops

variable (m : (ℓ : Loc nD τ sig) → Buf (Elt Ideal) ℓ) (ρ : Dev nD → PrngReg) (c : Dev nD)

/-- The per-edge part of the scores in the third step. -/
theorem gather2 : W78 m ρ c (Proc.devRef .tc main_v167)
    = kGather (W73 m ρ c (Proc.devRef .tc main_v161)) (W73 m ρ c (Proc.devRef .tc main_v25)) (W73 m ρ c (Proc.devRef .tc main_v30)) := by
  after_reads_simp
  simp only [TRef.ofBuf_toBuf, TRef.ofBuf, TRef.toBuf, cast_eq]
  rfl

/-- The actions of the third step, where they are computed. -/
theorem kact2_at : W95 m ρ c (Proc.devRef .tc main_v204)
    = kAct (W79 m ρ c (Proc.devRef .tc main_v159)) (W79 m ρ c (Proc.devRef .tc main_v160)) (shapeCast _ (W79 m ρ c (Proc.devRef .tc main_v168_0)) shapeCasts_S1x16_S16) (shapeCast _ (W79 m ρ c (Proc.devRef .tc main_v168_2)) shapeCasts_S1x16_S16) (W79 m ρ c (Proc.devRef .tc main_arg13)) (W79 m ρ c (Proc.devRef .tc main_arg14)) := by
  after_reads_simp
  simp only [TRef.ofBuf_toBuf, TRef.ofBuf, TRef.toBuf, cast_eq]
  rfl

/-- They stand while the rows are taken. -/
theorem kmid2 (V : Valuation τ sig (Elt Ideal)) :
    after hostOps7_19 (after hostOps7_18 (after hostOps7_17 (after hostOps7_16 V))) (Proc.devRef .tc main_v204) = V (Proc.devRef .tc main_v204) := by
  after_reads_simp

/-- They stand to the end of the step. -/
theorem kend2 (V : Valuation τ sig (Elt Ideal)) :
    after hostOps7_24 (after hostOps7_23 (after hostOps7_22 (after hostOps7_21 (after hostOps7_20 V)))) (Proc.devRef .tc main_v204) = V (Proc.devRef .tc main_v204) := by
  after_reads_simp

/-- The actions of the third step. -/
theorem kact2 : W104 m ρ c (Proc.devRef .tc main_v204)
    = kAct (W79 m ρ c (Proc.devRef .tc main_v159)) (W79 m ρ c (Proc.devRef .tc main_v160)) (shapeCast _ (W79 m ρ c (Proc.devRef .tc main_v168_0)) shapeCasts_S1x16_S16) (shapeCast _ (W79 m ρ c (Proc.devRef .tc main_v168_2)) shapeCasts_S1x16_S16) (W79 m ρ c (Proc.devRef .tc main_arg13)) (W79 m ρ c (Proc.devRef .tc main_arg14)) :=
  (kend2 _).trans ((kmid2 _).trans (kact2_at m ρ c))

/-- The log probabilities of the third step. -/
theorem klpf2 : W104 m ρ c (Proc.devRef .tc main_v205)
    = kLpf (W79 m ρ c (Proc.devRef .tc main_v159)) (W79 m ρ c (Proc.devRef .tc main_v160)) (shapeCast _ (W79 m ρ c (Proc.devRef .tc main_v168_0)) shapeCasts_S1x16_S16) (shapeCast _ (W79 m ρ c (Proc.devRef .tc main_v168_1)) shapeCasts_S1x16_S16) (W79 m ρ c (Proc.devRef .tc main_arg13)) (W79 m ρ c (Proc.devRef .tc main_arg14)) := by
  after_reads_simp
  simp only [TRef.ofBuf_toBuf, TRef.ofBuf, TRef.toBuf, cast_eq]
  rfl

/-- The chosen edges brought into range. -/
theorem kclip2 (V : Valuation τ sig (Elt Ideal)) : after hostOps7_17 (after hostOps7_16 V) (Proc.devRef .tc main_v206)
    = clipE (V (Proc.devRef .tc main_v204)) := by
  after_reads_simp
  rfl

/-- Their tails. -/
theorem ktail2 (V : Valuation τ sig (Elt Ideal)) : after hostOps7_18 V (Proc.devRef .tc main_v207)
    = Cert.Proof.Take.takeFlat ok16 320000 320000#32 319999#32 (by decide) (constantI ⟨0, ![]⟩ 32 2147483648#32) (V (Proc.devRef .tc main_v3))
      (V (Proc.devRef .tc main_v206)) := by
  after_reads_simp
  rfl

/-- The rows of those. -/
theorem krow2 (V : Valuation τ sig (Elt Ideal)) : after hostOps7_19 V (Proc.devRef .tc main_v208)
    = nodes16 (V (Proc.devRef .tc main_arg0)) (V (Proc.devRef .tc main_v207)) := by
  after_reads_simp
  rfl

/-- The layer on those rows. -/
theorem klayer2 (V : Valuation τ sig (Elt Ideal)) :
    after hostOps7_24 (after hostOps7_23 (after hostOps7_22 (after hostOps7_21 (after hostOps7_20 V)))) (Proc.devRef .tc main_v224)
    = hiddenOf (V (Proc.devRef .tc main_v159)) (V (Proc.devRef .tc main_v160)) (V (Proc.devRef .tc main_v204)) (V (Proc.devRef .tc main_v208)) (V (Proc.devRef .tc main_arg15)) (V (Proc.devRef .tc main_arg16)) := by
  after_reads_simp
  rfl

/-- The hidden state after the third step. -/
theorem khid2 : W104 m ρ c (Proc.devRef .tc main_v224)
    = kHid (W79 m ρ c (Proc.devRef .tc main_v159)) (W79 m ρ c (Proc.devRef .tc main_v160)) (shapeCast _ (W79 m ρ c (Proc.devRef .tc main_v168_0)) shapeCasts_S1x16_S16) (shapeCast _ (W79 m ρ c (Proc.devRef .tc main_v168_2)) shapeCasts_S1x16_S16) (W79 m ρ c (Proc.devRef .tc main_arg13)) (W79 m ρ c (Proc.devRef .tc main_arg14)) (W79 m ρ c (Proc.devRef .tc main_arg0)) (W79 m ρ c (Proc.devRef .tc main_v3)) (W79 m ρ c (Proc.devRef .tc main_arg15)) (W79 m ρ c (Proc.devRef .tc main_arg16)) := by
  have e1 : W97 m ρ c (Proc.devRef .tc main_v206) = _ := kclip2 (W95 m ρ c)
  have e2 : W98 m ρ c (Proc.devRef .tc main_v207) = _ := ktail2 (W97 m ρ c)
  have e3 : W99 m ρ c (Proc.devRef .tc main_v208) = _ := krow2 (W98 m ρ c)
  have e4 : W104 m ρ c (Proc.devRef .tc main_v224) = _ := klayer2 (W99 m ρ c)
  have t1 : W99 m ρ c (Proc.devRef .tc main_v204) = W95 m ρ c (Proc.devRef .tc main_v204) := kmid2 _
  have h1 : W99 m ρ c (Proc.devRef .tc main_v159) = (W79 m ρ c (Proc.devRef .tc main_v159)) := by after_reads_simp
  have h2 : W99 m ρ c (Proc.devRef .tc main_v160) = (W79 m ρ c (Proc.devRef .tc main_v160)) := by after_reads_simp
  have h3 : W97 m ρ c (Proc.devRef .tc main_v3) = (W79 m ρ c (Proc.devRef .tc main_v3)) := by after_reads_simp
  have h4 : W98 m ρ c (Proc.devRef .tc main_arg0) = (W79 m ρ c (Proc.devRef .tc main_arg0)) := by after_reads_simp
  have h5 : W99 m ρ c (Proc.devRef .tc main_arg15) = (W79 m ρ c (Proc.devRef .tc main_arg15)) := by after_reads_simp
  have h6 : W99 m ρ c (Proc.devRef .tc main_arg16) = (W79 m ρ c (Proc.devRef .tc main_arg16)) := by after_reads_simp
  rw [e4, e3, e2, e1, t1, h1, h2, h3, h4, h5, h6, kact2_at]
  rfl

/-- The done graphs after the third step. -/
theorem kdn2 : W104 m ρ c (Proc.devRef .tc main_v225)
    = kDone (W79 m ρ c (Proc.devRef .tc main_v159)) (W79 m ρ c (Proc.devRef .tc main_v160)) (shapeCast _ (W79 m ρ c (Proc.devRef .tc main_v168_0)) shapeCasts_S1x16_S16) (W79 m ρ c (Proc.devRef .tc main_arg13)) (W79 m ρ c (Proc.devRef .tc main_arg14)) := by
  after_reads_simp
  simp only [TRef.ofBuf_toBuf, TRef.ofBuf, TRef.toBuf, cast_eq]
  rfl

end Cert.KernelIdeal.Gen
-- ==== Proof.KHost3.lean ====
/- The fourth step: what the host operations around the pipelines of the kernel leave in the buffers that the next pipeline, or the results, read. -/
module

public import proofs.«01_k».proof.Proof.Steps
public import proofs.«01_k».proof.Proof.Gen.KernelIdeal.Frame.Fold0
public import Idealize.ShloMosaic.Lib.StableHlo.RunRead

@[expose] public section

set_option maxRecDepth 16384
set_option maxHeartbeats 2000000

noncomputable section

namespace Cert.KernelIdeal.Gen

open Idealize.ShloMosaic Idealize.ShloMosaic.TcCoe Idealize.ShloMosaic.StableHlo Cert.Proof.Ops

variable (m : (ℓ : Loc nD τ sig) → Buf (Elt Ideal) ℓ) (ρ : Dev nD → PrngReg) (c : Dev nD)

/-- The per-edge part of the scores in the fourth step. -/
theorem gather3 : W110 m ρ c (Proc.devRef .tc main_v232)
    = kGather (W105 m ρ c (Proc.devRef .tc main_v226)) (W105 m ρ c (Proc.devRef .tc main_v25)) (W105 m ρ c (Proc.devRef .tc main_v30)) := by
  after_reads_simp
  simp only [TRef.ofBuf_toBuf, TRef.ofBuf, TRef.toBuf, cast_eq]
  rfl

/-- The actions of the fourth step, where they are computed. -/
theorem kact3_at : W127 m ρ c (Proc.devRef .tc main_v269)
    = kAct (W111 m ρ c (Proc.devRef .tc main_v224)) (W111 m ρ c (Proc.devRef .tc main_v225)) (shapeCast _ (W111 m ρ c (Proc.devRef .tc main_v233_0)) shapeCasts_S1x16_S16) (shapeCast _ (W111 m ρ c (Proc.devRef .tc main_v233_2)) shapeCasts_S1x16_S16) (W111 m ρ c (Proc.devRef .tc main_arg13)) (W111 m ρ c (Proc.devRef .tc main_arg14)) := by
  after_reads_simp
  simp only [TRef.ofBuf_toBuf, TRef.ofBuf, TRef.toBuf, cast_eq]
  rfl

/-- They stand while the rows are taken. -/
theorem kmid3 (V : Valuation τ sig (Elt Ideal)) :
    after hostOps9_19 (after hostOps9_18 (after hostOps9_17 (after hostOps9_16 V))) (Proc.devRef .tc main_v269) = V (Proc.devRef .tc main_v269) := by
  after_reads_simp

/-- They stand to the end of the step. -/
theorem kend3 (V : Valuation τ sig (Elt Ideal)) :
    after hostOps9_24 (after hostOps9_23 (after hostOps9_22 (after hostOps9_21 (after hostOps9_20 V)))) (Proc.devRef .tc main_v269) = V (Proc.devRef .tc main_v269) := by
  after_reads_simp

/-- The actions of the fourth step. -/
theorem kact3 : W136 m ρ c (Proc.devRef .tc main_v269)
    = kAct (W111 m ρ c (Proc.devRef .tc main_v224)) (W111 m ρ c (Proc.devRef .tc main_v225)) (shapeCast _ (W111 m ρ c (Proc.devRef .tc main_v233_0)) shapeCasts_S1x16_S16) (shapeCast _ (W111 m ρ c (Proc.devRef .tc main_v233_2)) shapeCasts_S1x16_S16) (W111 m ρ c (Proc.devRef .tc main_arg13)) (W111 m ρ c (Proc.devRef .tc main_arg14)) :=
  (kend3 _).trans ((kmid3 _).trans (kact3_at m ρ c))

/-- The log probabilities of the fourth step. -/
theorem klpf3 : W136 m ρ c (Proc.devRef .tc main_v270)
    = kLpf (W111 m ρ c (Proc.devRef .tc main_v224)) (W111 m ρ c (Proc.devRef .tc main_v225)) (shapeCast _ (W111 m ρ c (Proc.devRef .tc main_v233_0)) shapeCasts_S1x16_S16) (shapeCast _ (W111 m ρ c (Proc.devRef .tc main_v233_1)) shapeCasts_S1x16_S16) (W111 m ρ c (Proc.devRef .tc main_arg13)) (W111 m ρ c (Proc.devRef .tc main_arg14)) := by
  after_reads_simp
  simp only [TRef.ofBuf_toBuf, TRef.ofBuf, TRef.toBuf, cast_eq]
  rfl

end Cert.KernelIdeal.Gen
-- ==== Proof.Case2.lean ====
/- The first step kernel's accumulators after each point, as the chain of its tiles. -/
module

public import proofs.«01_k».proof.Proof.Gen.KernelIdeal.Frame.Region2
public import proofs.«01_k».proof.Proof.TileDefs

@[expose] public section

set_option maxRecDepth 16384

noncomputable section

namespace Cert.KernelIdeal.Gen

open Idealize.ShloMosaic Idealize.ShloMosaic.TcCoe Idealize.ShloMosaic.Tactic

variable {F : FTy → Type} [FloatOps F] [Named F]
variable (V : (c : Dev nD) → (b : Ref sig .tc) → b.ty.Contents (Elt F))

/-- A later point leaves one more tile over what it finds. -/
theorem caseB2 (c : Dev nD) (t : Fin cfg2.N) (h0 : ¬t.val % 25 = 0) :
    outsAt2 V c t.val t.isLt = tile (grid2.coords t) (iblk2 V c 0 t) (iblk2 V c 1 t) (iblk2 V c 2 t) (iblk2 V c 3 t)
      (outsAt2 V c (t.val - 1) (by have := t.isLt; omega)) := by
  rw [outsAt2_B V c t h0]
  unfold out2_B_4 out2_B_5 out2_B_6
  rw [View.read_writes_eq_canon _ _ _ (fun y => cover2_B_4 (y := y) ..), View.read_writes_eq_canon _ _ _ (fun y => cover2_B_5 (y := y) ..),
    View.read_writes_eq_canon _ _ _ (fun y => cover2_B_6 (y := y) ..)]
  unfold kernelRun2_B
  dsimp only
  sl_unfold_words
  rw [View.canon_unit_zero zero2, View.canon_unit_zero zero2, View.canon_unit_zero zero2]
  simp only [View.readAt_eq_ld, (hs2_0 t).read_unread, (hs2_1 t).read_unread, (hs2_2 t).read_unread, (hs2_3 t).read_unread,
    (hs2_4 t).read_unread, (hs2_5 t).read_unread, (hs2_6 t).read_unread,
    View.ld_unit_zero (S := S1x16) zero2, View.ld_unit_zero (S := S12800x128) zero2, View.ld_unit_zero (S := S12800x1) zero2,
    View.ld_unit_zero (S := S16x128) zero2]
  rfl

/-- The first point leaves one tile over the initial accumulators. -/
theorem caseA2 (c : Dev nD) (t : Fin cfg2.N) (h0 : t.val % 25 = 0) :
    outsAt2 V c t.val t.isLt = tile (grid2.coords t) (iblk2 V c 0 t) (iblk2 V c 1 t) (iblk2 V c 2 t) (iblk2 V c 3 t) tile0 := by
  rw [outsAt2_A V c t h0]
  unfold out2_A_4 out2_A_5 out2_A_6
  rw [View.read_writes_eq_canon _ _ _ (fun y => cover2_A_4 (y := y) ..), View.read_writes_eq_canon _ _ _ (fun y => cover2_A_5 (y := y) ..),
    View.read_writes_eq_canon _ _ _ (fun y => cover2_A_6 (y := y) ..)]
  unfold kernelRun2_A
  dsimp only
  sl_unfold_words
  rw [View.canon_cons_unit_zero (S := S1x16) zero2, View.canon_cons_unit_zero (S := S1x16) zero2,
    View.canon_cons_unit_zero (S := S1x16) zero2]
  simp only [View.readAt_eq_ld, (hs2_0 t).read_unread, (hs2_1 t).read_unread, (hs2_2 t).read_unread, (hs2_3 t).read_unread,
    View.readCov_unit_zero (S := S1x16) _ zero2,
    View.ld_unit_zero (S := S12800x128) zero2, View.ld_unit_zero (S := S12800x1) zero2,
    View.ld_unit_zero (S := S16x128) zero2]
  rfl

end Cert.KernelIdeal.Gen

end
-- ==== Proof.Step2.lean ====
/- The first step kernel's results: each graph's maximum, sum and index over all the edges. -/
module

public import proofs.«01_k».proof.Proof.Case2
public import proofs.«01_k».proof.Proof.TileMath

@[expose] public section

set_option maxRecDepth 16384

noncomputable section

namespace Cert.KernelIdeal.Gen

open Idealize.ShloMosaic Idealize.ShloMosaic.TcCoe Idealize.ShloMosaic.ValueIdx

section Blocks

variable {F : FTy → Type} [FloatOps F] [Named F]
variable (V : (c : Dev nD) → (b : Ref sig .tc) → b.ty.Contents (Elt F))

theorem lt2 (t : Fin cfg2.N) : t.val < 25 := lt_of_lt_of_eq t.isLt N_2

theorem coord2 (t : Fin cfg2.N) : (grid2.coords t 0).val = t.val :=
  (Pipeline.Grid.coords_val t 0 (by decide) rfl).trans (mod25 (lt2 t))

/-- The bounds' block is the whole array. -/
theorem blk2_0 (c : Dev nD) (t : Fin cfg2.N) : (iblk2 V c 0 t : Vec F S1x32 .i32) = V c main_v9 := by
  have hz : (fun a => win2_0.index t a * main_v9.ty.shape.size a) = fun _ => 0 := funext fun a => by fin_cases a <;> rfl
  exact Memref.read_access_unit_zero (Elt F) main_v9 hz (fun a => by rw [congrFun hz a]; simp) _

/-- The hidden state's block is the whole array. -/
theorem blk2_3 (c : Dev nD) (t : Fin cfg2.N) : (iblk2 V c 3 t : Vec F S16x128 .f32) = V c main_v21 := by
  have hz : (fun a => win2_3.index t a * main_v21.ty.shape.size a) = fun _ => 0 := funext fun a => by fin_cases a <;> rfl
  exact Memref.read_access_unit_zero (Elt F) main_v21 hz (fun a => by rw [congrFun hz a]; simp) _

/-- The features' block is a tile of rows. -/
theorem blk2_1 (c : Dev nD) (t : Fin cfg2.N) (r : Fin 12800) (k : Fin 128) (e : Fin 320000) (he : e.val = 12800 * t.val + r.val) :
    (iblk2 V c 1 t : Vec F S12800x128 .f32) (ix2 r k) = (V c main_v4 : Vec F S320000x128 .f32) (ix2 e k) := by
  have ht := lt2 t
  have h0 : win2_1.index t 0 = t.val := by
    show (BitVec.ofNat 32 (grid2.coords t 0).val).toNat = t.val
    rw [coord2, BitVec.toNat_ofNat]; omega
  unfold iblk2
  rw [View.read_apply]
  show V c main_v4 _ = V c main_v4 _
  congr 1
  funext a
  apply Fin.ext
  match a with
  | ⟨0, _⟩ => show win2_1.index t 0 * 12800 + 1 * r.val = e.val; rw [h0]; omega
  | ⟨1, _⟩ => show win2_1.index t 1 * 128 + 1 * k.val = k.val; rw [show win2_1.index t 1 = 0 from rfl]; omega

/-- The gathered terms' block is a tile of rows. -/
theorem blk2_2 (c : Dev nD) (t : Fin cfg2.N) (r : Fin 12800) (e : Fin 320000) (he : e.val = 12800 * t.val + r.val) :
    (iblk2 V c 2 t : Vec F S12800x1 .f32) (ix2 r 0) = (V c main_v37 : Vec F S320000x1 .f32) (ix2 e 0) := by
  have ht := lt2 t
  have h0 : win2_2.index t 0 = t.val := by
    show (BitVec.ofNat 32 (grid2.coords t 0).val).toNat = t.val
    rw [coord2, BitVec.toNat_ofNat]; omega
  unfold iblk2
  rw [View.read_apply]
  show V c main_v37 _ = V c main_v37 _
  congr 1
  funext a
  apply Fin.ext
  match a with
  | ⟨0, _⟩ => show win2_2.index t 0 * 12800 + 1 * r.val = e.val; rw [h0]; omega
  | ⟨1, _⟩ => show win2_2.index t 1 * 1 + 1 * 0 = 0; rw [show win2_2.index t 1 = 0 from rfl]

/-- The last point. -/
abbrev last2 : Fin cfg2.N := ⟨24, by rw [show cfg2.N = 25 from N_2]; decide⟩

/-- The maxima's array ends at what the last point leaves. -/
theorem final2_4 (c : Dev nD) : (dat2 V c).arrAt 4 cfg2.N = (outsAt2 V c 24 last2.isLt).1 := by
  refine (dat2 V c).arrAt_eq_of_cover 4 (outsAt2 V c 24 last2.isLt).1 (fun t hf => ?_) fun i => ⟨last2, (flush2_4 _).mpr rfl, ?_⟩
  · have h3 : t.val = 24 := by have := (flush2_4 t).mp hf; have := lt2 t; omega
    obtain rfl : t = last2 := Fin.ext h3
    show (cfg2.win 4).cut (grid2.coords last2) ((dat2 V c).after 4 last2) = _
    rw [after2_4]
    have hz : (fun a => win2_4.index last2 a * main_v38_0.ty.shape.size a) = fun _ => 0 := funext fun a => by fin_cases a <;> rfl
    exact (Memref.read_access_unit_zero (Elt F) main_v38_0 hz (fun a => by rw [congrFun hz a]; simp) _).symm
  · show i ∈ ((View.whole main_v38_0).slice (win2_4.rect last2)).set
    rw [View.set_slice_whole, Rect.mem_set_unit]
    intro a
    have hz : win2_4.index last2 a * win2_4.size a = 0 := by fin_cases a <;> rfl
    show win2_4.index last2 a * win2_4.size a ≤ (i a : Nat) ∧ (i a : Nat) < win2_4.index last2 a * win2_4.size a + main_v38_0.ty.shape.size a
    rw [hz]
    exact ⟨Nat.zero_le _, lt_of_lt_of_eq (i a).isLt (Nat.zero_add _).symm⟩

/-- The sums's array ends at what the last point leaves. -/
theorem final2_5 (c : Dev nD) : (dat2 V c).arrAt 5 cfg2.N = (outsAt2 V c 24 last2.isLt).2.1 := by
  refine (dat2 V c).arrAt_eq_of_cover 5 (outsAt2 V c 24 last2.isLt).2.1 (fun t hf => ?_) fun i => ⟨last2, (flush2_5 _).mpr rfl, ?_⟩
  · have h3 : t.val = 24 := by have := (flush2_5 t).mp hf; have := lt2 t; omega
    obtain rfl : t = last2 := Fin.ext h3
    show (cfg2.win 5).cut (grid2.coords last2) ((dat2 V c).after 5 last2) = _
    rw [after2_5]
    have hz : (fun a => win2_5.index last2 a * main_v38_1.ty.shape.size a) = fun _ => 0 := funext fun a => by fin_cases a <;> rfl
    exact (Memref.read_access_unit_zero (Elt F) main_v38_1 hz (fun a => by rw [congrFun hz a]; simp) _).symm
  · show i ∈ ((View.whole main_v38_1).slice (win2_5.rect last2)).set
    rw [View.set_slice_whole, Rect.mem_set_unit]
    intro a
    have hz : win2_5.index last2 a * win2_5.size a = 0 := by fin_cases a <;> rfl
    show win2_5.index last2 a * win2_5.size a ≤ (i a : Nat) ∧ (i a : Nat) < win2_5.index last2 a * win2_5.size a + main_v38_1.ty.shape.size a
    rw [hz]
    exact ⟨Nat.zero_le _, lt_of_lt_of_eq (i a).isLt (Nat.zero_add _).symm⟩

/-- The indices's array ends at what the last point leaves. -/
theorem final2_6 (c : Dev nD) : (dat2 V c).arrAt 6 cfg2.N = (outsAt2 V c 24 last2.isLt).2.2 := by
  refine (dat2 V c).arrAt_eq_of_cover 6 (outsAt2 V c 24 last2.isLt).2.2 (fun t hf => ?_) fun i => ⟨last2, (flush2_6 _).mpr rfl, ?_⟩
  · have h3 : t.val = 24 := by have := (flush2_6 t).mp hf; have := lt2 t; omega
    obtain rfl : t = last2 := Fin.ext h3
    show (cfg2.win 6).cut (grid2.coords last2) ((dat2 V c).after 6 last2) = _
    rw [after2_6]
    have hz : (fun a => win2_6.index last2 a * main_v38_2.ty.shape.size a) = fun _ => 0 := funext fun a => by fin_cases a <;> rfl
    exact (Memref.read_access_unit_zero (Elt F) main_v38_2 hz (fun a => by rw [congrFun hz a]; simp) _).symm
  · show i ∈ ((View.whole main_v38_2).slice (win2_6.rect last2)).set
    rw [View.set_slice_whole, Rect.mem_set_unit]
    intro a
    have hz : win2_6.index last2 a * win2_6.size a = 0 := by fin_cases a <;> rfl
    show win2_6.index last2 a * win2_6.size a ≤ (i a : Nat) ∧ (i a : Nat) < win2_6.index last2 a * win2_6.size a + main_v38_2.ty.shape.size a
    rw [hz]
    exact ⟨Nat.zero_le _, lt_of_lt_of_eq (i a).isLt (Nat.zero_add _).symm⟩

end Blocks

variable (V : (c : Dev nD) → (b : Ref sig .tc) → b.ty.Contents (Elt Ideal))

/-- After each point the accumulators hold the fold over the edges so far. -/
theorem holds2 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v37) (V c main_v21) e b = (x b e.val : EReal)) :
    ∀ (n : ℕ) (hn : n < cfg2.N), Holds (fromE (F := Ideal) (V c main_v9)) (toE (F := Ideal) (V c main_v9)) x (12800 * n + 12800) (outsAt2 V c n hn) := by
  have key : ∀ (t : Fin cfg2.N) a, Holds (fromE (F := Ideal) (V c main_v9)) (toE (F := Ideal) (V c main_v9)) x (12800 * t.val) a →
      Holds (fromE (F := Ideal) (V c main_v9)) (toE (F := Ideal) (V c main_v9)) x (12800 * t.val + 12800)
        (tile (F := Ideal) (grid2.coords t) (iblk2 V c 0 t) (iblk2 V c 1 t) (iblk2 V c 2 t) (iblk2 V c 3 t) a) := fun t a h => by
    have ht := lt2 t
    have h' := holds_step (grid2.coords t) (x1 := iblk2 V c 1 t) (x2 := iblk2 V c 2 t) (x3 := iblk2 V c 3 t) (V c main_v9) x a
      (fun b r hm => by
        rw [coord2] at hm ⊢
        refine Eq.trans ?_ (hx b ⟨12800 * t.val + r.val, by have := r.isLt; omega⟩ hm)
        unfold rowScore edgeScore
        rw [blk2_2 V c t r ⟨12800 * t.val + r.val, by have := r.isLt; omega⟩ rfl, blk2_3 V c t]
        simp only [fun k => blk2_1 V c t r k ⟨12800 * t.val + r.val, by have := r.isLt; omega⟩ rfl])
      (by rw [coord2]; exact h)
    rw [coord2] at h'
    rw [blk2_0 V c t]
    exact h'
  intro n
  induction n with
  | zero => intro hn; rw [caseA2 V c ⟨0, hn⟩ rfl]; exact key ⟨0, hn⟩ _ (holds0 _ _ _)
  | succ n ih =>
    intro hn
    have hlt := lt2 ⟨n + 1, hn⟩
    rw [caseB2 V c ⟨n + 1, hn⟩ (by simp only at hlt ⊢; omega)]
    exact key ⟨n + 1, hn⟩ _ (ih (Nat.lt_of_succ_lt hn))

/-- The step kernel's results hold the fold over all the edges. -/
theorem step2 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v37) (V c main_v21) e b = (x b e.val : EReal)) :
    Holds (fromE (F := Ideal) (V c main_v9)) (toE (F := Ideal) (V c main_v9)) x 320000
      ((dat2 V c).arrAt 4 cfg2.N, (dat2 V c).arrAt 5 cfg2.N, (dat2 V c).arrAt 6 cfg2.N) := by
  rw [final2_4, final2_5, final2_6]
  exact holds2 V c x hx 24 last2.isLt

end Cert.KernelIdeal.Gen

end
-- ==== Proof.Case4.lean ====
/- The second step kernel's accumulators after each point, as the chain of its tiles. -/
module

public import proofs.«01_k».proof.Proof.Gen.KernelIdeal.Frame.Region4
public import proofs.«01_k».proof.Proof.TileDefs

@[expose] public section

set_option maxRecDepth 16384

noncomputable section

namespace Cert.KernelIdeal.Gen

open Idealize.ShloMosaic Idealize.ShloMosaic.TcCoe Idealize.ShloMosaic.Tactic

variable {F : FTy → Type} [FloatOps F] [Named F]
variable (V : (c : Dev nD) → (b : Ref sig .tc) → b.ty.Contents (Elt F))

/-- A later point leaves one more tile over what it finds. -/
theorem caseB4 (c : Dev nD) (t : Fin cfg4.N) (h0 : ¬t.val % 25 = 0) :
    outsAt4 V c t.val t.isLt = tile (grid4.coords t) (iblk4 V c 0 t) (iblk4 V c 1 t) (iblk4 V c 2 t) (iblk4 V c 3 t)
      (outsAt4 V c (t.val - 1) (by have := t.isLt; omega)) := by
  rw [outsAt4_B V c t h0]
  unfold out4_B_4 out4_B_5 out4_B_6
  rw [View.read_writes_eq_canon _ _ _ (fun y => cover4_B_4 (y := y) ..), View.read_writes_eq_canon _ _ _ (fun y => cover4_B_5 (y := y) ..),
    View.read_writes_eq_canon _ _ _ (fun y => cover4_B_6 (y := y) ..)]
  unfold kernelRun4_B
  dsimp only
  sl_unfold_words
  rw [View.canon_unit_zero zero2, View.canon_unit_zero zero2, View.canon_unit_zero zero2]
  simp only [View.readAt_eq_ld, (hs4_0 t).read_unread, (hs4_1 t).read_unread, (hs4_2 t).read_unread, (hs4_3 t).read_unread,
    (hs4_4 t).read_unread, (hs4_5 t).read_unread, (hs4_6 t).read_unread,
    View.ld_unit_zero (S := S1x16) zero2, View.ld_unit_zero (S := S12800x128) zero2, View.ld_unit_zero (S := S12800x1) zero2,
    View.ld_unit_zero (S := S16x128) zero2]
  rfl

/-- The first point leaves one tile over the initial accumulators. -/
theorem caseA4 (c : Dev nD) (t : Fin cfg4.N) (h0 : t.val % 25 = 0) :
    outsAt4 V c t.val t.isLt = tile (grid4.coords t) (iblk4 V c 0 t) (iblk4 V c 1 t) (iblk4 V c 2 t) (iblk4 V c 3 t) tile0 := by
  rw [outsAt4_A V c t h0]
  unfold out4_A_4 out4_A_5 out4_A_6
  rw [View.read_writes_eq_canon _ _ _ (fun y => cover4_A_4 (y := y) ..), View.read_writes_eq_canon _ _ _ (fun y => cover4_A_5 (y := y) ..),
    View.read_writes_eq_canon _ _ _ (fun y => cover4_A_6 (y := y) ..)]
  unfold kernelRun4_A
  dsimp only
  sl_unfold_words
  rw [View.canon_cons_unit_zero (S := S1x16) zero2, View.canon_cons_unit_zero (S := S1x16) zero2,
    View.canon_cons_unit_zero (S := S1x16) zero2]
  simp only [View.readAt_eq_ld, (hs4_0 t).read_unread, (hs4_1 t).read_unread, (hs4_2 t).read_unread, (hs4_3 t).read_unread,
    View.readCov_unit_zero (S := S1x16) _ zero2,
    View.ld_unit_zero (S := S12800x128) zero2, View.ld_unit_zero (S := S12800x1) zero2,
    View.ld_unit_zero (S := S16x128) zero2]
  rfl

end Cert.KernelIdeal.Gen

end
-- ==== Proof.Step4.lean ====
/- The second step kernel's results: each graph's maximum, sum and index over all the edges. -/
module

public import proofs.«01_k».proof.Proof.Case4
public import proofs.«01_k».proof.Proof.TileMath

@[expose] public section

set_option maxRecDepth 16384

noncomputable section

namespace Cert.KernelIdeal.Gen

open Idealize.ShloMosaic Idealize.ShloMosaic.TcCoe Idealize.ShloMosaic.ValueIdx

section Blocks

variable {F : FTy → Type} [FloatOps F] [Named F]
variable (V : (c : Dev nD) → (b : Ref sig .tc) → b.ty.Contents (Elt F))

theorem lt4 (t : Fin cfg4.N) : t.val < 25 := lt_of_lt_of_eq t.isLt N_2

theorem coord4 (t : Fin cfg4.N) : (grid4.coords t 0).val = t.val :=
  (Pipeline.Grid.coords_val t 0 (by decide) rfl).trans (mod25 (lt4 t))

/-- The bounds' block is the whole array. -/
theorem blk4_0 (c : Dev nD) (t : Fin cfg4.N) : (iblk4 V c 0 t : Vec F S1x32 .i32) = V c main_v9 := by
  have hz : (fun a => win4_0.index t a * main_v9.ty.shape.size a) = fun _ => 0 := funext fun a => by fin_cases a <;> rfl
  exact Memref.read_access_unit_zero (Elt F) main_v9 hz (fun a => by rw [congrFun hz a]; simp) _

/-- The hidden state's block is the whole array. -/
theorem blk4_3 (c : Dev nD) (t : Fin cfg4.N) : (iblk4 V c 3 t : Vec F S16x128 .f32) = V c main_v94 := by
  have hz : (fun a => win4_3.index t a * main_v94.ty.shape.size a) = fun _ => 0 := funext fun a => by fin_cases a <;> rfl
  exact Memref.read_access_unit_zero (Elt F) main_v94 hz (fun a => by rw [congrFun hz a]; simp) _

/-- The features' block is a tile of rows. -/
theorem blk4_1 (c : Dev nD) (t : Fin cfg4.N) (r : Fin 12800) (k : Fin 128) (e : Fin 320000) (he : e.val = 12800 * t.val + r.val) :
    (iblk4 V c 1 t : Vec F S12800x128 .f32) (ix2 r k) = (V c main_v4 : Vec F S320000x128 .f32) (ix2 e k) := by
  have ht := lt4 t
  have h0 : win4_1.index t 0 = t.val := by
    show (BitVec.ofNat 32 (grid4.coords t 0).val).toNat = t.val
    rw [coord4, BitVec.toNat_ofNat]; omega
  unfold iblk4
  rw [View.read_apply]
  show V c main_v4 _ = V c main_v4 _
  congr 1
  funext a
  apply Fin.ext
  match a with
  | ⟨0, _⟩ => show win4_1.index t 0 * 12800 + 1 * r.val = e.val; rw [h0]; omega
  | ⟨1, _⟩ => show win4_1.index t 1 * 128 + 1 * k.val = k.val; rw [show win4_1.index t 1 = 0 from rfl]; omega

/-- The gathered terms' block is a tile of rows. -/
theorem blk4_2 (c : Dev nD) (t : Fin cfg4.N) (r : Fin 12800) (e : Fin 320000) (he : e.val = 12800 * t.val + r.val) :
    (iblk4 V c 2 t : Vec F S12800x1 .f32) (ix2 r 0) = (V c main_v102 : Vec F S320000x1 .f32) (ix2 e 0) := by
  have ht := lt4 t
  have h0 : win4_2.index t 0 = t.val := by
    show (BitVec.ofNat 32 (grid4.coords t 0).val).toNat = t.val
    rw [coord4, BitVec.toNat_ofNat]; omega
  unfold iblk4
  rw [View.read_apply]
  show V c main_v102 _ = V c main_v102 _
  congr 1
  funext a
  apply Fin.ext
  match a with
  | ⟨0, _⟩ => show win4_2.index t 0 * 12800 + 1 * r.val = e.val; rw [h0]; omega
  | ⟨1, _⟩ => show win4_2.index t 1 * 1 + 1 * 0 = 0; rw [show win4_2.index t 1 = 0 from rfl]

/-- The last point. -/
abbrev last4 : Fin cfg4.N := ⟨24, by rw [show cfg4.N = 25 from N_2]; decide⟩

/-- The maxima's array ends at what the last point leaves. -/
theorem final4_4 (c : Dev nD) : (dat4 V c).arrAt 4 cfg4.N = (outsAt4 V c 24 last4.isLt).1 := by
  refine (dat4 V c).arrAt_eq_of_cover 4 (outsAt4 V c 24 last4.isLt).1 (fun t hf => ?_) fun i => ⟨last4, (flush4_4 _).mpr rfl, ?_⟩
  · have h3 : t.val = 24 := by have := (flush4_4 t).mp hf; have := lt4 t; omega
    obtain rfl : t = last4 := Fin.ext h3
    show (cfg4.win 4).cut (grid4.coords last4) ((dat4 V c).after 4 last4) = _
    rw [after4_4]
    have hz : (fun a => win4_4.index last4 a * main_v103_0.ty.shape.size a) = fun _ => 0 := funext fun a => by fin_cases a <;> rfl
    exact (Memref.read_access_unit_zero (Elt F) main_v103_0 hz (fun a => by rw [congrFun hz a]; simp) _).symm
  · show i ∈ ((View.whole main_v103_0).slice (win4_4.rect last4)).set
    rw [View.set_slice_whole, Rect.mem_set_unit]
    intro a
    have hz : win4_4.index last4 a * win4_4.size a = 0 := by fin_cases a <;> rfl
    show win4_4.index last4 a * win4_4.size a ≤ (i a : Nat) ∧ (i a : Nat) < win4_4.index last4 a * win4_4.size a + main_v103_0.ty.shape.size a
    rw [hz]
    exact ⟨Nat.zero_le _, lt_of_lt_of_eq (i a).isLt (Nat.zero_add _).symm⟩

/-- The sums's array ends at what the last point leaves. -/
theorem final4_5 (c : Dev nD) : (dat4 V c).arrAt 5 cfg4.N = (outsAt4 V c 24 last4.isLt).2.1 := by
  refine (dat4 V c).arrAt_eq_of_cover 5 (outsAt4 V c 24 last4.isLt).2.1 (fun t hf => ?_) fun i => ⟨last4, (flush4_5 _).mpr rfl, ?_⟩
  · have h3 : t.val = 24 := by have := (flush4_5 t).mp hf; have := lt4 t; omega
    obtain rfl : t = last4 := Fin.ext h3
    show (cfg4.win 5).cut (grid4.coords last4) ((dat4 V c).after 5 last4) = _
    rw [after4_5]
    have hz : (fun a => win4_5.index last4 a * main_v103_1.ty.shape.size a) = fun _ => 0 := funext fun a => by fin_cases a <;> rfl
    exact (Memref.read_access_unit_zero (Elt F) main_v103_1 hz (fun a => by rw [congrFun hz a]; simp) _).symm
  · show i ∈ ((View.whole main_v103_1).slice (win4_5.rect last4)).set
    rw [View.set_slice_whole, Rect.mem_set_unit]
    intro a
    have hz : win4_5.index last4 a * win4_5.size a = 0 := by fin_cases a <;> rfl
    show win4_5.index last4 a * win4_5.size a ≤ (i a : Nat) ∧ (i a : Nat) < win4_5.index last4 a * win4_5.size a + main_v103_1.ty.shape.size a
    rw [hz]
    exact ⟨Nat.zero_le _, lt_of_lt_of_eq (i a).isLt (Nat.zero_add _).symm⟩

/-- The indices's array ends at what the last point leaves. -/
theorem final4_6 (c : Dev nD) : (dat4 V c).arrAt 6 cfg4.N = (outsAt4 V c 24 last4.isLt).2.2 := by
  refine (dat4 V c).arrAt_eq_of_cover 6 (outsAt4 V c 24 last4.isLt).2.2 (fun t hf => ?_) fun i => ⟨last4, (flush4_6 _).mpr rfl, ?_⟩
  · have h3 : t.val = 24 := by have := (flush4_6 t).mp hf; have := lt4 t; omega
    obtain rfl : t = last4 := Fin.ext h3
    show (cfg4.win 6).cut (grid4.coords last4) ((dat4 V c).after 6 last4) = _
    rw [after4_6]
    have hz : (fun a => win4_6.index last4 a * main_v103_2.ty.shape.size a) = fun _ => 0 := funext fun a => by fin_cases a <;> rfl
    exact (Memref.read_access_unit_zero (Elt F) main_v103_2 hz (fun a => by rw [congrFun hz a]; simp) _).symm
  · show i ∈ ((View.whole main_v103_2).slice (win4_6.rect last4)).set
    rw [View.set_slice_whole, Rect.mem_set_unit]
    intro a
    have hz : win4_6.index last4 a * win4_6.size a = 0 := by fin_cases a <;> rfl
    show win4_6.index last4 a * win4_6.size a ≤ (i a : Nat) ∧ (i a : Nat) < win4_6.index last4 a * win4_6.size a + main_v103_2.ty.shape.size a
    rw [hz]
    exact ⟨Nat.zero_le _, lt_of_lt_of_eq (i a).isLt (Nat.zero_add _).symm⟩

end Blocks

variable (V : (c : Dev nD) → (b : Ref sig .tc) → b.ty.Contents (Elt Ideal))

/-- After each point the accumulators hold the fold over the edges so far. -/
theorem holds4 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v102) (V c main_v94) e b = (x b e.val : EReal)) :
    ∀ (n : ℕ) (hn : n < cfg4.N), Holds (fromE (F := Ideal) (V c main_v9)) (toE (F := Ideal) (V c main_v9)) x (12800 * n + 12800) (outsAt4 V c n hn) := by
  have key : ∀ (t : Fin cfg4.N) a, Holds (fromE (F := Ideal) (V c main_v9)) (toE (F := Ideal) (V c main_v9)) x (12800 * t.val) a →
      Holds (fromE (F := Ideal) (V c main_v9)) (toE (F := Ideal) (V c main_v9)) x (12800 * t.val + 12800)
        (tile (F := Ideal) (grid4.coords t) (iblk4 V c 0 t) (iblk4 V c 1 t) (iblk4 V c 2 t) (iblk4 V c 3 t) a) := fun t a h => by
    have ht := lt4 t
    have h' := holds_step (grid4.coords t) (x1 := iblk4 V c 1 t) (x2 := iblk4 V c 2 t) (x3 := iblk4 V c 3 t) (V c main_v9) x a
      (fun b r hm => by
        rw [coord4] at hm ⊢
        refine Eq.trans ?_ (hx b ⟨12800 * t.val + r.val, by have := r.isLt; omega⟩ hm)
        unfold rowScore edgeScore
        rw [blk4_2 V c t r ⟨12800 * t.val + r.val, by have := r.isLt; omega⟩ rfl, blk4_3 V c t]
        simp only [fun k => blk4_1 V c t r k ⟨12800 * t.val + r.val, by have := r.isLt; omega⟩ rfl])
      (by rw [coord4]; exact h)
    rw [coord4] at h'
    rw [blk4_0 V c t]
    exact h'
  intro n
  induction n with
  | zero => intro hn; rw [caseA4 V c ⟨0, hn⟩ rfl]; exact key ⟨0, hn⟩ _ (holds0 _ _ _)
  | succ n ih =>
    intro hn
    have hlt := lt4 ⟨n + 1, hn⟩
    rw [caseB4 V c ⟨n + 1, hn⟩ (by simp only at hlt ⊢; omega)]
    exact key ⟨n + 1, hn⟩ _ (ih (Nat.lt_of_succ_lt hn))

/-- The step kernel's results hold the fold over all the edges. -/
theorem step4 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v102) (V c main_v94) e b = (x b e.val : EReal)) :
    Holds (fromE (F := Ideal) (V c main_v9)) (toE (F := Ideal) (V c main_v9)) x 320000
      ((dat4 V c).arrAt 4 cfg4.N, (dat4 V c).arrAt 5 cfg4.N, (dat4 V c).arrAt 6 cfg4.N) := by
  rw [final4_4, final4_5, final4_6]
  exact holds4 V c x hx 24 last4.isLt

end Cert.KernelIdeal.Gen

end
-- ==== Proof.Case6.lean ====
/- The third step kernel's accumulators after each point, as the chain of its tiles. -/
module

public import proofs.«01_k».proof.Proof.Gen.KernelIdeal.Frame.Region6
public import proofs.«01_k».proof.Proof.TileDefs

@[expose] public section

set_option maxRecDepth 16384

noncomputable section

namespace Cert.KernelIdeal.Gen

open Idealize.ShloMosaic Idealize.ShloMosaic.TcCoe Idealize.ShloMosaic.Tactic

variable {F : FTy → Type} [FloatOps F] [Named F]
variable (V : (c : Dev nD) → (b : Ref sig .tc) → b.ty.Contents (Elt F))

/-- A later point leaves one more tile over what it finds. -/
theorem caseB6 (c : Dev nD) (t : Fin cfg6.N) (h0 : ¬t.val % 25 = 0) :
    outsAt6 V c t.val t.isLt = tile (grid6.coords t) (iblk6 V c 0 t) (iblk6 V c 1 t) (iblk6 V c 2 t) (iblk6 V c 3 t)
      (outsAt6 V c (t.val - 1) (by have := t.isLt; omega)) := by
  rw [outsAt6_B V c t h0]
  unfold out6_B_4 out6_B_5 out6_B_6
  rw [View.read_writes_eq_canon _ _ _ (fun y => cover6_B_4 (y := y) ..), View.read_writes_eq_canon _ _ _ (fun y => cover6_B_5 (y := y) ..),
    View.read_writes_eq_canon _ _ _ (fun y => cover6_B_6 (y := y) ..)]
  unfold kernelRun6_B
  dsimp only
  sl_unfold_words
  rw [View.canon_unit_zero zero2, View.canon_unit_zero zero2, View.canon_unit_zero zero2]
  simp only [View.readAt_eq_ld, (hs6_0 t).read_unread, (hs6_1 t).read_unread, (hs6_2 t).read_unread, (hs6_3 t).read_unread,
    (hs6_4 t).read_unread, (hs6_5 t).read_unread, (hs6_6 t).read_unread,
    View.ld_unit_zero (S := S1x16) zero2, View.ld_unit_zero (S := S12800x128) zero2, View.ld_unit_zero (S := S12800x1) zero2,
    View.ld_unit_zero (S := S16x128) zero2]
  rfl

/-- The first point leaves one tile over the initial accumulators. -/
theorem caseA6 (c : Dev nD) (t : Fin cfg6.N) (h0 : t.val % 25 = 0) :
    outsAt6 V c t.val t.isLt = tile (grid6.coords t) (iblk6 V c 0 t) (iblk6 V c 1 t) (iblk6 V c 2 t) (iblk6 V c 3 t) tile0 := by
  rw [outsAt6_A V c t h0]
  unfold out6_A_4 out6_A_5 out6_A_6
  rw [View.read_writes_eq_canon _ _ _ (fun y => cover6_A_4 (y := y) ..), View.read_writes_eq_canon _ _ _ (fun y => cover6_A_5 (y := y) ..),
    View.read_writes_eq_canon _ _ _ (fun y => cover6_A_6 (y := y) ..)]
  unfold kernelRun6_A
  dsimp only
  sl_unfold_words
  rw [View.canon_cons_unit_zero (S := S1x16) zero2, View.canon_cons_unit_zero (S := S1x16) zero2,
    View.canon_cons_unit_zero (S := S1x16) zero2]
  simp only [View.readAt_eq_ld, (hs6_0 t).read_unread, (hs6_1 t).read_unread, (hs6_2 t).read_unread, (hs6_3 t).read_unread,
    View.readCov_unit_zero (S := S1x16) _ zero2,
    View.ld_unit_zero (S := S12800x128) zero2, View.ld_unit_zero (S := S12800x1) zero2,
    View.ld_unit_zero (S := S16x128) zero2]
  rfl

end Cert.KernelIdeal.Gen

end
-- ==== Proof.Step6.lean ====
/- The third step kernel's results: each graph's maximum, sum and index over all the edges. -/
module

public import proofs.«01_k».proof.Proof.Case6
public import proofs.«01_k».proof.Proof.TileMath

@[expose] public section

set_option maxRecDepth 16384

noncomputable section

namespace Cert.KernelIdeal.Gen

open Idealize.ShloMosaic Idealize.ShloMosaic.TcCoe Idealize.ShloMosaic.ValueIdx

section Blocks

variable {F : FTy → Type} [FloatOps F] [Named F]
variable (V : (c : Dev nD) → (b : Ref sig .tc) → b.ty.Contents (Elt F))

theorem lt6 (t : Fin cfg6.N) : t.val < 25 := lt_of_lt_of_eq t.isLt N_2

theorem coord6 (t : Fin cfg6.N) : (grid6.coords t 0).val = t.val :=
  (Pipeline.Grid.coords_val t 0 (by decide) rfl).trans (mod25 (lt6 t))

/-- The bounds' block is the whole array. -/
theorem blk6_0 (c : Dev nD) (t : Fin cfg6.N) : (iblk6 V c 0 t : Vec F S1x32 .i32) = V c main_v9 := by
  have hz : (fun a => win6_0.index t a * main_v9.ty.shape.size a) = fun _ => 0 := funext fun a => by fin_cases a <;> rfl
  exact Memref.read_access_unit_zero (Elt F) main_v9 hz (fun a => by rw [congrFun hz a]; simp) _

/-- The hidden state's block is the whole array. -/
theorem blk6_3 (c : Dev nD) (t : Fin cfg6.N) : (iblk6 V c 3 t : Vec F S16x128 .f32) = V c main_v159 := by
  have hz : (fun a => win6_3.index t a * main_v159.ty.shape.size a) = fun _ => 0 := funext fun a => by fin_cases a <;> rfl
  exact Memref.read_access_unit_zero (Elt F) main_v159 hz (fun a => by rw [congrFun hz a]; simp) _

/-- The features' block is a tile of rows. -/
theorem blk6_1 (c : Dev nD) (t : Fin cfg6.N) (r : Fin 12800) (k : Fin 128) (e : Fin 320000) (he : e.val = 12800 * t.val + r.val) :
    (iblk6 V c 1 t : Vec F S12800x128 .f32) (ix2 r k) = (V c main_v4 : Vec F S320000x128 .f32) (ix2 e k) := by
  have ht := lt6 t
  have h0 : win6_1.index t 0 = t.val := by
    show (BitVec.ofNat 32 (grid6.coords t 0).val).toNat = t.val
    rw [coord6, BitVec.toNat_ofNat]; omega
  unfold iblk6
  rw [View.read_apply]
  show V c main_v4 _ = V c main_v4 _
  congr 1
  funext a
  apply Fin.ext
  match a with
  | ⟨0, _⟩ => show win6_1.index t 0 * 12800 + 1 * r.val = e.val; rw [h0]; omega
  | ⟨1, _⟩ => show win6_1.index t 1 * 128 + 1 * k.val = k.val; rw [show win6_1.index t 1 = 0 from rfl]; omega

/-- The gathered terms' block is a tile of rows. -/
theorem blk6_2 (c : Dev nD) (t : Fin cfg6.N) (r : Fin 12800) (e : Fin 320000) (he : e.val = 12800 * t.val + r.val) :
    (iblk6 V c 2 t : Vec F S12800x1 .f32) (ix2 r 0) = (V c main_v167 : Vec F S320000x1 .f32) (ix2 e 0) := by
  have ht := lt6 t
  have h0 : win6_2.index t 0 = t.val := by
    show (BitVec.ofNat 32 (grid6.coords t 0).val).toNat = t.val
    rw [coord6, BitVec.toNat_ofNat]; omega
  unfold iblk6
  rw [View.read_apply]
  show V c main_v167 _ = V c main_v167 _
  congr 1
  funext a
  apply Fin.ext
  match a with
  | ⟨0, _⟩ => show win6_2.index t 0 * 12800 + 1 * r.val = e.val; rw [h0]; omega
  | ⟨1, _⟩ => show win6_2.index t 1 * 1 + 1 * 0 = 0; rw [show win6_2.index t 1 = 0 from rfl]

/-- The last point. -/
abbrev last6 : Fin cfg6.N := ⟨24, by rw [show cfg6.N = 25 from N_2]; decide⟩

/-- The maxima's array ends at what the last point leaves. -/
theorem final6_4 (c : Dev nD) : (dat6 V c).arrAt 4 cfg6.N = (outsAt6 V c 24 last6.isLt).1 := by
  refine (dat6 V c).arrAt_eq_of_cover 4 (outsAt6 V c 24 last6.isLt).1 (fun t hf => ?_) fun i => ⟨last6, (flush6_4 _).mpr rfl, ?_⟩
  · have h3 : t.val = 24 := by have := (flush6_4 t).mp hf; have := lt6 t; omega
    obtain rfl : t = last6 := Fin.ext h3
    show (cfg6.win 4).cut (grid6.coords last6) ((dat6 V c).after 4 last6) = _
    rw [after6_4]
    have hz : (fun a => win6_4.index last6 a * main_v168_0.ty.shape.size a) = fun _ => 0 := funext fun a => by fin_cases a <;> rfl
    exact (Memref.read_access_unit_zero (Elt F) main_v168_0 hz (fun a => by rw [congrFun hz a]; simp) _).symm
  · show i ∈ ((View.whole main_v168_0).slice (win6_4.rect last6)).set
    rw [View.set_slice_whole, Rect.mem_set_unit]
    intro a
    have hz : win6_4.index last6 a * win6_4.size a = 0 := by fin_cases a <;> rfl
    show win6_4.index last6 a * win6_4.size a ≤ (i a : Nat) ∧ (i a : Nat) < win6_4.index last6 a * win6_4.size a + main_v168_0.ty.shape.size a
    rw [hz]
    exact ⟨Nat.zero_le _, lt_of_lt_of_eq (i a).isLt (Nat.zero_add _).symm⟩

/-- The sums's array ends at what the last point leaves. -/
theorem final6_5 (c : Dev nD) : (dat6 V c).arrAt 5 cfg6.N = (outsAt6 V c 24 last6.isLt).2.1 := by
  refine (dat6 V c).arrAt_eq_of_cover 5 (outsAt6 V c 24 last6.isLt).2.1 (fun t hf => ?_) fun i => ⟨last6, (flush6_5 _).mpr rfl, ?_⟩
  · have h3 : t.val = 24 := by have := (flush6_5 t).mp hf; have := lt6 t; omega
    obtain rfl : t = last6 := Fin.ext h3
    show (cfg6.win 5).cut (grid6.coords last6) ((dat6 V c).after 5 last6) = _
    rw [after6_5]
    have hz : (fun a => win6_5.index last6 a * main_v168_1.ty.shape.size a) = fun _ => 0 := funext fun a => by fin_cases a <;> rfl
    exact (Memref.read_access_unit_zero (Elt F) main_v168_1 hz (fun a => by rw [congrFun hz a]; simp) _).symm
  · show i ∈ ((View.whole main_v168_1).slice (win6_5.rect last6)).set
    rw [View.set_slice_whole, Rect.mem_set_unit]
    intro a
    have hz : win6_5.index last6 a * win6_5.size a = 0 := by fin_cases a <;> rfl
    show win6_5.index last6 a * win6_5.size a ≤ (i a : Nat) ∧ (i a : Nat) < win6_5.index last6 a * win6_5.size a + main_v168_1.ty.shape.size a
    rw [hz]
    exact ⟨Nat.zero_le _, lt_of_lt_of_eq (i a).isLt (Nat.zero_add _).symm⟩

/-- The indices's array ends at what the last point leaves. -/
theorem final6_6 (c : Dev nD) : (dat6 V c).arrAt 6 cfg6.N = (outsAt6 V c 24 last6.isLt).2.2 := by
  refine (dat6 V c).arrAt_eq_of_cover 6 (outsAt6 V c 24 last6.isLt).2.2 (fun t hf => ?_) fun i => ⟨last6, (flush6_6 _).mpr rfl, ?_⟩
  · have h3 : t.val = 24 := by have := (flush6_6 t).mp hf; have := lt6 t; omega
    obtain rfl : t = last6 := Fin.ext h3
    show (cfg6.win 6).cut (grid6.coords last6) ((dat6 V c).after 6 last6) = _
    rw [after6_6]
    have hz : (fun a => win6_6.index last6 a * main_v168_2.ty.shape.size a) = fun _ => 0 := funext fun a => by fin_cases a <;> rfl
    exact (Memref.read_access_unit_zero (Elt F) main_v168_2 hz (fun a => by rw [congrFun hz a]; simp) _).symm
  · show i ∈ ((View.whole main_v168_2).slice (win6_6.rect last6)).set
    rw [View.set_slice_whole, Rect.mem_set_unit]
    intro a
    have hz : win6_6.index last6 a * win6_6.size a = 0 := by fin_cases a <;> rfl
    show win6_6.index last6 a * win6_6.size a ≤ (i a : Nat) ∧ (i a : Nat) < win6_6.index last6 a * win6_6.size a + main_v168_2.ty.shape.size a
    rw [hz]
    exact ⟨Nat.zero_le _, lt_of_lt_of_eq (i a).isLt (Nat.zero_add _).symm⟩

end Blocks

variable (V : (c : Dev nD) → (b : Ref sig .tc) → b.ty.Contents (Elt Ideal))

/-- After each point the accumulators hold the fold over the edges so far. -/
theorem holds6 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v167) (V c main_v159) e b = (x b e.val : EReal)) :
    ∀ (n : ℕ) (hn : n < cfg6.N), Holds (fromE (F := Ideal) (V c main_v9)) (toE (F := Ideal) (V c main_v9)) x (12800 * n + 12800) (outsAt6 V c n hn) := by
  have key : ∀ (t : Fin cfg6.N) a, Holds (fromE (F := Ideal) (V c main_v9)) (toE (F := Ideal) (V c main_v9)) x (12800 * t.val) a →
      Holds (fromE (F := Ideal) (V c main_v9)) (toE (F := Ideal) (V c main_v9)) x (12800 * t.val + 12800)
        (tile (F := Ideal) (grid6.coords t) (iblk6 V c 0 t) (iblk6 V c 1 t) (iblk6 V c 2 t) (iblk6 V c 3 t) a) := fun t a h => by
    have ht := lt6 t
    have h' := holds_step (grid6.coords t) (x1 := iblk6 V c 1 t) (x2 := iblk6 V c 2 t) (x3 := iblk6 V c 3 t) (V c main_v9) x a
      (fun b r hm => by
        rw [coord6] at hm ⊢
        refine Eq.trans ?_ (hx b ⟨12800 * t.val + r.val, by have := r.isLt; omega⟩ hm)
        unfold rowScore edgeScore
        rw [blk6_2 V c t r ⟨12800 * t.val + r.val, by have := r.isLt; omega⟩ rfl, blk6_3 V c t]
        simp only [fun k => blk6_1 V c t r k ⟨12800 * t.val + r.val, by have := r.isLt; omega⟩ rfl])
      (by rw [coord6]; exact h)
    rw [coord6] at h'
    rw [blk6_0 V c t]
    exact h'
  intro n
  induction n with
  | zero => intro hn; rw [caseA6 V c ⟨0, hn⟩ rfl]; exact key ⟨0, hn⟩ _ (holds0 _ _ _)
  | succ n ih =>
    intro hn
    have hlt := lt6 ⟨n + 1, hn⟩
    rw [caseB6 V c ⟨n + 1, hn⟩ (by simp only at hlt ⊢; omega)]
    exact key ⟨n + 1, hn⟩ _ (ih (Nat.lt_of_succ_lt hn))

/-- The step kernel's results hold the fold over all the edges. -/
theorem step6 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v167) (V c main_v159) e b = (x b e.val : EReal)) :
    Holds (fromE (F := Ideal) (V c main_v9)) (toE (F := Ideal) (V c main_v9)) x 320000
      ((dat6 V c).arrAt 4 cfg6.N, (dat6 V c).arrAt 5 cfg6.N, (dat6 V c).arrAt 6 cfg6.N) := by
  rw [final6_4, final6_5, final6_6]
  exact holds6 V c x hx 24 last6.isLt

end Cert.KernelIdeal.Gen

end
-- ==== Proof.Case8.lean ====
/- The fourth step kernel's accumulators after each point, as the chain of its tiles. -/
module

public import proofs.«01_k».proof.Proof.Gen.KernelIdeal.Frame.Region8
public import proofs.«01_k».proof.Proof.TileDefs

@[expose] public section

set_option maxRecDepth 16384

noncomputable section

namespace Cert.KernelIdeal.Gen

open Idealize.ShloMosaic Idealize.ShloMosaic.TcCoe Idealize.ShloMosaic.Tactic

variable {F : FTy → Type} [FloatOps F] [Named F]
variable (V : (c : Dev nD) → (b : Ref sig .tc) → b.ty.Contents (Elt F))

/-- A later point leaves one more tile over what it finds. -/
theorem caseB8 (c : Dev nD) (t : Fin cfg8.N) (h0 : ¬t.val % 25 = 0) :
    outsAt8 V c t.val t.isLt = tile (grid8.coords t) (iblk8 V c 0 t) (iblk8 V c 1 t) (iblk8 V c 2 t) (iblk8 V c 3 t)
      (outsAt8 V c (t.val - 1) (by have := t.isLt; omega)) := by
  rw [outsAt8_B V c t h0]
  unfold out8_B_4 out8_B_5 out8_B_6
  rw [View.read_writes_eq_canon _ _ _ (fun y => cover8_B_4 (y := y) ..), View.read_writes_eq_canon _ _ _ (fun y => cover8_B_5 (y := y) ..),
    View.read_writes_eq_canon _ _ _ (fun y => cover8_B_6 (y := y) ..)]
  unfold kernelRun8_B
  dsimp only
  sl_unfold_words
  rw [View.canon_unit_zero zero2, View.canon_unit_zero zero2, View.canon_unit_zero zero2]
  simp only [View.readAt_eq_ld, (hs8_0 t).read_unread, (hs8_1 t).read_unread, (hs8_2 t).read_unread, (hs8_3 t).read_unread,
    (hs8_4 t).read_unread, (hs8_5 t).read_unread, (hs8_6 t).read_unread,
    View.ld_unit_zero (S := S1x16) zero2, View.ld_unit_zero (S := S12800x128) zero2, View.ld_unit_zero (S := S12800x1) zero2,
    View.ld_unit_zero (S := S16x128) zero2]
  rfl

/-- The first point leaves one tile over the initial accumulators. -/
theorem caseA8 (c : Dev nD) (t : Fin cfg8.N) (h0 : t.val % 25 = 0) :
    outsAt8 V c t.val t.isLt = tile (grid8.coords t) (iblk8 V c 0 t) (iblk8 V c 1 t) (iblk8 V c 2 t) (iblk8 V c 3 t) tile0 := by
  rw [outsAt8_A V c t h0]
  unfold out8_A_4 out8_A_5 out8_A_6
  rw [View.read_writes_eq_canon _ _ _ (fun y => cover8_A_4 (y := y) ..), View.read_writes_eq_canon _ _ _ (fun y => cover8_A_5 (y := y) ..),
    View.read_writes_eq_canon _ _ _ (fun y => cover8_A_6 (y := y) ..)]
  unfold kernelRun8_A
  dsimp only
  sl_unfold_words
  rw [View.canon_cons_unit_zero (S := S1x16) zero2, View.canon_cons_unit_zero (S := S1x16) zero2,
    View.canon_cons_unit_zero (S := S1x16) zero2]
  simp only [View.readAt_eq_ld, (hs8_0 t).read_unread, (hs8_1 t).read_unread, (hs8_2 t).read_unread, (hs8_3 t).read_unread,
    View.readCov_unit_zero (S := S1x16) _ zero2,
    View.ld_unit_zero (S := S12800x128) zero2, View.ld_unit_zero (S := S12800x1) zero2,
    View.ld_unit_zero (S := S16x128) zero2]
  rfl

end Cert.KernelIdeal.Gen

end
-- ==== Proof.Step8.lean ====
/- The fourth step kernel's results: each graph's maximum, sum and index over all the edges. -/
module

public import proofs.«01_k».proof.Proof.Case8
public import proofs.«01_k».proof.Proof.TileMath

@[expose] public section

set_option maxRecDepth 16384

noncomputable section

namespace Cert.KernelIdeal.Gen

open Idealize.ShloMosaic Idealize.ShloMosaic.TcCoe Idealize.ShloMosaic.ValueIdx

section Blocks

variable {F : FTy → Type} [FloatOps F] [Named F]
variable (V : (c : Dev nD) → (b : Ref sig .tc) → b.ty.Contents (Elt F))

theorem lt8 (t : Fin cfg8.N) : t.val < 25 := lt_of_lt_of_eq t.isLt N_2

theorem coord8 (t : Fin cfg8.N) : (grid8.coords t 0).val = t.val :=
  (Pipeline.Grid.coords_val t 0 (by decide) rfl).trans (mod25 (lt8 t))

/-- The bounds' block is the whole array. -/
theorem blk8_0 (c : Dev nD) (t : Fin cfg8.N) : (iblk8 V c 0 t : Vec F S1x32 .i32) = V c main_v9 := by
  have hz : (fun a => win8_0.index t a * main_v9.ty.shape.size a) = fun _ => 0 := funext fun a => by fin_cases a <;> rfl
  exact Memref.read_access_unit_zero (Elt F) main_v9 hz (fun a => by rw [congrFun hz a]; simp) _

/-- The hidden state's block is the whole array. -/
theorem blk8_3 (c : Dev nD) (t : Fin cfg8.N) : (iblk8 V c 3 t : Vec F S16x128 .f32) = V c main_v224 := by
  have hz : (fun a => win8_3.index t a * main_v224.ty.shape.size a) = fun _ => 0 := funext fun a => by fin_cases a <;> rfl
  exact Memref.read_access_unit_zero (Elt F) main_v224 hz (fun a => by rw [congrFun hz a]; simp) _

/-- The features' block is a tile of rows. -/
theorem blk8_1 (c : Dev nD) (t : Fin cfg8.N) (r : Fin 12800) (k : Fin 128) (e : Fin 320000) (he : e.val = 12800 * t.val + r.val) :
    (iblk8 V c 1 t : Vec F S12800x128 .f32) (ix2 r k) = (V c main_v4 : Vec F S320000x128 .f32) (ix2 e k) := by
  have ht := lt8 t
  have h0 : win8_1.index t 0 = t.val := by
    show (BitVec.ofNat 32 (grid8.coords t 0).val).toNat = t.val
    rw [coord8, BitVec.toNat_ofNat]; omega
  unfold iblk8
  rw [View.read_apply]
  show V c main_v4 _ = V c main_v4 _
  congr 1
  funext a
  apply Fin.ext
  match a with
  | ⟨0, _⟩ => show win8_1.index t 0 * 12800 + 1 * r.val = e.val; rw [h0]; omega
  | ⟨1, _⟩ => show win8_1.index t 1 * 128 + 1 * k.val = k.val; rw [show win8_1.index t 1 = 0 from rfl]; omega

/-- The gathered terms' block is a tile of rows. -/
theorem blk8_2 (c : Dev nD) (t : Fin cfg8.N) (r : Fin 12800) (e : Fin 320000) (he : e.val = 12800 * t.val + r.val) :
    (iblk8 V c 2 t : Vec F S12800x1 .f32) (ix2 r 0) = (V c main_v232 : Vec F S320000x1 .f32) (ix2 e 0) := by
  have ht := lt8 t
  have h0 : win8_2.index t 0 = t.val := by
    show (BitVec.ofNat 32 (grid8.coords t 0).val).toNat = t.val
    rw [coord8, BitVec.toNat_ofNat]; omega
  unfold iblk8
  rw [View.read_apply]
  show V c main_v232 _ = V c main_v232 _
  congr 1
  funext a
  apply Fin.ext
  match a with
  | ⟨0, _⟩ => show win8_2.index t 0 * 12800 + 1 * r.val = e.val; rw [h0]; omega
  | ⟨1, _⟩ => show win8_2.index t 1 * 1 + 1 * 0 = 0; rw [show win8_2.index t 1 = 0 from rfl]

/-- The last point. -/
abbrev last8 : Fin cfg8.N := ⟨24, by rw [show cfg8.N = 25 from N_2]; decide⟩

/-- The maxima's array ends at what the last point leaves. -/
theorem final8_4 (c : Dev nD) : (dat8 V c).arrAt 4 cfg8.N = (outsAt8 V c 24 last8.isLt).1 := by
  refine (dat8 V c).arrAt_eq_of_cover 4 (outsAt8 V c 24 last8.isLt).1 (fun t hf => ?_) fun i => ⟨last8, (flush8_4 _).mpr rfl, ?_⟩
  · have h3 : t.val = 24 := by have := (flush8_4 t).mp hf; have := lt8 t; omega
    obtain rfl : t = last8 := Fin.ext h3
    show (cfg8.win 4).cut (grid8.coords last8) ((dat8 V c).after 4 last8) = _
    rw [after8_4]
    have hz : (fun a => win8_4.index last8 a * main_v233_0.ty.shape.size a) = fun _ => 0 := funext fun a => by fin_cases a <;> rfl
    exact (Memref.read_access_unit_zero (Elt F) main_v233_0 hz (fun a => by rw [congrFun hz a]; simp) _).symm
  · show i ∈ ((View.whole main_v233_0).slice (win8_4.rect last8)).set
    rw [View.set_slice_whole, Rect.mem_set_unit]
    intro a
    have hz : win8_4.index last8 a * win8_4.size a = 0 := by fin_cases a <;> rfl
    show win8_4.index last8 a * win8_4.size a ≤ (i a : Nat) ∧ (i a : Nat) < win8_4.index last8 a * win8_4.size a + main_v233_0.ty.shape.size a
    rw [hz]
    exact ⟨Nat.zero_le _, lt_of_lt_of_eq (i a).isLt (Nat.zero_add _).symm⟩

/-- The sums's array ends at what the last point leaves. -/
theorem final8_5 (c : Dev nD) : (dat8 V c).arrAt 5 cfg8.N = (outsAt8 V c 24 last8.isLt).2.1 := by
  refine (dat8 V c).arrAt_eq_of_cover 5 (outsAt8 V c 24 last8.isLt).2.1 (fun t hf => ?_) fun i => ⟨last8, (flush8_5 _).mpr rfl, ?_⟩
  · have h3 : t.val = 24 := by have := (flush8_5 t).mp hf; have := lt8 t; omega
    obtain rfl : t = last8 := Fin.ext h3
    show (cfg8.win 5).cut (grid8.coords last8) ((dat8 V c).after 5 last8) = _
    rw [after8_5]
    have hz : (fun a => win8_5.index last8 a * main_v233_1.ty.shape.size a) = fun _ => 0 := funext fun a => by fin_cases a <;> rfl
    exact (Memref.read_access_unit_zero (Elt F) main_v233_1 hz (fun a => by rw [congrFun hz a]; simp) _).symm
  · show i ∈ ((View.whole main_v233_1).slice (win8_5.rect last8)).set
    rw [View.set_slice_whole, Rect.mem_set_unit]
    intro a
    have hz : win8_5.index last8 a * win8_5.size a = 0 := by fin_cases a <;> rfl
    show win8_5.index last8 a * win8_5.size a ≤ (i a : Nat) ∧ (i a : Nat) < win8_5.index last8 a * win8_5.size a + main_v233_1.ty.shape.size a
    rw [hz]
    exact ⟨Nat.zero_le _, lt_of_lt_of_eq (i a).isLt (Nat.zero_add _).symm⟩

/-- The indices's array ends at what the last point leaves. -/
theorem final8_6 (c : Dev nD) : (dat8 V c).arrAt 6 cfg8.N = (outsAt8 V c 24 last8.isLt).2.2 := by
  refine (dat8 V c).arrAt_eq_of_cover 6 (outsAt8 V c 24 last8.isLt).2.2 (fun t hf => ?_) fun i => ⟨last8, (flush8_6 _).mpr rfl, ?_⟩
  · have h3 : t.val = 24 := by have := (flush8_6 t).mp hf; have := lt8 t; omega
    obtain rfl : t = last8 := Fin.ext h3
    show (cfg8.win 6).cut (grid8.coords last8) ((dat8 V c).after 6 last8) = _
    rw [after8_6]
    have hz : (fun a => win8_6.index last8 a * main_v233_2.ty.shape.size a) = fun _ => 0 := funext fun a => by fin_cases a <;> rfl
    exact (Memref.read_access_unit_zero (Elt F) main_v233_2 hz (fun a => by rw [congrFun hz a]; simp) _).symm
  · show i ∈ ((View.whole main_v233_2).slice (win8_6.rect last8)).set
    rw [View.set_slice_whole, Rect.mem_set_unit]
    intro a
    have hz : win8_6.index last8 a * win8_6.size a = 0 := by fin_cases a <;> rfl
    show win8_6.index last8 a * win8_6.size a ≤ (i a : Nat) ∧ (i a : Nat) < win8_6.index last8 a * win8_6.size a + main_v233_2.ty.shape.size a
    rw [hz]
    exact ⟨Nat.zero_le _, lt_of_lt_of_eq (i a).isLt (Nat.zero_add _).symm⟩

end Blocks

variable (V : (c : Dev nD) → (b : Ref sig .tc) → b.ty.Contents (Elt Ideal))

/-- After each point the accumulators hold the fold over the edges so far. -/
theorem holds8 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v232) (V c main_v224) e b = (x b e.val : EReal)) :
    ∀ (n : ℕ) (hn : n < cfg8.N), Holds (fromE (F := Ideal) (V c main_v9)) (toE (F := Ideal) (V c main_v9)) x (12800 * n + 12800) (outsAt8 V c n hn) := by
  have key : ∀ (t : Fin cfg8.N) a, Holds (fromE (F := Ideal) (V c main_v9)) (toE (F := Ideal) (V c main_v9)) x (12800 * t.val) a →
      Holds (fromE (F := Ideal) (V c main_v9)) (toE (F := Ideal) (V c main_v9)) x (12800 * t.val + 12800)
        (tile (F := Ideal) (grid8.coords t) (iblk8 V c 0 t) (iblk8 V c 1 t) (iblk8 V c 2 t) (iblk8 V c 3 t) a) := fun t a h => by
    have ht := lt8 t
    have h' := holds_step (grid8.coords t) (x1 := iblk8 V c 1 t) (x2 := iblk8 V c 2 t) (x3 := iblk8 V c 3 t) (V c main_v9) x a
      (fun b r hm => by
        rw [coord8] at hm ⊢
        refine Eq.trans ?_ (hx b ⟨12800 * t.val + r.val, by have := r.isLt; omega⟩ hm)
        unfold rowScore edgeScore
        rw [blk8_2 V c t r ⟨12800 * t.val + r.val, by have := r.isLt; omega⟩ rfl, blk8_3 V c t]
        simp only [fun k => blk8_1 V c t r k ⟨12800 * t.val + r.val, by have := r.isLt; omega⟩ rfl])
      (by rw [coord8]; exact h)
    rw [coord8] at h'
    rw [blk8_0 V c t]
    exact h'
  intro n
  induction n with
  | zero => intro hn; rw [caseA8 V c ⟨0, hn⟩ rfl]; exact key ⟨0, hn⟩ _ (holds0 _ _ _)
  | succ n ih =>
    intro hn
    have hlt := lt8 ⟨n + 1, hn⟩
    rw [caseB8 V c ⟨n + 1, hn⟩ (by simp only at hlt ⊢; omega)]
    exact key ⟨n + 1, hn⟩ _ (ih (Nat.lt_of_succ_lt hn))

/-- The step kernel's results hold the fold over all the edges. -/
theorem step8 (c : Dev nD) (x : Fin 16 → ℕ → ℝ)
    (hx : ∀ (b : Fin 16) (e : Fin 320000), mem (fromE (F := Ideal) (V c main_v9)) (toE (F := Ideal) (V c main_v9)) b e.val →
      edgeScore (V c main_v4) (V c main_v232) (V c main_v224) e b = (x b e.val : EReal)) :
    Holds (fromE (F := Ideal) (V c main_v9)) (toE (F := Ideal) (V c main_v9)) x 320000
      ((dat8 V c).arrAt 4 cfg8.N, (dat8 V c).arrAt 5 cfg8.N, (dat8 V c).arrAt 6 cfg8.N) := by
  rw [final8_4, final8_5, final8_6]
  exact holds8 V c x hx 24 last8.isLt

end Cert.KernelIdeal.Gen

end
-- ==== Proof.Walk.lean ====
/- The four steps chained: after each, the kernel's buffers hold the reference's actions, log probabilities, hidden state and done graphs. -/
module

public import proofs.«01_k».proof.Proof.Core
public import proofs.«01_k».proof.Proof.KHead
public import proofs.«01_k».proof.Proof.KKeep
public import proofs.«01_k».proof.Proof.KHost0
public import proofs.«01_k».proof.Proof.KHost1
public import proofs.«01_k».proof.Proof.KHost2
public import proofs.«01_k».proof.Proof.KHost3
public import proofs.«01_k».proof.Proof.Step2
public import proofs.«01_k».proof.Proof.Step4
public import proofs.«01_k».proof.Proof.Step6
public import proofs.«01_k».proof.Proof.Step8

@[expose] public section

set_option maxRecDepth 16384
set_option maxHeartbeats 2000000

noncomputable section

namespace Cert.KernelIdeal.Gen

open Idealize.ShloMosaic Idealize.ShloMosaic.ValueIdx Idealize.ShloMosaic.TcCoe Idealize.ShloMosaic.StableHlo Cert.Proof.Ops

variable (m : (ℓ : Loc nD τ sig) → Buf (Elt Ideal) ℓ) (ρ : Dev nD → PrngReg) (c : Dev nD)

variable (x0 : FN) (x1 : FEd) (x2 : FH) (x3 : IVec ⟨2, ![2, 320000]⟩ 32) (x4 : IE) (x5 x6 : IVec ⟨1, ![17]⟩ 32) (x7 : IG) (x8 : FD 256 128) (x9 : FV 128)
  (x10 x11 x12 : FD 128 128) (x13 : FD 128 1) (x14 : FV 1) (x15 : FD 256 128) (x16 : FV 128)

/-- The arguments of the kernel at launch. -/
structure Args : Prop where
  a0 : m ((c : Thread nD τ).loc main_arg0) = x0
  a1 : m ((c : Thread nD τ).loc main_arg1) = x1
  a2 : m ((c : Thread nD τ).loc main_arg2) = x2
  a3 : m ((c : Thread nD τ).loc main_arg3) = x3
  a4 : m ((c : Thread nD τ).loc main_arg4) = x4
  a5 : m ((c : Thread nD τ).loc main_arg5) = x5
  a7 : m ((c : Thread nD τ).loc main_arg7) = x7
  a8 : m ((c : Thread nD τ).loc main_arg8) = x8
  a9 : m ((c : Thread nD τ).loc main_arg9) = x9
  a10 : m ((c : Thread nD τ).loc main_arg10) = x10
  a11 : m ((c : Thread nD τ).loc main_arg11) = x11
  a12 : m ((c : Thread nD τ).loc main_arg12) = x12
  a13 : m ((c : Thread nD τ).loc main_arg13) = x13
  a14 : m ((c : Thread nD τ).loc main_arg14) = x14
  a15 : m ((c : Thread nD τ).loc main_arg15) = x15
  a16 : m ((c : Thread nD τ).loc main_arg16) = x16

/-- The buffers every step reads hold what they held before the first step. -/
structure Ready (W : Valuation τ sig (Elt Ideal)) : Prop where
  tails : W (Proc.devRef .tc main_v3) = rowOf x3 1
  rel : W (Proc.devRef .tc main_v4) = rfProd x1 x10
  table : ∀ k : Fin 17, W (Proc.devRef .tc main_v9) (ix2 (n0 := 1) (n1 := 32) 0 ⟨k.val, by omega⟩) = x5 (ix1 k)
  flatT : W (Proc.devRef .tc main_v25) = flatT (rowOf x3 1) x4
  flatH : W (Proc.devRef .tc main_v30) = flatH (rowOf x3 0) x4

variable {x0 x1 x2 x3 x4 x5 x6 x7 x8 x9 x10 x11 x12 x13 x14 x15 x16}

/-- Buffers kept hold what they held. -/
theorem Ready.carry {W W' : Valuation τ sig (Elt Ideal)} (R : Ready x1 x3 x4 x5 x10 W) (h : ∀ r ∈ held, W' (Proc.devRef .tc r) = W (Proc.devRef .tc r)) :
    Ready x1 x3 x4 x5 x10 W' :=
  ⟨(h main_v3 (by decide)).trans R.tails, (h main_v4 (by decide)).trans R.rel, fun k => (congrFun (h main_v9 (by decide)) _).trans (R.table k),
    (h main_v25 (by decide)).trans R.flatT, (h main_v30 (by decide)).trans R.flatH⟩

section

variable (A : Args m c x0 x1 x2 x3 x4 x5 x7 x8 x9 x10 x11 x12 x13 x14 x15 x16)
include A

/-- Before the first step. -/
theorem ready8 : Ready x1 x3 x4 x5 x10 (W8 m ρ c) := by
  have a3 : W0 m ρ c (Proc.devRef .tc main_arg3) = x3 := (W0_args m ρ c main_arg3 (by decide)).trans A.a3
  have a4 : W7 m ρ c (Proc.devRef .tc main_arg4) = x4 := (W7_args m ρ c main_arg4 (by decide)).trans A.a4
  have a1 : W1 m ρ c (Proc.devRef .tc main_arg1) = x1 := (W1_args m ρ c main_arg1 (by decide)).trans A.a1
  have a10 : W1 m ρ c (Proc.devRef .tc main_arg10) = x10 := (W1_args m ρ c main_arg10 (by decide)).trans A.a10
  have a5 : W2 m ρ c (Proc.devRef .tc main_arg5) = x5 := (W2_args m ρ c main_arg5 (by decide)).trans A.a5
  refine ⟨?_, ?_, fun k => ?_, ?_, ?_⟩
  · rw [tails8, a3]
  · rw [rel8, a1, a10]
  · rw [table8, a5]
  · rw [flatT8, a3, a4]
  · rw [flatH8, a3, a4]

/-- The first hidden state. -/
theorem hidden8 : W8 m ρ c (Proc.devRef .tc main_v21) = hidden0 x0 x2 x7 x8 x9 := by
  have a0 : W4 m ρ c (Proc.devRef .tc main_arg0) = x0 := (W4_args m ρ c main_arg0 (by decide)).trans A.a0
  have a2 : W7 m ρ c (Proc.devRef .tc main_arg2) = x2 := (W7_args m ρ c main_arg2 (by decide)).trans A.a2
  have a7 : W2 m ρ c (Proc.devRef .tc main_arg7) = x7 := (W2_args m ρ c main_arg7 (by decide)).trans A.a7
  have a8 : W7 m ρ c (Proc.devRef .tc main_arg8) = x8 := (W7_args m ρ c main_arg8 (by decide)).trans A.a8
  have a9 : W7 m ρ c (Proc.devRef .tc main_arg9) = x9 := (W7_args m ρ c main_arg9 (by decide)).trans A.a9
  rw [hid8, a0, a2, a7, a8, a9]

variable [Cert.Pre_sound_inputs.Facts] (S : Sound x0 x1 x2 x3 x4 x5 x6 x7 x8 x9 x10 x11 x12 x13 x14 x15 x16)
include S

/-- The first step. -/
theorem walk0 {h : FH} {d : BG} (hb : Bdd h) (hh : W8 m ρ c (Proc.devRef .tc main_v21) = h) (hd : W8 m ρ c (Proc.devRef .tc main_v22) = d)
    (R : Ready x1 x3 x4 x5 x10 (W8 m ρ c)) :
    W40 m ρ c (Proc.devRef .tc main_v74) = rAct h d (edgeFeat x0 x1 (rowOf x3 1) (rowOf x3 0) x10 x11 x12) x4 x13 x14
    ∧ W40 m ρ c (Proc.devRef .tc main_v75) = rLpf h d (edgeFeat x0 x1 (rowOf x3 1) (rowOf x3 0) x10 x11 x12) x4 x13 x14
    ∧ W40 m ρ c (Proc.devRef .tc main_v94) = rHid h d (edgeFeat x0 x1 (rowOf x3 1) (rowOf x3 0) x10 x11 x12) (nodesE x0 (rowOf x3 1)) x4 x13 x14 x15 x16
    ∧ W40 m ρ c (Proc.devRef .tc main_v95) = rDone h d (edgeFeat x0 x1 (rowOf x3 1) (rowOf x3 0) x10 x11 x12) x4 x13 x14
    ∧ Ready x1 x3 x4 x5 x10 (W40 m ρ c) := by
  have R1 : Ready x1 x3 x4 x5 x10 (W9 m ρ c) := R.carry (fun r hr => keepA0 m ρ c r (List.mem_append_left _ hr))
  have R6 : Ready x1 x3 x4 x5 x10 (W14 m ρ c) := R1.carry (fun r hr => keepB0 m ρ c r (List.mem_append_left _ hr))
  have R7 : Ready x1 x3 x4 x5 x10 (W15 m ρ c) := R6.carry (fun r hr => keepC0 m ρ c r (List.mem_append_left _ hr))
  have h6 : W14 m ρ c (Proc.devRef .tc main_v21) = h := (keepB0 m ρ c main_v21 (by decide)).trans ((keepA0 m ρ c main_v21 (by decide)).trans hh)
  have h7 : W15 m ρ c (Proc.devRef .tc main_v21) = h := (keepC0 m ρ c main_v21 (by decide)).trans h6
  have d7 : W15 m ρ c (Proc.devRef .tc main_v22) = d :=
    (keepC0 m ρ c main_v22 (by decide)).trans ((keepB0 m ρ c main_v22 (by decide)).trans ((keepA0 m ρ c main_v22 (by decide)).trans hd))
  have a0 : W8 m ρ c (Proc.devRef .tc main_arg0) = x0 := (W8_args m ρ c main_arg0 (by decide)).trans A.a0
  have a11 : W8 m ρ c (Proc.devRef .tc main_arg11) = x11 := (W8_args m ρ c main_arg11 (by decide)).trans A.a11
  have a12 : W8 m ρ c (Proc.devRef .tc main_arg12) = x12 := (W8_args m ρ c main_arg12 (by decide)).trans A.a12
  have b0 : W15 m ρ c (Proc.devRef .tc main_arg0) = x0 := (W15_args m ρ c main_arg0 (by decide)).trans A.a0
  have b13 : W15 m ρ c (Proc.devRef .tc main_arg13) = x13 := (W15_args m ρ c main_arg13 (by decide)).trans A.a13
  have b14 : W15 m ρ c (Proc.devRef .tc main_arg14) = x14 := (W15_args m ρ c main_arg14 (by decide)).trans A.a14
  have b15 : W15 m ρ c (Proc.devRef .tc main_arg15) = x15 := (W15_args m ρ c main_arg15 (by decide)).trans A.a15
  have b16 : W15 m ρ c (Proc.devRef .tc main_arg16) = x16 := (W15_args m ρ c main_arg16 (by decide)).trans A.a16
  have u : W9 m ρ c (Proc.devRef .tc main_v31) = uProd x0 x11 x12 h := by
    have u1 : W9 m ρ c (Proc.devRef .tc main_v31)
        = uProd (W8 m ρ c (Proc.devRef .tc main_arg0)) (W8 m ρ c (Proc.devRef .tc main_arg11)) (W8 m ρ c (Proc.devRef .tc main_arg12)) (W8 m ρ c (Proc.devRef .tc main_v21)) :=
      (W9_arr m ρ c 4).trans (region1 (V8 m ρ) c)
    rw [u1, a0, a11, a12, hh]
  have g : W14 m ρ c (Proc.devRef .tc main_v37) = kGather (uProd x0 x11 x12 h) (flatT (rowOf x3 1) x4) (flatH (rowOf x3 0) x4) := by
    rw [gather0, u, R1.flatT, R1.flatH]
  have C := core S hb d (W14 m ρ c (Proc.devRef .tc main_v9)) (W14 m ρ c (Proc.devRef .tc main_v4)) (W14 m ρ c (Proc.devRef .tc main_v37)) (W14 m ρ c (Proc.devRef .tc main_v21))
    (W15 m ρ c (Proc.devRef .tc main_v38_0)) (W15 m ρ c (Proc.devRef .tc main_v38_1)) (W15 m ρ c (Proc.devRef .tc main_v38_2)) R6.table R6.rel g h6
    (fun x hx => by
      have s := step2 (V14 m ρ) c x hx
      have o4 : W15 m ρ c (Proc.devRef .tc main_v38_0) = _ := W15_arr m ρ c 4
      have o5 : W15 m ρ c (Proc.devRef .tc main_v38_1) = _ := W15_arr m ρ c 5
      have o6 : W15 m ρ c (Proc.devRef .tc main_v38_2) = _ := W15_arr m ρ c 6
      rw [o4, o5, o6]
      exact s) shapeCasts_S1x16_S16 shapeCasts_S1x16_S16 shapeCasts_S1x16_S16
  refine ⟨?_, ?_, ?_, ?_, R7.carry (keepD0 m ρ c)⟩
  · rw [kact0, h7, d7, b13, b14]
    exact C.1
  · rw [klpf0, h7, d7, b13, b14]
    exact C.2.1
  · rw [khid0, h7, d7, b13, b14, b0, R7.tails, b15, b16]
    exact C.2.2.1
  · rw [kdn0, h7, d7, b13, b14]
    exact C.2.2.2

/-- The second step. -/
theorem walk1 {h : FH} {d : BG} (hb : Bdd h) (hh : W40 m ρ c (Proc.devRef .tc main_v94) = h) (hd : W40 m ρ c (Proc.devRef .tc main_v95) = d)
    (R : Ready x1 x3 x4 x5 x10 (W40 m ρ c)) :
    W72 m ρ c (Proc.devRef .tc main_v139) = rAct h d (edgeFeat x0 x1 (rowOf x3 1) (rowOf x3 0) x10 x11 x12) x4 x13 x14
    ∧ W72 m ρ c (Proc.devRef .tc main_v140) = rLpf h d (edgeFeat x0 x1 (rowOf x3 1) (rowOf x3 0) x10 x11 x12) x4 x13 x14
    ∧ W72 m ρ c (Proc.devRef .tc main_v159) = rHid h d (edgeFeat x0 x1 (rowOf x3 1) (rowOf x3 0) x10 x11 x12) (nodesE x0 (rowOf x3 1)) x4 x13 x14 x15 x16
    ∧ W72 m ρ c (Proc.devRef .tc main_v160) = rDone h d (edgeFeat x0 x1 (rowOf x3 1) (rowOf x3 0) x10 x11 x12) x4 x13 x14
    ∧ Ready x1 x3 x4 x5 x10 (W72 m ρ c) := by
  have R1 : Ready x1 x3 x4 x5 x10 (W41 m ρ c) := R.carry (fun r hr => keepA1 m ρ c r (List.mem_append_left _ hr))
  have R6 : Ready x1 x3 x4 x5 x10 (W46 m ρ c) := R1.carry (fun r hr => keepB1 m ρ c r (List.mem_append_left _ hr))
  have R7 : Ready x1 x3 x4 x5 x10 (W47 m ρ c) := R6.carry (fun r hr => keepC1 m ρ c r (List.mem_append_left _ hr))
  have h6 : W46 m ρ c (Proc.devRef .tc main_v94) = h := (keepB1 m ρ c main_v94 (by decide)).trans ((keepA1 m ρ c main_v94 (by decide)).trans hh)
  have h7 : W47 m ρ c (Proc.devRef .tc main_v94) = h := (keepC1 m ρ c main_v94 (by decide)).trans h6
  have d7 : W47 m ρ c (Proc.devRef .tc main_v95) = d :=
    (keepC1 m ρ c main_v95 (by decide)).trans ((keepB1 m ρ c main_v95 (by decide)).trans ((keepA1 m ρ c main_v95 (by decide)).trans hd))
  have a0 : W40 m ρ c (Proc.devRef .tc main_arg0) = x0 := (W40_args m ρ c main_arg0 (by decide)).trans A.a0
  have a11 : W40 m ρ c (Proc.devRef .tc main_arg11) = x11 := (W40_args m ρ c main_arg11 (by decide)).trans A.a11
  have a12 : W40 m ρ c (Proc.devRef .tc main_arg12) = x12 := (W40_args m ρ c main_arg12 (by decide)).trans A.a12
  have b0 : W47 m ρ c (Proc.devRef .tc main_arg0) = x0 := (W47_args m ρ c main_arg0 (by decide)).trans A.a0
  have b13 : W47 m ρ c (Proc.devRef .tc main_arg13) = x13 := (W47_args m ρ c main_arg13 (by decide)).trans A.a13
  have b14 : W47 m ρ c (Proc.devRef .tc main_arg14) = x14 := (W47_args m ρ c main_arg14 (by decide)).trans A.a14
  have b15 : W47 m ρ c (Proc.devRef .tc main_arg15) = x15 := (W47_args m ρ c main_arg15 (by decide)).trans A.a15
  have b16 : W47 m ρ c (Proc.devRef .tc main_arg16) = x16 := (W47_args m ρ c main_arg16 (by decide)).trans A.a16
  have u : W41 m ρ c (Proc.devRef .tc main_v96) = uProd x0 x11 x12 h := by
    have u1 : W41 m ρ c (Proc.devRef .tc main_v96)
        = uProd (W40 m ρ c (Proc.devRef .tc main_arg0)) (W40 m ρ c (Proc.devRef .tc main_arg11)) (W40 m ρ c (Proc.devRef .tc main_arg12)) (W40 m ρ c (Proc.devRef .tc main_v94)) :=
      (W41_arr m ρ c 4).trans (region3 (V40 m ρ) c)
    rw [u1, a0, a11, a12, hh]
  have g : W46 m ρ c (Proc.devRef .tc main_v102) = kGather (uProd x0 x11 x12 h) (flatT (rowOf x3 1) x4) (flatH (rowOf x3 0) x4) := by
    rw [gather1, u, R1.flatT, R1.flatH]
  have C := core S hb d (W46 m ρ c (Proc.devRef .tc main_v9)) (W46 m ρ c (Proc.devRef .tc main_v4)) (W46 m ρ c (Proc.devRef .tc main_v102)) (W46 m ρ c (Proc.devRef .tc main_v94))
    (W47 m ρ c (Proc.devRef .tc main_v103_0)) (W47 m ρ c (Proc.devRef .tc main_v103_1)) (W47 m ρ c (Proc.devRef .tc main_v103_2)) R6.table R6.rel g h6
    (fun x hx => by
      have s := step4 (V46 m ρ) c x hx
      have o4 : W47 m ρ c (Proc.devRef .tc main_v103_0) = _ := W47_arr m ρ c 4
      have o5 : W47 m ρ c (Proc.devRef .tc main_v103_1) = _ := W47_arr m ρ c 5
      have o6 : W47 m ρ c (Proc.devRef .tc main_v103_2) = _ := W47_arr m ρ c 6
      rw [o4, o5, o6]
      exact s) shapeCasts_S1x16_S16 shapeCasts_S1x16_S16 shapeCasts_S1x16_S16
  refine ⟨?_, ?_, ?_, ?_, R7.carry (fun r hr => keepD1 m ρ c r (List.mem_append_left _ hr))⟩
  · rw [kact1, h7, d7, b13, b14]
    exact C.1
  · rw [klpf1, h7, d7, b13, b14]
    exact C.2.1
  · rw [khid1, h7, d7, b13, b14, b0, R7.tails, b15, b16]
    exact C.2.2.1
  · rw [kdn1, h7, d7, b13, b14]
    exact C.2.2.2

/-- The third step. -/
theorem walk2 {h : FH} {d : BG} (hb : Bdd h) (hh : W72 m ρ c (Proc.devRef .tc main_v159) = h) (hd : W72 m ρ c (Proc.devRef .tc main_v160) = d)
    (R : Ready x1 x3 x4 x5 x10 (W72 m ρ c)) :
    W104 m ρ c (Proc.devRef .tc main_v204) = rAct h d (edgeFeat x0 x1 (rowOf x3 1) (rowOf x3 0) x10 x11 x12) x4 x13 x14
    ∧ W104 m ρ c (Proc.devRef .tc main_v205) = rLpf h d (edgeFeat x0 x1 (rowOf x3 1) (rowOf x3 0) x10 x11 x12) x4 x13 x14
    ∧ W104 m ρ c (Proc.devRef .tc main_v224) = rHid h d (edgeFeat x0 x1 (rowOf x3 1) (rowOf x3 0) x10 x11 x12) (nodesE x0 (rowOf x3 1)) x4 x13 x14 x15 x16
    ∧ W104 m ρ c (Proc.devRef .tc main_v225) = rDone h d (edgeFeat x0 x1 (rowOf x3 1) (rowOf x3 0) x10 x11 x12) x4 x13 x14
    ∧ Ready x1 x3 x4 x5 x10 (W104 m ρ c) := by
  have R1 : Ready x1 x3 x4 x5 x10 (W73 m ρ c) := R.carry (fun r hr => keepA2 m ρ c r (List.mem_append_left _ hr))
  have R6 : Ready x1 x3 x4 x5 x10 (W78 m ρ c) := R1.carry (fun r hr => keepB2 m ρ c r (List.mem_append_left _ hr))
  have R7 : Ready x1 x3 x4 x5 x10 (W79 m ρ c) := R6.carry (fun r hr => keepC2 m ρ c r (List.mem_append_left _ hr))
  have h6 : W78 m ρ c (Proc.devRef .tc main_v159) = h := (keepB2 m ρ c main_v159 (by decide)).trans ((keepA2 m ρ c main_v159 (by decide)).trans hh)
  have h7 : W79 m ρ c (Proc.devRef .tc main_v159) = h := (keepC2 m ρ c main_v159 (by decide)).trans h6
  have d7 : W79 m ρ c (Proc.devRef .tc main_v160) = d :=
    (keepC2 m ρ c main_v160 (by decide)).trans ((keepB2 m ρ c main_v160 (by decide)).trans ((keepA2 m ρ c main_v160 (by decide)).trans hd))
  have a0 : W72 m ρ c (Proc.devRef .tc main_arg0) = x0 := (W72_args m ρ c main_arg0 (by decide)).trans A.a0
  have a11 : W72 m ρ c (Proc.devRef .tc main_arg11) = x11 := (W72_args m ρ c main_arg11 (by decide)).trans A.a11
  have a12 : W72 m ρ c (Proc.devRef .tc main_arg12) = x12 := (W72_args m ρ c main_arg12 (by decide)).trans A.a12
  have b0 : W79 m ρ c (Proc.devRef .tc main_arg0) = x0 := (W79_args m ρ c main_arg0 (by decide)).trans A.a0
  have b13 : W79 m ρ c (Proc.devRef .tc main_arg13) = x13 := (W79_args m ρ c main_arg13 (by decide)).trans A.a13
  have b14 : W79 m ρ c (Proc.devRef .tc main_arg14) = x14 := (W79_args m ρ c main_arg14 (by decide)).trans A.a14
  have b15 : W79 m ρ c (Proc.devRef .tc main_arg15) = x15 := (W79_args m ρ c main_arg15 (by decide)).trans A.a15
  have b16 : W79 m ρ c (Proc.devRef .tc main_arg16) = x16 := (W79_args m ρ c main_arg16 (by decide)).trans A.a16
  have u : W73 m ρ c (Proc.devRef .tc main_v161) = uProd x0 x11 x12 h := by
    have u1 : W73 m ρ c (Proc.devRef .tc main_v161)
        = uProd (W72 m ρ c (Proc.devRef .tc main_arg0)) (W72 m ρ c (Proc.devRef .tc main_arg11)) (W72 m ρ c (Proc.devRef .tc main_arg12)) (W72 m ρ c (Proc.devRef .tc main_v159)) :=
      (W73_arr m ρ c 4).trans (region5 (V72 m ρ) c)
    rw [u1, a0, a11, a12, hh]
  have g : W78 m ρ c (Proc.devRef .tc main_v167) = kGather (uProd x0 x11 x12 h) (flatT (rowOf x3 1) x4) (flatH (rowOf x3 0) x4) := by
    rw [gather2, u, R1.flatT, R1.flatH]
  have C := core S hb d (W78 m ρ c (Proc.devRef .tc main_v9)) (W78 m ρ c (Proc.devRef .tc main_v4)) (W78 m ρ c (Proc.devRef .tc main_v167)) (W78 m ρ c (Proc.devRef .tc main_v159))
    (W79 m ρ c (Proc.devRef .tc main_v168_0)) (W79 m ρ c (Proc.devRef .tc main_v168_1)) (W79 m ρ c (Proc.devRef .tc main_v168_2)) R6.table R6.rel g h6
    (fun x hx => by
      have s := step6 (V78 m ρ) c x hx
      have o4 : W79 m ρ c (Proc.devRef .tc main_v168_0) = _ := W79_arr m ρ c 4
      have o5 : W79 m ρ c (Proc.devRef .tc main_v168_1) = _ := W79_arr m ρ c 5
      have o6 : W79 m ρ c (Proc.devRef .tc main_v168_2) = _ := W79_arr m ρ c 6
      rw [o4, o5, o6]
      exact s) shapeCasts_S1x16_S16 shapeCasts_S1x16_S16 shapeCasts_S1x16_S16
  refine ⟨?_, ?_, ?_, ?_, R7.carry (fun r hr => keepD2 m ρ c r (List.mem_append_left _ hr))⟩
  · rw [kact2, h7, d7, b13, b14]
    exact C.1
  · rw [klpf2, h7, d7, b13, b14]
    exact C.2.1
  · rw [khid2, h7, d7, b13, b14, b0, R7.tails, b15, b16]
    exact C.2.2.1
  · rw [kdn2, h7, d7, b13, b14]
    exact C.2.2.2

/-- The fourth step. -/
theorem walk3 {h : FH} {d : BG} (hb : Bdd h) (hh : W104 m ρ c (Proc.devRef .tc main_v224) = h) (hd : W104 m ρ c (Proc.devRef .tc main_v225) = d)
    (R : Ready x1 x3 x4 x5 x10 (W104 m ρ c)) :
    W136 m ρ c (Proc.devRef .tc main_v269) = rAct h d (edgeFeat x0 x1 (rowOf x3 1) (rowOf x3 0) x10 x11 x12) x4 x13 x14
    ∧ W136 m ρ c (Proc.devRef .tc main_v270) = rLpf h d (edgeFeat x0 x1 (rowOf x3 1) (rowOf x3 0) x10 x11 x12) x4 x13 x14 := by
  have R1 : Ready x1 x3 x4 x5 x10 (W105 m ρ c) := R.carry (fun r hr => keepA3 m ρ c r (List.mem_append_left _ hr))
  have R6 : Ready x1 x3 x4 x5 x10 (W110 m ρ c) := R1.carry (fun r hr => keepB3 m ρ c r (List.mem_append_left _ hr))
  have R7 : Ready x1 x3 x4 x5 x10 (W111 m ρ c) := R6.carry (fun r hr => keepC3 m ρ c r (List.mem_append_left _ hr))
  have h6 : W110 m ρ c (Proc.devRef .tc main_v224) = h := (keepB3 m ρ c main_v224 (by decide)).trans ((keepA3 m ρ c main_v224 (by decide)).trans hh)
  have h7 : W111 m ρ c (Proc.devRef .tc main_v224) = h := (keepC3 m ρ c main_v224 (by decide)).trans h6
  have d7 : W111 m ρ c (Proc.devRef .tc main_v225) = d :=
    (keepC3 m ρ c main_v225 (by decide)).trans ((keepB3 m ρ c main_v225 (by decide)).trans ((keepA3 m ρ c main_v225 (by decide)).trans hd))
  have a0 : W104 m ρ c (Proc.devRef .tc main_arg0) = x0 := (W104_args m ρ c main_arg0 (by decide)).trans A.a0
  have a11 : W104 m ρ c (Proc.devRef .tc main_arg11) = x11 := (W104_args m ρ c main_arg11 (by decide)).trans A.a11
  have a12 : W104 m ρ c (Proc.devRef .tc main_arg12) = x12 := (W104_args m ρ c main_arg12 (by decide)).trans A.a12
  have b0 : W111 m ρ c (Proc.devRef .tc main_arg0) = x0 := (W111_args m ρ c main_arg0 (by decide)).trans A.a0
  have b13 : W111 m ρ c (Proc.devRef .tc main_arg13) = x13 := (W111_args m ρ c main_arg13 (by decide)).trans A.a13
  have b14 : W111 m ρ c (Proc.devRef .tc main_arg14) = x14 := (W111_args m ρ c main_arg14 (by decide)).trans A.a14
  have b15 : W111 m ρ c (Proc.devRef .tc main_arg15) = x15 := (W111_args m ρ c main_arg15 (by decide)).trans A.a15
  have b16 : W111 m ρ c (Proc.devRef .tc main_arg16) = x16 := (W111_args m ρ c main_arg16 (by decide)).trans A.a16
  have u : W105 m ρ c (Proc.devRef .tc main_v226) = uProd x0 x11 x12 h := by
    have u1 : W105 m ρ c (Proc.devRef .tc main_v226)
        = uProd (W104 m ρ c (Proc.devRef .tc main_arg0)) (W104 m ρ c (Proc.devRef .tc main_arg11)) (W104 m ρ c (Proc.devRef .tc main_arg12)) (W104 m ρ c (Proc.devRef .tc main_v224)) :=
      (W105_arr m ρ c 4).trans (region7 (V104 m ρ) c)
    rw [u1, a0, a11, a12, hh]
  have g : W110 m ρ c (Proc.devRef .tc main_v232) = kGather (uProd x0 x11 x12 h) (flatT (rowOf x3 1) x4) (flatH (rowOf x3 0) x4) := by
    rw [gather3, u, R1.flatT, R1.flatH]
  have C := core S hb d (W110 m ρ c (Proc.devRef .tc main_v9)) (W110 m ρ c (Proc.devRef .tc main_v4)) (W110 m ρ c (Proc.devRef .tc main_v232)) (W110 m ρ c (Proc.devRef .tc main_v224))
    (W111 m ρ c (Proc.devRef .tc main_v233_0)) (W111 m ρ c (Proc.devRef .tc main_v233_1)) (W111 m ρ c (Proc.devRef .tc main_v233_2)) R6.table R6.rel g h6
    (fun x hx => by
      have s := step8 (V110 m ρ) c x hx
      have o4 : W111 m ρ c (Proc.devRef .tc main_v233_0) = _ := W111_arr m ρ c 4
      have o5 : W111 m ρ c (Proc.devRef .tc main_v233_1) = _ := W111_arr m ρ c 5
      have o6 : W111 m ρ c (Proc.devRef .tc main_v233_2) = _ := W111_arr m ρ c 6
      rw [o4, o5, o6]
      exact s) shapeCasts_S1x16_S16 shapeCasts_S1x16_S16 shapeCasts_S1x16_S16
  refine ⟨?_, ?_⟩
  · rw [kact3, h7, d7, b13, b14]
    exact C.1
  · rw [klpf3, h7, d7, b13, b14]
    exact C.2.1

end

end Cert.KernelIdeal.Gen
-- ==== Proof.KEnd.lean ====
/- The results of the kernel from the four steps' actions and log probabilities, and the same for the reference. -/
module

public import proofs.«01_k».proof.Proof.RHost
public import proofs.«01_k».proof.Proof.Walk

@[expose] public section

set_option maxRecDepth 16384
set_option maxHeartbeats 2000000

noncomputable section

namespace Cert.Proof.Ops

open Idealize.ShloMosaic Idealize.ShloMosaic.ValueIdx Cert.KernelIdeal

/-- Four rows of sixteen as the columns of a table. -/
def stack4 {α : Type} (a b c d : (⟨1, ![16]⟩ : Shape).Idx → α) : (⟨2, ![16, 4]⟩ : Shape).Idx → α :=
  concatenate ⟨2, ![16, 4]⟩ 1
    [⟨⟨2, ![16, 1]⟩, broadcastInDim ⟨2, ![16, 1]⟩ ![0] ok16.b1 a⟩, ⟨⟨2, ![16, 1]⟩, broadcastInDim ⟨2, ![16, 1]⟩ ![0] ok16.b1 b⟩,
      ⟨⟨2, ![16, 1]⟩, broadcastInDim ⟨2, ![16, 1]⟩ ![0] ok16.b1 c⟩, ⟨⟨2, ![16, 1]⟩, broadcastInDim ⟨2, ![16, 1]⟩ ![0] ok16.b1 d⟩]
    (by decide : Shape.Concatenates [(⟨2, ![16, 1]⟩ : Shape), ⟨2, ![16, 1]⟩, ⟨2, ![16, 1]⟩, ⟨2, ![16, 1]⟩] ⟨2, ![16, 4]⟩ 1)

/-- Equal columns give equal tables. -/
theorem stack4_congr {α : Type} {a a' b b' c c' d d' : (⟨1, ![16]⟩ : Shape).Idx → α} (ha : a = a') (hb : b = b') (hc : c = c') (hd : d = d') :
    stack4 a b c d = stack4 a' b' c' d' := by
  rw [ha, hb, hc, hd]

/-- The sums of a table's rows. -/
def rowSums (t : FVec Ideal ⟨2, ![16, 4]⟩ .f32) : FG :=
  Host.reduceAdd t (constant (F := Ideal) ⟨0, ![]⟩ .f32 0x00000000#32) (by decide : (⟨2, ![16, 4]⟩ : Shape).ReducesTo [1] ⟨1, ![16]⟩) (by decide)

/-- How many words of each row are not negative. -/
def lengths (t : IVec ⟨2, ![16, 4]⟩ 32) : FG :=
  rowSums (uitofp .f32 (cmpi .sge t (broadcastInDim ⟨2, ![16, 4]⟩ ![] (by decide) (constantI ⟨0, ![]⟩ 32 0#32))))

section

variable (x0 : FN) (x1 : FEd) (x2 : FH) (x3 : IVec ⟨2, ![2, 320000]⟩ 32) (x4 : IE) (x7 : IG) (x8 : FD 256 128) (x9 : FV 128)
  (x10 x11 x12 : FD 128 128) (x13 : FD 128 1) (x14 : FV 1) (x15 : FD 256 128) (x16 : FV 128)

/-- The features of the edges over the rows of their ends. -/
def feats : FEd := edgeFeat x0 x1 (rowOf x3 1) (rowOf x3 0) x10 x11 x12

/-- The hidden state and the done graphs of the reference before each step. -/
def states : ℕ → FH × BG
  | 0 => (hidden0 x0 x2 x7 x8 x9, done0)
  | k + 1 => (rHid (states k).1 (states k).2 (feats x0 x1 x3 x10 x11 x12) (nodesE x0 (rowOf x3 1)) x4 x13 x14 x15 x16,
      rDone (states k).1 (states k).2 (feats x0 x1 x3 x10 x11 x12) x4 x13 x14)

/-- The hidden state before each step is bounded. -/
theorem states_bdd (k : ℕ) : Bdd (states x0 x1 x2 x3 x4 x7 x8 x9 x10 x11 x12 x13 x14 x15 x16 k).1 := by
  induction k with
  | zero => exact bdd0 _ _ _ _ _
  | succ k ih => exact bdd_step ih _ _ _ _ _

/-- The actions of each step of the reference. -/
def actions (k : ℕ) : IG :=
  rAct (states x0 x1 x2 x3 x4 x7 x8 x9 x10 x11 x12 x13 x14 x15 x16 k).1 (states x0 x1 x2 x3 x4 x7 x8 x9 x10 x11 x12 x13 x14 x15 x16 k).2
    (feats x0 x1 x3 x10 x11 x12) x4 x13 x14

/-- The log probabilities of each step of the reference. -/
def logs (k : ℕ) : FG :=
  rLpf (states x0 x1 x2 x3 x4 x7 x8 x9 x10 x11 x12 x13 x14 x15 x16 k).1 (states x0 x1 x2 x3 x4 x7 x8 x9 x10 x11 x12 x13 x14 x15 x16 k).2
    (feats x0 x1 x3 x10 x11 x12) x4 x13 x14

/-- The table of the reference's log probabilities. -/
def logTable : FVec Ideal ⟨2, ![16, 4]⟩ .f32 :=
  stack4 (logs x0 x1 x2 x3 x4 x7 x8 x9 x10 x11 x12 x13 x14 x15 x16 0) (logs x0 x1 x2 x3 x4 x7 x8 x9 x10 x11 x12 x13 x14 x15 x16 1)
    (logs x0 x1 x2 x3 x4 x7 x8 x9 x10 x11 x12 x13 x14 x15 x16 2) (logs x0 x1 x2 x3 x4 x7 x8 x9 x10 x11 x12 x13 x14 x15 x16 3)

/-- The table of the reference's actions. -/
def actionTable : IVec ⟨2, ![16, 4]⟩ 32 :=
  stack4 (actions x0 x1 x2 x3 x4 x7 x8 x9 x10 x11 x12 x13 x14 x15 x16 0) (actions x0 x1 x2 x3 x4 x7 x8 x9 x10 x11 x12 x13 x14 x15 x16 1)
    (actions x0 x1 x2 x3 x4 x7 x8 x9 x10 x11 x12 x13 x14 x15 x16 2) (actions x0 x1 x2 x3 x4 x7 x8 x9 x10 x11 x12 x13 x14 x15 x16 3)

end

end Cert.Proof.Ops

namespace Cert.Proof.RHost

open Idealize.ShloMosaic Idealize.ShloMosaic.ValueIdx Cert.Proof.Ops Cert.ReferenceIdeal.Read

variable (x0 : FN) (x1 : FEd) (x2 : FH) (x3 : IVec ⟨2, ![2, 320000]⟩ 32) (x4 : IE) (x7 : IG) (x8 : FD 256 128) (x9 : FV 128)
  (x10 x11 x12 : FD 128 128) (x13 : FD 128 1) (x14 : FV 1) (x15 : FD 256 128) (x16 : FV 128)

/-- The reference's features, over the rows of the edges' ends. -/
theorem feat_rows : val_main_v10 (F := Ideal) x0 x1 x3 x10 x11 x12 = feats x0 x1 x3 x10 x11 x12 := by
  have t : val_main_v1 (F := Ideal) x3 = rowOf x3 1 := row_slice x3 1 1 rfl _ _
  have h : val_main_v4 (F := Ideal) x3 = rowOf x3 0 := row_slice x3 0 0 rfl _ _
  rw [feat, t, h]
  rfl

/-- The reference's rows of the edges' tails. -/
theorem rows_tails : val_main_v2 (F := Ideal) x0 x3 = nodesE x0 (rowOf x3 1) := by
  have t : val_main_v1 (F := Ideal) x3 = rowOf x3 1 := row_slice x3 1 1 rfl _ _
  rw [tail_rows, t]

/-- The state before the first step. -/
theorem state0 : val_main_v22 (F := Ideal) x0 x2 x7 x8 x9 = (states x0 x1 x2 x3 x4 x7 x8 x9 x10 x11 x12 x13 x14 x15 x16 0).1 ∧ val_main_v23 (F := Ideal) = (states x0 x1 x2 x3 x4 x7 x8 x9 x10 x11 x12 x13 x14 x15 x16 0).2 := by
  rw [hid0, dn0]
  exact ⟨rfl, rfl⟩

/-- The state before the second step. -/
theorem state1 : val_main_v111 (F := Ideal) x0 x1 x2 x3 x4 x7 x8 x9 x10 x11 x12 x13 x14 x15 x16 = (states x0 x1 x2 x3 x4 x7 x8 x9 x10 x11 x12 x13 x14 x15 x16 1).1 ∧ val_main_v112 (F := Ideal) x0 x1 x2 x3 x4 x7 x8 x9 x10 x11 x12 x13 x14 = (states x0 x1 x2 x3 x4 x7 x8 x9 x10 x11 x12 x13 x14 x15 x16 1).2 := by
  rw [hid1, dn1, feat_rows, rows_tails]
  exact ⟨rfl, rfl⟩

/-- The state before the third step. -/
theorem state2 : val_main_v193 (F := Ideal) x0 x1 x2 x3 x4 x7 x8 x9 x10 x11 x12 x13 x14 x15 x16 = (states x0 x1 x2 x3 x4 x7 x8 x9 x10 x11 x12 x13 x14 x15 x16 2).1 ∧ val_main_v194 (F := Ideal) x0 x1 x2 x3 x4 x7 x8 x9 x10 x11 x12 x13 x14 x15 x16 = (states x0 x1 x2 x3 x4 x7 x8 x9 x10 x11 x12 x13 x14 x15 x16 2).2 := by
  have s := state1 x0 x1 x2 x3 x4 x7 x8 x9 x10 x11 x12 x13 x14 x15 x16
  rw [hid2, dn2, feat_rows, rows_tails, s.1, s.2]
  exact ⟨rfl, rfl⟩

/-- The state before the fourth step. -/
theorem state3 : val_main_v275 (F := Ideal) x0 x1 x2 x3 x4 x7 x8 x9 x10 x11 x12 x13 x14 x15 x16 = (states x0 x1 x2 x3 x4 x7 x8 x9 x10 x11 x12 x13 x14 x15 x16 3).1 ∧ val_main_v276 (F := Ideal) x0 x1 x2 x3 x4 x7 x8 x9 x10 x11 x12 x13 x14 x15 x16 = (states x0 x1 x2 x3 x4 x7 x8 x9 x10 x11 x12 x13 x14 x15 x16 3).2 := by
  have s := state2 x0 x1 x2 x3 x4 x7 x8 x9 x10 x11 x12 x13 x14 x15 x16
  rw [hid3, dn3, feat_rows, rows_tails, s.1, s.2]
  exact ⟨rfl, rfl⟩

/-- The table of log probabilities. -/
theorem table_lpf : val_main_v363 (F := Ideal) x0 x1 x2 x3 x4 x7 x8 x9 x10 x11 x12 x13 x14 x15 x16 = logTable x0 x1 x2 x3 x4 x7 x8 x9 x10 x11 x12 x13 x14 x15 x16 := by
  have s := state1 x0 x1 x2 x3 x4 x7 x8 x9 x10 x11 x12 x13 x14 x15 x16
  have s2 := state2 x0 x1 x2 x3 x4 x7 x8 x9 x10 x11 x12 x13 x14 x15 x16
  have s3 := state3 x0 x1 x2 x3 x4 x7 x8 x9 x10 x11 x12 x13 x14 x15 x16
  have e0 : val_main_v93 (F := Ideal) x0 x1 x2 x3 x4 x7 x8 x9 x10 x11 x12 x13 x14 = logs x0 x1 x2 x3 x4 x7 x8 x9 x10 x11 x12 x13 x14 x15 x16 0 := by
    rw [lpf0, feat_rows, hid0, dn0]
    rfl
  have e1 : val_main_v175 (F := Ideal) x0 x1 x2 x3 x4 x7 x8 x9 x10 x11 x12 x13 x14 x15 x16 = logs x0 x1 x2 x3 x4 x7 x8 x9 x10 x11 x12 x13 x14 x15 x16 1 := by
    rw [lpf1, feat_rows, s.1, s.2]
    rfl
  have e2 : val_main_v257 (F := Ideal) x0 x1 x2 x3 x4 x7 x8 x9 x10 x11 x12 x13 x14 x15 x16 = logs x0 x1 x2 x3 x4 x7 x8 x9 x10 x11 x12 x13 x14 x15 x16 2 := by
    rw [lpf2, feat_rows, s2.1, s2.2]
    rfl
  have e3 : val_main_v339 (F := Ideal) x0 x1 x2 x3 x4 x7 x8 x9 x10 x11 x12 x13 x14 x15 x16 = logs x0 x1 x2 x3 x4 x7 x8 x9 x10 x11 x12 x13 x14 x15 x16 3 := by
    rw [lpf3, feat_rows, s3.1, s3.2]
    rfl
  have h : val_main_v363 (F := Ideal) x0 x1 x2 x3 x4 x7 x8 x9 x10 x11 x12 x13 x14 x15 x16 = stack4 (val_main_v93 (F := Ideal) x0 x1 x2 x3 x4 x7 x8 x9 x10 x11 x12 x13 x14) (val_main_v175 (F := Ideal) x0 x1 x2 x3 x4 x7 x8 x9 x10 x11 x12 x13 x14 x15 x16) (val_main_v257 (F := Ideal) x0 x1 x2 x3 x4 x7 x8 x9 x10 x11 x12 x13 x14 x15 x16)
      (val_main_v339 (F := Ideal) x0 x1 x2 x3 x4 x7 x8 x9 x10 x11 x12 x13 x14 x15 x16) := rfl
  rw [h, e0, e1, e2, e3]
  rfl

/-- The table of actions. -/
theorem table_act : val_main_v368 (F := Ideal) x0 x1 x2 x3 x4 x7 x8 x9 x10 x11 x12 x13 x14 x15 x16 = actionTable x0 x1 x2 x3 x4 x7 x8 x9 x10 x11 x12 x13 x14 x15 x16 := by
  have s := state1 x0 x1 x2 x3 x4 x7 x8 x9 x10 x11 x12 x13 x14 x15 x16
  have s2 := state2 x0 x1 x2 x3 x4 x7 x8 x9 x10 x11 x12 x13 x14 x15 x16
  have s3 := state3 x0 x1 x2 x3 x4 x7 x8 x9 x10 x11 x12 x13 x14 x15 x16
  have e0 : val_main_v92 (F := Ideal) x0 x1 x2 x3 x4 x7 x8 x9 x10 x11 x12 x13 x14 = actions x0 x1 x2 x3 x4 x7 x8 x9 x10 x11 x12 x13 x14 x15 x16 0 := by
    rw [act0, feat_rows, hid0, dn0]
    rfl
  have e1 : val_main_v174 (F := Ideal) x0 x1 x2 x3 x4 x7 x8 x9 x10 x11 x12 x13 x14 x15 x16 = actions x0 x1 x2 x3 x4 x7 x8 x9 x10 x11 x12 x13 x14 x15 x16 1 := by
    rw [act1, feat_rows, s.1, s.2]
    rfl
  have e2 : val_main_v256 (F := Ideal) x0 x1 x2 x3 x4 x7 x8 x9 x10 x11 x12 x13 x14 x15 x16 = actions x0 x1 x2 x3 x4 x7 x8 x9 x10 x11 x12 x13 x14 x15 x16 2 := by
    rw [act2, feat_rows, s2.1, s2.2]
    rfl
  have e3 : val_main_v338 (F := Ideal) x0 x1 x2 x3 x4 x7 x8 x9 x10 x11 x12 x13 x14 x15 x16 = actions x0 x1 x2 x3 x4 x7 x8 x9 x10 x11 x12 x13 x14 x15 x16 3 := by
    rw [act3, feat_rows, s3.1, s3.2]
    rfl
  have h : val_main_v368 (F := Ideal) x0 x1 x2 x3 x4 x7 x8 x9 x10 x11 x12 x13 x14 x15 x16 = stack4 (val_main_v92 (F := Ideal) x0 x1 x2 x3 x4 x7 x8 x9 x10 x11 x12 x13 x14) (val_main_v174 (F := Ideal) x0 x1 x2 x3 x4 x7 x8 x9 x10 x11 x12 x13 x14 x15 x16) (val_main_v256 (F := Ideal) x0 x1 x2 x3 x4 x7 x8 x9 x10 x11 x12 x13 x14 x15 x16)
      (val_main_v338 (F := Ideal) x0 x1 x2 x3 x4 x7 x8 x9 x10 x11 x12 x13 x14 x15 x16) := rfl
  rw [h, e0, e1, e2, e3]
  rfl

/-- The totals. -/
theorem totals : val_main_v369 (F := Ideal) x0 x1 x2 x3 x4 x7 x8 x9 x10 x11 x12 x13 x14 x15 x16 = rowSums (logTable x0 x1 x2 x3 x4 x7 x8 x9 x10 x11 x12 x13 x14 x15 x16) := by
  rw [← table_lpf]
  rfl

/-- The lengths. -/
theorem lens : val_main_v373 (F := Ideal) x0 x1 x2 x3 x4 x7 x8 x9 x10 x11 x12 x13 x14 x15 x16 = lengths (actionTable x0 x1 x2 x3 x4 x7 x8 x9 x10 x11 x12 x13 x14 x15 x16) := by
  rw [← table_act]
  rfl

end Cert.Proof.RHost

namespace Cert.KernelIdeal.Gen

open Idealize.ShloMosaic Idealize.ShloMosaic.ValueIdx Idealize.ShloMosaic.TcCoe Idealize.ShloMosaic.StableHlo Cert.Proof.Ops

variable (V : Valuation τ sig (Elt Ideal))

/-- The table of log probabilities. -/
theorem end_lpf : after hostOps9_24 V (Proc.devRef .tc main_v295)
    = stack4 (after hostOps9_24 V (Proc.devRef .tc main_v75)) (after hostOps9_24 V (Proc.devRef .tc main_v140))
      (after hostOps9_24 V (Proc.devRef .tc main_v205)) (after hostOps9_24 V (Proc.devRef .tc main_v270)) := by
  after_reads_simp
  rfl

/-- The table of actions. -/
theorem end_act : after hostOps9_24 V (Proc.devRef .tc main_v300)
    = stack4 (after hostOps9_24 V (Proc.devRef .tc main_v74)) (after hostOps9_24 V (Proc.devRef .tc main_v139))
      (after hostOps9_24 V (Proc.devRef .tc main_v204)) (after hostOps9_24 V (Proc.devRef .tc main_v269)) := by
  after_reads_simp
  rfl

/-- The totals of the log probabilities. -/
theorem end_total : after hostOps9_24 V (Proc.devRef .tc main_v301) = rowSums (after hostOps9_24 V (Proc.devRef .tc main_v295)) := by
  after_reads_simp
  rfl

/-- The lengths of the walks. -/
theorem end_len : after hostOps9_24 V (Proc.devRef .tc main_v305) = lengths (after hostOps9_24 V (Proc.devRef .tc main_v300)) := by
  after_reads_simp
  rfl

section

variable (m : (ℓ : Loc nD τ sig) → Buf (Elt Ideal) ℓ) (ρ : Dev nD → PrngReg) (c : Dev nD)
variable {x0 : FN} {x1 : FEd} {x2 : FH} {x3 : IVec ⟨2, ![2, 320000]⟩ 32} {x4 : IE} {x5 x6 : IVec ⟨1, ![17]⟩ 32} {x7 : IG} {x8 : FD 256 128} {x9 : FV 128}
  {x10 x11 x12 : FD 128 128} {x13 : FD 128 1} {x14 : FV 1} {x15 : FD 256 128} {x16 : FV 128}
variable (A : Args m c x0 x1 x2 x3 x4 x5 x7 x8 x9 x10 x11 x12 x13 x14 x15 x16)
  [Cert.Pre_sound_inputs.Facts] (S : Sound x0 x1 x2 x3 x4 x5 x6 x7 x8 x9 x10 x11 x12 x13 x14 x15 x16)
include A S

/-- The kernel's two tables. -/
theorem tables : W136 m ρ c (Proc.devRef .tc main_v295) = logTable x0 x1 x2 x3 x4 x7 x8 x9 x10 x11 x12 x13 x14 x15 x16
    ∧ W136 m ρ c (Proc.devRef .tc main_v300) = actionTable x0 x1 x2 x3 x4 x7 x8 x9 x10 x11 x12 x13 x14 x15 x16 := by
  obtain ⟨p0, q0, h1, d1, R1⟩ := walk0 m ρ c A S (states_bdd x0 x1 x2 x3 x4 x7 x8 x9 x10 x11 x12 x13 x14 x15 x16 0) (hidden8 m ρ c A) (done8 m ρ c) (ready8 m ρ c A)
  obtain ⟨p1, q1, h2, d2, R2⟩ := walk1 m ρ c A S (states_bdd x0 x1 x2 x3 x4 x7 x8 x9 x10 x11 x12 x13 x14 x15 x16 1) h1 d1 R1
  obtain ⟨p2, q2, h3, d3, R3⟩ := walk2 m ρ c A S (states_bdd x0 x1 x2 x3 x4 x7 x8 x9 x10 x11 x12 x13 x14 x15 x16 2) h2 d2 R2
  obtain ⟨p3, q3⟩ := walk3 m ρ c A S (states_bdd x0 x1 x2 x3 x4 x7 x8 x9 x10 x11 x12 x13 x14 x15 x16 3) h3 d3 R3
  have k1 : ∀ r ∈ [main_v74, main_v75], W72 m ρ c (Proc.devRef .tc r) = W40 m ρ c (Proc.devRef .tc r) := fun r hr =>
    have i : r ∈ held ++ [main_v94, main_v95, main_v74, main_v75] := List.mem_append_right held (.tail _ (.tail _ hr))
    (keepD1 m ρ c r (List.mem_append_right held hr)).trans ((keepC1 m ρ c r i).trans ((keepB1 m ρ c r i).trans (keepA1 m ρ c r i)))
  have k2 : ∀ r ∈ [main_v74, main_v75, main_v139, main_v140], W104 m ρ c (Proc.devRef .tc r) = W72 m ρ c (Proc.devRef .tc r) := fun r hr =>
    have i : r ∈ held ++ [main_v159, main_v160, main_v74, main_v75, main_v139, main_v140] := List.mem_append_right held (.tail _ (.tail _ hr))
    (keepD2 m ρ c r (List.mem_append_right held hr)).trans ((keepC2 m ρ c r i).trans ((keepB2 m ρ c r i).trans (keepA2 m ρ c r i)))
  have k3 : ∀ r ∈ [main_v74, main_v75, main_v139, main_v140, main_v204, main_v205], W136 m ρ c (Proc.devRef .tc r) = W104 m ρ c (Proc.devRef .tc r) := fun r hr =>
    have i : r ∈ held ++ [main_v224, main_v225, main_v74, main_v75, main_v139, main_v140, main_v204, main_v205] := List.mem_append_right held (.tail _ (.tail _ hr))
    (keepD3 m ρ c r hr).trans ((keepC3 m ρ c r i).trans ((keepB3 m ρ c r i).trans (keepA3 m ρ c r i)))
  have a0 : W136 m ρ c (Proc.devRef .tc main_v74) = actions x0 x1 x2 x3 x4 x7 x8 x9 x10 x11 x12 x13 x14 x15 x16 0 :=
    (k3 main_v74 (by decide)).trans ((k2 main_v74 (by decide)).trans ((k1 main_v74 (by decide)).trans p0))
  have a1 : W136 m ρ c (Proc.devRef .tc main_v139) = actions x0 x1 x2 x3 x4 x7 x8 x9 x10 x11 x12 x13 x14 x15 x16 1 := (k3 main_v139 (by decide)).trans ((k2 main_v139 (by decide)).trans p1)
  have a2 : W136 m ρ c (Proc.devRef .tc main_v204) = actions x0 x1 x2 x3 x4 x7 x8 x9 x10 x11 x12 x13 x14 x15 x16 2 := (k3 main_v204 (by decide)).trans p2
  have l0 : W136 m ρ c (Proc.devRef .tc main_v75) = logs x0 x1 x2 x3 x4 x7 x8 x9 x10 x11 x12 x13 x14 x15 x16 0 :=
    (k3 main_v75 (by decide)).trans ((k2 main_v75 (by decide)).trans ((k1 main_v75 (by decide)).trans q0))
  have l1 : W136 m ρ c (Proc.devRef .tc main_v140) = logs x0 x1 x2 x3 x4 x7 x8 x9 x10 x11 x12 x13 x14 x15 x16 1 := (k3 main_v140 (by decide)).trans ((k2 main_v140 (by decide)).trans q1)
  have l2 : W136 m ρ c (Proc.devRef .tc main_v205) = logs x0 x1 x2 x3 x4 x7 x8 x9 x10 x11 x12 x13 x14 x15 x16 2 := (k3 main_v205 (by decide)).trans q2
  exact ⟨(end_lpf (W135 m ρ c)).trans (stack4_congr l0 l1 l2 q3), (end_act (W135 m ρ c)).trans (stack4_congr a0 a1 a2 p3)⟩

/-- The kernel's totals. -/
theorem totals : W136 m ρ c (Proc.devRef .tc main_v301) = rowSums (logTable x0 x1 x2 x3 x4 x7 x8 x9 x10 x11 x12 x13 x14 x15 x16) :=
  (end_total (W135 m ρ c)).trans (congrArg rowSums (tables m ρ c A S).1)

/-- The kernel's lengths. -/
theorem lens : W136 m ρ c (Proc.devRef .tc main_v305) = lengths (actionTable x0 x1 x2 x3 x4 x7 x8 x9 x10 x11 x12 x13 x14 x15 x16) :=
  (end_len (W135 m ρ c)).trans (congrArg lengths (tables m ρ c A S).2)

end

end Cert.KernelIdeal.Gen
-- ==== Proof.KRun.lean ====
/- The run of the idealised kernel with what it leaves: every buffer of the host holds the last contents of the fold over the segments. -/
module

public import proofs.«01_k».proof.Proof.KEnd
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- The kernel runs, and at the end every buffer of the host holds what the segments leave. -/
theorem leaves : θ_run defs (onTc (τ := τ) (main (F := Ideal))) ⟨m, fun _ => 0, ρ⟩
    (fun r => ∀ c : Dev nD, ∀ b ∈ Pipeline.ucRefs τ sig, r.2.mem (((c : Thread nD τ)).1, b) = W136 m ρ c b) := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ?_) (hinit := ?_)
    (QY := fun c s => ∀ b ∈ Pipeline.ucRefs τ sig, s.mem (((c : Thread nD τ)).1, b) = W136 m ρ c b) (hfin := ?_)
    (hQ := fun _ h _ => h)
  · iintro Hu
    imodintro
    isplitl [Hu]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Hu
    iapply (show (BI.emp : sProp (MT nD τ sig Unit (Elt Ideal) ℕ (UR sig nD τ) ℕ)) ⊢ bigSep Finset.univ (fun _ : Dev nD => (BI.emp : sProp _))
      from by rw [BI.bigSep_emp_const])
    iempintro
  · repeat refine ⟨fun _ => .rfl, ?_⟩
    intro c
    dsimp only [Pipeline.Seg.post, hseg, Pipeline.HostSeg.ofOps]
    iintro ⟨Hh, Hp, HO⟩
    isplitl [Hh Hp]
    · isplitl [Hh]
      · iexact Hh
      iexact Hp
    iexact HO
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _
      iexact Hp
    iexists ∅
    iexact HO
  · intro c s'
    iintro ⟨⟨Hh, -⟩, HSI⟩
    unfold StableHlo.held
    imodintro
    iapply (pointsTo_read_all (Pipeline.ucRefs τ sig) (fun b => (((c : Thread nD τ)).1, b)) (W136 m ρ c) s')
    isplitl [Hh] <;> iassumption

end Cert.KernelIdeal.Gen
-- ==== Proof.Algebra.lean ====
/- The idealised kernel and the idealised reference leave equal results from sound inputs. -/
module

public import proofs.«01_k».proof.Defs
public import proofs.«01_k».proof.Proof.KRun
public import proofs.«01_k».proof.Proof.Gen.ReferenceIdeal.Run

@[expose] public section

set_option maxRecDepth 16384
set_option maxHeartbeats 2000000

noncomputable section

namespace Cert.Proof

open Idealize.ShloMosaic Idealize.ShloMosaic.TcCoe Idealize.ShloMosaic.StableHlo Idealize.SL.Sem Cert.Proof.Ops Cert.KernelIdeal

section

variable (m : (ℓ : Loc nD τ sig) → Buf (Elt Ideal) ℓ) (c : Dev nD)

/-- The table of log probabilities that the reference computes from the kernel's arguments. -/
def logsOf : FVec Ideal ⟨2, ![16, 4]⟩ .f32 :=
  logTable (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- The table of actions that the reference computes from the kernel's arguments. -/
def actionsOf : IVec ⟨2, ![16, 4]⟩ 32 :=
  actionTable (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-- From sound inputs the kernel leaves the totals, the two tables and the lengths of the reference. -/
theorem kernel_results [Cert.Pre_sound_inputs.Facts] (ρ : Dev nD → PrngReg) (S : Sound (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    Gen.W136 m ρ c (Proc.devRef .tc main_v301) = rowSums (logsOf m c) ∧ Gen.W136 m ρ c (Proc.devRef .tc main_v295) = logsOf m c
    ∧ Gen.W136 m ρ c (Proc.devRef .tc main_v300) = actionsOf m c ∧ Gen.W136 m ρ c (Proc.devRef .tc main_v305) = lengths (actionsOf m c) := by
  have A : Gen.Args m c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
    ⟨rfl, rfl, rfl, rfl, rfl, rfl, rfl, rfl, rfl, rfl, rfl, rfl, rfl, rfl, rfl, rfl⟩
  exact ⟨Gen.totals m ρ c A S, (Gen.tables m ρ c A S).1, (Gen.tables m ρ c A S).2, Gen.lens m ρ c A S⟩

end

/-- The two programs leave equal results from sound inputs. -/
theorem equal : letI := Gen.facts; letI := pre_facts; Cert.algebraic_KernelIdeal_ReferenceIdeal_pre_sound_inputs := by
  letI := Gen.facts
  letI := pre_facts
  intro m g m' g' hpre hargs
  refine ⟨fun c => rowSums (logsOf m c), fun c => logsOf m c, fun c => actionsOf m c, fun c => lengths (actionsOf m c), ?_, ?_⟩
  · refine (θ_run defs _ _).mono (fun r h c => ?_) (Gen.leaves m g)
    obtain ⟨k0, k1, k2, k3⟩ := kernel_results m c g (hpre c)
    exact ⟨(h c _ (Gen.mem_uc main_v301 (by decide))).trans k0, (h c _ (Gen.mem_uc main_v295 (by decide))).trans k1,
      (h c _ (Gen.mem_uc main_v300 (by decide))).trans k2, (h c _ (Gen.mem_uc main_v305 (by decide))).trans k3,
      (h c _ (Gen.mem_uc main_arg0 (by decide))).trans (Gen.W136_main_arg0 m g c),
      (h c _ (Gen.mem_uc main_arg1 (by decide))).trans (Gen.W136_main_arg1 m g c),
      (h c _ (Gen.mem_uc main_arg2 (by decide))).trans (Gen.W136_main_arg2 m g c),
      (h c _ (Gen.mem_uc main_arg3 (by decide))).trans (Gen.W136_main_arg3 m g c),
      (h c _ (Gen.mem_uc main_arg4 (by decide))).trans (Gen.W136_main_arg4 m g c),
      (h c _ (Gen.mem_uc main_arg5 (by decide))).trans (Gen.W136_main_arg5 m g c),
      (h c _ (Gen.mem_uc main_arg6 (by decide))).trans (Gen.W136_main_arg6 m g c),
      (h c _ (Gen.mem_uc main_arg7 (by decide))).trans (Gen.W136_main_arg7 m g c),
      (h c _ (Gen.mem_uc main_arg8 (by decide))).trans (Gen.W136_main_arg8 m g c),
      (h c _ (Gen.mem_uc main_arg9 (by decide))).trans (Gen.W136_main_arg9 m g c),
      (h c _ (Gen.mem_uc main_arg10 (by decide))).trans (Gen.W136_main_arg10 m g c),
      (h c _ (Gen.mem_uc main_arg11 (by decide))).trans (Gen.W136_main_arg11 m g c),
      (h c _ (Gen.mem_uc main_arg12 (by decide))).trans (Gen.W136_main_arg12 m g c),
      (h c _ (Gen.mem_uc main_arg13 (by decide))).trans (Gen.W136_main_arg13 m g c),
      (h c _ (Gen.mem_uc main_arg14 (by decide))).trans (Gen.W136_main_arg14 m g c),
      (h c _ (Gen.mem_uc main_arg15 (by decide))).trans (Gen.W136_main_arg15 m g c),
      (h c _ (Gen.mem_uc main_arg16 (by decide))).trans (Gen.W136_main_arg16 m g c)⟩
  · refine (θ_run Cert.ReferenceIdeal.defs _ _).mono (fun r h c => ?_) (Cert.ReferenceIdeal.Value.run (F := Ideal) m' g')
    obtain ⟨e0, e1, e2, e3, e4, e5, e6, e7, e8, e9, e10, e11, e12, e13, e14, e15, e16⟩ := hargs c
    obtain ⟨r0, r1, r2, r3, ra⟩ := h c
    have t : logTable (launchContents m' c (Proc.devRef .tc Cert.ReferenceIdeal.main_arg0)) (launchContents m' c (Proc.devRef .tc Cert.ReferenceIdeal.main_arg1)) (launchContents m' c (Proc.devRef .tc Cert.ReferenceIdeal.main_arg2)) (launchContents m' c (Proc.devRef .tc Cert.ReferenceIdeal.main_arg3)) (launchContents m' c (Proc.devRef .tc Cert.ReferenceIdeal.main_arg4)) (launchContents m' c (Proc.devRef .tc Cert.ReferenceIdeal.main_arg7)) (launchContents m' c (Proc.devRef .tc Cert.ReferenceIdeal.main_arg8)) (launchContents m' c (Proc.devRef .tc Cert.ReferenceIdeal.main_arg9)) (launchContents m' c (Proc.devRef .tc Cert.ReferenceIdeal.main_arg10)) (launchContents m' c (Proc.devRef .tc Cert.ReferenceIdeal.main_arg11)) (launchContents m' c (Proc.devRef .tc Cert.ReferenceIdeal.main_arg12)) (launchContents m' c (Proc.devRef .tc Cert.ReferenceIdeal.main_arg13)) (launchContents m' c (Proc.devRef .tc Cert.ReferenceIdeal.main_arg14)) (launchContents m' c (Proc.devRef .tc Cert.ReferenceIdeal.main_arg15)) (launchContents m' c (Proc.devRef .tc Cert.ReferenceIdeal.main_arg16)) = logsOf m c := by
      unfold logsOf
      rw [← e0, ← e1, ← e2, ← e3, ← e4, ← e7, ← e8, ← e9, ← e10, ← e11, ← e12, ← e13, ← e14, ← e15, ← e16]
    have a : actionTable (launchContents m' c (Proc.devRef .tc Cert.ReferenceIdeal.main_arg0)) (launchContents m' c (Proc.devRef .tc Cert.ReferenceIdeal.main_arg1)) (launchContents m' c (Proc.devRef .tc Cert.ReferenceIdeal.main_arg2)) (launchContents m' c (Proc.devRef .tc Cert.ReferenceIdeal.main_arg3)) (launchContents m' c (Proc.devRef .tc Cert.ReferenceIdeal.main_arg4)) (launchContents m' c (Proc.devRef .tc Cert.ReferenceIdeal.main_arg7)) (launchContents m' c (Proc.devRef .tc Cert.ReferenceIdeal.main_arg8)) (launchContents m' c (Proc.devRef .tc Cert.ReferenceIdeal.main_arg9)) (launchContents m' c (Proc.devRef .tc Cert.ReferenceIdeal.main_arg10)) (launchContents m' c (Proc.devRef .tc Cert.ReferenceIdeal.main_arg11)) (launchContents m' c (Proc.devRef .tc Cert.ReferenceIdeal.main_arg12)) (launchContents m' c (Proc.devRef .tc Cert.ReferenceIdeal.main_arg13)) (launchContents m' c (Proc.devRef .tc Cert.ReferenceIdeal.main_arg14)) (launchContents m' c (Proc.devRef .tc Cert.ReferenceIdeal.main_arg15)) (launchContents m' c (Proc.devRef .tc Cert.ReferenceIdeal.main_arg16)) = actionsOf m c := by
      unfold actionsOf
      rw [← e0, ← e1, ← e2, ← e3, ← e4, ← e7, ← e8, ← e9, ← e10, ← e11, ← e12, ← e13, ← e14, ← e15, ← e16]
    exact ⟨r0.trans ((Cert.ReferenceIdeal.Read.val_main_v369_eq _).trans ((RHost.totals _ _ _ _ _ _ _ _ _ _ _ _ _ _ _).trans (congrArg rowSums t))),
      r1.trans ((Cert.ReferenceIdeal.Read.val_main_v363_eq _).trans ((RHost.table_lpf _ _ _ _ _ _ _ _ _ _ _ _ _ _ _).trans t)),
      r2.trans ((Cert.ReferenceIdeal.Read.val_main_v368_eq _).trans ((RHost.table_act _ _ _ _ _ _ _ _ _ _ _ _ _ _ _).trans a)),
      r3.trans ((Cert.ReferenceIdeal.Read.val_main_v373_eq _).trans ((RHost.lens _ _ _ _ _ _ _ _ _ _ _ _ _ _ _).trans (congrArg lengths a))), ra⟩

end Cert.Proof
-- ==== Proof.lean ====
/- The proof of the claim: the frames of the three programs, the step from the kernel to its idealisation, and the equality of the idealised kernel's
   results with the reference's from sound inputs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Algebra
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, leaves its arguments and its semaphores as they were. -/
theorem frame_kernel : Cert.quiescent_Kernel := fun m ρ _ => Cert.Kernel.Gen.frame m ρ

/-- So does its idealisation. -/
theorem frame_ideal : Cert.quiescent_KernelIdeal := fun m ρ _ => Cert.KernelIdeal.Gen.frame m ρ

/-- So does the idealised reference, which has no semaphores. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run (F := Ideal) m ρ)

/-- The idealisation names one constant, the inverse of the square root of 128. -/
theorem named : Cert.preserves_Kernel_KernelIdeal :=
  IdealRules.named_const.statement Cert.KernelIdeal.κ "inv_sqrt_d" .f32 0x3DB504F3#32 (((Real.sqrt 128)⁻¹ : ℝ) : EReal) rfl

/-- All the claims together: the frames, under the precondition too, the named constant, and equal results from sound inputs. -/
theorem claim : Cert.Claim :=
  ⟨Cert.Kernel.Gen.facts, Cert.KernelIdeal.Gen.facts, inferInstance, Ops.pre_facts, frame_kernel, frame_ideal, fun m ρ _ => frame_ideal m ρ trivial,
    frame_reference, fun m ρ _ => frame_reference m ρ trivial, named, equal⟩

end Cert.Proof

end
